-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "qscale" .f32 0x3E0293EE#32 ((((Real.sqrt 128) * (Real.log 2))⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_v87) = v1 c
          ∧ r.2.mem ((c.tc : Thread Cert.Reference6Ideal.nD Cert.Reference6Ideal.τ).loc Cert.Reference6Ideal.main_v91) = v2 c
          ∧ r.2.mem ((c.tc : Thread Cert.Reference6Ideal.nD Cert.Reference6Ideal.τ).loc Cert.Reference6Ideal.main_v92) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8192x2048 : Shape := ⟨2, ![8192, 2048]⟩
abbrev S8192x512 : Shape := ⟨2, ![8192, 512]⟩
abbrev S4x8192x128 : Shape := ⟨3, ![4, 8192, 128]⟩
abbrev S8192x48 : Shape := ⟨2, ![8192, 48]⟩
abbrev S1x2048x2048 : Shape := ⟨3, ![1, 2048, 2048]⟩
abbrev S1x4096x2048 : Shape := ⟨3, ![1, 4096, 2048]⟩
abbrev S1x2048x8192 : Shape := ⟨3, ![1, 2048, 8192]⟩
abbrev S1x8192x2048 : Shape := ⟨3, ![1, 8192, 2048]⟩
abbrev S_ : Shape := ⟨0, ![]⟩
abbrev S8192x1024 : Shape := ⟨2, ![8192, 1024]⟩
abbrev S8192x5120 : Shape := ⟨2, ![8192, 5120]⟩
abbrev S8192x64 : Shape := ⟨2, ![8192, 64]⟩
abbrev S8192x16 : Shape := ⟨2, ![8192, 16]⟩
abbrev S8192x128 : Shape := ⟨2, ![8192, 128]⟩
abbrev S2048x2048 : Shape := ⟨2, ![2048, 2048]⟩
abbrev S4096x2048 : Shape := ⟨2, ![4096, 2048]⟩
abbrev S2048x8192 : Shape := ⟨2, ![2048, 8192]⟩
abbrev S512x512 : Shape := ⟨2, ![512, 512]⟩
abbrev S1x512x128 : Shape := ⟨3, ![1, 512, 128]⟩
abbrev S512x128 : Shape := ⟨2, ![512, 128]⟩
abbrev S1x32x2048 : Shape := ⟨3, ![1, 32, 2048]⟩
abbrev S1x64x2048 : Shape := ⟨3, ![1, 64, 2048]⟩
abbrev S1x32x8192 : Shape := ⟨3, ![1, 32, 8192]⟩
abbrev S1x128x2048 : Shape := ⟨3, ![1, 128, 2048]⟩
abbrev S32x2048 : Shape := ⟨2, ![32, 2048]⟩
abbrev S64x2048 : Shape := ⟨2, ![64, 2048]⟩
abbrev S32x8192 : Shape := ⟨2, ![32, 8192]⟩
abbrev S128x2048 : Shape := ⟨2, ![128, 2048]⟩
abbrev S4x512x256 : Shape := ⟨3, ![4, 512, 256]⟩
abbrev S4x512x128 : Shape := ⟨3, ![4, 512, 128]⟩
abbrev S512x256 : Shape := ⟨2, ![512, 256]⟩
abbrev S1x512x256 : Shape := ⟨3, ![1, 512, 256]⟩
abbrev S512 : Shape := ⟨1, ![512]⟩
abbrev S512x1 : Shape := ⟨2, ![512, 1]⟩
abbrev S256x256 : Shape := ⟨2, ![256, 256]⟩
abbrev S1x256x256 : Shape := ⟨3, ![1, 256, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S256x768 : Shape := ⟨2, ![256, 768]⟩
abbrev S768x128 : Shape := ⟨2, ![768, 128]⟩
abbrev S768x256 : Shape := ⟨2, ![768, 256]⟩

abbrev nBuf : Space → Nat
  | .hbm => 40
  | .vmem => 41
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S4x8192x128, .i32⟩
  | .hbm, ⟨6, _⟩ => ⟨S8192x2048, .f32⟩
  | .hbm, ⟨7, _⟩ => ⟨S8192x48, .f32⟩
  | .hbm, ⟨8, _⟩ => ⟨S1x2048x2048, .f32⟩
  | .hbm, ⟨9, _⟩ => ⟨S1x4096x2048, .f32⟩
  | .hbm, ⟨10, _⟩ => ⟨S1x2048x2048, .f32⟩
  | .hbm, ⟨11, _⟩ => ⟨S1x2048x8192, .f32⟩
  | .hbm, ⟨12, _⟩ => ⟨S1x8192x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x1024, .f32⟩
  | .hbm, ⟨22, _⟩ => ⟨S8192x5120, .f32⟩
  | .hbm, ⟨23, _⟩ => ⟨S8192x5120, .bf16⟩
  | .hbm, ⟨24, _⟩ => ⟨S_, .f32⟩
  | .hbm, ⟨25, _⟩ => ⟨S8192x64, .f32⟩
  | .hbm, ⟨26, _⟩ => ⟨S_, .f32⟩
  | .hbm, ⟨27, _⟩ => ⟨S8192x16, .f32⟩
  | .hbm, ⟨28, _⟩ => ⟨S8192x128, .f32⟩
  | .hbm, ⟨29, _⟩ => ⟨S_, .i32⟩
  | .hbm, ⟨30, _⟩ => ⟨S4x8192x128, .i32⟩
  | .hbm, ⟨31, _⟩ => ⟨S4x8192x128, .i1⟩
  | .hbm, ⟨32, _⟩ => ⟨S4x8192x128, .bf16⟩
  | .hbm, ⟨33, _⟩ => ⟨S8192x2048, .bf16⟩
  | .hbm, ⟨34, _⟩ => ⟨S8192x2048, .bf16⟩
  | .hbm, ⟨35, _⟩ => ⟨S2048x2048, .bf16⟩
  | .hbm, ⟨36, _⟩ => ⟨S4096x2048, .bf16⟩
  | .hbm, ⟨37, _⟩ => ⟨S2048x2048, .bf16⟩
  | .hbm, ⟨38, _⟩ => ⟨S2048x8192, .bf16⟩
  | .hbm, ⟨39, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S1x512x128, .bf16⟩
  | .local _ .vmem, ⟨3, _⟩ => ⟨S1x512x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S8192x128, .bf16⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S1x32x2048, .f32⟩
  | .local _ .vmem, ⟨17, _⟩ => ⟨S1x32x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x32x2048, .f32⟩
  | .local _ .vmem, ⟨21, _⟩ => ⟨S1x32x2048, .f32⟩
  | .local _ .vmem, ⟨22, _⟩ => ⟨S1x32x8192, .f32⟩
  | .local _ .vmem, ⟨23, _⟩ => ⟨S1x32x8192, .f32⟩
  | .local _ .vmem, ⟨24, _⟩ => ⟨S1x128x2048, .f32⟩
  | .local _ .vmem, ⟨25, _⟩ => ⟨S1x128x2048, .f32⟩
  | .local _ .vmem, ⟨26, _⟩ => ⟨S512x512, .bf16⟩
  | .local _ .vmem, ⟨27, _⟩ => ⟨S512x512, .bf16⟩
  | .local _ .vmem, ⟨28, _⟩ => ⟨S32x2048, .bf16⟩
  | .local _ .vmem, ⟨29, _⟩ => ⟨S32x2048, .bf16⟩
  | .local _ .vmem, ⟨30, _⟩ => ⟨S64x2048, .bf16⟩
  | .local _ .vmem, ⟨31, _⟩ => ⟨S64x2048, .bf16⟩
  | .local _ .vmem, ⟨32, _⟩ => ⟨S32x2048, .bf16⟩
  | .local _ .vmem, ⟨33, _⟩ => ⟨S32x2048, .bf16⟩
  | .local _ .vmem, ⟨34, _⟩ => ⟨S32x8192, .bf16⟩
  | .local _ .vmem, ⟨35, _⟩ => ⟨S32x8192, .bf16⟩
  | .local _ .vmem, ⟨36, _⟩ => ⟨S128x2048, .bf16⟩
  | .local _ .vmem, ⟨37, _⟩ => ⟨S128x2048, .bf16⟩
  | .local _ .vmem, ⟨38, _⟩ => ⟨S4x512x256, .bf16⟩
  | .local _ .vmem, ⟨39, _⟩ => ⟨S4x512x256, .f32⟩
  | .local _ .vmem, ⟨40, _⟩ => ⟨S4x512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v15_2 : Ref sig .tc := ⟨.hbm, 36, rfl⟩
abbrev main_v15_3 : Ref sig .tc := ⟨.hbm, 37, rfl⟩
abbrev main_v15_4 : Ref sig .tc := ⟨.hbm, 38, rfl⟩
abbrev main_v15_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_56 : BitVec 32 := 0#32
  let arg1 : BitVec 32 := BitVec.ofNat 32 (i 1).val
  let c0_i32 : BitVec 32 := 0#32
  let v65 : BitVec 1 := Scalar.cmpi .sgt arg1 c0_i32
  let v66 : BitVec 32 := Scalar.extui v65
  let c0_i32_51 : BitVec 32 := 0#32
  let v67 : BitVec 1 := Scalar.cmpi .slt arg1 c0_i32_51
  let v68 : BitVec 32 := Scalar.extui v67
  let v69 : BitVec 32 := Scalar.subi v66 v68
  let c4_i32 : BitVec 32 := 4#32
  let c0_i32_52 : BitVec 32 := 0#32
  let v70 : BitVec 1 := Scalar.cmpi .sgt c4_i32 c0_i32_52
  let v71 : BitVec 32 := Scalar.extui v70
  let c0_i32_53 : BitVec 32 := 0#32
  let v72 : BitVec 1 := Scalar.cmpi .slt c4_i32 c0_i32_53
  let v73 : BitVec 32 := Scalar.extui v72
  let v74 : BitVec 32 := Scalar.subi v71 v73
  let v75 : BitVec 1 := Scalar.cmpi .ne v69 v74
  let v76 : BitVec 32 := Scalar.remsi arg1 c4_i32
  let c0_i32_54 : BitVec 32 := 0#32
  let v77 : BitVec 1 := Scalar.cmpi .ne v76 c0_i32_54
  let v78 : BitVec 1 := Scalar.andi v75 v77
  let v64 : BitVec 32 := Scalar.divsi arg1 c4_i32
  let c1_i32 : BitVec 32 := 1#32
  let v79 : BitVec 32 := Scalar.subi v64 c1_i32
  let v80 : BitVec 32 := Scalar.select v78 v79 v64
  let v81 : BitVec 32 := Scalar.subi v80 c0_i32_56
  let c1_i32_57 : BitVec 32 := 1#32
  let v83 : BitVec 32 := Scalar.divsi v81 c1_i32_57
  let v84 : BitVec 32 := Scalar.muli v83 c1_i32_57
  let v85 : BitVec 32 := Scalar.addi c0_i32_56 v84
  let c1_i32_58 : BitVec 32 := 1#32
  ⟨c0_i32_56, v85, c1_i32_58⟩
def k0_mult1 (i : grid0.Coords) (k0_t1 : Fin (k0_t1_loop i).trips) : BitVec 32 :=
  let c4_i32_358 : BitVec 32 := 4#32
  let c0_i32_56 : BitVec 32 := 0#32
  let c1_i32_58 : BitVec 32 := 1#32
  let arg24 : BitVec 32 := Scf.iv c0_i32_56 c1_i32_58 k0_t1
  let v761 : BitVec 32 := Scalar.muli c4_i32_358 arg24
  let c0_i32_359 : BitVec 32 := 0#32
  let v762 : BitVec 32 := Scalar.addi v761 c0_i32_359
  let c512_i32_360 : BitVec 32 := 512#32
  let v763 : BitVec 32 := Scalar.muli v762 c512_i32_360
  v763
def k0_off1 (i : grid0.Coords) (k0_t1 : Fin (k0_t1_loop i).trips) (c0_i32_359 : BitVec 32) : Fin 2 → Nat :=
  let c4_i32_358 : BitVec 32 := 4#32
  let c0_i32_56 : BitVec 32 := 0#32
  let c1_i32_58 : BitVec 32 := 1#32
  let arg24 : BitVec 32 := Scf.iv c0_i32_56 c1_i32_58 k0_t1
  let v761 : BitVec 32 := Scalar.muli c4_i32_358 arg24
  let v762 : BitVec 32 := Scalar.addi v761 c0_i32_359
  let c512_i32_360 : BitVec 32 := 512#32
  let v763 : BitVec 32 := Scalar.muli v762 c512_i32_360
  let v764 : BitVec 32 := v763
  let v774 : Index := Scalar.indexCast v764
  let c0_364 : Index := 0#32
  ![v774.toNat, 0]
def k0_mult2 (i : grid0.Coords) (k0_t1 : Fin (k0_t1_loop i).trips) : BitVec 32 :=
  let c4_i32_439 : BitVec 32 := 4#32
  let c0_i32_56 : BitVec 32 := 0#32
  let c1_i32_58 : BitVec 32 := 1#32
  let arg24 : BitVec 32 := Scf.iv c0_i32_56 c1_i32_58 k0_t1
  let v891 : BitVec 32 := Scalar.muli c4_i32_439 arg24
  let c1_i32_440 : BitVec 32 := 1#32
  let v892 : BitVec 32 := Scalar.addi v891 c1_i32_440
  let c512_i32_441 : BitVec 32 := 512#32
  let v893 : BitVec 32 := Scalar.muli v892 c512_i32_441
  v893
def k0_mult3 (i : grid0.Coords) (k0_t1 : Fin (k0_t1_loop i).trips) : BitVec 32 :=
  let c4_i32_520 : BitVec 32 := 4#32
  let c0_i32_56 : BitVec 32 := 0#32
  let c1_i32_58 : BitVec 32 := 1#32
  let arg24 : BitVec 32 := Scf.iv c0_i32_56 c1_i32_58 k0_t1
  let v1021 : BitVec 32 := Scalar.muli c4_i32_520 arg24
  let c2_i32_521 : BitVec 32 := 2#32
  let v1022 : BitVec 32 := Scalar.addi v1021 c2_i32_521
  let c512_i32_522 : BitVec 32 := 512#32
  let v1023 : BitVec 32 := Scalar.muli v1022 c512_i32_522
  v1023
def k0_mult4 (i : grid0.Coords) (k0_t1 : Fin (k0_t1_loop i).trips) : BitVec 32 :=
  let c4_i32_601 : BitVec 32 := 4#32
  let c0_i32_56 : BitVec 32 := 0#32
  let c1_i32_58 : BitVec 32 := 1#32
  let arg24 : BitVec 32 := Scf.iv c0_i32_56 c1_i32_58 k0_t1
  let v1151 : BitVec 32 := Scalar.muli c4_i32_601 arg24
  let c3_i32 : BitVec 32 := 3#32
  let v1152 : BitVec 32 := Scalar.addi v1151 c3_i32
  let c512_i32_602 : BitVec 32 := 512#32
  let v1153 : BitVec 32 := Scalar.muli v1152 c512_i32_602
  v1153
@[reducible] def k0_t2_loop (i : grid0.Coords) : Scf.Loop 32 :=
  let c0_i32_56 : BitVec 32 := 0#32
  let arg1 : BitVec 32 := BitVec.ofNat 32 (i 1).val
  let c0_i32 : BitVec 32 := 0#32
  let v65 : BitVec 1 := Scalar.cmpi .sgt arg1 c0_i32
  let v66 : BitVec 32 := Scalar.extui v65
  let c0_i32_51 : BitVec 32 := 0#32
  let v67 : BitVec 1 := Scalar.cmpi .slt arg1 c0_i32_51
  let v68 : BitVec 32 := Scalar.extui v67
  let v69 : BitVec 32 := Scalar.subi v66 v68
  let c4_i32 : BitVec 32 := 4#32
  let c0_i32_52 : BitVec 32 := 0#32
  let v70 : BitVec 1 := Scalar.cmpi .sgt c4_i32 c0_i32_52
  let v71 : BitVec 32 := Scalar.extui v70
  let c0_i32_53 : BitVec 32 := 0#32
  let v72 : BitVec 1 := Scalar.cmpi .slt c4_i32 c0_i32_53
  let v73 : BitVec 32 := Scalar.extui v72
  let v74 : BitVec 32 := Scalar.subi v71 v73
  let v75 : BitVec 1 := Scalar.cmpi .ne v69 v74
  let v76 : BitVec 32 := Scalar.remsi arg1 c4_i32
  let c0_i32_54 : BitVec 32 := 0#32
  let v77 : BitVec 1 := Scalar.cmpi .ne v76 c0_i32_54
  let v78 : BitVec 1 := Scalar.andi v75 v77
  let v64 : BitVec 32 := Scalar.divsi arg1 c4_i32
  let c1_i32 : BitVec 32 := 1#32
  let v79 : BitVec 32 := Scalar.subi v64 c1_i32
  let v80 : BitVec 32 := Scalar.select v78 v79 v64
  let v81 : BitVec 32 := Scalar.subi v80 c0_i32_56
  let c1_i32_57 : BitVec 32 := 1#32
  let v83 : BitVec 32 := Scalar.divsi v81 c1_i32_57
  let v84 : BitVec 32 := Scalar.muli v83 c1_i32_57
  let v85 : BitVec 32 := Scalar.addi c0_i32_56 v84
  let v82 : BitVec 32 := Scalar.addi c0_i32_56 v81
  let c1_i32_59 : BitVec 32 := 1#32
  ⟨v85, v82, c1_i32_59⟩
def k0_mult5 (i : grid0.Coords) (k0_t2 : Fin (k0_t2_loop i).trips) : BitVec 32 :=
  let c4_i32_358 : BitVec 32 := 4#32
  let c0_i32_56 : BitVec 32 := 0#32
  let arg1 : BitVec 32 := BitVec.ofNat 32 (i 1).val
  let c0_i32 : BitVec 32 := 0#32
  let v65 : BitVec 1 := Scalar.cmpi .sgt arg1 c0_i32
  let v66 : BitVec 32 := Scalar.extui v65
  let c0_i32_51 : BitVec 32 := 0#32
  let v67 : BitVec 1 := Scalar.cmpi .slt arg1 c0_i32_51
  let v68 : BitVec 32 := Scalar.extui v67
  let v69 : BitVec 32 := Scalar.subi v66 v68
  let c4_i32 : BitVec 32 := 4#32
  let c0_i32_52 : BitVec 32 := 0#32
  let v70 : BitVec 1 := Scalar.cmpi .sgt c4_i32 c0_i32_52
  let v71 : BitVec 32 := Scalar.extui v70
  let c0_i32_53 : BitVec 32 := 0#32
  let v72 : BitVec 1 := Scalar.cmpi .slt c4_i32 c0_i32_53
  let v73 : BitVec 32 := Scalar.extui v72
  let v74 : BitVec 32 := Scalar.subi v71 v73
  let v75 : BitVec 1 := Scalar.cmpi .ne v69 v74
  let v76 : BitVec 32 := Scalar.remsi arg1 c4_i32
  let c0_i32_54 : BitVec 32 := 0#32
  let v77 : BitVec 1 := Scalar.cmpi .ne v76 c0_i32_54
  let v78 : BitVec 1 := Scalar.andi v75 v77
  let v64 : BitVec 32 := Scalar.divsi arg1 c4_i32
  let c1_i32 : BitVec 32 := 1#32
  let v79 : BitVec 32 := Scalar.subi v64 c1_i32
  let v80 : BitVec 32 := Scalar.select v78 v79 v64
  let v81 : BitVec 32 := Scalar.subi v80 c0_i32_56
  let c1_i32_57 : BitVec 32 := 1#32
  let v83 : BitVec 32 := Scalar.divsi v81 c1_i32_57
  let v84 : BitVec 32 := Scalar.muli v83 c1_i32_57
  let v85 : BitVec 32 := Scalar.addi c0_i32_56 v84
  let c1_i32_59 : BitVec 32 := 1#32
  let arg24 : BitVec 32 := Scf.iv v85 c1_i32_59 k0_t2
  let v761 : BitVec 32 := Scalar.muli c4_i32_358 arg24
  let c0_i32_359 : BitVec 32 := 0#32
  let v762 : BitVec 32 := Scalar.addi v761 c0_i32_359
  let c512_i32_360 : BitVec 32 := 512#32
  let v763 : BitVec 32 := Scalar.muli v762 c512_i32_360
  v763
def k0_off2 (i : grid0.Coords) (k0_t2 : Fin (k0_t2_loop i).trips) (c0_i32_359 : BitVec 32) : Fin 2 → Nat :=
  let c4_i32_358 : BitVec 32 := 4#32
  let c0_i32_56 : BitVec 32 := 0#32
  let arg1 : BitVec 32 := BitVec.ofNat 32 (i 1).val
  let c0_i32 : BitVec 32 := 0#32
  let v65 : BitVec 1 := Scalar.cmpi .sgt arg1 c0_i32
  let v66 : BitVec 32 := Scalar.extui v65
  let c0_i32_51 : BitVec 32 := 0#32
  let v67 : BitVec 1 := Scalar.cmpi .slt arg1 c0_i32_51
  let v68 : BitVec 32 := Scalar.extui v67
  let v69 : BitVec 32 := Scalar.subi v66 v68
  let c4_i32 : BitVec 32 := 4#32
  let c0_i32_52 : BitVec 32 := 0#32
  let v70 : BitVec 1 := Scalar.cmpi .sgt c4_i32 c0_i32_52
  let v71 : BitVec 32 := Scalar.extui v70
  let c0_i32_53 : BitVec 32 := 0#32
  let v72 : BitVec 1 := Scalar.cmpi .slt c4_i32 c0_i32_53
  let v73 : BitVec 32 := Scalar.extui v72
  let v74 : BitVec 32 := Scalar.subi v71 v73
  let v75 : BitVec 1 := Scalar.cmpi .ne v69 v74
  let v76 : BitVec 32 := Scalar.remsi arg1 c4_i32
  let c0_i32_54 : BitVec 32 := 0#32
  let v77 : BitVec 1 := Scalar.cmpi .ne v76 c0_i32_54
  let v78 : BitVec 1 := Scalar.andi v75 v77
  let v64 : BitVec 32 := Scalar.divsi arg1 c4_i32
  let c1_i32 : BitVec 32 := 1#32
  let v79 : BitVec 32 := Scalar.subi v64 c1_i32
  let v80 : BitVec 32 := Scalar.select v78 v79 v64
  let v81 : BitVec 32 := Scalar.subi v80 c0_i32_56
  let c1_i32_57 : BitVec 32 := 1#32
  let v83 : BitVec 32 := Scalar.divsi v81 c1_i32_57
  let v84 : BitVec 32 := Scalar.muli v83 c1_i32_57
  let v85 : BitVec 32 := Scalar.addi c0_i32_56 v84
  let c1_i32_59 : BitVec 32 := 1#32
  let arg24 : BitVec 32 := Scf.iv v85 c1_i32_59 k0_t2
  let v761 : BitVec 32 := Scalar.muli c4_i32_358 arg24
  let v762 : BitVec 32 := Scalar.addi v761 c0_i32_359
  let c512_i32_360 : BitVec 32 := 512#32
  let v763 : BitVec 32 := Scalar.muli v762 c512_i32_360
  let v764 : BitVec 32 := v763
  let v774 : Index := Scalar.indexCast v764
  let c0_364 : Index := 0#32
  ![v774.toNat, 0]
def k0_mult6 (i : grid0.Coords) (k0_t2 : Fin (k0_t2_loop i).trips) : BitVec 32 :=
  let c4_i32_439 : BitVec 32 := 4#32
  let c0_i32_56 : BitVec 32 := 0#32
  let arg1 : BitVec 32 := BitVec.ofNat 32 (i 1).val
  let c0_i32 : BitVec 32 := 0#32
  let v65 : BitVec 1 := Scalar.cmpi .sgt arg1 c0_i32
  let v66 : BitVec 32 := Scalar.extui v65
  let c0_i32_51 : BitVec 32 := 0#32
  let v67 : BitVec 1 := Scalar.cmpi .slt arg1 c0_i32_51
  let v68 : BitVec 32 := Scalar.extui v67
  let v69 : BitVec 32 := Scalar.subi v66 v68
  let c4_i32 : BitVec 32 := 4#32
  let c0_i32_52 : BitVec 32 := 0#32
  let v70 : BitVec 1 := Scalar.cmpi .sgt c4_i32 c0_i32_52
  let v71 : BitVec 32 := Scalar.extui v70
  let c0_i32_53 : BitVec 32 := 0#32
  let v72 : BitVec 1 := Scalar.cmpi .slt c4_i32 c0_i32_53
  let v73 : BitVec 32 := Scalar.extui v72
  let v74 : BitVec 32 := Scalar.subi v71 v73
  let v75 : BitVec 1 := Scalar.cmpi .ne v69 v74
  let v76 : BitVec 32 := Scalar.remsi arg1 c4_i32
  let c0_i32_54 : BitVec 32 := 0#32
  let v77 : BitVec 1 := Scalar.cmpi .ne v76 c0_i32_54
  let v78 : BitVec 1 := Scalar.andi v75 v77
  let v64 : BitVec 32 := Scalar.divsi arg1 c4_i32
  let c1_i32 : BitVec 32 := 1#32
  let v79 : BitVec 32 := Scalar.subi v64 c1_i32
  let v80 : BitVec 32 := Scalar.select v78 v79 v64
  let v81 : BitVec 32 := Scalar.subi v80 c0_i32_56
  let c1_i32_57 : BitVec 32 := 1#32
  let v83 : BitVec 32 := Scalar.divsi v81 c1_i32_57
  let v84 : BitVec 32 := Scalar.muli v83 c1_i32_57
  let v85 : BitVec 32 := Scalar.addi c0_i32_56 v84
  let c1_i32_59 : BitVec 32 := 1#32
  let arg24 : BitVec 32 := Scf.iv v85 c1_i32_59 k0_t2
  let v891 : BitVec 32 := Scalar.muli c4_i32_439 arg24
  let c1_i32_440 : BitVec 32 := 1#32
  let v892 : BitVec 32 := Scalar.addi v891 c1_i32_440
  let c512_i32_441 : BitVec 32 := 512#32
  let v893 : BitVec 32 := Scalar.muli v892 c512_i32_441
  v893
def k0_mult7 (i : grid0.Coords) (k0_t2 : Fin (k0_t2_loop i).trips) : BitVec 32 :=
  let c4_i32_520 : BitVec 32 := 4#32
  let c0_i32_56 : BitVec 32 := 0#32
  let arg1 : BitVec 32 := BitVec.ofNat 32 (i 1).val
  let c0_i32 : BitVec 32 := 0#32
  let v65 : BitVec 1 := Scalar.cmpi .sgt arg1 c0_i32
  let v66 : BitVec 32 := Scalar.extui v65
  let c0_i32_51 : BitVec 32 := 0#32
  let v67 : BitVec 1 := Scalar.cmpi .slt arg1 c0_i32_51
  let v68 : BitVec 32 := Scalar.extui v67
  let v69 : BitVec 32 := Scalar.subi v66 v68
  let c4_i32 : BitVec 32 := 4#32
  let c0_i32_52 : BitVec 32 := 0#32
  let v70 : BitVec 1 := Scalar.cmpi .sgt c4_i32 c0_i32_52
  let v71 : BitVec 32 := Scalar.extui v70
  let c0_i32_53 : BitVec 32 := 0#32
  let v72 : BitVec 1 := Scalar.cmpi .slt c4_i32 c0_i32_53
  let v73 : BitVec 32 := Scalar.extui v72
  let v74 : BitVec 32 := Scalar.subi v71 v73
  let v75 : BitVec 1 := Scalar.cmpi .ne v69 v74
  let v76 : BitVec 32 := Scalar.remsi arg1 c4_i32
  let c0_i32_54 : BitVec 32 := 0#32
  let v77 : BitVec 1 := Scalar.cmpi .ne v76 c0_i32_54
  let v78 : BitVec 1 := Scalar.andi v75 v77
  let v64 : BitVec 32 := Scalar.divsi arg1 c4_i32
  let c1_i32 : BitVec 32 := 1#32
  let v79 : BitVec 32 := Scalar.subi v64 c1_i32
  let v80 : BitVec 32 := Scalar.select v78 v79 v64
  let v81 : BitVec 32 := Scalar.subi v80 c0_i32_56
  let c1_i32_57 : BitVec 32 := 1#32
  let v83 : BitVec 32 := Scalar.divsi v81 c1_i32_57
  let v84 : BitVec 32 := Scalar.muli v83 c1_i32_57
  let v85 : BitVec 32 := Scalar.addi c0_i32_56 v84
  let c1_i32_59 : BitVec 32 := 1#32
  let arg24 : BitVec 32 := Scf.iv v85 c1_i32_59 k0_t2
  let v1021 : BitVec 32 := Scalar.muli c4_i32_520 arg24
  let c2_i32_521 : BitVec 32 := 2#32
  let v1022 : BitVec 32 := Scalar.addi v1021 c2_i32_521
  let c512_i32_522 : BitVec 32 := 512#32
  let v1023 : BitVec 32 := Scalar.muli v1022 c512_i32_522
  v1023
def k0_mult8 (i : grid0.Coords) (k0_t2 : Fin (k0_t2_loop i).trips) : BitVec 32 :=
  let c4_i32_601 : BitVec 32 := 4#32
  let c0_i32_56 : BitVec 32 := 0#32
  let arg1 : BitVec 32 := BitVec.ofNat 32 (i 1).val
  let c0_i32 : BitVec 32 := 0#32
  let v65 : BitVec 1 := Scalar.cmpi .sgt arg1 c0_i32
  let v66 : BitVec 32 := Scalar.extui v65
  let c0_i32_51 : BitVec 32 := 0#32
  let v67 : BitVec 1 := Scalar.cmpi .slt arg1 c0_i32_51
  let v68 : BitVec 32 := Scalar.extui v67
  let v69 : BitVec 32 := Scalar.subi v66 v68
  let c4_i32 : BitVec 32 := 4#32
  let c0_i32_52 : BitVec 32 := 0#32
  let v70 : BitVec 1 := Scalar.cmpi .sgt c4_i32 c0_i32_52
  let v71 : BitVec 32 := Scalar.extui v70
  let c0_i32_53 : BitVec 32 := 0#32
  let v72 : BitVec 1 := Scalar.cmpi .slt c4_i32 c0_i32_53
  let v73 : BitVec 32 := Scalar.extui v72
  let v74 : BitVec 32 := Scalar.subi v71 v73
  let v75 : BitVec 1 := Scalar.cmpi .ne v69 v74
  let v76 : BitVec 32 := Scalar.remsi arg1 c4_i32
  let c0_i32_54 : BitVec 32 := 0#32
  let v77 : BitVec 1 := Scalar.cmpi .ne v76 c0_i32_54
  let v78 : BitVec 1 := Scalar.andi v75 v77
  let v64 : BitVec 32 := Scalar.divsi arg1 c4_i32
  let c1_i32 : BitVec 32 := 1#32
  let v79 : BitVec 32 := Scalar.subi v64 c1_i32
  let v80 : BitVec 32 := Scalar.select v78 v79 v64
  let v81 : BitVec 32 := Scalar.subi v80 c0_i32_56
  let c1_i32_57 : BitVec 32 := 1#32
  let v83 : BitVec 32 := Scalar.divsi v81 c1_i32_57
  let v84 : BitVec 32 := Scalar.muli v83 c1_i32_57
  let v85 : BitVec 32 := Scalar.addi c0_i32_56 v84
  let c1_i32_59 : BitVec 32 := 1#32
  let arg24 : BitVec 32 := Scf.iv v85 c1_i32_59 k0_t2
  let v1151 : BitVec 32 := Scalar.muli c4_i32_601 arg24
  let c3_i32 : BitVec 32 := 3#32
  let v1152 : BitVec 32 := Scalar.addi v1151 c3_i32
  let c512_i32_602 : BitVec 32 := 512#32
  let v1153 : BitVec 32 := Scalar.muli v1152 c512_i32_602
  v1153
def k0_cond1 (i : grid0.Coords) : BitVec 1 :=
  let arg1 : BitVec 32 := BitVec.ofNat 32 (i 1).val
  let c2_i32 : BitVec 32 := 2#32
  let v104 : BitVec 32 := Scalar.andi arg1 c2_i32
  let c0_i32_68 : BitVec 32 := 0#32
  let v105 : BitVec 1 := Scalar.cmpi .ne v104 c0_i32_68
  let v106 : BitVec 32 := Scalar.extui v105
  let c0_i32_69 : BitVec 32 := 0#32
  let v107 : BitVec 1 := Scalar.cmpi .ne v106 c0_i32_69
  v107

def k0_mult9 (i : grid0.Coords) : BitVec 32 :=
  let arg1 : BitVec 32 := BitVec.ofNat 32 (i 1).val
  let c0_i32_61 : BitVec 32 := 0#32
  let v87 : BitVec 1 := Scalar.cmpi .sgt arg1 c0_i32_61
  let v88 : BitVec 32 := Scalar.extui v87
  let c0_i32_62 : BitVec 32 := 0#32
  let v89 : BitVec 1 := Scalar.cmpi .slt arg1 c0_i32_62
  let v90 : BitVec 32 := Scalar.extui v89
  let v91 : BitVec 32 := Scalar.subi v88 v90
  let c4_i32_60 : BitVec 32 := 4#32
  let c0_i32_63 : BitVec 32 := 0#32
  let v92 : BitVec 1 := Scalar.cmpi .sgt c4_i32_60 c0_i32_63
  let v93 : BitVec 32 := Scalar.extui v92
  let c0_i32_64 : BitVec 32 := 0#32
  let v94 : BitVec 1 := Scalar.cmpi .slt c4_i32_60 c0_i32_64
  let v95 : BitVec 32 := Scalar.extui v94
  let v96 : BitVec 32 := Scalar.subi v93 v95
  let v97 : BitVec 1 := Scalar.cmpi .ne v91 v96
  let v98 : BitVec 32 := Scalar.remsi arg1 c4_i32_60
  let c0_i32_65 : BitVec 32 := 0#32
  let v99 : BitVec 1 := Scalar.cmpi .ne v98 c0_i32_65
  let v100 : BitVec 1 := Scalar.andi v97 v99
  let v86 : BitVec 32 := Scalar.divsi arg1 c4_i32_60
  let c1_i32_66 : BitVec 32 := 1#32
  let v101 : BitVec 32 := Scalar.subi v86 c1_i32_66
  let v102 : BitVec 32 := Scalar.select v100 v101 v86
  let c4_i32_67 : BitVec 32 := 4#32
  let v103 : BitVec 32 := Scalar.muli v102 c4_i32_67
  let c512_i32_358 : BitVec 32 := 512#32
  let v761 : BitVec 32 := Scalar.muli v103 c512_i32_358
  v761
def k0_off3 (i : grid0.Coords) : Fin 2 → Nat :=
  let arg1 : BitVec 32 := BitVec.ofNat 32 (i 1).val
  let c0_i32_61 : BitVec 32 := 0#32
  let v87 : BitVec 1 := Scalar.cmpi .sgt arg1 c0_i32_61
  let v88 : BitVec 32 := Scalar.extui v87
  let c0_i32_62 : BitVec 32 := 0#32
  let v89 : BitVec 1 := Scalar.cmpi .slt arg1 c0_i32_62
  let v90 : BitVec 32 := Scalar.extui v89
  let v91 : BitVec 32 := Scalar.subi v88 v90
  let c4_i32_60 : BitVec 32 := 4#32
  let c0_i32_63 : BitVec 32 := 0#32
  let v92 : BitVec 1 := Scalar.cmpi .sgt c4_i32_60 c0_i32_63
  let v93 : BitVec 32 := Scalar.extui v92
  let c0_i32_64 : BitVec 32 := 0#32
  let v94 : BitVec 1 := Scalar.cmpi .slt c4_i32_60 c0_i32_64
  let v95 : BitVec 32 := Scalar.extui v94
  let v96 : BitVec 32 := Scalar.subi v93 v95
  let v97 : BitVec 1 := Scalar.cmpi .ne v91 v96
  let v98 : BitVec 32 := Scalar.remsi arg1 c4_i32_60
  let c0_i32_65 : BitVec 32 := 0#32
  let v99 : BitVec 1 := Scalar.cmpi .ne v98 c0_i32_65
  let v100 : BitVec 1 := Scalar.andi v97 v99
  let v86 : BitVec 32 := Scalar.divsi arg1 c4_i32_60
  let c1_i32_66 : BitVec 32 := 1#32
  let v101 : BitVec 32 := Scalar.subi v86 c1_i32_66
  let v102 : BitVec 32 := Scalar.select v100 v101 v86
  let c4_i32_67 : BitVec 32 := 4#32
  let v103 : BitVec 32 := Scalar.muli v102 c4_i32_67
  let c512_i32_358 : BitVec 32 := 512#32
  let v761 : BitVec 32 := Scalar.muli v103 c512_i32_358
  let v762 : BitVec 32 := v761
  let v772 : Index := Scalar.indexCast v762
  let c0_362 : Index := 0#32
  ![v772.toNat, 0]
def k0_mult10 (i : grid0.Coords) : BitVec 32 :=
  let arg1 : BitVec 32 := BitVec.ofNat 32 (i 1).val
  let c0_i32_61 : BitVec 32 := 0#32
  let v87 : BitVec 1 := Scalar.cmpi .sgt arg1 c0_i32_61
  let v88 : BitVec 32 := Scalar.extui v87
  let c0_i32_62 : BitVec 32 := 0#32
  let v89 : BitVec 1 := Scalar.cmpi .slt arg1 c0_i32_62
  let v90 : BitVec 32 := Scalar.extui v89
  let v91 : BitVec 32 := Scalar.subi v88 v90
  let c4_i32_60 : BitVec 32 := 4#32
  let c0_i32_63 : BitVec 32 := 0#32
  let v92 : BitVec 1 := Scalar.cmpi .sgt c4_i32_60 c0_i32_63
  let v93 : BitVec 32 := Scalar.extui v92
  let c0_i32_64 : BitVec 32 := 0#32
  let v94 : BitVec 1 := Scalar.cmpi .slt c4_i32_60 c0_i32_64
  let v95 : BitVec 32 := Scalar.extui v94
  let v96 : BitVec 32 := Scalar.subi v93 v95
  let v97 : BitVec 1 := Scalar.cmpi .ne v91 v96
  let v98 : BitVec 32 := Scalar.remsi arg1 c4_i32_60
  let c0_i32_65 : BitVec 32 := 0#32
  let v99 : BitVec 1 := Scalar.cmpi .ne v98 c0_i32_65
  let v100 : BitVec 1 := Scalar.andi v97 v99
  let v86 : BitVec 32 := Scalar.divsi arg1 c4_i32_60
  let c1_i32_66 : BitVec 32 := 1#32
  let v101 : BitVec 32 := Scalar.subi v86 c1_i32_66
  let v102 : BitVec 32 := Scalar.select v100 v101 v86
  let c4_i32_67 : BitVec 32 := 4#32
  let v103 : BitVec 32 := Scalar.muli v102 c4_i32_67
  let c1_i32_437 : BitVec 32 := 1#32
  let v889 : BitVec 32 := Scalar.addi v103 c1_i32_437
  let c512_i32_438 : BitVec 32 := 512#32
  let v890 : BitVec 32 := Scalar.muli v889 c512_i32_438
  v890
def k0_off4 (i : grid0.Coords) : Fin 2 → Nat :=
  let arg1 : BitVec 32 := BitVec.ofNat 32 (i 1).val
  let c0_i32_61 : BitVec 32 := 0#32
  let v87 : BitVec 1 := Scalar.cmpi .sgt arg1 c0_i32_61
  let v88 : BitVec 32 := Scalar.extui v87
  let c0_i32_62 : BitVec 32 := 0#32
  let v89 : BitVec 1 := Scalar.cmpi .slt arg1 c0_i32_62
  let v90 : BitVec 32 := Scalar.extui v89
  let v91 : BitVec 32 := Scalar.subi v88 v90
  let c4_i32_60 : BitVec 32 := 4#32
  let c0_i32_63 : BitVec 32 := 0#32
  let v92 : BitVec 1 := Scalar.cmpi .sgt c4_i32_60 c0_i32_63
  let v93 : BitVec 32 := Scalar.extui v92
  let c0_i32_64 : BitVec 32 := 0#32
  let v94 : BitVec 1 := Scalar.cmpi .slt c4_i32_60 c0_i32_64
  let v95 : BitVec 32 := Scalar.extui v94
  let v96 : BitVec 32 := Scalar.subi v93 v95
  let v97 : BitVec 1 := Scalar.cmpi .ne v91 v96
  let v98 : BitVec 32 := Scalar.remsi arg1 c4_i32_60
  let c0_i32_65 : BitVec 32 := 0#32
  let v99 : BitVec 1 := Scalar.cmpi .ne v98 c0_i32_65
  let v100 : BitVec 1 := Scalar.andi v97 v99
  let v86 : BitVec 32 := Scalar.divsi arg1 c4_i32_60
  let c1_i32_66 : BitVec 32 := 1#32
  let v101 : BitVec 32 := Scalar.subi v86 c1_i32_66
  let v102 : BitVec 32 := Scalar.select v100 v101 v86
  let c4_i32_67 : BitVec 32 := 4#32
  let v103 : BitVec 32 := Scalar.muli v102 c4_i32_67
  let c1_i32_437 : BitVec 32 := 1#32
  let v889 : BitVec 32 := Scalar.addi v103 c1_i32_437
  let c512_i32_438 : BitVec 32 := 512#32
  let v890 : BitVec 32 := Scalar.muli v889 c512_i32_438
  let v891 : BitVec 32 := v890
  let v901 : Index := Scalar.indexCast v891
  let c0_442 : Index := 0#32
  ![v901.toNat, 0]
def k0_cond2 (i : grid0.Coords) : BitVec 1 :=
  let arg1 : BitVec 32 := BitVec.ofNat 32 (i 1).val
  let c1_i32_70 : BitVec 32 := 1#32
  let v108 : BitVec 32 := Scalar.andi arg1 c1_i32_70
  let c0_i32_71 : BitVec 32 := 0#32
  let v109 : BitVec 1 := Scalar.cmpi .ne v108 c0_i32_71
  let v110 : BitVec 32 := Scalar.extui v109
  let c0_i32_72 : BitVec 32 := 0#32
  let v111 : BitVec 1 := Scalar.cmpi .ne v110 c0_i32_72
  v111

def k0_mult11 (i : grid0.Coords) : BitVec 32 :=
  let arg1 : BitVec 32 := BitVec.ofNat 32 (i 1).val
  let c1_i32_358 : BitVec 32 := 1#32
  let v761 : BitVec 32 := Scalar.subi arg1 c1_i32_358
  let c512_i32_359 : BitVec 32 := 512#32
  let v762 : BitVec 32 := Scalar.muli v761 c512_i32_359
  v762
def k0_off5 (i : grid0.Coords) : Fin 2 → Nat :=
  let arg1 : BitVec 32 := BitVec.ofNat 32 (i 1).val
  let c1_i32_358 : BitVec 32 := 1#32
  let v761 : BitVec 32 := Scalar.subi arg1 c1_i32_358
  let c512_i32_359 : BitVec 32 := 512#32
  let v762 : BitVec 32 := Scalar.muli v761 c512_i32_359
  let v763 : BitVec 32 := v762
  let v773 : Index := Scalar.indexCast v763
  let c0_363 : Index := 0#32
  ![v773.toNat, 0]
def k0_mult12 (i : grid0.Coords) : BitVec 32 :=
  let arg1 : BitVec 32 := BitVec.ofNat 32 (i 1).val
  let c512_i32_73 : BitVec 32 := 512#32
  let v112 : BitVec 32 := Scalar.muli arg1 c512_i32_73
  v112
def k0_off6 (i : grid0.Coords) : Fin 2 → Nat :=
  let arg1 : BitVec 32 := BitVec.ofNat 32 (i 1).val
  let c512_i32_73 : BitVec 32 := 512#32
  let v112 : BitVec 32 := Scalar.muli arg1 c512_i32_73
  let v113 : BitVec 32 := v112
  let v123 : Index := Scalar.indexCast v113
  let c0_76 : Index := 0#32
  ![v123.toNat, 0]
def k0_mult13 (i : grid0.Coords) : BitVec 32 :=
  let arg1 : BitVec 32 := BitVec.ofNat 32 (i 1).val
  let c512_i32 : BitVec 32 := 512#32
  let v20 : BitVec 32 := Scalar.muli arg1 c512_i32
  let c0_i32_227 : BitVec 32 := 0#32
  let v391 : BitVec 32 := Scalar.addi v20 c0_i32_227
  let c512_i32_228 : BitVec 32 := 512#32
  let v392 : BitVec 32 := Scalar.subi v391 c512_i32_228
  let c0_i32_229 : BitVec 32 := 0#32
  let v393 : BitVec 32 := Scalar.maxsi v392 c0_i32_229
  v393
def k0_off7 (i : grid0.Coords) (c0_i32_227 : BitVec 32) : Fin 2 → Nat :=
  let arg1 : BitVec 32 := BitVec.ofNat 32 (i 1).val
  let c512_i32 : BitVec 32 := 512#32
  let v20 : BitVec 32 := Scalar.muli arg1 c512_i32
  let v391 : BitVec 32 := Scalar.addi v20 c0_i32_227
  let c512_i32_228 : BitVec 32 := 512#32
  let v392 : BitVec 32 := Scalar.subi v391 c512_i32_228
  let c0_i32_229 : BitVec 32 := 0#32
  let v393 : BitVec 32 := Scalar.maxsi v392 c0_i32_229
  let v394 : BitVec 32 := v393
  let v395 : Index := Scalar.indexCast v394
  let c0_230 : Index := 0#32
  ![v395.toNat, 0]
def k0_mult14 (i : grid0.Coords) : BitVec 32 :=
  let arg1 : BitVec 32 := BitVec.ofNat 32 (i 1).val
  let c512_i32 : BitVec 32 := 512#32
  let v20 : BitVec 32 := Scalar.muli arg1 c512_i32
  let c256_i32 : BitVec 32 := 256#32
  let v576 : BitVec 32 := Scalar.addi v20 c256_i32
  let c512_i32_293 : BitVec 32 := 512#32
  let v577 : BitVec 32 := Scalar.subi v576 c512_i32_293
  let c0_i32_294 : BitVec 32 := 0#32
  let v578 : BitVec 32 := Scalar.maxsi v577 c0_i32_294
  v578
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x8192 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x512 : Shape := ⟨2, ![8192, 512]⟩
abbrev S4x8192x128 : Shape := ⟨3, ![4, 8192, 128]⟩
abbrev S8192x48 : Shape := ⟨2, ![8192, 48]⟩
abbrev S1x2048x2048 : Shape := ⟨3, ![1, 2048, 2048]⟩
abbrev S1x4096x2048 : Shape := ⟨3, ![1, 4096, 2048]⟩
abbrev S1x2048x8192 : Shape := ⟨3, ![1, 2048, 8192]⟩
abbrev S1x8192x2048 : Shape := ⟨3, ![1, 8192, 2048]⟩
abbrev S8192x4x4x128 : Shape := ⟨4, ![8192, 4, 4, 128]⟩
abbrev S4x4x8192x128 : Shape := ⟨4, ![4, 4, 8192, 128]⟩
abbrev S8192x8192 : Shape := ⟨2, ![8192, 8192]⟩
abbrev S4x8192x128x64 : Shape := ⟨4, ![4, 8192, 128, 64]⟩
abbrev S4x8192x8192 : Shape := ⟨3, ![4, 8192, 8192]⟩
abbrev S_ : Shape := ⟨0, ![]⟩
abbrev S1x8192x8192 : Shape := ⟨3, ![1, 8192, 8192]⟩
abbrev S4x1x8192x8192 : Shape := ⟨4, ![4, 1, 8192, 8192]⟩
abbrev S8192x4x128 : Shape := ⟨3, ![8192, 4, 128]⟩
abbrev S4x4x8192x8192 : Shape := ⟨4, ![4, 4, 8192, 8192]⟩
abbrev S4x4x8192 : Shape := ⟨3, ![4, 4, 8192]⟩
abbrev S4x4x8192x1 : Shape := ⟨4, ![4, 4, 8192, 1]⟩
abbrev S1x1x8192x8192 : Shape := ⟨4, ![1, 1, 8192, 8192]⟩
abbrev S8192x16x3 : Shape := ⟨3, ![8192, 16, 3]⟩
abbrev S8192x16x1 : Shape := ⟨3, ![8192, 16, 1]⟩
abbrev S8192x16x128 : Shape := ⟨3, ![8192, 16, 128]⟩

abbrev nBuf : Space → Nat
  | .hbm => 128
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S4x8192x128, .i32⟩
  | .hbm, ⟨6, _⟩ => ⟨S8192x2048, .f32⟩
  | .hbm, ⟨7, _⟩ => ⟨S8192x48, .f32⟩
  | .hbm, ⟨8, _⟩ => ⟨S1x2048x2048, .f32⟩
  | .hbm, ⟨9, _⟩ => ⟨S1x4096x2048, .f32⟩
  | .hbm, ⟨10, _⟩ => ⟨S1x2048x2048, .f32⟩
  | .hbm, ⟨11, _⟩ => ⟨S1x2048x8192, .f32⟩
  | .hbm, ⟨12, _⟩ => ⟨S1x8192x2048, .f32⟩
  | .hbm, ⟨13, _⟩ => ⟨S8192x4x4x128, .f32⟩
  | .hbm, ⟨14, _⟩ => ⟨S4x4x8192x128, .f32⟩
  | .hbm, ⟨15, _⟩ => ⟨S8192x8192, .i32⟩
  | .hbm, ⟨16, _⟩ => ⟨S8192x8192, .i32⟩
  | .hbm, ⟨17, _⟩ => ⟨S4x8192x128x64, .i32⟩
  | .hbm, ⟨18, _⟩ => ⟨S4x8192x8192, .i32⟩
  | .hbm, ⟨19, _⟩ => ⟨S_, .i32⟩
  | .hbm, ⟨20, _⟩ => ⟨S4x8192x8192, .i32⟩
  | .hbm, ⟨21, _⟩ => ⟨S4x8192x8192, .i1⟩
  | .hbm, ⟨22, _⟩ => ⟨S8192x8192, .i1⟩
  | .hbm, ⟨23, _⟩ => ⟨S1x8192x8192, .i1⟩
  | .hbm, ⟨24, _⟩ => ⟨S4x8192x8192, .i1⟩
  | .hbm, ⟨25, _⟩ => ⟨S4x8192x8192, .i1⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i1⟩
  | .hbm, ⟨30, _⟩ => ⟨S8192x8192, .i32⟩
  | .hbm, ⟨31, _⟩ => ⟨S_, .i32⟩
  | .hbm, ⟨32, _⟩ => ⟨S8192x8192, .i32⟩
  | .hbm, ⟨33, _⟩ => ⟨S8192x8192, .i1⟩
  | .hbm, ⟨34, _⟩ => ⟨S8192x8192, .i1⟩
  | .hbm, ⟨35, _⟩ => ⟨S4x1x8192x8192, .i1⟩
  | .hbm, ⟨36, _⟩ => ⟨S8192x4x128, .f32⟩
  | .hbm, ⟨37, _⟩ => ⟨S4x8192x128, .f32⟩
  | .hbm, ⟨38, _⟩ => ⟨S4x4x8192x8192, .f32⟩
  | .hbm, ⟨39, _⟩ => ⟨S_, .f32⟩
  | .hbm, ⟨40, _⟩ => ⟨S_, .f32⟩
  | .hbm, ⟨41, _⟩ => ⟨S4x4x8192x8192, .f32⟩
  | .hbm, ⟨42, _⟩ => ⟨S4x4x8192x8192, .f32⟩
  | .hbm, ⟨43, _⟩ => ⟨S_, .f32⟩
  | .hbm, ⟨44, _⟩ => ⟨S_, .f32⟩
  | .hbm, ⟨45, _⟩ => ⟨S4x4x8192x8192, .i1⟩
  | .hbm, ⟨46, _⟩ => ⟨S4x4x8192x8192, .f32⟩
  | .hbm, ⟨47, _⟩ => ⟨S4x4x8192x8192, .f32⟩
  | .hbm, ⟨48, _⟩ => ⟨S_, .f32⟩
  | .hbm, ⟨49, _⟩ => ⟨S4x4x8192, .f32⟩
  | .hbm, ⟨50, _⟩ => ⟨S4x4x8192x1, .f32⟩
  | .hbm, ⟨51, _⟩ => ⟨S4x4x8192x8192, .f32⟩
  | .hbm, ⟨52, _⟩ => ⟨S4x4x8192x8192, .f32⟩
  | .hbm, ⟨53, _⟩ => ⟨S4x4x8192x8192, .f32⟩
  | .hbm, ⟨54, _⟩ => ⟨S4x1x8192x8192, .f32⟩
  | .hbm, ⟨55, _⟩ => ⟨S4x4x8192x8192, .f32⟩
  | .hbm, ⟨56, _⟩ => ⟨S4x4x8192x8192, .f32⟩
  | .hbm, ⟨57, _⟩ => ⟨S_, .f32⟩
  | .hbm, ⟨58, _⟩ => ⟨S4x4x8192, .f32⟩
  | .hbm, ⟨59, _⟩ => ⟨S4x4x8192x1, .f32⟩
  | .hbm, ⟨60, _⟩ => ⟨S_, .f32⟩
  | .hbm, ⟨61, _⟩ => ⟨S4x4x8192x1, .f32⟩
  | .hbm, ⟨62, _⟩ => ⟨S4x4x8192x1, .f32⟩
  | .hbm, ⟨63, _⟩ => ⟨S4x4x8192x8192, .f32⟩
  | .hbm, ⟨64, _⟩ => ⟨S4x4x8192x8192, .f32⟩
  | .hbm, ⟨65, _⟩ => ⟨S8192x4x128, .f32⟩
  | .hbm, ⟨66, _⟩ => ⟨S4x8192x128, .f32⟩
  | .hbm, ⟨67, _⟩ => ⟨S4x4x8192x128, .f32⟩
  | .hbm, ⟨68, _⟩ => ⟨S8192x4x128, .f32⟩
  | .hbm, ⟨69, _⟩ => ⟨S4x8192x128, .f32⟩
  | .hbm, ⟨70, _⟩ => ⟨S4x4x8192x8192, .f32⟩
  | .hbm, ⟨71, _⟩ => ⟨S_, .f32⟩
  | .hbm, ⟨72, _⟩ => ⟨S_, .f32⟩
  | .hbm, ⟨73, _⟩ => ⟨S4x4x8192x8192, .f32⟩
  | .hbm, ⟨74, _⟩ => ⟨S4x4x8192x8192, .f32⟩
  | .hbm, ⟨75, _⟩ => ⟨S_, .f32⟩
  | .hbm, ⟨76, _⟩ => ⟨S_, .f32⟩
  | .hbm, ⟨77, _⟩ => ⟨S4x4x8192x8192, .i1⟩
  | .hbm, ⟨78, _⟩ => ⟨S4x4x8192x8192, .f32⟩
  | .hbm, ⟨79, _⟩ => ⟨S4x4x8192x8192, .f32⟩
  | .hbm, ⟨80, _⟩ => ⟨S_, .f32⟩
  | .hbm, ⟨81, _⟩ => ⟨S4x4x8192, .f32⟩
  | .hbm, ⟨82, _⟩ => ⟨S4x4x8192x1, .f32⟩
  | .hbm, ⟨83, _⟩ => ⟨S4x4x8192x8192, .f32⟩
  | .hbm, ⟨84, _⟩ => ⟨S4x4x8192x8192, .f32⟩
  | .hbm, ⟨85, _⟩ => ⟨S4x4x8192x8192, .f32⟩
  | .hbm, ⟨86, _⟩ => ⟨S8192x8192, .f32⟩
  | .hbm, ⟨87, _⟩ => ⟨S1x1x8192x8192, .f32⟩
  | .hbm, ⟨88, _⟩ => ⟨S4x4x8192x8192, .f32⟩
  | .hbm, ⟨89, _⟩ => ⟨S4x4x8192x8192, .f32⟩
  | .hbm, ⟨90, _⟩ => ⟨S_, .f32⟩
  | .hbm, ⟨91, _⟩ => ⟨S4x4x8192, .f32⟩
  | .hbm, ⟨92, _⟩ => ⟨S4x4x8192x1, .f32⟩
  | .hbm, ⟨93, _⟩ => ⟨S_, .f32⟩
  | .hbm, ⟨94, _⟩ => ⟨S4x4x8192x1, .f32⟩
  | .hbm, ⟨95, _⟩ => ⟨S4x4x8192x1, .f32⟩
  | .hbm, ⟨96, _⟩ => ⟨S4x4x8192x8192, .f32⟩
  | .hbm, ⟨97, _⟩ => ⟨S4x4x8192x8192, .f32⟩
  | .hbm, ⟨98, _⟩ => ⟨S8192x4x128, .f32⟩
  | .hbm, ⟨99, _⟩ => ⟨S4x8192x128, .f32⟩
  | .hbm, ⟨100, _⟩ => ⟨S4x4x8192x128, .f32⟩
  | .hbm, ⟨101, _⟩ => ⟨S8192x16x3, .f32⟩
  | .hbm, ⟨102, _⟩ => ⟨S8192x16x3, .f32⟩
  | .hbm, ⟨103, _⟩ => ⟨S8192x16x3, .f32⟩
  | .hbm, ⟨104, _⟩ => ⟨S_, .f32⟩
  | .hbm, ⟨105, _⟩ => ⟨S8192x16x3, .f32⟩
  | .hbm, ⟨106, _⟩ => ⟨S8192x16x3, .f32⟩
  | .hbm, ⟨107, _⟩ => ⟨S_, .f32⟩
  | .hbm, ⟨108, _⟩ => ⟨S8192x16x3, .f32⟩
  | .hbm, ⟨109, _⟩ => ⟨S8192x16x3, .f32⟩
  | .hbm, ⟨110, _⟩ => ⟨S8192x16x1, .f32⟩
  | .hbm, ⟨111, _⟩ => ⟨S8192x16x128, .f32⟩
  | .hbm, ⟨112, _⟩ => ⟨S8192x16x128, .f32⟩
  | .hbm, ⟨113, _⟩ => ⟨S8192x16x128, .f32⟩
  | .hbm, ⟨114, _⟩ => ⟨S8192x16x1, .f32⟩
  | .hbm, ⟨115, _⟩ => ⟨S8192x4x4x128, .f32⟩
  | .hbm, ⟨116, _⟩ => ⟨S8192x16x128, .f32⟩
  | .hbm, ⟨117, _⟩ => ⟨S8192x16x128, .f32⟩
  | .hbm, ⟨118, _⟩ => ⟨S8192x16x128, .f32⟩
  | .hbm, ⟨119, _⟩ => ⟨S8192x16x128, .f32⟩
  | .hbm, ⟨120, _⟩ => ⟨S8192x16x1, .f32⟩
  | .hbm, ⟨121, _⟩ => ⟨S8192x4x4x128, .f32⟩
  | .hbm, ⟨122, _⟩ => ⟨S8192x16x128, .f32⟩
  | .hbm, ⟨123, _⟩ => ⟨S8192x16x128, .f32⟩
  | .hbm, ⟨124, _⟩ => ⟨S8192x16x128, .f32⟩
  | .hbm, ⟨125, _⟩ => ⟨S8192x16x128, .f32⟩
  | .hbm, ⟨126, _⟩ => ⟨S8192x2048, .f32⟩
  | .hbm, ⟨127, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_11 : Ref sig .tc := ⟨.hbm, 104, rfl⟩
abbrev main_v72 : Ref sig .tc := ⟨.hbm, 105, rfl⟩
abbrev main_v73 : Ref sig .tc := ⟨.hbm, 106, rfl⟩
abbrev main_cst_12 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== Kernel2.lean ====
abbrev S8192x2048 : Shape := ⟨2, ![8192, 2048]⟩
abbrev S2048x8192 : Shape := ⟨2, ![2048, 8192]⟩
abbrev S2048 : Shape := ⟨1, ![2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .bf16⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2048x8192 : Shape := ⟨2, ![2048, 8192]⟩
abbrev S2048 : Shape := ⟨1, ![2048]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel3.lean ====
abbrev S8192x2048 : Shape := ⟨2, ![8192, 2048]⟩
abbrev S8192x4096 : Shape := ⟨2, ![8192, 4096]⟩
abbrev S2048x2048 : Shape := ⟨2, ![2048, 2048]⟩
abbrev S4096x2048 : Shape := ⟨2, ![4096, 2048]⟩
abbrev S_ : Shape := ⟨0, ![]⟩
abbrev S8192x10240 : Shape := ⟨2, ![8192, 10240]⟩
abbrev S8192x14336 : Shape := ⟨2, ![8192, 14336]⟩
abbrev S512x2048 : Shape := ⟨2, ![512, 2048]⟩
abbrev S512x4096 : Shape := ⟨2, ![512, 4096]⟩
abbrev S2048x1024 : Shape := ⟨2, ![2048, 1024]⟩
abbrev S4096x1024 : Shape := ⟨2, ![4096, 1024]⟩
abbrev S512x1024 : Shape := ⟨2, ![512, 1024]⟩

abbrev nBuf : Space → Nat
  | .hbm => 14
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S2048x2048, .f32⟩
  | .hbm, ⟨3, _⟩ => ⟨S4096x2048, .f32⟩
  | .hbm, ⟨4, _⟩ => ⟨S8192x4096, .f32⟩
  | .hbm, ⟨5, _⟩ => ⟨S_, .f32⟩
  | .hbm, ⟨6, _⟩ => ⟨S8192x10240, .f32⟩
  | .hbm, ⟨7, _⟩ => ⟨S8192x14336, .f32⟩
  | .hbm, ⟨8, _⟩ => ⟨S8192x14336, .bf16⟩
  | .hbm, ⟨9, _⟩ => ⟨S8192x2048, .bf16⟩
  | .hbm, ⟨10, _⟩ => ⟨S8192x4096, .bf16⟩
  | .hbm, ⟨11, _⟩ => ⟨S2048x2048, .bf16⟩
  | .hbm, ⟨12, _⟩ => ⟨S4096x2048, .bf16⟩
  | .hbm, ⟨13, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x4096, .bf16⟩
  | .local _ .vmem, ⟨3, _⟩ => ⟨S512x4096, .bf16⟩
  | .local _ .vmem, ⟨4, _⟩ => ⟨S2048x1024, .bf16⟩
  | .local _ .vmem, ⟨5, _⟩ => ⟨S2048x1024, .bf16⟩
  | .local _ .vmem, ⟨6, _⟩ => ⟨S4096x1024, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8192x2048 : Shape := ⟨2, ![8192, 2048]⟩
abbrev S8192x4096 : Shape := ⟨2, ![8192, 4096]⟩
abbrev S2048x2048 : Shape := ⟨2, ![2048, 2048]⟩
abbrev S4096x2048 : Shape := ⟨2, ![4096, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S2048x2048, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .bf16⟩
  | .hbm, ⟨5, _⟩ => ⟨S2048x2048, .bf16⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S8192x2048 : Shape := ⟨2, ![8192, 2048]⟩
abbrev S2048x19568 : Shape := ⟨2, ![2048, 19568]⟩
abbrev S19568x2048 : Shape := ⟨2, ![19568, 2048]⟩
abbrev S8192x14336 : Shape := ⟨2, ![8192, 14336]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x19568, .f32⟩
  | .hbm, ⟨2, _⟩ => ⟨S8192x2048, .bf16⟩
  | .hbm, ⟨3, _⟩ => ⟨S19568x2048, .f32⟩
  | .hbm, ⟨4, _⟩ => ⟨S8192x14336, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli c64_i32 arg1
  let c323_i32 : BitVec 32 := 323#32
  let v1 : BitVec 32 := Scalar.addi c323_i32 v0
  let c10_i32 : BitVec 32 := 10#32
  let v2 : BitVec 32 := Scalar.divsi arg1 c10_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c10_i32 c0_i32_1
  let v9 : BitVec 32 := Scalar.extui v8
  let c0_i32_2 : BitVec 32 := 0#32
  let v10 : BitVec 1 := Scalar.cmpi .slt c10_i32 c0_i32_2
  let v11 : BitVec 32 := Scalar.extui v10
  let v12 : BitVec 32 := Scalar.subi v9 v11
  let v13 : BitVec 1 := Scalar.cmpi .ne v7 v12
  let v14 : BitVec 32 := Scalar.remsi arg1 c10_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.muli c4_i32 v18
  let v20 : BitVec 32 := Scalar.addi v1 v19
  let c16_i32 : BitVec 32 := 16#32
  let v21 : BitVec 32 := Scalar.muli v20 c16_i32
  let c0_i32_4 : BitVec 32 := 0#32
  let c0_i32_5 : BitVec 32 := 0#32
  ![v21.toNat, c0_i32_4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S2048x19568 : Shape := ⟨2, ![2048, 19568]⟩
abbrev S8192x19568 : Shape := ⟨2, ![8192, 19568]⟩
abbrev S8192x512 : Shape := ⟨2, ![8192, 512]⟩
abbrev S8192x48 : Shape := ⟨2, ![8192, 48]⟩
abbrev S8192x4096 : Shape := ⟨2, ![8192, 4096]⟩
abbrev S8192x6144 : Shape := ⟨2, ![8192, 6144]⟩
abbrev S8192x64 : Shape := ⟨2, ![8192, 64]⟩
abbrev S8192x14336 : Shape := ⟨2, ![8192, 14336]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x19568, .f32⟩
  | .hbm, ⟨2, _⟩ => ⟨S8192x19568, .f32⟩
  | .hbm, ⟨3, _⟩ => ⟨S8192x2048, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x48, .f32⟩
  | .hbm, ⟨11, _⟩ => ⟨S8192x4096, .f32⟩
  | .hbm, ⟨12, _⟩ => ⟨S8192x6144, .f32⟩
  | .hbm, ⟨13, _⟩ => ⟨S8192x64, .f32⟩
  | .hbm, ⟨14, _⟩ => ⟨S8192x4096, .f32⟩
  | .hbm, ⟨15, _⟩ => ⟨S8192x14336, .f32⟩
  | .hbm, ⟨16, _⟩ => ⟨S8192x14336, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S2048x19568 : Shape := ⟨2, ![2048, 19568]⟩
abbrev S8192x64 : Shape := ⟨2, ![8192, 64]⟩
abbrev S8192x128 : Shape := ⟨2, ![8192, 128]⟩
abbrev S19568x2048 : Shape := ⟨2, ![19568, 2048]⟩
abbrev S1x2048 : Shape := ⟨2, ![1, 2048]⟩
abbrev S8192x5120 : Shape := ⟨2, ![8192, 5120]⟩
abbrev S4x512x2048 : Shape := ⟨3, ![4, 512, 2048]⟩
abbrev S1024x2048 : Shape := ⟨2, ![1024, 2048]⟩
abbrev S512x2048 : Shape := ⟨2, ![512, 2048]⟩
abbrev S1024x128 : Shape := ⟨2, ![1024, 128]⟩
abbrev S1024x512 : Shape := ⟨2, ![1024, 512]⟩
abbrev S4x64x2048 : Shape := ⟨3, ![4, 64, 2048]⟩
abbrev S4x1024x128 : Shape := ⟨3, ![4, 1024, 128]⟩
abbrev S1024 : Shape := ⟨1, ![1024]⟩
abbrev S1024x1 : Shape := ⟨2, ![1024, 1]⟩
abbrev S1x1024x128 : Shape := ⟨3, ![1, 1024, 128]⟩
abbrev S1x64x128 : Shape := ⟨3, ![1, 64, 128]⟩
abbrev S64x128 : Shape := ⟨2, ![64, 128]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x19568, .f32⟩
  | .hbm, ⟨3, _⟩ => ⟨S8192x64, .f32⟩
  | .hbm, ⟨4, _⟩ => ⟨S8192x64, .f32⟩
  | .hbm, ⟨5, _⟩ => ⟨S8192x128, .f32⟩
  | .hbm, ⟨6, _⟩ => ⟨S8192x64, .f32⟩
  | .hbm, ⟨7, _⟩ => ⟨S8192x128, .f32⟩
  | .hbm, ⟨8, _⟩ => ⟨S19568x2048, .f32⟩
  | .hbm, ⟨9, _⟩ => ⟨S1x2048, .f32⟩
  | .hbm, ⟨10, _⟩ => ⟨S8192x5120, .bf16⟩
  | .hbm, ⟨11, _⟩ => ⟨S4x512x2048, .bf16⟩
  | .hbm, ⟨12, _⟩ => ⟨S4x512x2048, .bf16⟩
  | .hbm, ⟨13, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | .local _ .vmem, ⟨11, _⟩ => ⟨S4x64x2048, .bf16⟩
  | .local _ .vmem, ⟨12, _⟩ => ⟨S4x64x2048, .bf16⟩
  | .local _ .vmem, ⟨13, _⟩ => ⟨S4x64x2048, .bf16⟩
  | .local _ .vmem, ⟨14, _⟩ => ⟨S4x64x2048, .bf16⟩
  | .local _ .vmem, ⟨15, _⟩ => ⟨S1024x2048, .bf16⟩
  | .local _ .vmem, ⟨16, _⟩ => ⟨S1024x2048, .bf16⟩
  | .local _ .vmem, ⟨17, _⟩ => ⟨S4x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c0_i32_4 : BitVec 32 := 0#32
  let v9 : BitVec 1 := Scalar.cmpi .sge arg1 c0_i32_4
  let c4_i32 : BitVec 32 := 4#32
  let v10 : BitVec 1 := Scalar.cmpi .slt arg1 c4_i32
  let v11 : BitVec 1 := Scalar.andi v9 v10
  let c6_i32 : BitVec 32 := 6#32
  let v12 : BitVec 1 := Scalar.cmpi .eq arg1 c6_i32
  let v13 : BitVec 1 := Scalar.ori v11 v12
  let c8_i32 : BitVec 32 := 8#32
  let v14 : BitVec 1 := Scalar.cmpi .eq arg1 c8_i32
  let v15 : BitVec 1 := Scalar.ori v13 v14
  let v_true : BitVec 1 := 1#1
  let v16 : BitVec 1 := Scalar.xori v15 v_true
  let v17 : BitVec 32 := Scalar.extui v16
  let c0_i32_5 : BitVec 32 := 0#32
  let v18 : BitVec 1 := Scalar.cmpi .ne v17 c0_i32_5
  v18

def k0_cond3 (i : grid0.Coords) : BitVec 1 :=
  let arg1 : BitVec 32 := BitVec.ofNat 32 (i 1).val
  let c0_i32_4 : BitVec 32 := 0#32
  let v9 : BitVec 1 := Scalar.cmpi .sge arg1 c0_i32_4
  let c4_i32 : BitVec 32 := 4#32
  let v10 : BitVec 1 := Scalar.cmpi .slt arg1 c4_i32
  let v11 : BitVec 1 := Scalar.andi v9 v10
  let c6_i32 : BitVec 32 := 6#32
  let v12 : BitVec 1 := Scalar.cmpi .eq arg1 c6_i32
  let v13 : BitVec 1 := Scalar.ori v11 v12
  let c8_i32 : BitVec 32 := 8#32
  let v14 : BitVec 1 := Scalar.cmpi .eq arg1 c8_i32
  let v15 : BitVec 1 := Scalar.ori v13 v14
  let v19 : BitVec 32 := Scalar.extui v15
  let c0_i32_6 : BitVec 32 := 0#32
  let v20 : BitVec 1 := Scalar.cmpi .ne v19 c0_i32_6
  v20

def k0_cond4 (i : grid0.Coords) : BitVec 1 :=
  let arg1 : BitVec 32 := BitVec.ofNat 32 (i 1).val
  let c4_i32_7 : BitVec 32 := 4#32
  let v21 : BitVec 1 := Scalar.cmpi .eq arg1 c4_i32_7
  let v22 : BitVec 32 := Scalar.extui v21
  let c0_i32_8 : BitVec 32 := 0#32
  let v23 : BitVec 1 := Scalar.cmpi .ne v22 c0_i32_8
  v23

def k0_cond5 (i : grid0.Coords) : BitVec 1 :=
  let arg1 : BitVec 32 := BitVec.ofNat 32 (i 1).val
  let c5_i32 : BitVec 32 := 5#32
  let v24 : BitVec 1 := Scalar.cmpi .eq arg1 c5_i32
  let v25 : BitVec 32 := Scalar.extui v24
  let c0_i32_9 : BitVec 32 := 0#32
  let v26 : BitVec 1 := Scalar.cmpi .ne v25 c0_i32_9
  v26

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel6Ideal.lean ====
variable {F : FTy → Type} [FloatOps F] [Named F]
def κ : String → Option EReal := fun
  | "qscale" => some ((((Real.sqrt 128) * (Real.log 2))⁻¹ : ℝ) : EReal)
  | _ => none
-- ==== Reference6Ideal.lean ====
abbrev S8192x2048 : Shape := ⟨2, ![8192, 2048]⟩
abbrev S2048 : Shape := ⟨1, ![2048]⟩
abbrev S2048x19568 : Shape := ⟨2, ![2048, 19568]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x19568 : Shape := ⟨2, ![8192, 19568]⟩
abbrev S8192x512 : Shape := ⟨2, ![8192, 512]⟩
abbrev S8192x48 : Shape := ⟨2, ![8192, 48]⟩
abbrev S8192x4096 : Shape := ⟨2, ![8192, 4096]⟩
abbrev S8192x6144 : Shape := ⟨2, ![8192, 6144]⟩
abbrev S8192x16x128 : Shape := ⟨3, ![8192, 16, 128]⟩
abbrev S8192x16x64 : Shape := ⟨3, ![8192, 16, 64]⟩
abbrev S8192x1x64 : Shape := ⟨3, ![8192, 1, 64]⟩
abbrev S8192x4x128 : Shape := ⟨3, ![8192, 4, 128]⟩
abbrev S8192x4x64 : Shape := ⟨3, ![8192, 4, 64]⟩
abbrev S8192x5120 : Shape := ⟨2, ![8192, 5120]⟩
abbrev S512x16x4x128 : Shape := ⟨4, ![512, 16, 4, 128]⟩
abbrev S4x512x16x128 : Shape := ⟨4, ![4, 512, 16, 128]⟩
abbrev S4x512x2048 : Shape := ⟨3, ![4, 512, 2048]⟩

abbrev nBuf : Space → Nat
  | .hbm => 103
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x19568, .f32⟩
  | .hbm, ⟨3, _⟩ => ⟨S8192x64, .f32⟩
  | .hbm, ⟨4, _⟩ => ⟨S8192x64, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x19568, .f32⟩
  | .hbm, ⟨22, _⟩ => ⟨S8192x2048, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x48, .f32⟩
  | .hbm, ⟨30, _⟩ => ⟨S8192x4096, .f32⟩
  | .hbm, ⟨31, _⟩ => ⟨S8192x6144, .f32⟩
  | .hbm, ⟨32, _⟩ => ⟨S8192x64, .f32⟩
  | .hbm, ⟨33, _⟩ => ⟨S8192x4096, .f32⟩
  | .hbm, ⟨34, _⟩ => ⟨S8192x16x128, .f32⟩
  | .hbm, ⟨35, _⟩ => ⟨S8192x16x64, .f32⟩
  | .hbm, ⟨36, _⟩ => ⟨S8192x16x64, .f32⟩
  | .hbm, ⟨37, _⟩ => ⟨S8192x1x64, .f32⟩
  | .hbm, ⟨38, _⟩ => ⟨S8192x1x64, .f32⟩
  | .hbm, ⟨39, _⟩ => ⟨S8192x16x64, .f32⟩
  | .hbm, ⟨40, _⟩ => ⟨S8192x16x64, .f32⟩
  | .hbm, ⟨41, _⟩ => ⟨S8192x16x64, .f32⟩
  | .hbm, ⟨42, _⟩ => ⟨S8192x16x64, .f32⟩
  | .hbm, ⟨43, _⟩ => ⟨S8192x16x64, .f32⟩
  | .hbm, ⟨44, _⟩ => ⟨S8192x16x64, .f32⟩
  | .hbm, ⟨45, _⟩ => ⟨S8192x16x64, .f32⟩
  | .hbm, ⟨46, _⟩ => ⟨S8192x16x64, .f32⟩
  | .hbm, ⟨47, _⟩ => ⟨S8192x16x64, .f32⟩
  | .hbm, ⟨48, _⟩ => ⟨S8192x16x64, .f32⟩
  | .hbm, ⟨49, _⟩ => ⟨S8192x16x128, .f32⟩
  | .hbm, ⟨50, _⟩ => ⟨S8192x2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x4x128, .f32⟩
  | .hbm, ⟨59, _⟩ => ⟨S8192x4x64, .f32⟩
  | .hbm, ⟨60, _⟩ => ⟨S8192x4x64, .f32⟩
  | .hbm, ⟨61, _⟩ => ⟨S8192x1x64, .f32⟩
  | .hbm, ⟨62, _⟩ => ⟨S8192x1x64, .f32⟩
  | .hbm, ⟨63, _⟩ => ⟨S8192x4x64, .f32⟩
  | .hbm, ⟨64, _⟩ => ⟨S8192x4x64, .f32⟩
  | .hbm, ⟨65, _⟩ => ⟨S8192x4x64, .f32⟩
  | .hbm, ⟨66, _⟩ => ⟨S8192x4x64, .f32⟩
  | .hbm, ⟨67, _⟩ => ⟨S8192x4x64, .f32⟩
  | .hbm, ⟨68, _⟩ => ⟨S8192x4x64, .f32⟩
  | .hbm, ⟨69, _⟩ => ⟨S8192x4x64, .f32⟩
  | .hbm, ⟨70, _⟩ => ⟨S8192x4x64, .f32⟩
  | .hbm, ⟨71, _⟩ => ⟨S8192x4x64, .f32⟩
  | .hbm, ⟨72, _⟩ => ⟨S8192x4x64, .f32⟩
  | .hbm, ⟨73, _⟩ => ⟨S8192x4x128, .f32⟩
  | .hbm, ⟨74, _⟩ => ⟨S8192x512, .f32⟩
  | .hbm, ⟨75, _⟩ => ⟨S8192x4x128, .f32⟩
  | .hbm, ⟨76, _⟩ => ⟨S8192x4x64, .f32⟩
  | .hbm, ⟨77, _⟩ => ⟨S8192x4x64, .f32⟩
  | .hbm, ⟨78, _⟩ => ⟨S8192x1x64, .f32⟩
  | .hbm, ⟨79, _⟩ => ⟨S8192x1x64, .f32⟩
  | .hbm, ⟨80, _⟩ => ⟨S8192x4x64, .f32⟩
  | .hbm, ⟨81, _⟩ => ⟨S8192x4x64, .f32⟩
  | .hbm, ⟨82, _⟩ => ⟨S8192x4x64, .f32⟩
  | .hbm, ⟨83, _⟩ => ⟨S8192x4x64, .f32⟩
  | .hbm, ⟨84, _⟩ => ⟨S8192x4x64, .f32⟩
  | .hbm, ⟨85, _⟩ => ⟨S8192x4x64, .f32⟩
  | .hbm, ⟨86, _⟩ => ⟨S8192x4x64, .f32⟩
  | .hbm, ⟨87, _⟩ => ⟨S8192x4x64, .f32⟩
  | .hbm, ⟨88, _⟩ => ⟨S8192x4x64, .f32⟩
  | .hbm, ⟨89, _⟩ => ⟨S8192x4x64, .f32⟩
  | .hbm, ⟨90, _⟩ => ⟨S8192x4x128, .f32⟩
  | .hbm, ⟨91, _⟩ => ⟨S8192x512, .f32⟩
  | .hbm, ⟨92, _⟩ => ⟨S8192x5120, .f32⟩
  | .hbm, ⟨93, _⟩ => ⟨S8192x5120, .bf16⟩
  | .hbm, ⟨94, _⟩ => ⟨S512x16x4x128, .f32⟩
  | .hbm, ⟨95, _⟩ => ⟨S4x512x16x128, .f32⟩
  | .hbm, ⟨96, _⟩ => ⟨S4x512x2048, .f32⟩
  | .hbm, ⟨97, _⟩ => ⟨S4x512x2048, .bf16⟩
  | .hbm, ⟨98, _⟩ => ⟨S512x16x4x128, .f32⟩
  | .hbm, ⟨99, _⟩ => ⟨S4x512x16x128, .f32⟩
  | .hbm, ⟨100, _⟩ => ⟨S4x512x2048, .f32⟩
  | .hbm, ⟨101, _⟩ => ⟨S4x512x2048, .bf16⟩
  | .hbm, ⟨102, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩

abbrev nD : Nat := 1
abbrev τ : Topo := Topo.v7x

variable {F : FTy → Type} [FloatOps F]
-- ==== Proof.Frames.lean ====
/-
The frames of the three programs, and the one entry of the idealization's ledger.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Attn

open Idealize.ShloMosaic Idealize.SL.Sem

/-- The kernel as printed runs to the end and leaves its arguments unchanged. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask constant is named `⊥` and is `⊥` where it is printed. -/
theorem mask_preserves : Cert.preserves_Kernel_KernelIdeal :=
  IdealRules.named_const.statement Cert.KernelIdeal.κ "mask" .f32 0xF149F2CA#32 ⊥ rfl

end Cert.Attn

end
-- ==== Proof.Online.lean ====
/-
The online softmax over the extended reals: a running maximum, a running sum weighted by powers of two of the scores
less the maximum, and what one more block of keys does to the two.
-/
module

public import Idealize.ShloMosaic.Lib.ValueIdx
public import Idealize.ShloMosaic.PureOps.Ideal

@[expose] public section

noncomputable section

namespace Cert.Attn

open Idealize.ShloMosaic

/-- The greatest of the first `n` scores, `⊥` for none. -/
def rowMax (S : ℕ → EReal) (n : ℕ) : EReal := (Finset.range n).sup S

/-- The first `n` values weighted by two to the power of their score less the greatest score. -/
def rowSum (S V : ℕ → EReal) (n : ℕ) : EReal :=
  ∑ k ∈ Finset.range n, Ideal.exp2 (S k - rowMax S n) * V k

theorem exp2_nonneg (x : EReal) : 0 ≤ Ideal.exp2 x := by
  induction x with
  | bot => simp
  | top => simp
  | coe r =>
    rw [Ideal.exp2_coe]
    exact_mod_cast (Real.rpow_pos_of_pos (by norm_num) r).le

theorem rowMax_zero (S : ℕ → EReal) : rowMax S 0 = ⊥ := by simp [rowMax]

theorem rowSum_zero (S V : ℕ → EReal) : rowSum S V 0 = 0 := by simp [rowSum]

theorem le_rowMax (S : ℕ → EReal) {n k : ℕ} (h : k < n) : S k ≤ rowMax S n :=
  Finset.le_sup (f := S) (Finset.mem_range.2 h)

/-- The greatest of `n + K` scores is the greater of the greatest of the first `n` and that of the next `K`. -/
theorem rowMax_add (S : ℕ → EReal) (n K : ℕ) :
    max (rowMax S n) (Finset.univ.sup fun j : Fin K => S (n + j.val)) = rowMax S (n + K) := by
  apply le_antisymm
  · apply max_le
    · exact Finset.sup_le fun k hk => le_rowMax S (by have := Finset.mem_range.1 hk; omega)
    · exact Finset.sup_le fun j _ => le_rowMax S (by have := j.isLt; omega)
  · refine Finset.sup_le fun k hk => ?_
    have hk' := Finset.mem_range.1 hk
    rcases Nat.lt_or_ge k n with h | h
    · exact le_max_of_le_left (le_rowMax S h)
    · refine le_max_of_le_right ?_
      have := Finset.le_sup (f := fun j : Fin K => S (n + j.val)) (Finset.mem_univ ⟨k - n, by omega⟩)
      simpa [Nat.add_sub_cancel' h] using this

/-- A nonnegative real factor comes out of a finite sum, infinite terms included. -/
theorem sum_mul_coe {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih => rw [Finset.sum_insert ha, Finset.sum_insert ha, EReal.right_distrib_of_nonneg_of_ne_top (by exact_mod_cast hc) (EReal.coe_ne_top c), ih]

/-- Rescaling one weight from an old maximum to a new one. -/
theorem exp2_rescale (x : EReal) (m m' : ℝ) (h : x ≤ m) :
    Ideal.exp2 (x - m) * Ideal.exp2 ((m : EReal) - m') = Ideal.exp2 (x - m') := by
  induction x with
  | bot => simp
  | top => exact absurd h (by simp)
  | coe r =>
    rw [← EReal.coe_sub, ← EReal.coe_sub, ← EReal.coe_sub, Ideal.exp2_coe, Ideal.exp2_coe, Ideal.exp2_coe,
      ← EReal.coe_mul]
    congr 1
    show (2 : ℝ) ^ (r - m) * (2 : ℝ) ^ (m - m') = (2 : ℝ) ^ (r - m')
    rw [← Real.rpow_add (by norm_num)]
    congr 1; ring

/-- Rescaling the sum of the first `n` weighted values to the maximum of the first `n + K`. -/
theorem rowSum_rescale (S V : ℕ → EReal) (n : ℕ) (m' : EReal) (hm : rowMax S n ≤ m') :
    rowSum S V n * Ideal.exp2 (rowMax S n - m') = ∑ k ∈ Finset.range n, Ideal.exp2 (S k - m') * V k := by
  have hS : ∀ k ∈ Finset.range n, S k ≤ rowMax S n := fun k hk => le_rowMax S (Finset.mem_range.1 hk)
  unfold rowSum
  generalize rowMax S n = m at *
  induction m' with
  | bot =>
    have hm0 : m = ⊥ := le_bot_iff.1 hm
    subst hm0
    rw [EReal.bot_sub, Ideal.exp2_bot, mul_zero]
    refine (Finset.sum_eq_zero fun k hk => ?_).symm
    rw [le_bot_iff.1 (hS k hk), EReal.bot_sub, Ideal.exp2_bot, zero_mul]
  | top =>
    rw [EReal.sub_top]
    simp
  | coe c' =>
    induction m with
    | top => exact absurd hm (by simp)
    | bot =>
      rw [EReal.bot_sub, Ideal.exp2_bot, mul_zero]
      refine (Finset.sum_eq_zero fun k hk => ?_).symm
      rw [le_bot_iff.1 (hS k hk), EReal.bot_sub, Ideal.exp2_bot, zero_mul]
    | coe c =>
      have h1 : Ideal.exp2 ((c : EReal) - c') = ((Real.rpow 2 (c - c') : ℝ) : EReal) := by
        rw [← EReal.coe_sub, Ideal.exp2_coe]
      have h2 : (0 : ℝ) ≤ Real.rpow 2 (c - c') := (Real.rpow_pos_of_pos (by norm_num) _).le
      rw [h1, sum_mul_coe _ _ _ h2]
      refine Finset.sum_congr rfl fun k hk => ?_
      rw [mul_right_comm, ← h1, exp2_rescale _ _ _ (hS k hk)]

/-- One block of the online softmax: the old sum rescaled plus the block's weighted values is the sum over both. -/
theorem rowSum_add (S V : ℕ → EReal) (n K : ℕ) :
    rowSum S V n * Ideal.exp2 (rowMax S n - rowMax S (n + K))
        + ∑ j : Fin K, Ideal.exp2 (S (n + j.val) - rowMax S (n + K)) * V (n + j.val)
      = rowSum S V (n + K) := by
  have hm : rowMax S n ≤ rowMax S (n + K) := by rw [← rowMax_add]; exact le_max_left _ _
  rw [rowSum_rescale S V n _ hm, rowSum, Finset.sum_range_add, Finset.sum_range]
  congr 1
  rw [Finset.sum_range]

/-- The state of a row after `n` keys: every lane of `m` the greatest score so far, and `a d` the weighted sum of
the values' column `d`. -/
def RowState (S : ℕ → EReal) (V : ℕ → Fin 256 → EReal) (n : ℕ) (m : Fin 128 → EReal) (a : Fin 256 → EReal) : Prop :=
  (∀ l, m l = rowMax S n) ∧ ∀ d, a d = rowSum S (fun k => V k d) n

end Cert.Attn

end
-- ==== Proof.Update.lean ====
/-
What one online-softmax update of the kernel's text does to a block of rows, index by index: a whole tile of 512 rows
against 512 keys, and the two halves of the diagonal tile.
-/
module

public import proofs.«01_k».proof.Proof.Gen.KernelIdeal.Skeleton
public import proofs.«01_k».proof.Proof.Online
public import Idealize.ShloMosaic.Lib.Pointwise

@[expose] public section

set_option maxRecDepth 16384

noncomputable section

namespace Cert.Attn

open Idealize.ShloMosaic Cert.KernelIdeal Cert.KernelIdeal.Gen

/-- A fold of `max` from the word of −∞ is the supremum. -/
theorem fold_max_eq_sup {ι : Type*} (t : Finset ι) (f : ι → EReal) :
    Finset.fold max (Ideal.ofBits .f32 0xFF800000#32) f t = t.sup f := by
  have h : Ideal.ofBits .f32 0xFF800000#32 = (⊥ : EReal) := by simp [Ideal.ofBits, Ideal.ieee]
  rw [h]; rfl

/-- The new running maximum of a block of 512 rows, from the block's 512 scores a row and the old maximum. -/
def newMF (s : FVec Ideal S512x512 .f32) (M : FVec Ideal S1x512x128 .f32) : FVec Ideal S512x128 .f32 :=
  maximumf (shapeCast S512x128 M shapeCasts_S1x512x128_S512x128)
    (broadcastTo S512x128 (shapeCast S512x1 (multiReduction .maximumf [1] S512 s 0xFF800000#32 reduces_S512x512_S512
      (.inl rfl) rfl) shapeCasts_S512_S512x1) broadcasts_S512x1_S512x128)

/-- The weights of the block's scores. -/
def wtsF (s : FVec Ideal S512x512 .f32) (M : FVec Ideal S1x512x128 .f32) : FVec Ideal S512x512 .f32 :=
  exp2 (subf s (concatenate S512x512 1 [⟨S512x128, newMF s M⟩, ⟨S512x128, newMF s M⟩, ⟨S512x128, newMF s M⟩, ⟨S512x128, newMF s M⟩] concatenates_S512x128_S512x128_S512x128_S512x128_S512x512_d1))

/-- The factor the old sum is rescaled by. -/
def sclF (s : FVec Ideal S512x512 .f32) (M : FVec Ideal S1x512x128 .f32) : FVec Ideal S512x128 .f32 :=
  exp2 (subf (shapeCast S512x128 M shapeCasts_S1x512x128_S512x128) (newMF s M))

/-- The stored maximum. -/
def stMF (s : FVec Ideal S512x512 .f32) (M : FVec Ideal S1x512x128 .f32) : FVec Ideal S1x512x128 .f32 :=
  shapeCast S1x512x128 (newMF s M) shapeCasts_S512x128_S1x512x128

/-- The stored sum. -/
def stAF (s : FVec Ideal S512x512 .f32) (va : FVec Ideal S512x256 .bf16) (M : FVec Ideal S1x512x128 .f32)
    (A : FVec Ideal S1x512x256 .f32) : FVec Ideal S1x512x256 .f32 :=
  shapeCast S1x512x256 (addf (mulf (shapeCast S512x256 A shapeCasts_S1x512x256_S512x256)
      (concatenate S512x256 1 [⟨S512x128, sclF s M⟩, ⟨S512x128, sclF s M⟩]
        concatenates_S512x128_S512x128_S512x256_d1))
    (matmul dot_S512x512_S512x256_S512x256_1_0_0_1_n_n none (truncf .bf16 (wtsF s M) bitsLt_bf16_f32) va
      (constant S512x256 .f32 0x00000000#32))) shapeCasts_S512x256_S1x512x256

section
variable (s : FVec Ideal S512x512 .f32) (va : FVec Ideal S512x256 .bf16) (M : FVec Ideal S1x512x128 .f32)
  (A : FVec Ideal S1x512x256 .f32) (S : Fin 512 → ℕ → EReal) (V : ℕ → Fin 256 → EReal) (n : ℕ)

theorem newMF_apply (row : Fin 512) (l : Fin 128) : newMF s M (ix2 row l)
    = max (M (ix3 0 row l)) (Finset.univ.sup fun j : Fin 512 => s (ix2 row j)) := by
  rw [← fold_max_eq_sup]
  unfold newMF
  pointwise

theorem wtsF_apply (row : Fin 512) (k : Fin 512) (c : EReal) (hc : ∀ l, newMF s M (ix2 row l) = c) :
    wtsF s M (ix2 row k) = Ideal.exp2 (s (ix2 row k) - c) := by
  unfold wtsF
  pointwise
  simp only [hc, ite_self, dite_eq_ite]
  rfl

theorem sclF_apply (row : Fin 512) (l : Fin 128) :
    sclF s M (ix2 row l) = Ideal.exp2 (M (ix3 0 row l) - newMF s M (ix2 row l)) := by
  unfold sclF
  pointwise
  rfl

theorem stMF_apply (row : Fin 512) (l : Fin 128) : stMF s M (ix3 0 row l) = newMF s M (ix2 row l) := by
  unfold stMF
  pointwise

theorem stAF_apply (row : Fin 512) (d : Fin 256) (c : EReal) (hc : ∀ l, sclF s M (ix2 row l) = c) :
    stAF s va M A (ix3 0 row d)
      = A (ix3 0 row d) * c + ∑ k : Fin 512, wtsF s M (ix2 row k) * va (ix2 k d) := by
  unfold stAF
  pointwise
  simp only [hc, ite_self, dite_eq_ite]

/-- One update of 512 rows against 512 keys takes the rows' state at `n` keys to their state at `n + 512`. -/
theorem updateF (hs : ∀ row j, s (ix2 row j) = S row (n + j.val)) (hv : ∀ j d, va (ix2 j d) = V (n + j.val) d)
    (h : ∀ row, RowState (S row) V n (fun l => M (ix3 0 row l)) (fun d => A (ix3 0 row d))) (row : Fin 512) :
    RowState (S row) V (n + 512) (fun l => stMF s M (ix3 0 row l)) (fun d => stAF s va M A (ix3 0 row d)) := by
  have hm : ∀ l, newMF s M (ix2 row l) = rowMax (S row) (n + 512) := fun l => by
    have h1 : M (ix3 0 row l) = rowMax (S row) n := (h row).1 l
    rw [newMF_apply, ← rowMax_add, h1]
    congr 2
    exact funext fun j => hs row j
  refine ⟨fun l => (stMF_apply s M row l).trans (hm l), fun d => ?_⟩
  have hsc : ∀ l, sclF s M (ix2 row l) = Ideal.exp2 (rowMax (S row) n - rowMax (S row) (n + 512)) := fun l => by
    rw [sclF_apply, hm]; exact congrArg (fun x => Ideal.exp2 (x - _)) ((h row).1 l)
  show stAF s va M A (ix3 0 row d) = _
  rw [stAF_apply s va M A row d _ hsc, ← rowSum_add]
  congr 1
  · exact congrArg (· * _) ((h row).2 d)
  · refine Finset.sum_congr rfl fun k _ => ?_
    rw [wtsF_apply s M row k _ hm, hs, hv]
end

/-- The new running maximum of a block of 256 rows, from the block's 256 scores a row and the old maximum. -/
def newMD (s : FVec Ideal S256x256 .f32) (M : FVec Ideal S1x256x128 .f32) : FVec Ideal S256x128 .f32 :=
  maximumf (shapeCast S256x128 M shapeCasts_S1x256x128_S256x128)
    (broadcastTo S256x128 (shapeCast S256x1 (multiReduction .maximumf [1] S256 s 0xFF800000#32 reduces_S256x256_S256
      (.inl rfl) rfl) shapeCasts_S256_S256x1) broadcasts_S256x1_S256x128)

/-- The weights of the block's scores. -/
def wtsD (s : FVec Ideal S256x256 .f32) (M : FVec Ideal S1x256x128 .f32) : FVec Ideal S256x256 .f32 :=
  exp2 (subf s (concatenate S256x256 1 [⟨S256x128, newMD s M⟩, ⟨S256x128, newMD s M⟩] concatenates_S256x128_S256x128_S256x256_d1))

/-- The factor the old sum is rescaled by. -/
def sclD (s : FVec Ideal S256x256 .f32) (M : FVec Ideal S1x256x128 .f32) : FVec Ideal S256x128 .f32 :=
  exp2 (subf (shapeCast S256x128 M shapeCasts_S1x256x128_S256x128) (newMD s M))

/-- The stored maximum. -/
def stMD (s : FVec Ideal S256x256 .f32) (M : FVec Ideal S1x256x128 .f32) : FVec Ideal S1x256x128 .f32 :=
  shapeCast S1x256x128 (newMD s M) shapeCasts_S256x128_S1x256x128

/-- The stored sum. -/
def stAD (s : FVec Ideal S256x256 .f32) (va : FVec Ideal S256x256 .bf16) (M : FVec Ideal S1x256x128 .f32)
    (A : FVec Ideal S1x256x256 .f32) : FVec Ideal S1x256x256 .f32 :=
  shapeCast S1x256x256 (addf (mulf (shapeCast S256x256 A shapeCasts_S1x256x256_S256x256)
      (concatenate S256x256 1 [⟨S256x128, sclD s M⟩, ⟨S256x128, sclD s M⟩]
        concatenates_S256x128_S256x128_S256x256_d1))
    (matmul dot_S256x256_S256x256_S256x256_1_0_0_1_n_n none (truncf .bf16 (wtsD s M) bitsLt_bf16_f32) va
      (constant S256x256 .f32 0x00000000#32))) shapeCasts_S256x256_S1x256x256

section
variable (s : FVec Ideal S256x256 .f32) (va : FVec Ideal S256x256 .bf16) (M : FVec Ideal S1x256x128 .f32)
  (A : FVec Ideal S1x256x256 .f32) (S : Fin 256 → ℕ → EReal) (V : ℕ → Fin 256 → EReal) (n : ℕ)

theorem newMD_apply (row : Fin 256) (l : Fin 128) : newMD s M (ix2 row l)
    = max (M (ix3 0 row l)) (Finset.univ.sup fun j : Fin 256 => s (ix2 row j)) := by
  rw [← fold_max_eq_sup]
  unfold newMD
  pointwise

theorem wtsD_apply (row : Fin 256) (k : Fin 256) (c : EReal) (hc : ∀ l, newMD s M (ix2 row l) = c) :
    wtsD s M (ix2 row k) = Ideal.exp2 (s (ix2 row k) - c) := by
  unfold wtsD
  pointwise
  simp only [hc, ite_self, dite_eq_ite]
  rfl

theorem sclD_apply (row : Fin 256) (l : Fin 128) :
    sclD s M (ix2 row l) = Ideal.exp2 (M (ix3 0 row l) - newMD s M (ix2 row l)) := by
  unfold sclD
  pointwise
  rfl

theorem stMD_apply (row : Fin 256) (l : Fin 128) : stMD s M (ix3 0 row l) = newMD s M (ix2 row l) := by
  unfold stMD
  pointwise

theorem stAD_apply (row : Fin 256) (d : Fin 256) (c : EReal) (hc : ∀ l, sclD s M (ix2 row l) = c) :
    stAD s va M A (ix3 0 row d)
      = A (ix3 0 row d) * c + ∑ k : Fin 256, wtsD s M (ix2 row k) * va (ix2 k d) := by
  unfold stAD
  pointwise
  simp only [hc, ite_self, dite_eq_ite]

/-- One update of 256 rows against 256 keys takes the rows' state at `n` keys to their state at `n + 256`. -/
theorem updateD (hs : ∀ row j, s (ix2 row j) = S row (n + j.val)) (hv : ∀ j d, va (ix2 j d) = V (n + j.val) d)
    (h : ∀ row, RowState (S row) V n (fun l => M (ix3 0 row l)) (fun d => A (ix3 0 row d))) (row : Fin 256) :
    RowState (S row) V (n + 256) (fun l => stMD s M (ix3 0 row l)) (fun d => stAD s va M A (ix3 0 row d)) := by
  have hm : ∀ l, newMD s M (ix2 row l) = rowMax (S row) (n + 256) := fun l => by
    have h1 : M (ix3 0 row l) = rowMax (S row) n := (h row).1 l
    rw [newMD_apply, ← rowMax_add, h1]
    congr 2
    exact funext fun j => hs row j
  refine ⟨fun l => (stMD_apply s M row l).trans (hm l), fun d => ?_⟩
  have hsc : ∀ l, sclD s M (ix2 row l) = Ideal.exp2 (rowMax (S row) n - rowMax (S row) (n + 256)) := fun l => by
    rw [sclD_apply, hm]; exact congrArg (fun x => Ideal.exp2 (x - _)) ((h row).1 l)
  show stAD s va M A (ix3 0 row d) = _
  rw [stAD_apply s va M A row d _ hsc, ← rowSum_add]
  congr 1
  · exact congrArg (· * _) ((h row).2 d)
  · refine Finset.sum_congr rfl fun k _ => ?_
    rw [wtsD_apply s M row k _ hm, hs, hv]
end

/-- The new running maximum of a block of 256 rows, from the block's 512 scores a row and the old maximum. -/
def newME (s : FVec Ideal S256x512 .f32) (M : FVec Ideal S1x256x128 .f32) : FVec Ideal S256x128 .f32 :=
  maximumf (shapeCast S256x128 M shapeCasts_S1x256x128_S256x128)
    (broadcastTo S256x128 (shapeCast S256x1 (multiReduction .maximumf [1] S256 s 0xFF800000#32 reduces_S256x512_S256
      (.inl rfl) rfl) shapeCasts_S256_S256x1) broadcasts_S256x1_S256x128)

/-- The weights of the block's scores. -/
def wtsE (s : FVec Ideal S256x512 .f32) (M : FVec Ideal S1x256x128 .f32) : FVec Ideal S256x512 .f32 :=
  exp2 (subf s (concatenate S256x512 1 [⟨S256x128, newME s M⟩, ⟨S256x128, newME s M⟩, ⟨S256x128, newME s M⟩, ⟨S256x128, newME s M⟩] concatenates_S256x128_S256x128_S256x128_S256x128_S256x512_d1))

/-- The factor the old sum is rescaled by. -/
def sclE (s : FVec Ideal S256x512 .f32) (M : FVec Ideal S1x256x128 .f32) : FVec Ideal S256x128 .f32 :=
  exp2 (subf (shapeCast S256x128 M shapeCasts_S1x256x128_S256x128) (newME s M))

/-- The stored maximum. -/
def stME (s : FVec Ideal S256x512 .f32) (M : FVec Ideal S1x256x128 .f32) : FVec Ideal S1x256x128 .f32 :=
  shapeCast S1x256x128 (newME s M) shapeCasts_S256x128_S1x256x128

/-- The stored sum. -/
def stAE (s : FVec Ideal S256x512 .f32) (va : FVec Ideal S512x256 .bf16) (M : FVec Ideal S1x256x128 .f32)
    (A : FVec Ideal S1x256x256 .f32) : FVec Ideal S1x256x256 .f32 :=
  shapeCast S1x256x256 (addf (mulf (shapeCast S256x256 A shapeCasts_S1x256x256_S256x256)
      (concatenate S256x256 1 [⟨S256x128, sclE s M⟩, ⟨S256x128, sclE s M⟩]
        concatenates_S256x128_S256x128_S256x256_d1))
    (matmul dot_S256x512_S512x256_S256x256_1_0_0_1_n_n none (truncf .bf16 (wtsE s M) bitsLt_bf16_f32) va
      (constant S256x256 .f32 0x00000000#32))) shapeCasts_S256x256_S1x256x256

section
variable (s : FVec Ideal S256x512 .f32) (va : FVec Ideal S512x256 .bf16) (M : FVec Ideal S1x256x128 .f32)
  (A : FVec Ideal S1x256x256 .f32) (S : Fin 256 → ℕ → EReal) (V : ℕ → Fin 256 → EReal) (n : ℕ)

theorem newME_apply (row : Fin 256) (l : Fin 128) : newME s M (ix2 row l)
    = max (M (ix3 0 row l)) (Finset.univ.sup fun j : Fin 512 => s (ix2 row j)) := by
  rw [← fold_max_eq_sup]
  unfold newME
  pointwise

theorem wtsE_apply (row : Fin 256) (k : Fin 512) (c : EReal) (hc : ∀ l, newME s M (ix2 row l) = c) :
    wtsE s M (ix2 row k) = Ideal.exp2 (s (ix2 row k) - c) := by
  unfold wtsE
  pointwise
  simp only [hc, ite_self, dite_eq_ite]
  rfl

theorem sclE_apply (row : Fin 256) (l : Fin 128) :
    sclE s M (ix2 row l) = Ideal.exp2 (M (ix3 0 row l) - newME s M (ix2 row l)) := by
  unfold sclE
  pointwise
  rfl

theorem stME_apply (row : Fin 256) (l : Fin 128) : stME s M (ix3 0 row l) = newME s M (ix2 row l) := by
  unfold stME
  pointwise

theorem stAE_apply (row : Fin 256) (d : Fin 256) (c : EReal) (hc : ∀ l, sclE s M (ix2 row l) = c) :
    stAE s va M A (ix3 0 row d)
      = A (ix3 0 row d) * c + ∑ k : Fin 512, wtsE s M (ix2 row k) * va (ix2 k d) := by
  unfold stAE
  pointwise
  simp only [hc, ite_self, dite_eq_ite]

/-- One update of 256 rows against 512 keys takes the rows' state at `n` keys to their state at `n + 512`. -/
theorem updateE (hs : ∀ row j, s (ix2 row j) = S row (n + j.val)) (hv : ∀ j d, va (ix2 j d) = V (n + j.val) d)
    (h : ∀ row, RowState (S row) V n (fun l => M (ix3 0 row l)) (fun d => A (ix3 0 row d))) (row : Fin 256) :
    RowState (S row) V (n + 512) (fun l => stME s M (ix3 0 row l)) (fun d => stAE s va M A (ix3 0 row d)) := by
  have hm : ∀ l, newME s M (ix2 row l) = rowMax (S row) (n + 512) := fun l => by
    have h1 : M (ix3 0 row l) = rowMax (S row) n := (h row).1 l
    rw [newME_apply, ← rowMax_add, h1]
    congr 2
    exact funext fun j => hs row j
  refine ⟨fun l => (stME_apply s M row l).trans (hm l), fun d => ?_⟩
  have hsc : ∀ l, sclE s M (ix2 row l) = Ideal.exp2 (rowMax (S row) n - rowMax (S row) (n + 512)) := fun l => by
    rw [sclE_apply, hm]; exact congrArg (fun x => Ideal.exp2 (x - _)) ((h row).1 l)
  show stAE s va M A (ix3 0 row d) = _
  rw [stAE_apply s va M A row d _ hsc, ← rowSum_add]
  congr 1
  · exact congrArg (· * _) ((h row).2 d)
  · refine Finset.sum_congr rfl fun k _ => ?_
    rw [wtsE_apply s M row k _ hm, hs, hv]
end

end Cert.Attn

end
-- ==== Proof.Scores.lean ====
/-
The scores of a block of rows against a tile of keys: the query row extended by the block bias, against the key row
extended by the one-hot row of its block.
-/
module

public import proofs.«01_k».proof.Proof.Update
public import Idealize.ShloMosaic.Lib.WordCmp

@[expose] public section

set_option maxRecDepth 16384

noncomputable section

namespace Cert.Attn

open Idealize.ShloMosaic Cert.KernelIdeal Cert.KernelIdeal.Gen

/-- The row number of every place of a tile of keys. -/
abbrev rowIota : IVec S512x128 32 := iota Kind.tc S512x128 32 [0] iota_S512x128_d0_w32

/-- The lane number of every place of a tile of keys. -/
abbrev laneIota : IVec S512x128 32 := iota Kind.tc S512x128 32 [1] iota_S512x128_d1_w32

/-- One where the row's key, counted from `w`, lies in the lane's block of 64 keys, zero elsewhere. -/
def oneHot (w : BitVec 32) : FVec Ideal S512x128 .bf16 :=
  truncf .bf16 (select (cmpi .eq (shrsi (addi rowIota (broadcast S512x128 w)) (broadcast S512x128 6#32)) laneIota)
    (broadcast S512x128 (Scalar.ofBits (F := Ideal) .f32 0x3F800000#32))
    (broadcast S512x128 (Scalar.ofBits (F := Ideal) .f32 0x00000000#32))) bitsLt_bf16_f32

/-- A tile of keys, each row extended by its one-hot row. -/
def kAug (w : BitVec 32) (kl : FVec Ideal S512x128 .bf16) : FVec Ideal S512x256 .bf16 :=
  concatenate S512x256 1 [⟨S512x128, shapeCast S512x128 kl shapeCasts_S512x128_S512x128⟩, ⟨S512x128, oneHot w⟩]
    concatenates_S512x128_S512x128_S512x256_d1

/-- A tile of values, each row extended by ones. -/
def vAug (vl : FVec Ideal S512x128 .bf16) : FVec Ideal S512x256 .bf16 :=
  concatenate S512x256 1 [⟨S512x128, shapeCast S512x128 vl shapeCasts_S512x128_S512x128⟩,
    ⟨S512x128, broadcast S512x128 (Scalar.ofBits (F := Ideal) .bf16 0x3F80#16)⟩] concatenates_S512x128_S512x128_S512x256_d1

/-- The scores of one head's 512 rows against a tile of keys. -/
def sc (q : FVec Ideal S1x512x256 .bf16) (ka : FVec Ideal S512x256 .bf16) : FVec Ideal S512x512 .f32 :=
  matmul dot_S512x256_S512x256_S512x512_1_1_0_0_n_n none (shapeCast S512x256 q shapeCasts_S1x512x256_S512x256) ka
    (constant S512x512 .f32 0x00000000#32)

theorem ofBits_one : Ideal.ofBits .f32 0x3F800000#32 = 1 := by simp [Ideal.ofBits, Ideal.ieee, -EReal.coe_mul]; norm_num

theorem ofBits_one_bf16 : Ideal.ofBits .bf16 0x3F80#16 = 1 := by
  simp [Ideal.ofBits, Ideal.ieee, -EReal.coe_mul]; norm_num

theorem sc_apply (q : FVec Ideal S1x512x256 .bf16) (ka : FVec Ideal S512x256 .bf16) (row j : Fin 512) :
    sc q ka (ix2 row j) = ∑ c : Fin 256, q (ix3 0 row c) * ka (ix2 j c) := by
  unfold sc
  pointwise

theorem vAug_apply (vl : FVec Ideal S512x128 .bf16) (j : Fin 512) (d : Fin 256) :
    vAug vl (ix2 j d) = if h : d.val < 128 then vl (ix2 j ⟨d.val, h⟩) else 1 := by
  rw [← ofBits_one_bf16]
  unfold vAug
  pointwise

/-- Shifting a small word right by six divides it by 64. -/
theorem shrsi_six (n : ℕ) (hn : n < 8192) :
    IntOp.shrsi ArithUnit.vector (BitVec.ofNat 32 n) 6#32 = BitVec.ofNat 32 (n / 64) := by
  have h1 : (BitVec.ofNat 32 n).msb = false := by
    rw [BitVec.msb_eq_false_iff_two_mul_lt, BitVec.toNat_ofNat]; omega
  unfold IntOp.shrsi
  rw [if_pos (by decide)]
  show (BitVec.ofNat 32 n).sshiftRight 6 = _
  rw [BitVec.sshiftRight_eq_of_msb_false h1]
  apply BitVec.eq_of_toNat_eq
  rw [BitVec.toNat_ushiftRight, Nat.shiftRight_eq_div_pow, BitVec.toNat_ofNat, BitVec.toNat_ofNat]
  omega

theorem oneHot_apply (b : ℕ) (hb : b + 512 ≤ 8192) (j : Fin 512) (l : Fin 128) :
    oneHot (BitVec.ofNat 32 b) (ix2 j l) = if (b + j.val) / 64 = l.val then 1 else 0 := by
  unfold oneHot
  pointwise
  have h : IntOp.addi (BitVec.ofNat 32 j.val) (BitVec.ofNat 32 b) = BitVec.ofNat 32 (b + j.val) := by
    show BitVec.ofNat 32 j.val + BitVec.ofNat 32 b = _
    rw [← BitVec.ofNat_add, Nat.add_comm]
  rw [h, shrsi_six _ (by omega), WordCmp.cmpi_eq_ofNat (by omega) (by omega)]
  by_cases hc : (b + j.val) / 64 = l.val
  · simp [hc, Scalar.select]
  · simp [hc, Scalar.select]

theorem kAug_apply (w : BitVec 32) (kl : FVec Ideal S512x128 .bf16) (j : Fin 512) (c : Fin 256) :
    kAug w kl (ix2 j c) = if h : c.val < 128 then kl (ix2 j ⟨c.val, h⟩) else oneHot w (ix2 j ⟨c.val - 128, by omega⟩) := by
  unfold kAug
  pointwise

/-- The rows of an array of keys or values, by number. -/
def rowsOf {sig : RefSig} {κ : Kind} {sp : Space} (v : View sig κ sp S8192x128 .bf16) (f : v.ty.Contents (Elt Ideal)) (k : ℕ) (d : Fin 128) :
    EReal := if h : k < 8192 then v.read (Elt Ideal) f (ix2 ⟨k, h⟩ d) else 0

/-- A key, extended by the one-hot row of its block of 64. -/
def keyRow (K : ℕ → Fin 128 → EReal) (k : ℕ) (c : Fin 256) : EReal :=
  if h : c.val < 128 then K k ⟨c.val, h⟩ else if k / 64 = c.val - 128 then 1 else 0

/-- A value, extended by ones. -/
def valRow (W : ℕ → Fin 128 → EReal) (k : ℕ) (d : Fin 256) : EReal := if h : d.val < 128 then W k ⟨d.val, h⟩ else 1

theorem rowsOf_load {sig : RefSig} {κ : Kind} {sp : Space} (v : View sig κ sp S8192x128 .bf16) (f : v.ty.Contents (Elt Ideal)) {n : ℕ}
    {off : Fin 2 → ℕ} (b : ℕ) (hoff : off = ![b, 0]) (inb : ∀ a, off a + (![n, 128] : Fin 2 → ℕ) a ≤ S8192x128.size a)
    (j : Fin n) (d : Fin 128) :
    v.readAt (Elt Ideal) (Rect.unit (s := S8192x128) off ![n, 128] inb).toLoadRect f (ix2 j d) = rowsOf v f (b + j.val) d := by
  subst hoff
  have hb : b + n ≤ 8192 := inb 0
  unfold rowsOf
  rw [dif_pos (by omega)]
  exact congrArg (v.read (Elt Ideal) f) (funext fun a => Fin.ext (by
    match a with
    | ⟨0, _⟩ => exact congrArg (b + ·) (Nat.one_mul _)
    | ⟨1, _⟩ => exact (Nat.zero_add _).trans (Nat.one_mul _)))

/-- The score of a query row against a key, both extended. -/
def dotScore (Q : Fin 4 → Fin 512 → Fin 256 → EReal) (K : ℕ → Fin 128 → EReal) (r : Fin 4) (row : Fin 512) (k : ℕ) : EReal :=
  ∑ c : Fin 256, Q r row c * keyRow K k c

theorem sc_dot (Q : Fin 4 → Fin 512 → Fin 256 → EReal) (K : ℕ → Fin 128 → EReal) (r : Fin 4) (q : FVec Ideal S1x512x256 .bf16)
    (hq : ∀ row c, q (ix3 0 row c) = Q r row c) (kl : FVec Ideal S512x128 .bf16) (b : ℕ) (hb : b + 512 ≤ 8192)
    (hk : ∀ j d, kl (ix2 j d) = K (b + j.val) d) {w : BitVec 32} (hw : w = BitVec.ofNat 32 b) (row j : Fin 512) :
    sc q (kAug w kl) (ix2 row j) = dotScore Q K r row (b + j.val) := by
  subst hw
  rw [sc_apply]
  refine Finset.sum_congr rfl fun c _ => ?_
  rw [hq, kAug_apply]
  unfold keyRow
  congr 1
  by_cases h : c.val < 128
  · rw [dif_pos h, dif_pos h, hk]
  · rw [dif_neg h, dif_neg h, oneHot_apply b hb]

theorem vAug_val (W : ℕ → Fin 128 → EReal) (vl : FVec Ideal S512x128 .bf16) (b : ℕ)
    (hk : ∀ j d, vl (ix2 j d) = W (b + j.val) d) (j : Fin 512) (d : Fin 256) : vAug vl (ix2 j d) = valRow W (b + j.val) d := by
  rw [vAug_apply]
  unfold valRow
  by_cases h : d.val < 128
  · rw [dif_pos h, dif_pos h, hk]
  · rw [dif_neg h, dif_neg h]

/-- The scores the causal rows see: at row `q0 + row`, keys past it weigh nothing. -/
def selScore (Q : Fin 4 → Fin 512 → Fin 256 → EReal) (K : ℕ → Fin 128 → EReal) (q0 : ℕ) (r : Fin 4) (row : Fin 512) (k : ℕ) : EReal :=
  if k ≤ q0 + row.val then dotScore Q K r row k else ⊥

/-- The query rows read from the scratch array. -/
def qRows {sig : RefSig} {κ : Kind} {sp : Space} (v : View sig κ sp S4x512x256 .bf16) (f : v.ty.Contents (Elt Ideal)) (r : Fin 4)
    (row : Fin 512) (c : Fin 256) : EReal := v.read (Elt Ideal) f (ix3 r row c)

theorem qRows_load {sig : RefSig} {κ : Kind} {sp : Space} (v : View sig κ sp S4x512x256 .bf16) (f : v.ty.Contents (Elt Ideal)) (r0 : ℕ)
    (inb : ∀ a, (![r0, 0, 0] : Fin 3 → ℕ) a + (![1, 512, 256] : Fin 3 → ℕ) a ≤ S4x512x256.size a) (r : Fin 4) (hr : r.val = r0)
    (row : Fin 512) (c : Fin 256) :
    v.readAt (Elt Ideal) (Rect.unit (s := S4x512x256) ![r0, 0, 0] ![1, 512, 256] inb).toLoadRect f (ix3 0 row c) = qRows v f r row c :=
  congrArg (v.read (Elt Ideal) f) (funext fun a => Fin.ext (by
    match a with
    | ⟨0, _⟩ => exact hr.symm
    | ⟨1, _⟩ => exact (Nat.zero_add _).trans (Nat.one_mul _)
    | ⟨2, _⟩ => exact (Nat.zero_add _).trans (Nat.one_mul _)))

end Cert.Attn

end
-- ==== Proof.Slab.lean ====
/-
The two scratch arrays the online softmax keeps, four heads of 512 rows each: what a store to one head, or to half of
one, leaves at an index, and what a tile of keys does to the rows' states.
-/
module

public import proofs.«01_k».proof.Proof.Update
public import Idealize.ShloMosaic.Lib.WritesUnit
public import Idealize.ShloMosaic.Lib.Exec

@[expose] public section

set_option maxRecDepth 16384

noncomputable section

namespace Cert.Attn

open Idealize.ShloMosaic Cert.KernelIdeal Cert.KernelIdeal.Gen

variable {sig : RefSig} {κ : Kind} {sp : Space}

section
variable (v : View sig κ sp S4x512x128 .f32) (f : v.ty.Contents (Elt Ideal)) {r0 o : ℕ}
  (inb : ∀ a, (![r0, o, 0] : Fin 3 → ℕ) a + S1x512x128.size a ≤ S4x512x128.size a)
  (w : (Rect.unit (s := S4x512x128) ![r0, o, 0] S1x512x128.size inb).shape.Idx → EReal)
  (L : List (View.Piece (Elt Ideal) S4x512x128 .f32))

theorem hitFM (r : Fin 4) (row : Fin 512) (x : Fin 512) (l : Fin 128) (hr : r.val = r0) (hx : row.val = o + x.val) :
    v.read (Elt Ideal) (v.writes (Elt Ideal) f (⟨Rect.unit ![r0, o, 0] S1x512x128.size inb, w⟩ :: L)) (ix3 r row l)
      = w (ix3 0 x l) :=
  View.read_writes_cons_unit_of_mem v f inb w L (ix3 r row l) (ix3 0 x l) rfl fun a => by
    match a with
    | ⟨0, _⟩ => exact hr
    | ⟨1, _⟩ => exact hx
    | ⟨2, _⟩ => exact (Nat.zero_add _).symm

theorem missHeadFM (r : Fin 4) (row : Fin 512) (l : Fin 128) (hr : r.val ≠ r0) :
    v.read (Elt Ideal) (v.writes (Elt Ideal) f (⟨Rect.unit ![r0, o, 0] S1x512x128.size inb, w⟩ :: L)) (ix3 r row l)
      = v.read (Elt Ideal) (v.writes (Elt Ideal) f L) (ix3 r row l) :=
  View.read_writes_cons_unit_of_not_mem v f inb w L (ix3 r row l) rfl ⟨0, by decide⟩ (by
    show r.val < r0 ∨ r0 + 1 ≤ r.val
    omega)

theorem missRowFM (r : Fin 4) (row : Fin 512) (l : Fin 128) (hr : row.val < o ∨ o + 512 ≤ row.val) :
    v.read (Elt Ideal) (v.writes (Elt Ideal) f (⟨Rect.unit ![r0, o, 0] S1x512x128.size inb, w⟩ :: L)) (ix3 r row l)
      = v.read (Elt Ideal) (v.writes (Elt Ideal) f L) (ix3 r row l) :=
  View.read_writes_cons_unit_of_not_mem v f inb w L (ix3 r row l) rfl (1 : Fin 3) hr

theorem loadFM (r : Fin 4) (row : Fin 512) (x : Fin 512) (l : Fin 128) (hr : r.val = r0) (hx : row.val = o + x.val) :
    v.readAt (Elt Ideal) (Rect.unit (s := S4x512x128) ![r0, o, 0] S1x512x128.size inb).toLoadRect f (ix3 0 x l)
      = v.read (Elt Ideal) f (ix3 r row l) :=
  congrArg (v.read (Elt Ideal) f) (funext fun a => Fin.ext (by
    match a with
    | ⟨0, _⟩ => exact hr.symm
    | ⟨1, _⟩ => exact (congrArg (o + ·) (Nat.one_mul _)).trans hx.symm
    | ⟨2, _⟩ => exact (Nat.zero_add _).trans (Nat.one_mul _)))

theorem covFM (r : Fin 4) (row : Fin 512) (x : Fin 512) (l : Fin 128) (hr : r.val = r0) (hx : row.val = o + x.val) :
    v.readCov (Val := Elt Ideal) L (Rect.unit (s := S4x512x128) ![r0, o, 0] S1x512x128.size inb).toLoadRect (ix3 0 x l)
      = v.read (Elt Ideal) (v.writes (Elt Ideal) v.junk L) (ix3 r row l) :=
  loadFM v _ inb r row x l hr hx
end

section
variable (v : View sig κ sp S4x512x256 .f32) (f : v.ty.Contents (Elt Ideal)) {r0 o : ℕ}
  (inb : ∀ a, (![r0, o, 0] : Fin 3 → ℕ) a + S1x512x256.size a ≤ S4x512x256.size a)
  (w : (Rect.unit (s := S4x512x256) ![r0, o, 0] S1x512x256.size inb).shape.Idx → EReal)
  (L : List (View.Piece (Elt Ideal) S4x512x256 .f32))

theorem hitFA (r : Fin 4) (row : Fin 512) (x : Fin 512) (l : Fin 256) (hr : r.val = r0) (hx : row.val = o + x.val) :
    v.read (Elt Ideal) (v.writes (Elt Ideal) f (⟨Rect.unit ![r0, o, 0] S1x512x256.size inb, w⟩ :: L)) (ix3 r row l)
      = w (ix3 0 x l) :=
  View.read_writes_cons_unit_of_mem v f inb w L (ix3 r row l) (ix3 0 x l) rfl fun a => by
    match a with
    | ⟨0, _⟩ => exact hr
    | ⟨1, _⟩ => exact hx
    | ⟨2, _⟩ => exact (Nat.zero_add _).symm

theorem missHeadFA (r : Fin 4) (row : Fin 512) (l : Fin 256) (hr : r.val ≠ r0) :
    v.read (Elt Ideal) (v.writes (Elt Ideal) f (⟨Rect.unit ![r0, o, 0] S1x512x256.size inb, w⟩ :: L)) (ix3 r row l)
      = v.read (Elt Ideal) (v.writes (Elt Ideal) f L) (ix3 r row l) :=
  View.read_writes_cons_unit_of_not_mem v f inb w L (ix3 r row l) rfl ⟨0, by decide⟩ (by
    show r.val < r0 ∨ r0 + 1 ≤ r.val
    omega)

theorem missRowFA (r : Fin 4) (row : Fin 512) (l : Fin 256) (hr : row.val < o ∨ o + 512 ≤ row.val) :
    v.read (Elt Ideal) (v.writes (Elt Ideal) f (⟨Rect.unit ![r0, o, 0] S1x512x256.size inb, w⟩ :: L)) (ix3 r row l)
      = v.read (Elt Ideal) (v.writes (Elt Ideal) f L) (ix3 r row l) :=
  View.read_writes_cons_unit_of_not_mem v f inb w L (ix3 r row l) rfl (1 : Fin 3) hr

theorem loadFA (r : Fin 4) (row : Fin 512) (x : Fin 512) (l : Fin 256) (hr : r.val = r0) (hx : row.val = o + x.val) :
    v.readAt (Elt Ideal) (Rect.unit (s := S4x512x256) ![r0, o, 0] S1x512x256.size inb).toLoadRect f (ix3 0 x l)
      = v.read (Elt Ideal) f (ix3 r row l) :=
  congrArg (v.read (Elt Ideal) f) (funext fun a => Fin.ext (by
    match a with
    | ⟨0, _⟩ => exact hr.symm
    | ⟨1, _⟩ => exact (congrArg (o + ·) (Nat.one_mul _)).trans hx.symm
    | ⟨2, _⟩ => exact (Nat.zero_add _).trans (Nat.one_mul _)))

theorem covFA (r : Fin 4) (row : Fin 512) (x : Fin 512) (l : Fin 256) (hr : r.val = r0) (hx : row.val = o + x.val) :
    v.readCov (Val := Elt Ideal) L (Rect.unit (s := S4x512x256) ![r0, o, 0] S1x512x256.size inb).toLoadRect (ix3 0 x l)
      = v.read (Elt Ideal) (v.writes (Elt Ideal) v.junk L) (ix3 r row l) :=
  loadFA v _ inb r row x l hr hx
end

section
variable (v : View sig κ sp S4x512x128 .f32) (f : v.ty.Contents (Elt Ideal)) {r0 o : ℕ}
  (inb : ∀ a, (![r0, o, 0] : Fin 3 → ℕ) a + S1x256x128.size a ≤ S4x512x128.size a)
  (w : (Rect.unit (s := S4x512x128) ![r0, o, 0] S1x256x128.size inb).shape.Idx → EReal)
  (L : List (View.Piece (Elt Ideal) S4x512x128 .f32))

theorem hitHM (r : Fin 4) (row : Fin 512) (x : Fin 256) (l : Fin 128) (hr : r.val = r0) (hx : row.val = o + x.val) :
    v.read (Elt Ideal) (v.writes (Elt Ideal) f (⟨Rect.unit ![r0, o, 0] S1x256x128.size inb, w⟩ :: L)) (ix3 r row l)
      = w (ix3 0 x l) :=
  View.read_writes_cons_unit_of_mem v f inb w L (ix3 r row l) (ix3 0 x l) rfl fun a => by
    match a with
    | ⟨0, _⟩ => exact hr
    | ⟨1, _⟩ => exact hx
    | ⟨2, _⟩ => exact (Nat.zero_add _).symm

theorem missHeadHM (r : Fin 4) (row : Fin 512) (l : Fin 128) (hr : r.val ≠ r0) :
    v.read (Elt Ideal) (v.writes (Elt Ideal) f (⟨Rect.unit ![r0, o, 0] S1x256x128.size inb, w⟩ :: L)) (ix3 r row l)
      = v.read (Elt Ideal) (v.writes (Elt Ideal) f L) (ix3 r row l) :=
  View.read_writes_cons_unit_of_not_mem v f inb w L (ix3 r row l) rfl ⟨0, by decide⟩ (by
    show r.val < r0 ∨ r0 + 1 ≤ r.val
    omega)

theorem missRowHM (r : Fin 4) (row : Fin 512) (l : Fin 128) (hr : row.val < o ∨ o + 256 ≤ row.val) :
    v.read (Elt Ideal) (v.writes (Elt Ideal) f (⟨Rect.unit ![r0, o, 0] S1x256x128.size inb, w⟩ :: L)) (ix3 r row l)
      = v.read (Elt Ideal) (v.writes (Elt Ideal) f L) (ix3 r row l) :=
  View.read_writes_cons_unit_of_not_mem v f inb w L (ix3 r row l) rfl (1 : Fin 3) hr

theorem loadHM (r : Fin 4) (row : Fin 512) (x : Fin 256) (l : Fin 128) (hr : r.val = r0) (hx : row.val = o + x.val) :
    v.readAt (Elt Ideal) (Rect.unit (s := S4x512x128) ![r0, o, 0] S1x256x128.size inb).toLoadRect f (ix3 0 x l)
      = v.read (Elt Ideal) f (ix3 r row l) :=
  congrArg (v.read (Elt Ideal) f) (funext fun a => Fin.ext (by
    match a with
    | ⟨0, _⟩ => exact hr.symm
    | ⟨1, _⟩ => exact (congrArg (o + ·) (Nat.one_mul _)).trans hx.symm
    | ⟨2, _⟩ => exact (Nat.zero_add _).trans (Nat.one_mul _)))

theorem covHM (r : Fin 4) (row : Fin 512) (x : Fin 256) (l : Fin 128) (hr : r.val = r0) (hx : row.val = o + x.val) :
    v.readCov (Val := Elt Ideal) L (Rect.unit (s := S4x512x128) ![r0, o, 0] S1x256x128.size inb).toLoadRect (ix3 0 x l)
      = v.read (Elt Ideal) (v.writes (Elt Ideal) v.junk L) (ix3 r row l) :=
  loadHM v _ inb r row x l hr hx
end

section
variable (v : View sig κ sp S4x512x256 .f32) (f : v.ty.Contents (Elt Ideal)) {r0 o : ℕ}
  (inb : ∀ a, (![r0, o, 0] : Fin 3 → ℕ) a + S1x256x256.size a ≤ S4x512x256.size a)
  (w : (Rect.unit (s := S4x512x256) ![r0, o, 0] S1x256x256.size inb).shape.Idx → EReal)
  (L : List (View.Piece (Elt Ideal) S4x512x256 .f32))

theorem hitHA (r : Fin 4) (row : Fin 512) (x : Fin 256) (l : Fin 256) (hr : r.val = r0) (hx : row.val = o + x.val) :
    v.read (Elt Ideal) (v.writes (Elt Ideal) f (⟨Rect.unit ![r0, o, 0] S1x256x256.size inb, w⟩ :: L)) (ix3 r row l)
      = w (ix3 0 x l) :=
  View.read_writes_cons_unit_of_mem v f inb w L (ix3 r row l) (ix3 0 x l) rfl fun a => by
    match a with
    | ⟨0, _⟩ => exact hr
    | ⟨1, _⟩ => exact hx
    | ⟨2, _⟩ => exact (Nat.zero_add _).symm

theorem missHeadHA (r : Fin 4) (row : Fin 512) (l : Fin 256) (hr : r.val ≠ r0) :
    v.read (Elt Ideal) (v.writes (Elt Ideal) f (⟨Rect.unit ![r0, o, 0] S1x256x256.size inb, w⟩ :: L)) (ix3 r row l)
      = v.read (Elt Ideal) (v.writes (Elt Ideal) f L) (ix3 r row l) :=
  View.read_writes_cons_unit_of_not_mem v f inb w L (ix3 r row l) rfl ⟨0, by decide⟩ (by
    show r.val < r0 ∨ r0 + 1 ≤ r.val
    omega)

theorem missRowHA (r : Fin 4) (row : Fin 512) (l : Fin 256) (hr : row.val < o ∨ o + 256 ≤ row.val) :
    v.read (Elt Ideal) (v.writes (Elt Ideal) f (⟨Rect.unit ![r0, o, 0] S1x256x256.size inb, w⟩ :: L)) (ix3 r row l)
      = v.read (Elt Ideal) (v.writes (Elt Ideal) f L) (ix3 r row l) :=
  View.read_writes_cons_unit_of_not_mem v f inb w L (ix3 r row l) rfl (1 : Fin 3) hr

theorem loadHA (r : Fin 4) (row : Fin 512) (x : Fin 256) (l : Fin 256) (hr : r.val = r0) (hx : row.val = o + x.val) :
    v.readAt (Elt Ideal) (Rect.unit (s := S4x512x256) ![r0, o, 0] S1x256x256.size inb).toLoadRect f (ix3 0 x l)
      = v.read (Elt Ideal) f (ix3 r row l) :=
  congrArg (v.read (Elt Ideal) f) (funext fun a => Fin.ext (by
    match a with
    | ⟨0, _⟩ => exact hr.symm
    | ⟨1, _⟩ => exact (congrArg (o + ·) (Nat.one_mul _)).trans hx.symm
    | ⟨2, _⟩ => exact (Nat.zero_add _).trans (Nat.one_mul _)))

theorem covHA (r : Fin 4) (row : Fin 512) (x : Fin 256) (l : Fin 256) (hr : r.val = r0) (hx : row.val = o + x.val) :
    v.readCov (Val := Elt Ideal) L (Rect.unit (s := S4x512x256) ![r0, o, 0] S1x256x256.size inb).toLoadRect (ix3 0 x l)
      = v.read (Elt Ideal) (v.writes (Elt Ideal) v.junk L) (ix3 r row l) :=
  loadHA v _ inb r row x l hr hx
end

/-- The states of all rows of the four heads, `cnt r row` keys into each, read from the two scratch arrays. -/
def St (v22 : View sig κ sp S4x512x256 .f32) (v23 : View sig κ sp S4x512x128 .f32)
    (g22 : v22.ty.Contents (Elt Ideal)) (g23 : v23.ty.Contents (Elt Ideal)) (S : Fin 4 → Fin 512 → ℕ → EReal)
    (V : ℕ → Fin 256 → EReal) (cnt : Fin 4 → Fin 512 → ℕ) : Prop :=
  ∀ r row, RowState (S r row) V (cnt r row) (fun l => v23.read (Elt Ideal) g23 (ix3 r row l))
    (fun d => v22.read (Elt Ideal) g22 (ix3 r row d))

/-- A stored block of one head. -/
abbrev pcM (r0 o R : ℕ) (inb : ∀ a, (![r0, o, 0] : Fin 3 → ℕ) a + (![1, R, 128] : Fin 3 → ℕ) a ≤ S4x512x128.size a)
    (w : FVec Ideal ⟨3, ![1, R, 128]⟩ .f32) : View.Piece (Elt Ideal) S4x512x128 .f32 :=
  ⟨Rect.unit ![r0, o, 0] ![1, R, 128] inb, w⟩

/-- A stored block of one head's sums. -/
abbrev pcA (r0 o R : ℕ) (inb : ∀ a, (![r0, o, 0] : Fin 3 → ℕ) a + (![1, R, 256] : Fin 3 → ℕ) a ≤ S4x512x256.size a)
    (w : FVec Ideal ⟨3, ![1, R, 256]⟩ .f32) : View.Piece (Elt Ideal) S4x512x256 .f32 :=
  ⟨Rect.unit ![r0, o, 0] ![1, R, 256] inb, w⟩

/-- What a tile's loads find: the states of all rows, `n` keys into each. -/
def Loads (S : Fin 4 → Fin 512 → ℕ → EReal) (V : ℕ → Fin 256 → EReal) (n : ℕ)
    (M : Fin 4 → FVec Ideal S1x512x128 .f32) (A : Fin 4 → FVec Ideal S1x512x256 .f32) : Prop :=
  ∀ r row, RowState (S r row) V n (fun l => M r (ix3 0 row l)) (fun d => A r (ix3 0 row d))

section
variable (v22 : View sig κ sp S4x512x256 .f32) (v23 : View sig κ sp S4x512x128 .f32)
    (S : Fin 4 → Fin 512 → ℕ → EReal) (V : ℕ → Fin 256 → EReal)

/-- A tile of 512 keys: each head's block updated and stored takes every row from `n` keys to `n + 512`. -/
theorem tile (n : ℕ)
    (M : Fin 4 → FVec Ideal S1x512x128 .f32) (A : Fin 4 → FVec Ideal S1x512x256 .f32) (h : Loads S V n M A)
    (va : FVec Ideal S512x256 .bf16) (hv : ∀ j d, va (ix2 j d) = V (n + j.val) d)
    (s : Fin 4 → FVec Ideal S512x512 .f32) (hs : ∀ r row j, s r (ix2 row j) = S r row (n + j.val))
    {m0 m1 m2 m3 : FVec Ideal S1x512x128 .f32} {a0 a1 a2 a3 : FVec Ideal S1x512x256 .f32}
    (em0 : m0 = stMF (s 0) (M 0)) (em1 : m1 = stMF (s 1) (M 1)) (em2 : m2 = stMF (s 2) (M 2)) (em3 : m3 = stMF (s 3) (M 3))
    (ea0 : a0 = stAF (s 0) va (M 0) (A 0)) (ea1 : a1 = stAF (s 1) va (M 1) (A 1))
    (ea2 : a2 = stAF (s 2) va (M 2) (A 2)) (ea3 : a3 = stAF (s 3) va (M 3) (A 3))
    (f22 : v22.ty.Contents (Elt Ideal)) (f23 : v23.ty.Contents (Elt Ideal))
    (L22 : List (View.Piece (Elt Ideal) S4x512x256 .f32)) (L23 : List (View.Piece (Elt Ideal) S4x512x128 .f32))
    (p0 p1 p2 p3 : _) (q0 q1 q2 q3 : _) :
    St v22 v23
      (v22.writes (Elt Ideal) f22 (pcA 3 0 512 q3 a3 :: pcA 2 0 512 q2 a2 :: pcA 1 0 512 q1 a1 :: pcA 0 0 512 q0 a0 :: L22))
      (v23.writes (Elt Ideal) f23 (pcM 3 0 512 p3 m3 :: pcM 2 0 512 p2 m2 :: pcM 1 0 512 p1 m1 :: pcM 0 0 512 p0 m0 :: L23))
      S V fun _ _ => n + 512 := by
  have hu : ∀ r row, RowState (S r row) V (n + 512) (fun l => stMF (s r) (M r) (ix3 0 row l))
      (fun d => stAF (s r) va (M r) (A r) (ix3 0 row d)) := fun r row =>
    updateF (s r) va (M r) (A r) (S r) V n (hs r) hv (h r) row
  subst em0 em1 em2 em3 ea0 ea1 ea2 ea3
  intro r row
  have hz : row.val = 0 + row.val := (Nat.zero_add _).symm
  have hr : r = 0 ∨ r = 1 ∨ r = 2 ∨ r = 3 := by omega
  rcases hr with rfl | rfl | rfl | rfl
  · refine ⟨fun l => ?_, fun d => ?_⟩
    · refine Eq.trans ?_ ((hu 0 row).1 l)
      exact (missHeadFM v23 f23 p3 _ _ 0 row l (by decide)).trans <| (missHeadFM v23 f23 p2 _ _ 0 row l (by decide)).trans <|
        (missHeadFM v23 f23 p1 _ _ 0 row l (by decide)).trans (hitFM v23 f23 p0 _ _ 0 row row l rfl hz)
    · refine Eq.trans ?_ ((hu 0 row).2 d)
      exact (missHeadFA v22 f22 q3 _ _ 0 row d (by decide)).trans <| (missHeadFA v22 f22 q2 _ _ 0 row d (by decide)).trans <|
        (missHeadFA v22 f22 q1 _ _ 0 row d (by decide)).trans (hitFA v22 f22 q0 _ _ 0 row row d rfl hz)
  · refine ⟨fun l => ?_, fun d => ?_⟩
    · refine Eq.trans ?_ ((hu 1 row).1 l)
      exact (missHeadFM v23 f23 p3 _ _ 1 row l (by decide)).trans <| (missHeadFM v23 f23 p2 _ _ 1 row l (by decide)).trans <|
        (hitFM v23 f23 p1 _ _ 1 row row l rfl hz)
    · refine Eq.trans ?_ ((hu 1 row).2 d)
      exact (missHeadFA v22 f22 q3 _ _ 1 row d (by decide)).trans <| (missHeadFA v22 f22 q2 _ _ 1 row d (by decide)).trans <|
        (hitFA v22 f22 q1 _ _ 1 row row d rfl hz)
  · refine ⟨fun l => ?_, fun d => ?_⟩
    · refine Eq.trans ?_ ((hu 2 row).1 l)
      exact (missHeadFM v23 f23 p3 _ _ 2 row l (by decide)).trans <| (hitFM v23 f23 p2 _ _ 2 row row l rfl hz)
    · refine Eq.trans ?_ ((hu 2 row).2 d)
      exact (missHeadFA v22 f22 q3 _ _ 2 row d (by decide)).trans <| (hitFA v22 f22 q2 _ _ 2 row row d rfl hz)
  · refine ⟨fun l => ?_, fun d => ?_⟩
    · refine Eq.trans ?_ ((hu 3 row).1 l)
      exact hitFM v23 f23 p3 _ _ 3 row row l rfl hz
    · refine Eq.trans ?_ ((hu 3 row).2 d)
      exact hitFA v22 f22 q3 _ _ 3 row row d rfl hz

/-- The loads of the four heads from arrays holding the states. -/
theorem loadsAt (n : ℕ) (f22 : v22.ty.Contents (Elt Ideal)) (f23 : v23.ty.Contents (Elt Ideal))
    (h : St v22 v23 f22 f23 S V fun _ _ => n) (p0 p1 p2 p3 : _) (q0 q1 q2 q3 : _) :
    Loads S V n
      ![v23.readAt (Elt Ideal) (Rect.unit (s := S4x512x128) ![0, 0, 0] S1x512x128.size p0).toLoadRect f23,
        v23.readAt (Elt Ideal) (Rect.unit (s := S4x512x128) ![1, 0, 0] S1x512x128.size p1).toLoadRect f23,
        v23.readAt (Elt Ideal) (Rect.unit (s := S4x512x128) ![2, 0, 0] S1x512x128.size p2).toLoadRect f23,
        v23.readAt (Elt Ideal) (Rect.unit (s := S4x512x128) ![3, 0, 0] S1x512x128.size p3).toLoadRect f23]
      ![v22.readAt (Elt Ideal) (Rect.unit (s := S4x512x256) ![0, 0, 0] S1x512x256.size q0).toLoadRect f22,
        v22.readAt (Elt Ideal) (Rect.unit (s := S4x512x256) ![1, 0, 0] S1x512x256.size q1).toLoadRect f22,
        v22.readAt (Elt Ideal) (Rect.unit (s := S4x512x256) ![2, 0, 0] S1x512x256.size q2).toLoadRect f22,
        v22.readAt (Elt Ideal) (Rect.unit (s := S4x512x256) ![3, 0, 0] S1x512x256.size q3).toLoadRect f22] := by
  intro r row
  have hz : row.val = 0 + row.val := (Nat.zero_add _).symm
  have hr : r = 0 ∨ r = 1 ∨ r = 2 ∨ r = 3 := by omega
  rcases hr with rfl | rfl | rfl | rfl
  · exact ⟨fun l => (loadFM v23 f23 p0 0 row row l rfl hz).trans ((h 0 row).1 l),
      fun d => (loadFA v22 f22 q0 0 row row d rfl hz).trans ((h 0 row).2 d)⟩
  · exact ⟨fun l => (loadFM v23 f23 p1 1 row row l rfl hz).trans ((h 1 row).1 l),
      fun d => (loadFA v22 f22 q1 1 row row d rfl hz).trans ((h 1 row).2 d)⟩
  · exact ⟨fun l => (loadFM v23 f23 p2 2 row row l rfl hz).trans ((h 2 row).1 l),
      fun d => (loadFA v22 f22 q2 2 row row d rfl hz).trans ((h 2 row).2 d)⟩
  · exact ⟨fun l => (loadFM v23 f23 p3 3 row row l rfl hz).trans ((h 3 row).1 l),
      fun d => (loadFA v22 f22 q3 3 row row d rfl hz).trans ((h 3 row).2 d)⟩

/-- The loads of the four heads where each head's block is stored before the next head's is loaded. -/
theorem loadsCov (n : ℕ) (L22 : List (View.Piece (Elt Ideal) S4x512x256 .f32))
    (L23 : List (View.Piece (Elt Ideal) S4x512x128 .f32))
    (h : St v22 v23 (v22.writes (Elt Ideal) v22.junk L22) (v23.writes (Elt Ideal) v23.junk L23) S V fun _ _ => n)
    (p0 p1 p2 p3 : _) (q0 q1 q2 q3 : _) (x0 x1 x2 : _) (y0 y1 y2 : _)
    (m0 m1 m2 : FVec Ideal S1x512x128 .f32) (a0 a1 a2 : FVec Ideal S1x512x256 .f32) :
    Loads S V n
      ![v23.readCov (Val := Elt Ideal) L23 (Rect.unit (s := S4x512x128) ![0, 0, 0] S1x512x128.size p0).toLoadRect,
        v23.readCov (Val := Elt Ideal) (pcM 0 0 512 x0 m0 :: L23) (Rect.unit (s := S4x512x128) ![1, 0, 0] S1x512x128.size p1).toLoadRect,
        v23.readCov (Val := Elt Ideal) (pcM 1 0 512 x1 m1 :: pcM 0 0 512 x0 m0 :: L23) (Rect.unit (s := S4x512x128) ![2, 0, 0] S1x512x128.size p2).toLoadRect,
        v23.readCov (Val := Elt Ideal) (pcM 2 0 512 x2 m2 :: pcM 1 0 512 x1 m1 :: pcM 0 0 512 x0 m0 :: L23)
          (Rect.unit (s := S4x512x128) ![3, 0, 0] S1x512x128.size p3).toLoadRect]
      ![v22.readCov (Val := Elt Ideal) L22 (Rect.unit (s := S4x512x256) ![0, 0, 0] S1x512x256.size q0).toLoadRect,
        v22.readCov (Val := Elt Ideal) (pcA 0 0 512 y0 a0 :: L22) (Rect.unit (s := S4x512x256) ![1, 0, 0] S1x512x256.size q1).toLoadRect,
        v22.readCov (Val := Elt Ideal) (pcA 1 0 512 y1 a1 :: pcA 0 0 512 y0 a0 :: L22) (Rect.unit (s := S4x512x256) ![2, 0, 0] S1x512x256.size q2).toLoadRect,
        v22.readCov (Val := Elt Ideal) (pcA 2 0 512 y2 a2 :: pcA 1 0 512 y1 a1 :: pcA 0 0 512 y0 a0 :: L22)
          (Rect.unit (s := S4x512x256) ![3, 0, 0] S1x512x256.size q3).toLoadRect] := by
  intro r row
  have hz : row.val = 0 + row.val := (Nat.zero_add _).symm
  have hr : r = 0 ∨ r = 1 ∨ r = 2 ∨ r = 3 := by omega
  rcases hr with rfl | rfl | rfl | rfl
  · refine ⟨fun l => ?_, fun d => ?_⟩
    · exact (covFM v23 p0 _ 0 row row l rfl hz).trans ((h 0 row).1 l)
    · exact (covFA v22 q0 _ 0 row row d rfl hz).trans ((h 0 row).2 d)
  · refine ⟨fun l => ?_, fun d => ?_⟩
    · exact (covFM v23 p1 _ 1 row row l rfl hz).trans <| (missHeadFM v23 _ x0 _ _ 1 row l (by decide)).trans ((h 1 row).1 l)
    · exact (covFA v22 q1 _ 1 row row d rfl hz).trans <| (missHeadFA v22 _ y0 _ _ 1 row d (by decide)).trans ((h 1 row).2 d)
  · refine ⟨fun l => ?_, fun d => ?_⟩
    · exact (covFM v23 p2 _ 2 row row l rfl hz).trans <| (missHeadFM v23 _ x1 _ _ 2 row l (by decide)).trans <| (missHeadFM v23 _ x0 _ _ 2 row l (by decide)).trans ((h 2 row).1 l)
    · exact (covFA v22 q2 _ 2 row row d rfl hz).trans <| (missHeadFA v22 _ y1 _ _ 2 row d (by decide)).trans <| (missHeadFA v22 _ y0 _ _ 2 row d (by decide)).trans ((h 2 row).2 d)
  · refine ⟨fun l => ?_, fun d => ?_⟩
    · exact (covFM v23 p3 _ 3 row row l rfl hz).trans <| (missHeadFM v23 _ x2 _ _ 3 row l (by decide)).trans <| (missHeadFM v23 _ x1 _ _ 3 row l (by decide)).trans <| (missHeadFM v23 _ x0 _ _ 3 row l (by decide)).trans ((h 3 row).1 l)
    · exact (covFA v22 q3 _ 3 row row d rfl hz).trans <| (missHeadFA v22 _ y2 _ _ 3 row d (by decide)).trans <| (missHeadFA v22 _ y1 _ _ 3 row d (by decide)).trans <| (missHeadFA v22 _ y0 _ _ 3 row d (by decide)).trans ((h 3 row).2 d)

end

end Cert.Attn

end
-- ==== Proof.Window.lean ====
/-
A block's sliding window: 768 keys from at most 512 before the rows, and the gated sum of the three branches.
-/
module

public import proofs.«01_k».proof.Proof.Gen.KernelIdeal.Skeleton
public import proofs.«01_k».proof.Proof.Scores
public import proofs.«01_k».proof.Proof.Slab
public import proofs.«01_k».proof.Proof.Online
public import proofs.«01_k».proof.Proof.Update
public import Idealize.ShloMosaic.Lib.KernelVsHost
public import Idealize.ShloMosaic.Lib.WordCmp

@[expose] public section

set_option maxRecDepth 16384

noncomputable section

namespace Cert.Attn

open Idealize.ShloMosaic Cert.KernelIdeal Cert.KernelIdeal.Gen

/-- A row's scores against 768 keys, the mask added. -/
def winS (q : FVec Ideal S256x128 .bf16) (k : FVec Ideal S768x128 .bf16) (b : FVec Ideal S256x768 .f32) : FVec Ideal S256x768 .f32 :=
  addf (matmul dot_S256x128_S768x128_S256x768_1_1_0_0_n_n none (shapeCast S256x128 q shapeCasts_S256x128_S256x128)
    (shapeCast S768x128 k shapeCasts_S768x128_S768x128) (constant S256x768 .f32 0x00000000#32)) b

/-- The values with ones beside them. -/
def winV (v : FVec Ideal S768x128 .bf16) : FVec Ideal S768x256 .bf16 :=
  concatenate S768x256 1 [⟨S768x128, shapeCast S768x128 v shapeCasts_S768x128_S768x128⟩,
    ⟨S768x128, broadcast S768x128 (Scalar.ofBits .bf16 0x3F80#16)⟩] concatenates_S768x128_S768x128_S768x256_d1

/-- The weighted sums of the values and of the ones. -/
def winA (s : FVec Ideal S256x768 .f32) (va : FVec Ideal S768x256 .bf16) : FVec Ideal S256x256 .f32 :=
  matmul dot_S256x768_S768x256_S256x256_1_0_0_1_n_n none
    (truncf .bf16 (exp2 (subf s (broadcastTo S256x768 (shapeCast S256x1 (multiReduction .maximumf [1] S256 s 0xFF800000#32
      reduces_S256x768_S256 (.inl rfl) rfl) shapeCasts_S256_S256x1) broadcasts_S256x1_S256x768))) bitsLt_bf16_f32) va
    (constant S256x256 .f32 0x00000000#32)

/-- The weighted sum over the weights' own sum. -/
def quot (a : FVec Ideal S256x256 .f32) : FVec Ideal S256x128 .f32 :=
  divf (extractStridedSlice S256x128 ![0, 0] a slices_S256x256_o0_0_S256x128)
    (maximumf (extractStridedSlice S256x128 ![0, 128] a slices_S256x256_o0_128_S256x128)
      (broadcast S256x128 (Scalar.ofBits .f32 0x0DA24260#32)))

/-- The smallest divisor. -/
def tiny : EReal := Ideal.ofBits .f32 0x0DA24260#32

theorem winS_apply (q : FVec Ideal S256x128 .bf16) (k : FVec Ideal S768x128 .bf16) (b : FVec Ideal S256x768 .f32) (x : Fin 256) (j : Fin 768) :
    winS q k b (ix2 x j) = (∑ c : Fin 128, q (ix2 x c) * k (ix2 j c)) + b (ix2 x j) := by
  unfold winS
  pointwise

theorem winV_apply (v : FVec Ideal S768x128 .bf16) (j : Fin 768) (d : Fin 256) :
    winV v (ix2 j d) = if h : d.val < 128 then v (ix2 j ⟨d.val, h⟩) else 1 := by
  unfold winV
  pointwise

theorem winA_apply (s : FVec Ideal S256x768 .f32) (va : FVec Ideal S768x256 .bf16) (x d : Fin 256) :
    winA s va (ix2 x d) = ∑ j : Fin 768, Ideal.exp2 (s (ix2 x j) - Finset.univ.sup fun j : Fin 768 => s (ix2 x j)) * va (ix2 j d) := by
  rw [← fold_max_eq_sup]
  unfold winA
  pointwise
  rfl

theorem quot_apply (a : FVec Ideal S256x256 .f32) (x : Fin 256) (d : Fin 128) :
    quot a (ix2 x d) = Ideal.div (a (ix2 x ⟨d.val, by omega⟩)) (max (a (ix2 x ⟨128 + d.val, by omega⟩)) tiny) := by
  unfold quot tiny
  pointwise

theorem sub_word (a b : ℕ) (ha : a < 2 ^ 20) (hb : b < 2 ^ 20) :
    IntOp.andi (IntOp.cmpi .sge (IntOp.subi (BitVec.ofNat 32 a) (BitVec.ofNat 32 b)) 0#32)
      (IntOp.cmpi .slt (IntOp.subi (BitVec.ofNat 32 a) (BitVec.ofNat 32 b)) 512#32)
      = if b ≤ a ∧ a < b + 512 then 1#1 else 0#1 := by
  have hn : (BitVec.ofNat 32 a - BitVec.ofNat 32 b).toNat = if b ≤ a then a - b else 2 ^ 32 + a - b := by
    rw [BitVec.toNat_sub, BitVec.toNat_ofNat, BitVec.toNat_ofNat]
    split_ifs <;> omega
  have hi : (BitVec.ofNat 32 a - BitVec.ofNat 32 b).toInt = (a : ℤ) - b := by
    rw [BitVec.toInt_eq_toNat_cond, hn]
    split_ifs <;> omega
  have h5 : (512#32).toInt = 512 := by decide
  have h0 : (0#32).toInt = 0 := by decide
  rw [WordCmp.cmpi_sge_eq, WordCmp.cmpi_slt_eq]
  rw [show IntOp.subi (BitVec.ofNat 32 a) (BitVec.ofNat 32 b) = BitVec.ofNat 32 a - BitVec.ofNat 32 b from rfl, hi, h5, h0]
  by_cases h1 : b ≤ a
  · by_cases h2 : a < b + 512
    · rw [if_pos ⟨h1, h2⟩, decide_eq_true (by omega), decide_eq_true (by omega)]; rfl
    · rw [if_neg (by omega), decide_eq_true (by omega), decide_eq_false (by omega)]; rfl
  · rw [if_neg (by omega), decide_eq_false (by omega), decide_eq_true (by omega)]; rfl

theorem sub_select (a b : ℕ) (ha : a < 2 ^ 20) (hb : b < 2 ^ 20) (p q : EReal) :
    Scalar.select (IntOp.andi (IntOp.cmpi .sge (IntOp.subi (BitVec.ofNat 32 a) (BitVec.ofNat 32 b)) 0#32)
      (IntOp.cmpi .slt (IntOp.subi (BitVec.ofNat 32 a) (BitVec.ofNat 32 b)) 512#32)) p q
      = if b ≤ a ∧ a < b + 512 then p else q := by
  rw [sub_word a b ha hb]
  by_cases h : b ≤ a ∧ a < b + 512
  · rw [if_pos h, if_pos h]; rfl
  · rw [if_neg h, if_neg h]; rfl

theorem bias0_apply (w : BitVec 32) (a b : ℕ) (h1 : Scalar.addi w 0#32 = BitVec.ofNat 32 a)
    (h2 : Scalar.maxsi (Scalar.subi (Scalar.addi w 0#32) 512#32) 0#32 = BitVec.ofNat 32 b) (ha : a < 8192) (hb : b < 8192)
    (x : Fin 256) (j : Fin 768) :
    (k0_pay342 (F := Ideal) w) (ix2 x j) = if b + j.val ≤ a + x.val ∧ a + x.val < b + j.val + 512 then 0 else ⊥ := by
  unfold k0_pay342
  rw [h1] at h2
  simp only [h1, h2]
  pointwise
  rw [show IntOp.addi (BitVec.ofNat 32 a) (BitVec.ofNat 32 x.val) = BitVec.ofNat 32 (a + x.val) from WordCmp.addi_ofNat _ _,
    show IntOp.addi (BitVec.ofNat 32 b) (BitVec.ofNat 32 j.val) = BitVec.ofNat 32 (b + j.val) from WordCmp.addi_ofNat _ _]
  exact sub_select _ _ (by omega) (by omega) _ _

theorem bias1_apply (w : BitVec 32) (a b : ℕ) (h1 : Scalar.addi w 256#32 = BitVec.ofNat 32 a)
    (h2 : Scalar.maxsi (Scalar.subi (Scalar.addi w 256#32) 512#32) 0#32 = BitVec.ofNat 32 b) (ha : a < 8192) (hb : b < 8192)
    (x : Fin 256) (j : Fin 768) :
    (k0_pay358 (F := Ideal) w (iota .tc S256x768 32 [0] iota_S256x768_d0_w32) (iota .tc S256x768 32 [1] iota_S256x768_d1_w32)) (ix2 x j)
      = if b + j.val ≤ a + x.val ∧ a + x.val < b + j.val + 512 then 0 else ⊥ := by
  unfold k0_pay358
  rw [h1] at h2
  simp only [h1, h2]
  pointwise
  rw [show IntOp.addi (BitVec.ofNat 32 a) (BitVec.ofNat 32 x.val) = BitVec.ofNat 32 (a + x.val) from WordCmp.addi_ofNat _ _,
    show IntOp.addi (BitVec.ofNat 32 b) (BitVec.ofNat 32 j.val) = BitVec.ofNat 32 (b + j.val) from WordCmp.addi_ofNat _ _]
  exact sub_select _ _ (by omega) (by omega) _ _

theorem gate_apply (g : ℕ) (hg : g < 4) (G : FVec Ideal S512x128 .f32) (row : Fin 512) (c : ℕ) (hc : c < 12) :
    (k0_pay339 (F := Ideal) (BitVec.ofNat 32 (64 + 12 * g)) G) (ix2 row ⟨c, by omega⟩) = Ideal.logistic (G (ix2 row ⟨64 + 12 * g + c, by omega⟩)) := by
  have hw : (Scalar.subi 128#32 (BitVec.ofNat 32 (64 + 12 * g))).toNat = 64 - 12 * g := by
    interval_cases g <;> decide
  unfold k0_pay339
  pointwise
  refine congrArg (fun y => Ideal.logistic (G (ix2 row y))) (Fin.ext ?_)
  show (c + 128 - (Scalar.subi 128#32 (BitVec.ofNat 32 (64 + 12 * g))).toNat % 128) % 128 = 64 + 12 * g + c
  rw [hw]
  omega

/-- The gated sum of a block's three branches. -/
def blk (o c0 c1 c2 : ℕ) (h : S512x128.Slices ![o, 0] S256x128) (h0 : S256x128.Slices ![0, c0] S256x1) (h1 : S256x128.Slices ![0, c1] S256x1)
    (h2 : S256x128.Slices ![0, c2] S256x1) (G : FVec Ideal S512x128 .f32) (w : FVec Ideal S256x256 .f32) (a : FVec Ideal S1x256x256 .f32)
    (oc : FVec Ideal S256x128 .bf16) : FVec Ideal S256x128 .bf16 :=
  truncf .bf16 (addf (addf
    (mulf (broadcastTo S256x128 (extractStridedSlice S256x1 ![0, c0] (extractStridedSlice S256x128 ![o, 0] G h) h0) broadcasts_S256x1_S256x128)
      (extf .f32 (shapeCast S256x128 oc shapeCasts_S256x128_S256x128) bitsLt_bf16_f32))
    (mulf (broadcastTo S256x128 (extractStridedSlice S256x1 ![0, c1] (extractStridedSlice S256x128 ![o, 0] G h) h1) broadcasts_S256x1_S256x128)
      (quot (shapeCast S256x256 a shapeCasts_S1x256x256_S256x256))))
    (mulf (broadcastTo S256x128 (extractStridedSlice S256x1 ![0, c2] (extractStridedSlice S256x128 ![o, 0] G h) h2) broadcasts_S256x1_S256x128)
      (quot w))) bitsLt_bf16_f32

theorem blk_apply (o c0 c1 c2 : ℕ) (h : S512x128.Slices ![o, 0] S256x128) (h0 : S256x128.Slices ![0, c0] S256x1) (h1 : S256x128.Slices ![0, c1] S256x1)
    (h2 : S256x128.Slices ![0, c2] S256x1) (G : FVec Ideal S512x128 .f32) (w : FVec Ideal S256x256 .f32) (a : FVec Ideal S1x256x256 .f32)
    (oc : FVec Ideal S256x128 .bf16) (ho : o ≤ 256) (hc : c0 < 128 ∧ c1 < 128 ∧ c2 < 128) (x : Fin 256) (d : Fin 128) :
    blk o c0 c1 c2 h h0 h1 h2 G w a oc (ix2 x d)
      = G (ix2 ⟨o + x.val, by omega⟩ ⟨c0, hc.1⟩) * oc (ix2 x d)
        + G (ix2 ⟨o + x.val, by omega⟩ ⟨c1, hc.2.1⟩) * Ideal.div (a (ix3 0 x ⟨d.val, by omega⟩)) (max (a (ix3 0 x ⟨128 + d.val, by omega⟩)) tiny)
        + G (ix2 ⟨o + x.val, by omega⟩ ⟨c2, hc.2.2⟩) * Ideal.div (w (ix2 x ⟨d.val, by omega⟩)) (max (w (ix2 x ⟨128 + d.val, by omega⟩)) tiny) := by
  unfold blk
  pointwise
  rw [quot_apply, quot_apply]
  pointwise

/-- The keys of a table, zero past its end. -/
def tbl (x : FVec Ideal S8192x128 .bf16) (k : ℕ) (d : Fin 128) : EReal := if h : k < 8192 then x (ix2 ⟨k, h⟩ d) else 0

/-- A weighted sum of values over the weights' sum. -/
def att (T : ℕ → EReal) (W : ℕ → Fin 128 → EReal) (d : Fin 128) : EReal :=
  Ideal.div (rowSum T (fun k => W k d) 8192) (max (rowSum T (fun _ => 1) 8192) tiny)

theorem rowSum_shift (T V : ℕ → EReal) (b n N : ℕ) (hb : b + n ≤ N) (hT : ∀ k, k < N → (k < b ∨ b + n ≤ k) → T k = ⊥) :
    ∑ j : Fin n, Ideal.exp2 (T (b + j.val) - Finset.univ.sup fun j : Fin n => T (b + j.val)) * V (b + j.val) = rowSum T V N := by
  have hm : (Finset.univ.sup fun j : Fin n => T (b + j.val)) = rowMax T N := by
    apply le_antisymm
    · exact Finset.sup_le fun j _ => le_rowMax T (by have := j.isLt; omega)
    · refine Finset.sup_le fun k hk => ?_
      have hk' := Finset.mem_range.1 hk
      by_cases h : k < b ∨ b + n ≤ k
      · rw [hT k hk' h]; exact bot_le
      · have := Finset.le_sup (f := fun j : Fin n => T (b + j.val)) (Finset.mem_univ ⟨k - b, by omega⟩)
        have e : b + (k - b) = k := by omega
        simpa [e] using this
  rw [hm]
  unfold rowSum
  rw [← Finset.sum_subset (s₁ := Finset.Ico b (b + n)) (fun k hk => Finset.mem_range.2 (by have := Finset.mem_Ico.1 hk; omega))
    (fun k hk hk' => by
      rw [hT k (Finset.mem_range.1 hk) (by rw [Finset.mem_Ico] at hk'; omega), EReal.bot_sub, Ideal.exp2_bot, zero_mul]),
    Finset.sum_Ico_eq_sum_range, Nat.add_sub_cancel_left, Finset.sum_range]

theorem rowSum_extend (T V : ℕ → EReal) (n N : ℕ) (hn : n ≤ N) (hT : ∀ k, k < N → n ≤ k → T k = ⊥) : rowSum T V n = rowSum T V N := by
  rw [← rowSum_shift T V 0 n N (by omega) (fun k hk h => hT k hk (by omega))]
  unfold rowSum rowMax
  rw [Finset.sum_range]
  have hm : (Finset.range n).sup T = Finset.univ.sup fun j : Fin n => T (0 + j.val) := by
    apply le_antisymm
    · refine Finset.sup_le fun k hk => ?_
      have := Finset.le_sup (f := fun j : Fin n => T (0 + j.val)) (Finset.mem_univ ⟨k, Finset.mem_range.1 hk⟩)
      simpa using this
    · refine Finset.sup_le fun j _ => ?_
      rw [Nat.zero_add]
      exact Finset.le_sup (f := T) (Finset.mem_range.2 j.isLt)
  rw [hm]
  exact Finset.sum_congr rfl fun j _ => by rw [Nat.zero_add]

/-- The window's sums over its 768 keys are those over all keys, the rest masked. -/
theorem win_sum (q : FVec Ideal S256x128 .bf16) (k v : FVec Ideal S768x128 .bf16) (bias : FVec Ideal S256x768 .f32) (K W : ℕ → Fin 128 → EReal)
    (a b : ℕ) (hk : ∀ j d, k (ix2 j d) = K (b + j.val) d) (hv : ∀ j d, v (ix2 j d) = W (b + j.val) d)
    (hbias : ∀ x j, bias (ix2 x j) = if b + j.val ≤ a + x.val ∧ a + x.val < b + j.val + 512 then 0 else ⊥)
    (hb : b = a - 512) (ha : a + 256 ≤ 8192) (x : Fin 256) (d : Fin 256) :
    winA (winS q k bias) (winV v) (ix2 x d)
      = rowSum (fun k => if k ≤ a + x.val ∧ a + x.val < k + 512 then ∑ c : Fin 128, q (ix2 x c) * K k c else ⊥) (fun k => valRow W k d) 8192 := by
  rw [winA_apply, ← rowSum_shift _ _ b 768 8192 (by omega) (fun k hk h => by
    have := x.isLt
    exact if_neg (by omega))]
  have hs : ∀ j : Fin 768, winS q k bias (ix2 x j)
      = if b + j.val ≤ a + x.val ∧ a + x.val < b + j.val + 512 then ∑ c : Fin 128, q (ix2 x c) * K (b + j.val) c else ⊥ := fun j => by
    rw [winS_apply, hbias]
    by_cases h : b + j.val ≤ a + x.val ∧ a + x.val < b + j.val + 512
    · rw [if_pos h, if_pos h, add_zero]
      exact Finset.sum_congr rfl fun c _ => by rw [hk]
    · rw [if_neg h, if_neg h, EReal.add_bot]
  simp only [hs]
  refine Finset.sum_congr rfl fun j _ => ?_
  congr 1
  rw [winV_apply]
  unfold valRow
  by_cases h : d.val < 128
  · rw [dif_pos h, dif_pos h, hv]
  · rw [dif_neg h, dif_neg h]

section
variable {sig : RefSig} {κ : Kind} {sp : Space} (v : View sig κ sp S512x512 .bf16) (f : v.ty.Contents (Elt Ideal)) {o p : ℕ}
  (inb : ∀ a, (![o, p] : Fin 2 → ℕ) a + S256x128.size a ≤ S512x512.size a)
  (w : (Rect.unit (s := S512x512) ![o, p] S256x128.size inb).shape.Idx → EReal) (L : List (View.Piece (Elt Ideal) S512x512 .bf16))

theorem hitO (row col : Fin 512) (x : Fin 256) (d : Fin 128) (hr : row.val = o + x.val) (hx : col.val = p + d.val) :
    v.read (Elt Ideal) (v.writes (Elt Ideal) f (⟨Rect.unit ![o, p] S256x128.size inb, w⟩ :: L)) (ix2 row col) = w (ix2 x d) :=
  View.read_writes_cons_unit_of_mem v f inb w L (ix2 row col) (ix2 x d) rfl fun a => by
    match a with
    | ⟨0, _⟩ => exact hr
    | ⟨1, _⟩ => exact hx

theorem missRowO (row col : Fin 512) (hr : row.val < o ∨ o + 256 ≤ row.val) :
    v.read (Elt Ideal) (v.writes (Elt Ideal) f (⟨Rect.unit ![o, p] S256x128.size inb, w⟩ :: L)) (ix2 row col)
      = v.read (Elt Ideal) (v.writes (Elt Ideal) f L) (ix2 row col) :=
  View.read_writes_cons_unit_of_not_mem v f inb w L (ix2 row col) rfl ⟨0, by decide⟩ (by
    show row.val < o ∨ o + 256 ≤ row.val
    exact hr)

theorem missColO (row col : Fin 512) (hr : col.val < p ∨ p + 128 ≤ col.val) :
    v.read (Elt Ideal) (v.writes (Elt Ideal) f (⟨Rect.unit ![o, p] S256x128.size inb, w⟩ :: L)) (ix2 row col)
      = v.read (Elt Ideal) (v.writes (Elt Ideal) f L) (ix2 row col) :=
  View.read_writes_cons_unit_of_not_mem v f inb w L (ix2 row col) rfl ⟨1, by decide⟩ (by
    show col.val < p ∨ p + 128 ≤ col.val
    exact hr)

/-- A loaded part of a block. -/
theorem load2 (row col : Fin 512) (x : Fin 256) (d : Fin 128) (hr : row.val = o + x.val) (hx : col.val = p + d.val) :
    v.readAt (Elt Ideal) (Rect.unit (s := S512x512) ![o, p] S256x128.size inb).toLoadRect f (ix2 x d) = v.read (Elt Ideal) f (ix2 row col) :=
  congrArg (v.read (Elt Ideal) f) (funext fun a => Fin.ext (by
    match a with
    | ⟨0, _⟩ =>
      show o + 1 * x.val = row.val
      omega
    | ⟨1, _⟩ =>
      show p + 1 * d.val = col.val
      omega))
end

/-- Eight stored parts make up a block. -/
theorem out8 {sig : RefSig} {κ : Kind} {sp : Space} (v : View sig κ sp S512x512 .bf16) (f : v.ty.Contents (Elt Ideal)) (O : Fin 4 → Fin 512 → Fin 128 → EReal)
    {w00 w01 w02 w03 w10 w11 w12 w13 : FVec Ideal S256x128 .bf16}
    (p00 p01 p02 p03 p10 p11 p12 p13 : _)
    (e00 : ∀ x d, w00 (ix2 x d) = O 0 ⟨0 + x.val, by omega⟩ d)
    (e01 : ∀ x d, w01 (ix2 x d) = O 1 ⟨0 + x.val, by omega⟩ d)
    (e02 : ∀ x d, w02 (ix2 x d) = O 2 ⟨0 + x.val, by omega⟩ d)
    (e03 : ∀ x d, w03 (ix2 x d) = O 3 ⟨0 + x.val, by omega⟩ d)
    (e10 : ∀ x d, w10 (ix2 x d) = O 0 ⟨256 + x.val, by omega⟩ d)
    (e11 : ∀ x d, w11 (ix2 x d) = O 1 ⟨256 + x.val, by omega⟩ d)
    (e12 : ∀ x d, w12 (ix2 x d) = O 2 ⟨256 + x.val, by omega⟩ d)
    (e13 : ∀ x d, w13 (ix2 x d) = O 3 ⟨256 + x.val, by omega⟩ d)
    (r : Fin 4) (row : Fin 512) (d : Fin 128) :
    v.read (Elt Ideal) (v.writes (Elt Ideal) f [⟨Rect.unit (s := S512x512) ![256, 384] S256x128.size p13, w13⟩, ⟨Rect.unit (s := S512x512) ![256, 256] S256x128.size p12, w12⟩, ⟨Rect.unit (s := S512x512) ![256, 128] S256x128.size p11, w11⟩, ⟨Rect.unit (s := S512x512) ![256, 0] S256x128.size p10, w10⟩, ⟨Rect.unit (s := S512x512) ![0, 384] S256x128.size p03, w03⟩, ⟨Rect.unit (s := S512x512) ![0, 256] S256x128.size p02, w02⟩, ⟨Rect.unit (s := S512x512) ![0, 128] S256x128.size p01, w01⟩, ⟨Rect.unit (s := S512x512) ![0, 0] S256x128.size p00, w00⟩]) (ix2 row ⟨128 * r.val + d.val, by omega⟩) = O r row d := by
  by_cases h : row.val < 256
  · have hrow : row = (⟨0 + (⟨row.val, h⟩ : Fin 256).val, by show 0 + row.val < 512; omega⟩ : Fin 512) := Fin.ext (by show row.val = 0 + row.val; omega)
    rw [missRowO v f _ _ _ row _ (by omega), missRowO v f _ _ _ row _ (by omega), missRowO v f _ _ _ row _ (by omega), missRowO v f _ _ _ row _ (by omega)]
    match r with
    | ⟨0, _⟩ =>
      refine (missColO v f _ _ _ row _ (by show 128 * 0 + d.val < _ ∨ _; omega)).trans ?_
      refine (missColO v f _ _ _ row _ (by show 128 * 0 + d.val < _ ∨ _; omega)).trans ?_
      refine (missColO v f _ _ _ row _ (by show 128 * 0 + d.val < _ ∨ _; omega)).trans ?_
      exact (hitO v f _ _ _ row _ ⟨row.val, h⟩ d (by show row.val = 0 + row.val; omega) rfl).trans ((e00 ⟨row.val, h⟩ d).trans (congrArg (fun y => O 0 y d) hrow.symm))
    | ⟨1, _⟩ =>
      refine (missColO v f _ _ _ row _ (by show 128 * 1 + d.val < _ ∨ _; omega)).trans ?_
      refine (missColO v f _ _ _ row _ (by show 128 * 1 + d.val < _ ∨ _; omega)).trans ?_
      exact (hitO v f _ _ _ row _ ⟨row.val, h⟩ d (by show row.val = 0 + row.val; omega) rfl).trans ((e01 ⟨row.val, h⟩ d).trans (congrArg (fun y => O 1 y d) hrow.symm))
    | ⟨2, _⟩ =>
      refine (missColO v f _ _ _ row _ (by show 128 * 2 + d.val < _ ∨ _; omega)).trans ?_
      exact (hitO v f _ _ _ row _ ⟨row.val, h⟩ d (by show row.val = 0 + row.val; omega) rfl).trans ((e02 ⟨row.val, h⟩ d).trans (congrArg (fun y => O 2 y d) hrow.symm))
    | ⟨3, _⟩ =>
      exact (hitO v f _ _ _ row _ ⟨row.val, h⟩ d (by show row.val = 0 + row.val; omega) rfl).trans ((e03 ⟨row.val, h⟩ d).trans (congrArg (fun y => O 3 y d) hrow.symm))
  · have hrow : row = (⟨256 + (⟨row.val - 256, by omega⟩ : Fin 256).val, by show 256 + (row.val - 256) < 512; omega⟩ : Fin 512) := Fin.ext (by show row.val = 256 + (row.val - 256); omega)
    match r with
    | ⟨0, _⟩ =>
      refine (missColO v f _ _ _ row _ (by show 128 * 0 + d.val < _ ∨ _; omega)).trans ?_
      refine (missColO v f _ _ _ row _ (by show 128 * 0 + d.val < _ ∨ _; omega)).trans ?_
      refine (missColO v f _ _ _ row _ (by show 128 * 0 + d.val < _ ∨ _; omega)).trans ?_
      exact (hitO v f _ _ _ row _ ⟨row.val - 256, by omega⟩ d (by show row.val = 256 + (row.val - 256); omega) rfl).trans ((e10 ⟨row.val - 256, by omega⟩ d).trans (congrArg (fun y => O 0 y d) hrow.symm))
    | ⟨1, _⟩ =>
      refine (missColO v f _ _ _ row _ (by show 128 * 1 + d.val < _ ∨ _; omega)).trans ?_
      refine (missColO v f _ _ _ row _ (by show 128 * 1 + d.val < _ ∨ _; omega)).trans ?_
      exact (hitO v f _ _ _ row _ ⟨row.val - 256, by omega⟩ d (by show row.val = 256 + (row.val - 256); omega) rfl).trans ((e11 ⟨row.val - 256, by omega⟩ d).trans (congrArg (fun y => O 1 y d) hrow.symm))
    | ⟨2, _⟩ =>
      refine (missColO v f _ _ _ row _ (by show 128 * 2 + d.val < _ ∨ _; omega)).trans ?_
      exact (hitO v f _ _ _ row _ ⟨row.val - 256, by omega⟩ d (by show row.val = 256 + (row.val - 256); omega) rfl).trans ((e12 ⟨row.val - 256, by omega⟩ d).trans (congrArg (fun y => O 2 y d) hrow.symm))
    | ⟨3, _⟩ =>
      exact (hitO v f _ _ _ row _ ⟨row.val - 256, by omega⟩ d (by show row.val = 256 + (row.val - 256); omega) rfl).trans ((e13 ⟨row.val - 256, by omega⟩ d).trans (congrArg (fun y => O 3 y d) hrow.symm))

end Cert.Attn

end
-- ==== Proof.Soft.lean ====
/-
Attention in base e, each weight divided by the weights' sum, is attention in base two divided once.
-/
module

public import proofs.«01_k».proof.Proof.Window

@[expose] public section

noncomputable section

namespace Cert.Attn

open Idealize.ShloMosaic

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem tiny_pos : ∃ t : ℝ, 0 < t ∧ tiny = (t : EReal) := by
  unfold tiny
  refine ⟨(Ideal.ofBits .f32 0x0DA24260#32).toReal, ?_, ?_⟩
  · simp [Ideal.ofBits, Ideal.ieee, -EReal.coe_mul]
  · simp [Ideal.ofBits, Ideal.ieee, -EReal.coe_mul]

theorem sqrt_128 : Ideal.sqrt (Ideal.ofBits .f32 0x43000000#32) = ((Real.sqrt 128 : ℝ) : EReal) := by
  rw [ofBits_128, Ideal.sqrt_coe, if_neg (by norm_num)]

theorem log_2 : Ideal.log (Ideal.ofBits .f32 0x40000000#32) = ((Real.log 2 : ℝ) : EReal) := by
  rw [ofBits_2]
  show (if (2 : ℝ) ≤ 0 then (⊥ : EReal) else (Real.log 2 : EReal)) = _
  rw [if_neg (by norm_num)]

theorem log2_pos : 0 < Real.log 2 := Real.log_pos (by norm_num)

theorem exp_scale (x : EReal) : Ideal.exp (x * (Real.log 2 : ℝ)) = Ideal.exp2 x := by
  induction x with
  | bot => rw [EReal.bot_mul_coe_of_pos log2_pos]; rfl
  | top => rw [EReal.top_mul_coe_of_pos log2_pos]; rfl
  | coe r =>
    rw [← EReal.coe_mul]
    show ((Real.exp (r * Real.log 2) : ℝ) : EReal) = ((Real.rpow 2 r : ℝ) : EReal)
    congr 1
    rw [show Real.rpow 2 r = (2 : ℝ) ^ r from rfl, Real.rpow_def_of_pos (by norm_num), mul_comm]

theorem sub_scale (t m : EReal) : t * (Real.log 2 : ℝ) - m * (Real.log 2 : ℝ) = (t - m) * (Real.log 2 : ℝ) := by
  rw [sub_eq_add_neg, sub_eq_add_neg, ← EReal.neg_mul,
    EReal.right_distrib_of_nonneg_of_ne_top (by exact_mod_cast log2_pos.le) (EReal.coe_ne_top _)]

/-- A weight is a real that is not negative. -/
theorem weight_real (x m : EReal) (h : x ≤ m) : ∃ r : ℝ, 0 ≤ r ∧ Ideal.exp2 (x - m) = (r : EReal) := by
  induction m with
  | bot => rw [le_bot_iff.1 h]; exact ⟨0, le_refl _, rfl⟩
  | top => rw [EReal.sub_top]; exact ⟨0, le_refl _, rfl⟩
  | coe m =>
    induction x with
    | bot => exact ⟨0, le_refl _, rfl⟩
    | top => exact absurd h (by simp)
    | coe r =>
      rw [← EReal.coe_sub]
      exact ⟨Real.rpow 2 (r - m), Real.rpow_nonneg (by norm_num) _, rfl⟩

theorem fold_max (T : ℕ → EReal) (s : Fin 8192 → EReal) (hs : ∀ k : Fin 8192, s k = T k.val * (Real.log 2 : ℝ)) :
    Finset.fold max ⊥ s Finset.univ = rowMax T 8192 * (Real.log 2 : ℝ) := by
  have hmono : Monotone fun x : EReal => x * (Real.log 2 : ℝ) := fun a b h =>
    mul_le_mul_of_nonneg_right h (by exact_mod_cast log2_pos.le)
  show Finset.univ.sup s = _
  unfold rowMax
  apply le_antisymm
  · refine Finset.sup_le fun k _ => ?_
    rw [hs]
    exact hmono (Finset.le_sup (f := T) (Finset.mem_range.2 k.isLt))
  · have h := Finset.comp_sup_eq_sup_comp (s := Finset.range 8192) (f := T) (fun x : EReal => x * (Real.log 2 : ℝ))
      (fun a b => hmono.map_sup a b) (EReal.bot_mul_coe_of_pos log2_pos)
    rw [show (Finset.range 8192).sup T * (Real.log 2 : ℝ) = (Finset.range 8192).sup ((fun x : EReal => x * (Real.log 2 : ℝ)) ∘ T) from h]
    refine Finset.sup_le fun k hk => ?_
    have hk' : k < 8192 := Finset.mem_range.1 hk
    have := Finset.le_sup (f := s) (Finset.mem_univ (⟨k, hk'⟩ : Fin 8192))
    rw [hs] at this
    exact this

/-- The reference's attention of a row is `att` of the scores in base two. -/
theorem soft_att (T : ℕ → EReal) (W : ℕ → Fin 128 → EReal) (d : Fin 128) (s N v : Fin 8192 → EReal)
    (hs : ∀ k : Fin 8192, s k = T k.val * (Real.log 2 : ℝ)) (hN : ∀ k : Fin 8192, N k = 1 ∨ N k = 0 ∧ T k.val = ⊥) (hv : ∀ k : Fin 8192, v k = W k.val d) :
    ∑ x, Ideal.div (Ideal.exp (s x - Finset.fold max ⊥ s Finset.univ) * N x)
        (max (∑ x, Ideal.exp (s x - Finset.fold max ⊥ s Finset.univ) * N x) tiny) * v x = att T W d := by
  have he : ∀ x : Fin 8192, Ideal.exp (s x - Finset.fold max ⊥ s Finset.univ) * N x = Ideal.exp2 (T x.val - rowMax T 8192) := fun x => by
    rw [fold_max T s hs, hs, sub_scale, exp_scale]
    rcases hN x with h | ⟨h, hT⟩
    · rw [h, mul_one]
    · rw [h, mul_zero, hT, EReal.bot_sub]; rfl
  simp only [he, hv]
  have hsum : ∑ x : Fin 8192, Ideal.exp2 (T x.val - rowMax T 8192) = rowSum T (fun _ => 1) 8192 := by
    unfold rowSum
    rw [Finset.sum_range]
    exact Finset.sum_congr rfl fun _ _ => (mul_one _).symm
  rw [hsum]
  unfold att
  have hD : ∃ D : ℝ, 0 < D ∧ max (rowSum T (fun _ => 1) 8192) tiny = (D : EReal) := by
    obtain ⟨t, ht, htt⟩ := tiny_pos
    have hw : ∃ r : ℝ, rowSum T (fun _ => 1) 8192 = (r : EReal) := by
      rw [← hsum]
      choose f _ hf using fun x : Fin 8192 => weight_real (T x.val) (rowMax T 8192) (le_rowMax T x.isLt)
      refine ⟨∑ x, f x, ?_⟩
      rw [Finset.sum_congr rfl fun x _ => hf x]
      exact (map_sum (⟨⟨((↑) : ℝ → EReal), EReal.coe_zero⟩, EReal.coe_add⟩ : ℝ →+ EReal) f Finset.univ).symm
    obtain ⟨r, hr⟩ := hw
    refine ⟨max r t, lt_max_of_lt_right ht, ?_⟩
    rw [hr, htt]
    exact (EReal.coe_strictMono.monotone.map_max).symm
  obtain ⟨D, hD0, hD⟩ := hD
  rw [hD, Ideal.div_coe hD0.ne']
  unfold rowSum
  rw [sum_mul_coe _ _ _ (by positivity), Finset.sum_range]
  refine Finset.sum_congr rfl fun x _ => ?_
  rw [Ideal.div_coe hD0.ne', mul_right_comm]

/-- A score in base two, in base e. -/
theorem score_scale (q k : Fin 128 → EReal) :
    (∑ c, Ideal.div (q c) (Ideal.sqrt (Ideal.ofBits .f32 0x43000000#32) * Ideal.log (Ideal.ofBits .f32 0x40000000#32)) * k c) * (Real.log 2 : ℝ)
      = Ideal.div (∑ c, q c * k c) (Ideal.sqrt (Ideal.ofBits .f32 0x43000000#32)) := by
  have hs : 0 < Real.sqrt 128 := Real.sqrt_pos.2 (by norm_num)
  have hp : 0 < Real.sqrt 128 * Real.log 2 := mul_pos hs log2_pos
  rw [sqrt_128, log_2, ← EReal.coe_mul, Ideal.div_coe hs.ne']
  have h : ∀ c, Ideal.div (q c) ((Real.sqrt 128 * Real.log 2 : ℝ) : EReal) * k c = q c * k c * ((1 / (Real.sqrt 128 * Real.log 2) : ℝ) : EReal) := fun c => by
    rw [Ideal.div_coe hp.ne', mul_right_comm]
  simp only [h]
  rw [← sum_mul_coe _ _ _ (by positivity), mul_assoc, ← EReal.coe_mul]
  congr 2
  have := log2_pos.ne'
  field_simp

end Cert.Attn

end
-- ==== Proof.Head.lean ====
/-
One entry of the result, of the argument arrays.
-/
module

public import proofs.«01_k».proof.Proof.Soft

@[expose] public section

noncomputable section

namespace Cert.Attn

open Idealize.ShloMosaic Cert.KernelIdeal Cert.KernelIdeal.Gen

/-- The keys or values of a group, one row each. -/
def vals (a : FVec Ideal S8192x512 .f32) (g : Fin 4) (k : ℕ) (d : Fin 128) : EReal :=
  if h : k < 8192 then a (ix2 ⟨k, h⟩ ⟨128 * g.val + d.val, by omega⟩) else 0

/-- A query's score of a key, in base two. -/
def dotT (a0 : FVec Ideal S8192x2048 .f32) (a : FVec Ideal S8192x512 .f32) (g r : Fin 4) (row : Fin 8192) (k : ℕ) : EReal :=
  ∑ c : Fin 128, Ideal.div (a0 (ix2 row ⟨512 * g.val + 128 * r.val + c.val, by omega⟩))
    (Ideal.sqrt (Ideal.ofBits .f32 0x43000000#32) * Ideal.log (Ideal.ofBits .f32 0x40000000#32)) * vals a g k c

/-- The scores of the chosen blocks' keys. -/
def selK (a0 : FVec Ideal S8192x2048 .f32) (a1 : FVec Ideal S8192x512 .f32) (a5 : IVec S4x8192x128 32) (g r : Fin 4) (row : Fin 8192) (k : ℕ) : EReal :=
  if a5 (ix3 g row ⟨k / 64 % 128, Nat.mod_lt _ (by omega)⟩) ≠ 0#32 ∧ k ≤ row.val then dotT a0 a1 g r row k else ⊥

/-- The scores of the window's keys. -/
def winK (a0 : FVec Ideal S8192x2048 .f32) (a3 : FVec Ideal S8192x512 .f32) (g r : Fin 4) (row : Fin 8192) (k : ℕ) : EReal :=
  if k ≤ row.val ∧ row.val < k + 512 then dotT a0 a3 g r row k else ⊥

/-- One entry: the three branches, each times its gate. -/
def headVal (a0 : FVec Ideal S8192x2048 .f32) (a1 a2 a3 a4 : FVec Ideal S8192x512 .f32) (a5 : IVec S4x8192x128 32)
    (a6 : FVec Ideal S8192x2048 .f32) (a7 : FVec Ideal S8192x48 .f32) (g r : Fin 4) (row : Fin 8192) (d : Fin 128) : EReal :=
  Ideal.logistic (a7 (ix2 row ⟨12 * g.val + 3 * r.val, by omega⟩)) * a6 (ix2 row ⟨512 * g.val + 128 * r.val + d.val, by omega⟩)
    + Ideal.logistic (a7 (ix2 row ⟨12 * g.val + 3 * r.val + 1, by omega⟩)) * att (selK a0 a1 a5 g r row) (vals a2 g) d
    + Ideal.logistic (a7 (ix2 row ⟨12 * g.val + 3 * r.val + 2, by omega⟩)) * att (winK a0 a3 g r row) (vals a4 g) d

/-- The result array. -/
def result (a0 : FVec Ideal S8192x2048 .f32) (a1 a2 a3 a4 : FVec Ideal S8192x512 .f32) (a5 : IVec S4x8192x128 32)
    (a6 : FVec Ideal S8192x2048 .f32) (a7 : FVec Ideal S8192x48 .f32) : FVec Ideal S8192x2048 .bf16 := fun i =>
  headVal a0 a1 a2 a3 a4 a5 a6 a7 ⟨(i 1).val / 512, by have := (i 1).isLt; show (i 1).val / 512 < 4; have h : (i 1).val < 2048 := this; omega⟩
    ⟨(i 1).val % 512 / 128, by omega⟩ (i 0) ⟨(i 1).val % 128, by omega⟩

theorem result_apply (a0 : FVec Ideal S8192x2048 .f32) (a1 a2 a3 a4 : FVec Ideal S8192x512 .f32) (a5 : IVec S4x8192x128 32)
    (a6 : FVec Ideal S8192x2048 .f32) (a7 : FVec Ideal S8192x48 .f32) (g r : Fin 4) (row : Fin 8192) (d : Fin 128) :
    result a0 a1 a2 a3 a4 a5 a6 a7 (ix2 row ⟨512 * g.val + 128 * r.val + d.val, by omega⟩) = headVal a0 a1 a2 a3 a4 a5 a6 a7 g r row d := by
  unfold result
  congr 1
  · exact Fin.ext (by show (512 * g.val + 128 * r.val + d.val) / 512 = g.val; omega)
  · exact Fin.ext (by show (512 * g.val + 128 * r.val + d.val) % 512 / 128 = r.val; omega)
  · exact Fin.ext (by show (512 * g.val + 128 * r.val + d.val) % 128 = d.val; omega)

/-- Every index of the result is a row, a head of a group and a place in the head. -/
theorem index_split (i : S8192x2048.Idx) : ∃ (g r : Fin 4) (row : Fin 8192) (d : Fin 128),
    i = ix2 row ⟨512 * g.val + 128 * r.val + d.val, by omega⟩ := by
  have h : (i 1).val < 2048 := (i 1).isLt
  refine ⟨⟨(i 1).val / 512, by omega⟩, ⟨(i 1).val % 512 / 128, by omega⟩, i 0, ⟨(i 1).val % 128, by omega⟩, ?_⟩
  funext a
  match a with
  | ⟨0, _⟩ => rfl
  | ⟨1, _⟩ => exact Fin.ext (by show (i 1).val = 512 * ((i 1).val / 512) + 128 * ((i 1).val % 512 / 128) + (i 1).val % 128; omega)

end Cert.Attn

end
-- ==== Proof.Ref.lean ====
/-
The reference's attention at an index.
-/
module

public import proofs.«01_k».proof.Proof.Gen.ReferenceIdeal.Run
public import proofs.«01_k».proof.Proof.Head

@[expose] public section

set_option maxRecDepth 16384
set_option maxHeartbeats 1000000

noncomputable section

namespace Cert.Attn.Ref

open Idealize.ShloMosaic Cert.ReferenceIdeal Cert.ReferenceIdeal.Gen
open Idealize.ShloMosaic.TcCoe

/-- The keys a row of a group may see: those of its chosen blocks, up to itself. -/
def selM (a5 : IVec S4x8192x128 32) : IVec S4x1x8192x8192 1 :=
  broadcastInDim S4x1x8192x8192 ![0, 2, 3] bcast_S4x8192x8192_S4x1x8192x8192_0_2_3
    (andi (cmpi .ne (shapeCast _ (broadcastInDim S4x8192x128x64 ![0, 1, 2] bcast_S4x8192x128_S4x8192x128x64_0_1_2 a5) shapeCasts_S4x8192x128x64_S4x8192x8192)
        (broadcastInDim S4x8192x8192 ![] bcast_S_S4x8192x8192 (constantI S_ 32 0#32)))
      (broadcastInDim S4x8192x8192 ![0, 1, 2] bcast_S1x8192x8192_S4x8192x8192_0_1_2
        (broadcastInDim S1x8192x8192 ![1, 2] bcast_S8192x8192_S1x8192x8192_1_2 (cmpi .sle (iotaInDim S8192x8192 32 1) (iotaInDim S8192x8192 32 0)))))

/-- The keys a row may see in the window: the 512 last ones up to itself. -/
def winM : IVec S8192x8192 1 :=
  andi (cmpi .sge (subi (iotaInDim S8192x8192 32 0) (iotaInDim S8192x8192 32 1)) (broadcastInDim S8192x8192 ![] bcast_S_S8192x8192 (constantI S_ 32 0#32)))
    (cmpi .slt (subi (iotaInDim S8192x8192 32 0) (iotaInDim S8192x8192 32 1)) (broadcastInDim S8192x8192 ![] bcast_S_S8192x8192 (constantI S_ 32 512#32)))

theorem selM_apply (a5 : IVec S4x8192x128 32) (g : Fin 4) (row k : Fin 8192) :
    selM a5 (ix4 g 0 row k) = if a5 (ix3 g row ⟨k.val / 64, by omega⟩) ≠ 0#32 ∧ k.val ≤ row.val then 1#1 else 0#1 := by
  unfold selM
  pointwise
  rw [WordCmp.cmpi_ne_eq, WordCmp.cmpi_sle_ofNat (by omega) (by omega), WordCmp.andi_ofBool]
  by_cases h1 : a5 (ix3 g row ⟨k.val / 64, by omega⟩) ≠ 0#32
  · by_cases h2 : k.val ≤ row.val
    · rw [if_pos ⟨h1, h2⟩, decide_eq_true h1, decide_eq_true h2]; rfl
    · rw [if_neg (fun h => h2 h.2), decide_eq_false h2, Bool.and_false]; rfl
  · rw [if_neg (fun h => h1 h.1), decide_eq_false h1, Bool.false_and]; rfl

theorem winM_apply (row k : Fin 8192) :
    winM (ix2 row k) = if k.val ≤ row.val ∧ row.val < k.val + 512 then 1#1 else 0#1 := by
  unfold winM
  pointwise
  exact sub_word row.val k.val (by omega) (by omega)

/-- The scores. -/
def scr (a0 : FVec Ideal S8192x2048 .f32) (a1 : FVec Ideal S8192x512 .f32) : FVec Ideal S4x4x8192x8192 .f32 :=
  Host.divf (Host.dotGeneral dot_S4x4x8192x128_S4x8192x128_S4x4x8192x8192_3_2_12_1_0_0 none
      (transpose S4x4x8192x128 [1, 2, 0, 3] (shapeCast _ a0 shapeCasts_S8192x2048_S8192x4x4x128) transposes_S8192x4x4x128_S4x4x8192x128_1_2_0_3)
      (transpose S4x8192x128 [1, 0, 2] (shapeCast _ a1 shapeCasts_S8192x512_S8192x4x128) transposes_S8192x4x128_S4x8192x128_1_0_2))
    (broadcastInDim S4x4x8192x8192 ![] bcast_S_S4x4x8192x8192 (Host.sqrt (constant S_ .f32 0x43000000#32)))

theorem scr_apply (a0 : FVec Ideal S8192x2048 .f32) (a1 : FVec Ideal S8192x512 .f32) (g r : Fin 4) (row k : Fin 8192) :
    scr a0 a1 (ix4 g r row k) = Ideal.div (∑ c : Fin 128, a0 (ix2 row ⟨512 * g.val + 128 * r.val + c.val, by omega⟩) * a1 (ix2 k ⟨128 * g.val + c.val, by omega⟩))
      (Ideal.sqrt (Ideal.ofBits .f32 0x43000000#32)) := by
  unfold scr
  pointwise
  simp only [Nat.mul_comm]

/-- The weights of the keys under a mask. -/
def soft (M : IVec S4x4x8192x8192 1) (N s : FVec Ideal S4x4x8192x8192 .f32) : FVec Ideal S4x4x8192x8192 .f32 :=
  mulf (Host.exp (subf (select M s (broadcastInDim S4x4x8192x8192 ![] bcast_S_S4x4x8192x8192 (id (constant S_ .f32 0xFF800000#32))))
    (broadcastInDim S4x4x8192x8192 ![0, 1, 2, 3] bcast_S4x4x8192x1_S4x4x8192x8192_0_1_2_3 (broadcastInDim S4x4x8192x1 ![0, 1, 2] bcast_S4x4x8192_S4x4x8192x1_0_1_2
      (Host.reduce FloatOps.maximumf (select M s (broadcastInDim S4x4x8192x8192 ![] bcast_S_S4x4x8192x8192 (id (constant S_ .f32 0xFF800000#32))))
        (constant S_ .f32 0xFF800000#32) reducesTo_S4x4x8192x8192_S4x4x8192_d3 h_S_))))) N

theorem soft_apply (M : IVec S4x4x8192x8192 1) (N s : FVec Ideal S4x4x8192x8192 .f32) (g r : Fin 4) (row k : Fin 8192) :
    soft M N s (ix4 g r row k)
      = Ideal.exp (Scalar.select (M (ix4 g r row k)) (s (ix4 g r row k)) ⊥
          - Finset.fold max ⊥ (fun x => Scalar.select (M (ix4 g r row x)) (s (ix4 g r row x)) ⊥) Finset.univ) * N (ix4 g r row k) := by
  rw [← ofBits_neg_inf]
  unfold soft
  pointwise
  rfl

/-- The weighted sum of the values, the weights over their sum. -/
def mix (P : FVec Ideal S4x4x8192x8192 .f32) (a2 : FVec Ideal S8192x512 .f32) : FVec Ideal S8192x16x128 .f32 :=
  shapeCast _ (transpose S8192x4x4x128 [2, 0, 1, 3] (Host.dotGeneral dot_S4x4x8192x8192_S4x8192x128_S4x4x8192x128_3_1_12_2_0_0 none
    (Host.divf P (broadcastInDim S4x4x8192x8192 ![0, 1, 2, 3] bcast_S4x4x8192x1_S4x4x8192x8192_0_1_2_3
      (maximumf (broadcastInDim S4x4x8192x1 ![0, 1, 2] bcast_S4x4x8192_S4x4x8192x1_0_1_2
        (Host.reduceAdd P (constant S_ .f32 0x00000000#32) reducesTo_S4x4x8192x8192_S4x4x8192_d3 h_S_))
        (broadcastInDim S4x4x8192x1 ![] bcast_S_S4x4x8192x1 (constant S_ .f32 0x0DA24260#32)))))
    (transpose S4x8192x128 [1, 0, 2] (shapeCast _ a2 shapeCasts_S8192x512_S8192x4x128) transposes_S8192x4x128_S4x8192x128_1_0_2))
    transposes_S4x4x8192x128_S8192x4x4x128_2_0_1_3) shapeCasts_S8192x4x4x128_S8192x16x128

theorem mix_apply (P : FVec Ideal S4x4x8192x8192 .f32) (a2 : FVec Ideal S8192x512 .f32) (g r : Fin 4) (row : Fin 8192) (d : Fin 128) :
    mix P a2 (ix3 row ⟨4 * g.val + r.val, by omega⟩ d)
      = ∑ x, Ideal.div (P (ix4 g r row x)) (max (∑ x, P (ix4 g r row x)) tiny) * a2 (ix2 x ⟨128 * g.val + d.val, by omega⟩) := by
  unfold tiny
  unfold mix
  pointwise
  simp only [Nat.mul_comm]

/-- The three branches, each times its gate. -/
def comb (a7 : FVec Ideal S8192x48 .f32) (a6 : FVec Ideal S8192x2048 .f32) (X Y : FVec Ideal S8192x16x128 .f32) : FVec Ideal S8192x2048 .bf16 :=
  let g : FVec Ideal S8192x16x3 .f32 := Host.divf (broadcastInDim S8192x16x3 ![] bcast_S_S8192x16x3 (constant S_ .f32 0x3F800000#32))
    (addf (broadcastInDim S8192x16x3 ![] bcast_S_S8192x16x3 (constant S_ .f32 0x3F800000#32))
      (Host.exp (Host.negf (shapeCast _ a7 shapeCasts_S8192x48_S8192x16x3))))
  truncf .bf16 (shapeCast _ (addf (addf
    (mulf (broadcastInDim S8192x16x128 ![0, 1, 2] bcast_S8192x16x1_S8192x16x128_0_1_2 (extractStridedSlice S8192x16x1 ![0, 0, 0] g slices_S8192x16x3_S8192x16x1_0_0_0))
      (shapeCast _ a6 shapeCasts_S8192x2048_S8192x16x128))
    (mulf (broadcastInDim S8192x16x128 ![0, 1, 2] bcast_S8192x16x1_S8192x16x128_0_1_2 (extractStridedSlice S8192x16x1 ![0, 0, 1] g slices_S8192x16x3_S8192x16x1_0_0_1)) X))
    (mulf (broadcastInDim S8192x16x128 ![0, 1, 2] bcast_S8192x16x1_S8192x16x128_0_1_2 (extractStridedSlice S8192x16x1 ![0, 0, 2] g slices_S8192x16x3_S8192x16x1_0_0_2)) Y))
    shapeCasts_S8192x16x128_S8192x2048) bitsLt_bf16_f32

theorem comb_apply (a7 : FVec Ideal S8192x48 .f32) (a6 : FVec Ideal S8192x2048 .f32) (X Y : FVec Ideal S8192x16x128 .f32) (g r : Fin 4) (row : Fin 8192) (d : Fin 128) :
    comb a7 a6 X Y (ix2 row ⟨512 * g.val + 128 * r.val + d.val, by omega⟩)
      = Ideal.logistic (a7 (ix2 row ⟨12 * g.val + 3 * r.val, by omega⟩)) * a6 (ix2 row ⟨512 * g.val + 128 * r.val + d.val, by omega⟩)
        + Ideal.logistic (a7 (ix2 row ⟨12 * g.val + 3 * r.val + 1, by omega⟩)) * X (ix3 row ⟨4 * g.val + r.val, by omega⟩ d)
        + Ideal.logistic (a7 (ix2 row ⟨12 * g.val + 3 * r.val + 2, by omega⟩)) * Y (ix3 row ⟨4 * g.val + r.val, by omega⟩ d) := by
  unfold comb Ideal.logistic
  dsimp only
  pointwise
  have h0 : (512 * g.val + 128 * r.val + d.val) / 128 = 4 * g.val + r.val := by omega
  have h1 : (4 * g.val + r.val) * 3 = 12 * g.val + 3 * r.val := by omega
  have h2 : (4 * g.val + r.val) * 128 = 512 * g.val + 128 * r.val := by omega
  simp only [h0, h1, h2]

theorem soft_mask (T : ℕ → EReal) (M : IVec S4x4x8192x8192 1) (N s : FVec Ideal S4x4x8192x8192 .f32) (a : FVec Ideal S8192x512 .f32) (g r : Fin 4) (row : Fin 8192) (d : Fin 128)
    (p : Fin 8192 → Prop) [DecidablePred p] (hM : ∀ k, M (ix4 g r row k) = if p k then 1#1 else 0#1) (hN : ∀ k, N (ix4 g r row k) = if p k then 1 else 0)
    (hT : ∀ k : Fin 8192, p k → s (ix4 g r row k) = T k.val * (Real.log 2 : ℝ)) (hT' : ∀ k : Fin 8192, ¬ p k → T k.val = ⊥) :
    mix (soft M N s) a (ix3 row ⟨4 * g.val + r.val, by omega⟩ d) = att T (vals a g) d := by
  rw [mix_apply]
  simp only [soft_apply]
  refine soft_att T (vals a g) d (fun x => Scalar.select (M (ix4 g r row x)) (s (ix4 g r row x)) ⊥) (fun x => N (ix4 g r row x)) _ ?_ ?_ ?_
  · intro k
    show Scalar.select (M (ix4 g r row k)) (s (ix4 g r row k)) ⊥ = _
    rw [hM]
    by_cases h : p k
    · rw [if_pos h, ← hT k h]; rfl
    · rw [if_neg h, hT' k h, EReal.bot_mul_coe_of_pos log2_pos]; rfl
  · intro k
    show N (ix4 g r row k) = 1 ∨ N (ix4 g r row k) = 0 ∧ T k.val = ⊥
    rw [hN]
    by_cases h : p k
    · rw [if_pos h]; exact .inl rfl
    · rw [if_neg h]; exact .inr ⟨rfl, hT' k h⟩
  · intro k
    unfold vals
    rw [dif_pos k.isLt]

theorem scr_eq (a0 : FVec Ideal S8192x2048 .f32) (a1 : FVec Ideal S8192x512 .f32) (g r : Fin 4) (row k : Fin 8192) :
    scr a0 a1 (ix4 g r row k) = dotT a0 a1 g r row k.val * (Real.log 2 : ℝ) := by
  rw [scr_apply]
  unfold dotT
  rw [score_scale]
  refine congrArg (fun x => Ideal.div x _) (Finset.sum_congr rfl fun c _ => ?_)
  unfold vals
  rw [dif_pos k.isLt]

theorem uitofp_word (p : Prop) [Decidable p] : FloatOps.uitofp (F := Ideal) .f32 (if p then 1#1 else 0#1) = if p then (1 : EReal) else 0 := by
  by_cases h : p
  · rw [if_pos h, if_pos h]; simp [FloatOps.uitofp]
  · rw [if_neg h, if_neg h]; simp [FloatOps.uitofp]

/-- The reference's result. -/
theorem ref_eq (m : (ℓ : Loc nD τ sig) → Buf (Elt Ideal) ℓ) (c : Dev nD) :
    Value.res_main_v93 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  funext i
  obtain ⟨g, r, row, d, rfl⟩ := index_split i
  rw [result_apply]
  generalize ha0 : m ((c.tc : Thread nD τ).loc main_arg0) = a0
  generalize ha1 : m ((c.tc : Thread nD τ).loc main_arg1) = a1
  generalize ha2 : m ((c.tc : Thread nD τ).loc main_arg2) = a2
  generalize ha3 : m ((c.tc : Thread nD τ).loc main_arg3) = a3
  generalize ha4 : m ((c.tc : Thread nD τ).loc main_arg4) = a4
  generalize ha5 : m ((c.tc : Thread nD τ).loc main_arg5) = a5
  generalize ha6 : m ((c.tc : Thread nD τ).loc main_arg6) = a6
  generalize ha7 : m ((c.tc : Thread nD τ).loc main_arg7) = a7
  have hr : Value.res_main_v93 m c = comb a7 a6
      (mix (soft (broadcastInDim S4x4x8192x8192 ![0, 1, 2, 3] bcast_S4x1x8192x8192_S4x4x8192x8192_0_1_2_3 (selM a5))
        (broadcastInDim S4x4x8192x8192 ![0, 1, 2, 3] bcast_S4x1x8192x8192_S4x4x8192x8192_0_1_2_3 (uitofp .f32 (selM a5))) (scr a0 a1)) a2)
      (mix (soft (broadcastInDim S4x4x8192x8192 ![2, 3] bcast_S8192x8192_S4x4x8192x8192_2_3 winM)
        (broadcastInDim S4x4x8192x8192 ![0, 1, 2, 3] bcast_S1x1x8192x8192_S4x4x8192x8192_0_1_2_3 (broadcastInDim S1x1x8192x8192 ![2, 3] bcast_S8192x8192_S1x1x8192x8192_2_3 (uitofp .f32 winM))) (scr a0 a3)) a4) := by
    subst ha0; subst ha1; subst ha2; subst ha3; subst ha4; subst ha5; subst ha6; subst ha7
    rfl
  have hb : ∀ k : Fin 8192, (⟨k.val / 64 % 128, Nat.mod_lt _ (by omega)⟩ : Fin 128) = ⟨k.val / 64, by omega⟩ := fun k =>
    Fin.ext (Nat.mod_eq_of_lt (by omega))
  rw [hr, comb_apply]
  unfold headVal
  congr 1
  · congr 2
    refine soft_mask (selK a0 a1 a5 g r row) _ _ _ a2 g r row d (fun k => a5 (ix3 g row ⟨k.val / 64, by omega⟩) ≠ 0#32 ∧ k.val ≤ row.val) ?_ ?_ ?_ ?_
    · intro k; rw [← selM_apply]; pointwise
    · intro k
      rw [← uitofp_word, ← selM_apply]; pointwise
    · intro k hk
      rw [scr_eq]
      unfold selK
      rw [if_pos (by rw [hb]; exact hk)]
    · intro k hk
      unfold selK
      rw [if_neg (by rw [hb]; exact hk)]
  · congr 1
    refine soft_mask (winK a0 a3 g r row) _ _ _ a4 g r row d (fun k => k.val ≤ row.val ∧ row.val < k.val + 512) ?_ ?_ ?_ ?_
    · intro k; rw [← winM_apply]; pointwise
    · intro k
      rw [← uitofp_word, ← winM_apply]; pointwise
    · intro k hk
      rw [scr_eq]
      unfold winK
      rw [if_pos hk]
    · intro k hk
      unfold winK
      rw [if_neg hk]

end Cert.Attn.Ref

end
-- ==== Proof.Trip.lean ====
/-
One trip of the loop over the key tiles before a block of query rows: four tiles, four heads each.
-/
module

public import proofs.«01_k».proof.Proof.Gen.KernelIdeal.Loops
public import proofs.«01_k».proof.Proof.Slab
public import proofs.«01_k».proof.Proof.Scores

@[expose] public section

set_option maxRecDepth 16384

noncomputable section

namespace Cert.Attn

open Idealize.ShloMosaic Cert.KernelIdeal Cert.KernelIdeal.Gen
open Idealize.ShloMosaic.TcCoe

theorem trip_word (i : grid0.Coords) (k : Fin (k0_t1_loop i).trips) :
    trip_k0_t1.sl.v763 i k = BitVec.ofNat 32 (2048 * k.val) ∧ trip_k0_t1.sl.v893 i k = BitVec.ofNat 32 (2048 * k.val + 512)
      ∧ trip_k0_t1.sl.v1023 i k = BitVec.ofNat 32 (2048 * k.val + 1024)
      ∧ trip_k0_t1.sl.v1153 i k = BitVec.ofNat 32 (2048 * k.val + 1536) := by
  revert i k; decide +kernel

theorem trip_off (i : grid0.Coords) (k : Fin (k0_t1_loop i).trips) :
    k0_off1 i k 0#32 = ![2048 * k.val, 0] ∧ k0_off1 i k 1#32 = ![2048 * k.val + 512, 0]
      ∧ k0_off1 i k 2#32 = ![2048 * k.val + 1024, 0] ∧ k0_off1 i k 3#32 = ![2048 * k.val + 1536, 0] := by
  revert i k; decide +kernel

section
variable (i : grid0.Coords) (arg4 : Memref sig .tc .vmem S8192x128 .bf16) (arg5 : Memref sig .tc .vmem S8192x128 .bf16)
  (arg21 : Memref sig .tc .vmem S4x512x256 .bf16) (arg22 : Memref sig .tc .vmem S4x512x256 .f32)
  (arg23 : Memref sig .tc .vmem S4x512x128 .f32)
  (X4 : BufTy.Contents (Elt Ideal) arg4.view.ty) (X5 : BufTy.Contents (Elt Ideal) arg5.view.ty)
  (X21 : BufTy.Contents (Elt Ideal) arg21.view.ty) (k : Fin (k0_t1_loop i).trips)
  (f22 : BufTy.Contents (Elt Ideal) arg22.view.ty) (f23 : BufTy.Contents (Elt Ideal) arg23.view.ty)
  (q0 : ℕ) (hq : 2048 * k.val + 2048 ≤ q0) (hq' : q0 ≤ 8192)

/-- The four heads' loaded query rows. -/
abbrev qLoad (arg21 : Memref sig .tc .vmem S4x512x256 .bf16) (X21 : BufTy.Contents (Elt Ideal) arg21.view.ty) :
    Fin 4 → FVec Ideal S1x512x256 .bf16 :=
  ![arg21.view.readAt (Elt Ideal) (Rect.unit (s := S4x512x256) ![0, 0, 0] S1x512x256.size inb_S4x512x256_S1x512x256_0_0_0).toLoadRect X21,
    arg21.view.readAt (Elt Ideal) (Rect.unit (s := S4x512x256) ![1, 0, 0] S1x512x256.size inb_S4x512x256_S1x512x256_1_0_0).toLoadRect X21,
    arg21.view.readAt (Elt Ideal) (Rect.unit (s := S4x512x256) ![2, 0, 0] S1x512x256.size inb_S4x512x256_S1x512x256_2_0_0).toLoadRect X21,
    arg21.view.readAt (Elt Ideal) (Rect.unit (s := S4x512x256) ![3, 0, 0] S1x512x256.size inb_S4x512x256_S1x512x256_3_0_0).toLoadRect X21]

theorem qLoad_apply (r : Fin 4) (row : Fin 512) (c : Fin 256) :
    qLoad arg21 X21 r (ix3 0 row c) = qRows arg21.view X21 r row c := by
  have hr : r = 0 ∨ r = 1 ∨ r = 2 ∨ r = 3 := by omega
  rcases hr with rfl | rfl | rfl | rfl
  · exact qRows_load arg21.view X21 0 _ 0 rfl row c
  · exact qRows_load arg21.view X21 1 _ 1 rfl row c
  · exact qRows_load arg21.view X21 2 _ 2 rfl row c
  · exact qRows_load arg21.view X21 3 _ 3 rfl row c

/-- A tile's scores lie wholly before the block's rows. -/
theorem tile_scores (b q0 : ℕ) (hb : b + 512 ≤ q0) (hq : q0 ≤ 8192) {w : BitVec 32} (hw : w = BitVec.ofNat 32 b)
    {off : Fin 2 → ℕ} (hoff : off = ![b, 0]) (inb : ∀ a, off a + S512x128.size a ≤ S8192x128.size a) (r : Fin 4)
    (row j : Fin 512) :
    sc (qLoad arg21 X21 r) (kAug w (arg4.view.readAt (Elt Ideal) (Rect.unit (s := S8192x128) off S512x128.size inb).toLoadRect X4))
      (ix2 row j) = selScore (qRows arg21.view X21) (rowsOf arg4.view X4) q0 r row (b + j.val) := by
  rw [sc_dot (qRows arg21.view X21) (rowsOf arg4.view X4) r _ (qLoad_apply arg21 X21 r) _ b (by omega)
    (fun j d => rowsOf_load arg4.view X4 b hoff inb j d) hw]
  unfold selScore
  rw [if_pos (by omega)]

theorem tile_values (b : ℕ) {off : Fin 2 → ℕ} (hoff : off = ![b, 0]) (inb : ∀ a, off a + S512x128.size a ≤ S8192x128.size a)
    (j : Fin 512) (d : Fin 256) :
    vAug (arg5.view.readAt (Elt Ideal) (Rect.unit (s := S8192x128) off S512x128.size inb).toLoadRect X5) (ix2 j d)
      = valRow (rowsOf arg5.view X5) (b + j.val) d :=
  vAug_val (rowsOf arg5.view X5) _ b (fun j d => rowsOf_load arg5.view X5 b hoff inb j d) j d

include hq hq' in
theorem trip_tile0 (h : St arg22.view arg23.view f22 f23
      (selScore (qRows arg21.view X21) (rowsOf arg4.view X4) q0) (valRow (rowsOf arg5.view X5)) fun _ _ => 2048 * k.val)
    (g22 : BufTy.Contents (Elt Ideal) arg22.view.ty) (g23 : BufTy.Contents (Elt Ideal) arg23.view.ty) :
    St arg22.view arg23.view
      (arg22.view.writes (Elt Ideal) g22 (trip_k0_t1.sl.HW_arg22_4 (F := Ideal) i arg4 arg5 arg21 arg22 arg23 rowIota laneIota X4 X5 X21 k f22 f23))
      (arg23.view.writes (Elt Ideal) g23 (trip_k0_t1.sl.HW_arg23_4 (F := Ideal) i arg4 arg21 arg23 rowIota laneIota X4 X21 k f23))
      (selScore (qRows arg21.view X21) (rowsOf arg4.view X4) q0) (valRow (rowsOf arg5.view X5)) fun _ _ => 2048 * k.val + 512 := by
  obtain ⟨w0, w1, w2, w3⟩ := trip_word i k
  obtain ⟨o0, o1, o2, o3⟩ := trip_off i k
  have hl := loadsAt arg22.view arg23.view (selScore (qRows arg21.view X21) (rowsOf arg4.view X4) q0) (valRow (rowsOf arg5.view X5)) (2048 * k.val) f22 f23 h inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0
  refine tile arg22.view arg23.view (selScore (qRows arg21.view X21) (rowsOf arg4.view X4) q0) (valRow (rowsOf arg5.view X5)) (2048 * k.val) _ _ hl
    (vAug (arg5.view.readAt (Elt Ideal) (Rect.unit (s := S8192x128) (k0_off1 i k 0#32) S512x128.size (k0_off1_inb i k 0)).toLoadRect X5))
    (tile_values arg5 X5 _ o0 _)
    (fun r => sc (qLoad arg21 X21 r) (kAug (trip_k0_t1.sl.v763 i k) (arg4.view.readAt (Elt Ideal) (Rect.unit (s := S8192x128) (k0_off1 i k 0#32) S512x128.size (k0_off1_inb i k 0)).toLoadRect X4)))
    (tile_scores arg4 arg21 X4 X21 _ q0 (by omega) hq' w0 o0 _)
    ?_ ?_ ?_ ?_ ?_ ?_ ?_ ?_ g22 g23 ([]) ([]) _ _ _ _ _ _ _ _ <;> rfl

include hq hq' in
theorem trip_tile1 (h : St arg22.view arg23.view (arg22.view.writes (Elt Ideal) arg22.view.junk (trip_k0_t1.sl.HW_arg22_4 (F := Ideal) i arg4 arg5 arg21 arg22 arg23 rowIota laneIota X4 X5 X21 k f22 f23)) (arg23.view.writes (Elt Ideal) arg23.view.junk (trip_k0_t1.sl.HW_arg23_4 (F := Ideal) i arg4 arg21 arg23 rowIota laneIota X4 X21 k f23))
      (selScore (qRows arg21.view X21) (rowsOf arg4.view X4) q0) (valRow (rowsOf arg5.view X5)) fun _ _ => 2048 * k.val + 512)
    (g22 : BufTy.Contents (Elt Ideal) arg22.view.ty) (g23 : BufTy.Contents (Elt Ideal) arg23.view.ty) :
    St arg22.view arg23.view
      (arg22.view.writes (Elt Ideal) g22 (trip_k0_t1.sl.HW_arg22_8 (F := Ideal) i arg4 arg5 arg21 arg22 arg23 rowIota laneIota X4 X5 X21 k f22 f23))
      (arg23.view.writes (Elt Ideal) g23 (trip_k0_t1.sl.HW_arg23_8 (F := Ideal) i arg4 arg21 arg23 rowIota laneIota X4 X21 k f23))
      (selScore (qRows arg21.view X21) (rowsOf arg4.view X4) q0) (valRow (rowsOf arg5.view X5)) fun _ _ => 2048 * k.val + 512 + 512 := by
  obtain ⟨w0, w1, w2, w3⟩ := trip_word i k
  obtain ⟨o0, o1, o2, o3⟩ := trip_off i k
  have hl := loadsCov arg22.view arg23.view (selScore (qRows arg21.view X21) (rowsOf arg4.view X4) q0) (valRow (rowsOf arg5.view X5)) (2048 * k.val + 512) (trip_k0_t1.sl.HW_arg22_4 (F := Ideal) i arg4 arg5 arg21 arg22 arg23 rowIota laneIota X4 X5 X21 k f22 f23) (trip_k0_t1.sl.HW_arg23_4 (F := Ideal) i arg4 arg21 arg23 rowIota laneIota X4 X21 k f23) h inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0
    inb_S4x512x128_S1x512x128_0_0_0 inb_S4x512x128_S1x512x128_1_0_0 inb_S4x512x128_S1x512x128_2_0_0 inb_S4x512x256_S1x512x256_0_0_0 inb_S4x512x256_S1x512x256_1_0_0 inb_S4x512x256_S1x512x256_2_0_0
    (trip_k0_t1.sl.v939 (F := Ideal) i arg4 arg21 arg23 rowIota laneIota X4 X21 k f23) (trip_k0_t1.sl.v966 (F := Ideal) i arg4 arg21 arg23 rowIota laneIota X4 X21 k f23) (trip_k0_t1.sl.v993 (F := Ideal) i arg4 arg21 arg23 rowIota laneIota X4 X21 k f23) (trip_k0_t1.sl.v936 (F := Ideal) i arg4 arg5 arg21 arg22 arg23 rowIota laneIota X4 X5 X21 k f22 f23) (trip_k0_t1.sl.v963 (F := Ideal) i arg4 arg5 arg21 arg22 arg23 rowIota laneIota X4 X5 X21 k f22 f23) (trip_k0_t1.sl.v990 (F := Ideal) i arg4 arg5 arg21 arg22 arg23 rowIota laneIota X4 X5 X21 k f22 f23)
  refine tile arg22.view arg23.view (selScore (qRows arg21.view X21) (rowsOf arg4.view X4) q0) (valRow (rowsOf arg5.view X5)) (2048 * k.val + 512) _ _ hl
    (vAug (arg5.view.readAt (Elt Ideal) (Rect.unit (s := S8192x128) (k0_off1 i k 1#32) S512x128.size (k0_off1_inb i k 1)).toLoadRect X5))
    (tile_values arg5 X5 _ o1 _)
    (fun r => sc (qLoad arg21 X21 r) (kAug (trip_k0_t1.sl.v893 i k) (arg4.view.readAt (Elt Ideal) (Rect.unit (s := S8192x128) (k0_off1 i k 1#32) S512x128.size (k0_off1_inb i k 1)).toLoadRect X4)))
    (tile_scores arg4 arg21 X4 X21 _ q0 (by omega) hq' w1 o1 _)
    ?_ ?_ ?_ ?_ ?_ ?_ ?_ ?_ g22 g23 (trip_k0_t1.sl.HW_arg22_4 (F := Ideal) i arg4 arg5 arg21 arg22 arg23 rowIota laneIota X4 X5 X21 k f22 f23) (trip_k0_t1.sl.HW_arg23_4 (F := Ideal) i arg4 arg21 arg23 rowIota laneIota X4 X21 k f23) _ _ _ _ _ _ _ _ <;> rfl

include hq hq' in
theorem trip_tile2 (h : St arg22.view arg23.view (arg22.view.writes (Elt Ideal) arg22.view.junk (trip_k0_t1.sl.HW_arg22_8 (F := Ideal) i arg4 arg5 arg21 arg22 arg23 rowIota laneIota X4 X5 X21 k f22 f23)) (arg23.view.writes (Elt Ideal) arg23.view.junk (trip_k0_t1.sl.HW_arg23_8 (F := Ideal) i arg4 arg21 arg23 rowIota laneIota X4 X21 k f23))
      (selScore (qRows arg21.view X21) (rowsOf arg4.view X4) q0) (valRow (rowsOf arg5.view X5)) fun _ _ => 2048 * k.val + 1024)
    (g22 : BufTy.Contents (Elt Ideal) arg22.view.ty) (g23 : BufTy.Contents (Elt Ideal) arg23.view.ty) :
    St arg22.view arg23.view
      (arg22.view.writes (Elt Ideal) g22 (trip_k0_t1.sl.HW_arg22_12 (F := Ideal) i arg4 arg5 arg21 arg22 arg23 rowIota laneIota X4 X5 X21 k f22 f23))
      (arg23.view.writes (Elt Ideal) g23 (trip_k0_t1.sl.HW_arg23_12 (F := Ideal) i arg4 arg21 arg23 rowIota laneIota X4 X21 k f23))
      (selScore (qRows arg21.view X21) (rowsOf arg4.view X4) q0) (valRow (rowsOf arg5.view X5)) fun _ _ => 2048 * k.val + 1024 + 512 := by
  obtain ⟨w0, w1, w2, w3⟩ := trip_word i k
  obtain ⟨o0, o1, o2, o3⟩ := trip_off i k
  have hl := loadsCov arg22.view arg23.view (selScore (qRows arg21.view X21) (rowsOf arg4.view X4) q0) (valRow (rowsOf arg5.view X5)) (2048 * k.val + 1024) (trip_k0_t1.sl.HW_arg22_8 (F := Ideal) i arg4 arg5 arg21 arg22 arg23 rowIota laneIota X4 X5 X21 k f22 f23) (trip_k0_t1.sl.HW_arg23_8 (F := Ideal) i arg4 arg21 arg23 rowIota laneIota X4 X21 k f23) h inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0
    inb_S4x512x128_S1x512x128_0_0_0 inb_S4x512x128_S1x512x128_1_0_0 inb_S4x512x128_S1x512x128_2_0_0 inb_S4x512x256_S1x512x256_0_0_0 inb_S4x512x256_S1x512x256_1_0_0 inb_S4x512x256_S1x512x256_2_0_0
    (trip_k0_t1.sl.v1069 (F := Ideal) i arg4 arg21 arg23 rowIota laneIota X4 X21 k f23) (trip_k0_t1.sl.v1096 (F := Ideal) i arg4 arg21 arg23 rowIota laneIota X4 X21 k f23) (trip_k0_t1.sl.v1123 (F := Ideal) i arg4 arg21 arg23 rowIota laneIota X4 X21 k f23) (trip_k0_t1.sl.v1066 (F := Ideal) i arg4 arg5 arg21 arg22 arg23 rowIota laneIota X4 X5 X21 k f22 f23) (trip_k0_t1.sl.v1093 (F := Ideal) i arg4 arg5 arg21 arg22 arg23 rowIota laneIota X4 X5 X21 k f22 f23) (trip_k0_t1.sl.v1120 (F := Ideal) i arg4 arg5 arg21 arg22 arg23 rowIota laneIota X4 X5 X21 k f22 f23)
  refine tile arg22.view arg23.view (selScore (qRows arg21.view X21) (rowsOf arg4.view X4) q0) (valRow (rowsOf arg5.view X5)) (2048 * k.val + 1024) _ _ hl
    (vAug (arg5.view.readAt (Elt Ideal) (Rect.unit (s := S8192x128) (k0_off1 i k 2#32) S512x128.size (k0_off1_inb i k 2)).toLoadRect X5))
    (tile_values arg5 X5 _ o2 _)
    (fun r => sc (qLoad arg21 X21 r) (kAug (trip_k0_t1.sl.v1023 i k) (arg4.view.readAt (Elt Ideal) (Rect.unit (s := S8192x128) (k0_off1 i k 2#32) S512x128.size (k0_off1_inb i k 2)).toLoadRect X4)))
    (tile_scores arg4 arg21 X4 X21 _ q0 (by omega) hq' w2 o2 _)
    ?_ ?_ ?_ ?_ ?_ ?_ ?_ ?_ g22 g23 (trip_k0_t1.sl.HW_arg22_8 (F := Ideal) i arg4 arg5 arg21 arg22 arg23 rowIota laneIota X4 X5 X21 k f22 f23) (trip_k0_t1.sl.HW_arg23_8 (F := Ideal) i arg4 arg21 arg23 rowIota laneIota X4 X21 k f23) _ _ _ _ _ _ _ _ <;> rfl

end

/-- One trip takes the states of all rows from `2048 k` keys to `2048 k + 2048`. -/
theorem trip_st (𝒱 : Variants) (c : Dev nD) (bd : Option 𝒱.V) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (arg1 : BitVec 32) (v54 : FVec Ideal S4x512x128 .f32) (X_arg4 : BufTy.Contents (Elt Ideal) arg4.view.ty) (X_arg5 : BufTy.Contents (Elt Ideal) arg5.view.ty) (X_arg21 : BufTy.Contents (Elt Ideal) arg21.view.ty) (k : Fin (k0_t1_loop i).trips) (f_arg22 : BufTy.Contents (Elt Ideal) arg22.view.ty) (f_arg23 : BufTy.Contents (Elt Ideal) arg23.view.ty)
    (q0 : ℕ) (hq : 2048 * k.val + 2048 ≤ q0) (hq' : q0 ≤ 8192)
    (h : St arg22.view arg23.view f_arg22 f_arg23 (selScore (qRows arg21.view X_arg21) (rowsOf arg4.view X_arg4) q0) (valRow (rowsOf arg5.view X_arg5)) fun _ _ => 2048 * k.val) :
    St arg22.view arg23.view
      (arg22.view.writes (Elt Ideal) f_arg22 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 rowIota laneIota X_arg4 X_arg5 X_arg21 k f_arg22 f_arg23).1)
      (arg23.view.writes (Elt Ideal) f_arg23 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 rowIota laneIota X_arg4 X_arg5 X_arg21 k f_arg22 f_arg23).2)
      (selScore (qRows arg21.view X_arg21) (rowsOf arg4.view X_arg4) q0) (valRow (rowsOf arg5.view X_arg5)) fun _ _ => 2048 * k.val + 2048 := by
  replace h := trip_tile0 i arg4 arg5 arg21 arg22 arg23 X_arg4 X_arg5 X_arg21 k f_arg22 f_arg23 q0 hq hq' h
    arg22.view.junk arg23.view.junk
  replace h := trip_tile1 i arg4 arg5 arg21 arg22 arg23 X_arg4 X_arg5 X_arg21 k f_arg22 f_arg23 q0 hq hq' h
    arg22.view.junk arg23.view.junk
  replace h := trip_tile2 i arg4 arg5 arg21 arg22 arg23 X_arg4 X_arg5 X_arg21 k f_arg22 f_arg23 q0 hq hq' h
    arg22.view.junk arg23.view.junk
  unfold tripL_k0_t1 trip_k0_t1
  dsimp only
  obtain ⟨w0, w1, w2, w3⟩ := trip_word i k
  obtain ⟨o0, o1, o2, o3⟩ := trip_off i k
  have hl := loadsCov arg22.view arg23.view (selScore (qRows arg21.view X_arg21) (rowsOf arg4.view X_arg4) q0) (valRow (rowsOf arg5.view X_arg5)) (2048 * k.val + 1536) (trip_k0_t1.sl.HW_arg22_12 (F := Ideal) i arg4 arg5 arg21 arg22 arg23 rowIota laneIota X_arg4 X_arg5 X_arg21 k f_arg22 f_arg23) (trip_k0_t1.sl.HW_arg23_12 (F := Ideal) i arg4 arg21 arg23 rowIota laneIota X_arg4 X_arg21 k f_arg23) h inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0
    inb_S4x512x128_S1x512x128_0_0_0 inb_S4x512x128_S1x512x128_1_0_0 inb_S4x512x128_S1x512x128_2_0_0 inb_S4x512x256_S1x512x256_0_0_0 inb_S4x512x256_S1x512x256_1_0_0 inb_S4x512x256_S1x512x256_2_0_0
    (trip_k0_t1.sl.v1199 (F := Ideal) i arg4 arg21 arg23 rowIota laneIota X_arg4 X_arg21 k f_arg23) (trip_k0_t1.sl.v1226 (F := Ideal) i arg4 arg21 arg23 rowIota laneIota X_arg4 X_arg21 k f_arg23) (trip_k0_t1.sl.v1253 (F := Ideal) i arg4 arg21 arg23 rowIota laneIota X_arg4 X_arg21 k f_arg23) (trip_k0_t1.sl.v1196 (F := Ideal) i arg4 arg5 arg21 arg22 arg23 rowIota laneIota X_arg4 X_arg5 X_arg21 k f_arg22 f_arg23) (trip_k0_t1.sl.v1223 (F := Ideal) i arg4 arg5 arg21 arg22 arg23 rowIota laneIota X_arg4 X_arg5 X_arg21 k f_arg22 f_arg23) (trip_k0_t1.sl.v1250 (F := Ideal) i arg4 arg5 arg21 arg22 arg23 rowIota laneIota X_arg4 X_arg5 X_arg21 k f_arg22 f_arg23)
  refine tile arg22.view arg23.view (selScore (qRows arg21.view X_arg21) (rowsOf arg4.view X_arg4) q0) (valRow (rowsOf arg5.view X_arg5)) (2048 * k.val + 1536) _ _ hl
    (vAug (arg5.view.readAt (Elt Ideal) (Rect.unit (s := S8192x128) (k0_off1 i k 3#32) S512x128.size (k0_off1_inb i k 3)).toLoadRect X_arg5))
    (tile_values arg5 X_arg5 _ o3 _)
    (fun r => sc (qLoad arg21 X_arg21 r) (kAug (trip_k0_t1.sl.v1153 i k) (arg4.view.readAt (Elt Ideal) (Rect.unit (s := S8192x128) (k0_off1 i k 3#32) S512x128.size (k0_off1_inb i k 3)).toLoadRect X_arg4)))
    (tile_scores arg4 arg21 X_arg4 X_arg21 _ q0 (by omega) hq' w3 o3 _)
    ?_ ?_ ?_ ?_ ?_ ?_ ?_ ?_ f_arg22 f_arg23 (trip_k0_t1.sl.HW_arg22_12 (F := Ideal) i arg4 arg5 arg21 arg22 arg23 rowIota laneIota X_arg4 X_arg5 X_arg21 k f_arg22 f_arg23) (trip_k0_t1.sl.HW_arg23_12 (F := Ideal) i arg4 arg21 arg23 rowIota laneIota X_arg4 X_arg21 k f_arg23) _ _ _ _ _ _ _ _ <;> rfl

theorem trips_le (i : grid0.Coords) : 2048 * (k0_t1_loop i).trips ≤ 512 * (i 1).val ∧ 512 * (i 1).val ≤ 8192 := by
  revert i; decide +kernel

/-- The trips take the states of all rows from no key to `2048 n` keys. -/
theorem loop_st (𝒱 : Variants) (c : Dev nD) (bd : Option 𝒱.V) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (arg1 : BitVec 32) (v54 : FVec Ideal S4x512x128 .f32) (X_arg4 : BufTy.Contents (Elt Ideal) arg4.view.ty) (X_arg5 : BufTy.Contents (Elt Ideal) arg5.view.ty) (X_arg21 : BufTy.Contents (Elt Ideal) arg21.view.ty) (G_arg22 : BufTy.Contents (Elt Ideal) arg22.view.ty) (G_arg23 : BufTy.Contents (Elt Ideal) arg23.view.ty)
    (h : St arg22.view arg23.view G_arg22 G_arg23 (selScore (qRows arg21.view X_arg21) (rowsOf arg4.view X_arg4) (512 * (i 1).val)) (valRow (rowsOf arg5.view X_arg5)) fun _ _ => 0) (n : ℕ) (hn : n ≤ (k0_t1_loop i).trips) :
    St arg22.view arg23.view
      (arg22.view.writes (Elt Ideal) G_arg22 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 rowIota laneIota X_arg4 X_arg5 X_arg21 G_arg22 G_arg23 n).1)
      (arg23.view.writes (Elt Ideal) G_arg23 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 rowIota laneIota X_arg4 X_arg5 X_arg21 G_arg22 G_arg23 n).2)
      (selScore (qRows arg21.view X_arg21) (rowsOf arg4.view X_arg4) (512 * (i 1).val)) (valRow (rowsOf arg5.view X_arg5)) fun _ _ => 2048 * n := by
  induction n with
  | zero => exact h
  | succ n ih =>
    have hk : n < (k0_t1_loop i).trips := by omega
    obtain ⟨ht, ht'⟩ := trips_le i
    rw [show n + 1 = (⟨n, hk⟩ : Fin (k0_t1_loop i).trips).val + 1 from rfl, pb_k0_t1_succ]
    rw [View.writes_append, View.writes_append]
    exact trip_st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 X_arg4 X_arg5 X_arg21 ⟨n, hk⟩ _ _ (512 * (i 1).val)
      (by show 2048 * n + 2048 ≤ _; omega) ht' (ih (by omega))

end Cert.Attn

end
-- ==== Proof.Diag.lean ====
/-
The diagonal tile: each head's first 256 rows against the tile's first 256 keys, its last 256 rows against all 512,
with the keys past the row masked.
-/
module

public import proofs.«01_k».proof.Proof.Slab
public import proofs.«01_k».proof.Proof.Scores

@[expose] public section

set_option maxRecDepth 16384

noncomputable section

namespace Cert.Attn

open Idealize.ShloMosaic Cert.KernelIdeal Cert.KernelIdeal.Gen

/-- Zero where the key is not past the row, the mask elsewhere. -/
def tri : FVec Ideal S256x256 .f32 := k0_pay293

/-- The scores of one head's first 256 rows against the tile's first 256 keys. -/
def scD (q : FVec Ideal S1x256x256 .bf16) (ka : FVec Ideal S512x256 .bf16) : FVec Ideal S256x256 .f32 :=
  addf (matmul dot_S256x256_S256x256_S256x256_1_1_0_0_n_n none (shapeCast S256x256 q shapeCasts_S1x256x256_S256x256)
    (extractStridedSlice S256x256 ![0, 0] ka slices_S512x256_o0_0_S256x256) (constant S256x256 .f32 0x00000000#32)) tri

/-- The tile's first 256 values. -/
def vaD (va : FVec Ideal S512x256 .bf16) : FVec Ideal S256x256 .bf16 :=
  extractStridedSlice S256x256 ![0, 0] va slices_S512x256_o0_0_S256x256

/-- The products of one head's last 256 rows with all the tile's keys. -/
def prE (q : FVec Ideal S1x256x256 .bf16) (ka : FVec Ideal S512x256 .bf16) : FVec Ideal S256x512 .f32 :=
  matmul dot_S256x256_S512x256_S256x512_1_1_0_0_n_n none (shapeCast S256x256 q shapeCasts_S1x256x256_S256x256) ka
    (constant S256x512 .f32 0x00000000#32)

/-- Their scores: the last 256 keys masked past the row. -/
def scE (q : FVec Ideal S1x256x256 .bf16) (ka : FVec Ideal S512x256 .bf16) : FVec Ideal S256x512 .f32 :=
  concatenate S256x512 1 [⟨S256x256, extractStridedSlice S256x256 ![0, 0] (prE q ka) slices_S256x512_o0_0_S256x256⟩,
    ⟨S256x256, addf (extractStridedSlice S256x256 ![0, 256] (prE q ka) slices_S256x512_o0_256_S256x256) tri⟩]
    concatenates_S256x256_S256x256_S256x512_d1

theorem tri_apply (x j : Fin 256) : tri (ix2 x j) = if j.val ≤ x.val then 0 else ⊥ := by
  unfold tri k0_pay293
  pointwise
  rw [WordCmp.cmpi_sle_ofNat (by omega) (by omega)]
  show Scalar.select (BitVec.ofBool (decide (j.val ≤ x.val))) (0 : EReal) ⊥ = _
  by_cases h : j.val ≤ x.val
  · simp [h, Scalar.select]
  · simp [h, Scalar.select]

theorem scD_apply (q : FVec Ideal S1x256x256 .bf16) (ka : FVec Ideal S512x256 .bf16) (x j : Fin 256) :
    scD q ka (ix2 x j) = (∑ c : Fin 256, q (ix3 0 x c) * ka (ix2 ⟨j.val, by omega⟩ c)) + tri (ix2 x j) := by
  unfold scD
  pointwise

theorem vaD_apply (va : FVec Ideal S512x256 .bf16) (j d : Fin 256) : vaD va (ix2 j d) = va (ix2 ⟨j.val, by omega⟩ d) := by
  unfold vaD
  pointwise

theorem prE_apply (q : FVec Ideal S1x256x256 .bf16) (ka : FVec Ideal S512x256 .bf16) (x : Fin 256) (j : Fin 512) :
    prE q ka (ix2 x j) = ∑ c : Fin 256, q (ix3 0 x c) * ka (ix2 j c) := by
  unfold prE
  pointwise

theorem scE_apply (q : FVec Ideal S1x256x256 .bf16) (ka : FVec Ideal S512x256 .bf16) (x : Fin 256) (j : Fin 512) :
    scE q ka (ix2 x j) = if h : j.val < 256 then prE q ka (ix2 x j) else prE q ka (ix2 x j) + tri (ix2 x ⟨j.val - 256, by omega⟩) := by
  unfold scE
  pointwise
  by_cases h : j.val < 256
  · rw [dif_pos h, dif_pos h]
  · rw [dif_neg h, dif_neg h]
    have hj : (⟨256 + (j.val - 256), by omega⟩ : Fin 512) = j := Fin.ext (by show 256 + (j.val - 256) = j.val; omega)
    rw [hj]

/-- How many keys each row has seen after `j` of the eight half-steps of the diagonal tile that starts at key `n`. -/
def cntH (n j : ℕ) (r : Fin 4) (row : Fin 512) : ℕ :=
  if row.val < 256 then (if 2 * r.val < j then n + 256 else n) else (if 2 * r.val + 1 < j then n + 512 else n)

section
variable (Q : Fin 4 → Fin 512 → Fin 256 → EReal) (K W : ℕ → Fin 128 → EReal) (n : ℕ) (hn : n + 512 ≤ 8192)
  (kl vl : FVec Ideal S512x128 .bf16) (hk : ∀ j d, kl (ix2 j d) = K (n + j.val) d) (hvl : ∀ j d, vl (ix2 j d) = W (n + j.val) d)
  {w : BitVec 32} (hw : w = BitVec.ofNat 32 n) (r : Fin 4) (q : FVec Ideal S1x256x256 .bf16)

include hn hk hw in
theorem kAug_key (j : Fin 512) (c : Fin 256) : kAug w kl (ix2 j c) = keyRow K (n + j.val) c := by
  subst hw
  rw [kAug_apply]
  unfold keyRow
  by_cases h : c.val < 128
  · rw [dif_pos h, dif_pos h, hk]
  · rw [dif_neg h, dif_neg h, oneHot_apply n hn]

include hn hk hw in
theorem scD_sel (hq : ∀ (x c : Fin 256), q (ix3 0 x c) = Q r ⟨x.val, by omega⟩ c) (x j : Fin 256) :
    scD q (kAug w kl) (ix2 x j) = selScore Q K n r ⟨x.val, by omega⟩ (n + j.val) := by
  have hd : (∑ c : Fin 256, q (ix3 0 x c) * kAug w kl (ix2 ⟨j.val, by omega⟩ c)) = dotScore Q K r ⟨x.val, by omega⟩ (n + j.val) :=
    Finset.sum_congr rfl fun c _ => by rw [hq, kAug_key K n hn kl hk hw]
  rw [scD_apply, tri_apply, hd]
  unfold selScore
  by_cases h : j.val ≤ x.val
  · rw [if_pos h, if_pos (by show n + j.val ≤ n + x.val; omega), add_zero]
  · rw [if_neg h, if_neg (by show ¬ n + j.val ≤ n + x.val; omega), EReal.add_bot]

include hn hk hw in
theorem scE_sel (hq : ∀ (x c : Fin 256), q (ix3 0 x c) = Q r ⟨256 + x.val, by omega⟩ c) (x : Fin 256) (j : Fin 512) :
    scE q (kAug w kl) (ix2 x j) = selScore Q K n r ⟨256 + x.val, by omega⟩ (n + j.val) := by
  have hd : prE q (kAug w kl) (ix2 x j) = dotScore Q K r ⟨256 + x.val, by omega⟩ (n + j.val) := by
    rw [prE_apply]
    exact Finset.sum_congr rfl fun c _ => by rw [hq, kAug_key K n hn kl hk hw]
  rw [scE_apply, hd]
  unfold selScore
  by_cases h : j.val < 256
  · rw [dif_pos h, if_pos (by show n + j.val ≤ n + (256 + x.val); omega)]
  · rw [dif_neg h, tri_apply]
    by_cases h' : j.val - 256 ≤ x.val
    · rw [if_pos h', if_pos (by show n + j.val ≤ n + (256 + x.val); omega), add_zero]
    · rw [if_neg h', if_neg (by show ¬ n + j.val ≤ n + (256 + x.val); omega), EReal.add_bot]

variable {sig : RefSig} {κ : Kind} {sp : Space} (v22 : View sig κ sp S4x512x256 .f32) (v23 : View sig κ sp S4x512x128 .f32)

include hvl in
theorem vE_val (j : Fin 512) (d : Fin 256) : vAug vl (ix2 j d) = valRow W (n + j.val) d := vAug_val W vl n hvl j d

include hvl in
theorem vD_val (j d : Fin 256) : vaD (vAug vl) (ix2 j d) = valRow W (n + j.val) d :=
  (vaD_apply _ j d).trans (vAug_val W vl n hvl _ d)

include hn hk hvl hw in
/-- Half-step 0 of head `r`: its first 256 rows, stored, go from `n` to `n + 256` keys. -/
theorem halfD (r0 : ℕ) (hr : r.val = r0) (k k' : ℕ) (hk1 : k = 2 * r0 + 0) (hk2 : k' = 2 * r0 + 1)
    (L22 : List (View.Piece (Elt Ideal) S4x512x256 .f32)) (L23 : List (View.Piece (Elt Ideal) S4x512x128 .f32))
    (h : St v22 v23 (v22.writes (Elt Ideal) v22.junk L22) (v23.writes (Elt Ideal) v23.junk L23) (selScore Q K n) (valRow W) (cntH n k))
    (hq : ∀ (x c : Fin 256), q (ix3 0 x c) = Q r ⟨x.val, by omega⟩ c)
    (p p' : _) (qq qq' : _) {m : FVec Ideal S1x256x128 .f32} {a : FVec Ideal S1x256x256 .f32}
    (em : m = stMD (scD q (kAug w kl))
      (v23.readCov (Val := Elt Ideal) L23 (Rect.unit (s := S4x512x128) ![r0, 0, 0] S1x256x128.size p').toLoadRect))
    (ea : a = stAD (scD q (kAug w kl)) (vaD (vAug vl))
      (v23.readCov (Val := Elt Ideal) L23 (Rect.unit (s := S4x512x128) ![r0, 0, 0] S1x256x128.size p').toLoadRect)
      (v22.readCov (Val := Elt Ideal) L22 (Rect.unit (s := S4x512x256) ![r0, 0, 0] S1x256x256.size qq').toLoadRect)) :
    St v22 v23 (v22.writes (Elt Ideal) v22.junk (pcA r0 0 256 qq a :: L22))
      (v23.writes (Elt Ideal) v23.junk (pcM r0 0 256 p m :: L23)) (selScore Q K n) (valRow W) (cntH n k') := by
  have hx : ∀ x : Fin 256, (⟨x.val, by omega⟩ : Fin 512).val = 0 + x.val := fun x => by show x.val = _; omega
  have hu := fun x : Fin 256 => updateD (scD q (kAug w kl)) (vaD (vAug vl)) _ _
    (fun x => selScore Q K n r ⟨x.val, by omega⟩) (valRow W) n
    (scD_sel Q K n hn kl hk hw r q hq) (vD_val W n vl hvl)
    (fun x => ⟨fun l => (covHM v23 p' L23 r ⟨x.val, by omega⟩ x l hr (hx x)).trans (((h r ⟨x.val, by omega⟩).1 l).trans
        (congrArg _ (by unfold cntH; rw [if_pos (by show x.val < 256; omega), if_neg (by omega)]))),
      fun d => (covHA v22 qq' L22 r ⟨x.val, by omega⟩ x d hr (hx x)).trans (((h r ⟨x.val, by omega⟩).2 d).trans
        (congrArg _ (by unfold cntH; rw [if_pos (by show x.val < 256; omega), if_neg (by omega)])))⟩) x
  rw [← em, ← ea] at hu
  intro r' row
  by_cases h1 : r'.val = r0
  · by_cases h2 : row.val < 256
    · have hc : cntH n k' r' row = n + 256 := by unfold cntH; rw [if_pos h2, if_pos (by omega)]
      have hr' : r' = r := Fin.ext (by omega)
      subst hr'
      have hrow : row = (⟨(⟨row.val - 0, by omega⟩ : Fin 256).val, by show row.val - 0 < 512; omega⟩ : Fin 512) :=
        Fin.ext (by show row.val = (row.val - 0); omega)
      have hh := hu ⟨row.val - 0, by omega⟩
      rw [← hrow] at hh
      rw [hc]
      exact ⟨fun l => (hitHM v23 _ p m L23 r' row ⟨row.val - 0, by omega⟩ l h1 (by show row.val = 0 + (row.val - 0); omega)).trans (hh.1 l),
        fun d => (hitHA v22 _ qq a L22 r' row ⟨row.val - 0, by omega⟩ d h1 (by show row.val = 0 + (row.val - 0); omega)).trans (hh.2 d)⟩
    · have hc : cntH n k' r' row = cntH n k r' row := by unfold cntH; rw [if_neg h2, if_neg h2]; exact if_congr (by omega) rfl rfl
      rw [hc]
      exact ⟨fun l => (missRowHM v23 _ p m L23 r' row l (by omega)).trans ((h r' row).1 l),
        fun d => (missRowHA v22 _ qq a L22 r' row d (by omega)).trans ((h r' row).2 d)⟩
  · have hc : cntH n k' r' row = cntH n k r' row := by
      unfold cntH
      congr 1 <;> exact if_congr (by omega) rfl rfl
    rw [hc]
    exact ⟨fun l => (missHeadHM v23 _ p m L23 r' row l h1).trans ((h r' row).1 l),
      fun d => (missHeadHA v22 _ qq a L22 r' row d h1).trans ((h r' row).2 d)⟩

include hn hk hvl hw in
/-- Half-step 1 of head `r`: its last 256 rows, stored, go from `n` to `n + 512` keys. -/
theorem halfE (r0 : ℕ) (hr : r.val = r0) (k k' : ℕ) (hk1 : k = 2 * r0 + 1) (hk2 : k' = 2 * r0 + 2)
    (L22 : List (View.Piece (Elt Ideal) S4x512x256 .f32)) (L23 : List (View.Piece (Elt Ideal) S4x512x128 .f32))
    (h : St v22 v23 (v22.writes (Elt Ideal) v22.junk L22) (v23.writes (Elt Ideal) v23.junk L23) (selScore Q K n) (valRow W) (cntH n k))
    (hq : ∀ (x c : Fin 256), q (ix3 0 x c) = Q r ⟨256 + x.val, by omega⟩ c)
    (p p' : _) (qq qq' : _) {m : FVec Ideal S1x256x128 .f32} {a : FVec Ideal S1x256x256 .f32}
    (em : m = stME (scE q (kAug w kl))
      (v23.readCov (Val := Elt Ideal) L23 (Rect.unit (s := S4x512x128) ![r0, 256, 0] S1x256x128.size p').toLoadRect))
    (ea : a = stAE (scE q (kAug w kl)) (vAug vl)
      (v23.readCov (Val := Elt Ideal) L23 (Rect.unit (s := S4x512x128) ![r0, 256, 0] S1x256x128.size p').toLoadRect)
      (v22.readCov (Val := Elt Ideal) L22 (Rect.unit (s := S4x512x256) ![r0, 256, 0] S1x256x256.size qq').toLoadRect)) :
    St v22 v23 (v22.writes (Elt Ideal) v22.junk (pcA r0 256 256 qq a :: L22))
      (v23.writes (Elt Ideal) v23.junk (pcM r0 256 256 p m :: L23)) (selScore Q K n) (valRow W) (cntH n k') := by
  have hx : ∀ x : Fin 256, (⟨256 + x.val, by omega⟩ : Fin 512).val = 256 + x.val := fun x => by show 256 + x.val = _; omega
  have hu := fun x : Fin 256 => updateE (scE q (kAug w kl)) (vAug vl) _ _
    (fun x => selScore Q K n r ⟨256 + x.val, by omega⟩) (valRow W) n
    (scE_sel Q K n hn kl hk hw r q hq) (vE_val W n vl hvl)
    (fun x => ⟨fun l => (covHM v23 p' L23 r ⟨256 + x.val, by omega⟩ x l hr (hx x)).trans (((h r ⟨256 + x.val, by omega⟩).1 l).trans
        (congrArg _ (by unfold cntH; rw [if_neg (by show ¬ 256 + x.val < 256; omega), if_neg (by omega)]))),
      fun d => (covHA v22 qq' L22 r ⟨256 + x.val, by omega⟩ x d hr (hx x)).trans (((h r ⟨256 + x.val, by omega⟩).2 d).trans
        (congrArg _ (by unfold cntH; rw [if_neg (by show ¬ 256 + x.val < 256; omega), if_neg (by omega)])))⟩) x
  rw [← em, ← ea] at hu
  intro r' row
  by_cases h1 : r'.val = r0
  · by_cases h2 : 256 ≤ row.val
    · have hc : cntH n k' r' row = n + 512 := by unfold cntH; rw [if_neg (by omega), if_pos (by omega)]
      have hr' : r' = r := Fin.ext (by omega)
      subst hr'
      have hrow : row = (⟨256 + (⟨row.val - 256, by omega⟩ : Fin 256).val, by show 256 + (row.val - 256) < 512; omega⟩ : Fin 512) :=
        Fin.ext (by show row.val = 256 + (row.val - 256); omega)
      have hh := hu ⟨row.val - 256, by omega⟩
      rw [← hrow] at hh
      rw [hc]
      exact ⟨fun l => (hitHM v23 _ p m L23 r' row ⟨row.val - 256, by omega⟩ l h1 (by show row.val = 256 + (row.val - 256); omega)).trans (hh.1 l),
        fun d => (hitHA v22 _ qq a L22 r' row ⟨row.val - 256, by omega⟩ d h1 (by show row.val = 256 + (row.val - 256); omega)).trans (hh.2 d)⟩
    · have hc : cntH n k' r' row = cntH n k r' row := by
        have hlt : row.val < 256 := by omega
        unfold cntH
        rw [if_pos hlt, if_pos hlt]
        exact if_congr (by omega) rfl rfl
      rw [hc]
      exact ⟨fun l => (missRowHM v23 _ p m L23 r' row l (by omega)).trans ((h r' row).1 l),
        fun d => (missRowHA v22 _ qq a L22 r' row d (by omega)).trans ((h r' row).2 d)⟩
  · have hc : cntH n k' r' row = cntH n k r' row := by
      unfold cntH
      congr 1 <;> exact if_congr (by omega) rfl rfl
    rw [hc]
    exact ⟨fun l => (missHeadHM v23 _ p m L23 r' row l h1).trans ((h r' row).1 l),
      fun d => (missHeadHA v22 _ qq a L22 r' row d h1).trans ((h r' row).2 d)⟩

end

end Cert.Attn

end
-- ==== Proof.Start.lean ====
/-
The states before the last keys of a block: the scratch arrays filled, then the trips of the loop.
-/
module

public import proofs.«01_k».proof.Proof.Gen.KernelIdeal.Frame.Runs
public import proofs.«01_k».proof.Proof.Trip
public import proofs.«01_k».proof.Proof.Diag

@[expose] public section

set_option maxRecDepth 16384

noncomputable section

namespace Cert.Attn

open Idealize.ShloMosaic Cert.KernelIdeal Cert.KernelIdeal.Gen

theorem init_sums (r : Fin 4) (row : Fin 512) (d : Fin 256) : (k0_pay275 : FVec Ideal S4x512x256 .f32) (ix3 r row d) = 0 := by
  unfold k0_pay275
  pointwise

theorem init_max (r : Fin 4) (row : Fin 512) (l : Fin 128) :
    k0_pay274 (k0_pay273 : FVec Ideal S4x512x128 .f32) (ix3 r row l) = ⊥ := by
  unfold k0_pay274 k0_pay273
  pointwise
  rfl

/-- The filled scratch arrays hold the states before any key. -/
theorem init_st {sig : RefSig} {κ : Kind} {sp : Space} (v22 : View sig κ sp S4x512x256 .f32) (v23 : View sig κ sp S4x512x128 .f32)
    (g22 : v22.ty.Contents (Elt Ideal)) (g23 : v23.ty.Contents (Elt Ideal)) (S : Fin 4 → Fin 512 → ℕ → EReal) (V : ℕ → Fin 256 → EReal)
    (p : _) (q : _) :
    St v22 v23 (v22.writes (Elt Ideal) g22 [⟨Rect.unit ![0, 0, 0] S4x512x256.size p, (k0_pay275 (F := Ideal))⟩])
      (v23.writes (Elt Ideal) g23 [⟨Rect.unit ![0, 0, 0] S4x512x128.size q, k0_pay274 (k0_pay273 (F := Ideal))⟩]) S V fun _ _ => 0 := fun r row =>
  ⟨fun l => (View.read_writes_cons_unit_of_mem v23 g23 q _ [] (ix3 r row l) (ix3 r row l) rfl fun a => by
      match a with
      | ⟨0, _⟩ => exact (Nat.zero_add _).symm
      | ⟨1, _⟩ => exact (Nat.zero_add _).symm
      | ⟨2, _⟩ => exact (Nat.zero_add _).symm).trans ((init_max r row l).trans (rowMax_zero _).symm),
    fun d => (View.read_writes_cons_unit_of_mem v22 g22 p _ [] (ix3 r row d) (ix3 r row d) rfl fun a => by
      match a with
      | ⟨0, _⟩ => exact (Nat.zero_add _).symm
      | ⟨1, _⟩ => exact (Nat.zero_add _).symm
      | ⟨2, _⟩ => exact (Nat.zero_add _).symm).trans ((init_sums r row d).trans (rowSum_zero _ _).symm)⟩

theorem no_trips (i : grid0.Coords) : (k0_t2_loop i).trips = 0 := by
  revert i; decide +kernel

/-- After both loops every row has seen the keys of its trips. -/
theorem start_st (𝒱 : Variants) (c : Dev nD) (bd : Option 𝒱.V) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (arg1 : BitVec 32) (v54 : FVec Ideal S4x512x128 .f32) (v85 : BitVec 32) (X_arg4 : BufTy.Contents (Elt Ideal) arg4.view.ty) (X_arg5 : BufTy.Contents (Elt Ideal) arg5.view.ty) (X_arg21 : BufTy.Contents (Elt Ideal) arg21.view.ty)
    (I22 : List (View.Piece (Elt Ideal) S4x512x256 .f32)) (I23 : List (View.Piece (Elt Ideal) S4x512x128 .f32))
    (h : St arg22.view arg23.view (arg22.view.writes (Elt Ideal) arg22.view.junk I22) (arg23.view.writes (Elt Ideal) arg23.view.junk I23) (selScore (qRows arg21.view X_arg21) (rowsOf arg4.view X_arg4) (512 * (i 1).val)) (valRow (rowsOf arg5.view X_arg5)) fun _ _ => 0)
    (G22 : BufTy.Contents (Elt Ideal) arg22.view.ty) (G23 : BufTy.Contents (Elt Ideal) arg23.view.ty)
    (n n2 : ℕ) (hn : n = (k0_t1_loop i).trips) (hn2 : n2 = (k0_t2_loop i).trips) :
    St arg22.view arg23.view
      (arg22.view.writes (Elt Ideal) arg22.view.junk ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 rowIota laneIota v85 X_arg4 X_arg5 X_arg21 G22 G23 n2).1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 rowIota laneIota X_arg4 X_arg5 X_arg21 (arg22.view.writes (Elt Ideal) arg22.view.junk I22) (arg23.view.writes (Elt Ideal) arg23.view.junk I23) n).1 ++ I22)))
      (arg23.view.writes (Elt Ideal) arg23.view.junk ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 rowIota laneIota v85 X_arg4 X_arg5 X_arg21 G22 G23 n2).2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 rowIota laneIota X_arg4 X_arg5 X_arg21 (arg22.view.writes (Elt Ideal) arg22.view.junk I22) (arg23.view.writes (Elt Ideal) arg23.view.junk I23) n).2 ++ I23)))
      (selScore (qRows arg21.view X_arg21) (rowsOf arg4.view X_arg4) (512 * (i 1).val)) (valRow (rowsOf arg5.view X_arg5)) fun _ _ => 2048 * (k0_t1_loop i).trips := by
  rw [no_trips] at hn2
  subst hn2
  subst hn
  show St arg22.view arg23.view (arg22.view.writes (Elt Ideal) arg22.view.junk ([] ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 rowIota laneIota X_arg4 X_arg5 X_arg21 (arg22.view.writes (Elt Ideal) arg22.view.junk I22) (arg23.view.writes (Elt Ideal) arg23.view.junk I23) (k0_t1_loop i).trips).1 ++ I22)))
      (arg23.view.writes (Elt Ideal) arg23.view.junk ([] ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 rowIota laneIota X_arg4 X_arg5 X_arg21 (arg22.view.writes (Elt Ideal) arg22.view.junk I22) (arg23.view.writes (Elt Ideal) arg23.view.junk I23) (k0_t1_loop i).trips).2 ++ I23))) _ _ _
  rw [List.nil_append, List.nil_append, View.writes_append, View.writes_append]
  exact loop_st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v54 X_arg4 X_arg5 X_arg21 _ _ h _ le_rfl

section
variable (arg4 : Memref sig .tc .vmem S8192x128 .bf16) (arg5 : Memref sig .tc .vmem S8192x128 .bf16)
  (arg21 : Memref sig .tc .vmem S4x512x256 .bf16) (arg22 : Memref sig .tc .vmem S4x512x256 .f32)
  (arg23 : Memref sig .tc .vmem S4x512x128 .f32)
  (X4 : BufTy.Contents (Elt Ideal) arg4.view.ty) (X5 : BufTy.Contents (Elt Ideal) arg5.view.ty)
  (X21 : BufTy.Contents (Elt Ideal) arg21.view.ty) (q0 : ℕ)

/-- A further tile of 512 keys before the block, after any stores. -/
theorem full_step (b : ℕ) (hb : b + 512 ≤ q0) (hq : q0 ≤ 8192) (w : BitVec 32) (hw : w = BitVec.ofNat 32 b)
    (off off' : Fin 2 → ℕ) (hoff : off = ![b, 0]) (hoff' : off' = ![b, 0]) (inb : ∀ a, off a + S512x128.size a ≤ S8192x128.size a)
    (inb' : ∀ a, off' a + S512x128.size a ≤ S8192x128.size a)
    (L22 : List (View.Piece (Elt Ideal) S4x512x256 .f32)) (L23 : List (View.Piece (Elt Ideal) S4x512x128 .f32))
    (h : St arg22.view arg23.view (arg22.view.writes (Elt Ideal) arg22.view.junk L22) (arg23.view.writes (Elt Ideal) arg23.view.junk L23)
      (selScore (qRows arg21.view X21) (rowsOf arg4.view X4) q0) (valRow (rowsOf arg5.view X5)) fun _ _ => b)
    {m0 m1 m2 m3 : FVec Ideal S1x512x128 .f32} {a0 a1 a2 a3 : FVec Ideal S1x512x256 .f32}
    (p0 p1 p2 p3 : _) (q0' q1 q2 q3 : _) (x0 x1 x2 x3 : _) (y0 y1 y2 y3 : _)
    (em0 : m0 = stMF (sc (qLoad arg21 X21 0) (kAug w (arg4.view.readAt (Elt Ideal) (Rect.unit (s := S8192x128) off S512x128.size inb).toLoadRect X4))) (arg23.view.readCov (Val := Elt Ideal) (L23) (Rect.unit (s := S4x512x128) ![0, 0, 0] S1x512x128.size p0).toLoadRect))
    (ea0 : a0 = stAF (sc (qLoad arg21 X21 0) (kAug w (arg4.view.readAt (Elt Ideal) (Rect.unit (s := S8192x128) off S512x128.size inb).toLoadRect X4))) (vAug (arg5.view.readAt (Elt Ideal) (Rect.unit (s := S8192x128) off' S512x128.size inb').toLoadRect X5)) (arg23.view.readCov (Val := Elt Ideal) (L23) (Rect.unit (s := S4x512x128) ![0, 0, 0] S1x512x128.size p0).toLoadRect) (arg22.view.readCov (Val := Elt Ideal) (L22) (Rect.unit (s := S4x512x256) ![0, 0, 0] S1x512x256.size q0').toLoadRect))
    (em1 : m1 = stMF (sc (qLoad arg21 X21 1) (kAug w (arg4.view.readAt (Elt Ideal) (Rect.unit (s := S8192x128) off S512x128.size inb).toLoadRect X4))) (arg23.view.readCov (Val := Elt Ideal) (pcM 0 0 512 x0 m0 :: L23) (Rect.unit (s := S4x512x128) ![1, 0, 0] S1x512x128.size p1).toLoadRect))
    (ea1 : a1 = stAF (sc (qLoad arg21 X21 1) (kAug w (arg4.view.readAt (Elt Ideal) (Rect.unit (s := S8192x128) off S512x128.size inb).toLoadRect X4))) (vAug (arg5.view.readAt (Elt Ideal) (Rect.unit (s := S8192x128) off' S512x128.size inb').toLoadRect X5)) (arg23.view.readCov (Val := Elt Ideal) (pcM 0 0 512 x0 m0 :: L23) (Rect.unit (s := S4x512x128) ![1, 0, 0] S1x512x128.size p1).toLoadRect) (arg22.view.readCov (Val := Elt Ideal) (pcA 0 0 512 y0 a0 :: L22) (Rect.unit (s := S4x512x256) ![1, 0, 0] S1x512x256.size q1).toLoadRect))
    (em2 : m2 = stMF (sc (qLoad arg21 X21 2) (kAug w (arg4.view.readAt (Elt Ideal) (Rect.unit (s := S8192x128) off S512x128.size inb).toLoadRect X4))) (arg23.view.readCov (Val := Elt Ideal) (pcM 1 0 512 x1 m1 :: pcM 0 0 512 x0 m0 :: L23) (Rect.unit (s := S4x512x128) ![2, 0, 0] S1x512x128.size p2).toLoadRect))
    (ea2 : a2 = stAF (sc (qLoad arg21 X21 2) (kAug w (arg4.view.readAt (Elt Ideal) (Rect.unit (s := S8192x128) off S512x128.size inb).toLoadRect X4))) (vAug (arg5.view.readAt (Elt Ideal) (Rect.unit (s := S8192x128) off' S512x128.size inb').toLoadRect X5)) (arg23.view.readCov (Val := Elt Ideal) (pcM 1 0 512 x1 m1 :: pcM 0 0 512 x0 m0 :: L23) (Rect.unit (s := S4x512x128) ![2, 0, 0] S1x512x128.size p2).toLoadRect) (arg22.view.readCov (Val := Elt Ideal) (pcA 1 0 512 y1 a1 :: pcA 0 0 512 y0 a0 :: L22) (Rect.unit (s := S4x512x256) ![2, 0, 0] S1x512x256.size q2).toLoadRect))
    (em3 : m3 = stMF (sc (qLoad arg21 X21 3) (kAug w (arg4.view.readAt (Elt Ideal) (Rect.unit (s := S8192x128) off S512x128.size inb).toLoadRect X4))) (arg23.view.readCov (Val := Elt Ideal) (pcM 2 0 512 x2 m2 :: pcM 1 0 512 x1 m1 :: pcM 0 0 512 x0 m0 :: L23) (Rect.unit (s := S4x512x128) ![3, 0, 0] S1x512x128.size p3).toLoadRect))
    (ea3 : a3 = stAF (sc (qLoad arg21 X21 3) (kAug w (arg4.view.readAt (Elt Ideal) (Rect.unit (s := S8192x128) off S512x128.size inb).toLoadRect X4))) (vAug (arg5.view.readAt (Elt Ideal) (Rect.unit (s := S8192x128) off' S512x128.size inb').toLoadRect X5)) (arg23.view.readCov (Val := Elt Ideal) (pcM 2 0 512 x2 m2 :: pcM 1 0 512 x1 m1 :: pcM 0 0 512 x0 m0 :: L23) (Rect.unit (s := S4x512x128) ![3, 0, 0] S1x512x128.size p3).toLoadRect) (arg22.view.readCov (Val := Elt Ideal) (pcA 2 0 512 y2 a2 :: pcA 1 0 512 y1 a1 :: pcA 0 0 512 y0 a0 :: L22) (Rect.unit (s := S4x512x256) ![3, 0, 0] S1x512x256.size q3).toLoadRect))
    :
    St arg22.view arg23.view (arg22.view.writes (Elt Ideal) arg22.view.junk (pcA 3 0 512 y3 a3 :: pcA 2 0 512 y2 a2 :: pcA 1 0 512 y1 a1 :: pcA 0 0 512 y0 a0 :: L22)) (arg23.view.writes (Elt Ideal) arg23.view.junk (pcM 3 0 512 x3 m3 :: pcM 2 0 512 x2 m2 :: pcM 1 0 512 x1 m1 :: pcM 0 0 512 x0 m0 :: L23))
      (selScore (qRows arg21.view X21) (rowsOf arg4.view X4) q0) (valRow (rowsOf arg5.view X5)) fun _ _ => b + 512 :=
  tile arg22.view arg23.view _ _ b _ _
    (loadsCov arg22.view arg23.view (selScore (qRows arg21.view X21) (rowsOf arg4.view X4) q0) (valRow (rowsOf arg5.view X5)) b L22 L23 h
      p0 p1 p2 p3 q0' q1 q2 q3 x0 x1 x2 y0 y1 y2 m0 m1 m2 a0 a1 a2)
    (vAug (arg5.view.readAt (Elt Ideal) (Rect.unit (s := S8192x128) off' S512x128.size inb').toLoadRect X5)) (tile_values arg5 X5 _ hoff' _)
    (fun r => sc (qLoad arg21 X21 r) (kAug w (arg4.view.readAt (Elt Ideal) (Rect.unit (s := S8192x128) off S512x128.size inb).toLoadRect X4)))
    (tile_scores arg4 arg21 X4 X21 _ q0 hb hq hw hoff _)
    em0 em1 em2 em3 ea0 ea1 ea2 ea3 arg22.view.junk arg23.view.junk L22 L23 x0 x1 x2 x3 y0 y1 y2 y3

end

/-- The query rows of a half block. -/
theorem qRows_half {sig : RefSig} {κ : Kind} {sp : Space} (v : View sig κ sp S4x512x256 .bf16) (f : v.ty.Contents (Elt Ideal)) (r0 o : ℕ)
    (inb : ∀ a, (![r0, o, 0] : Fin 3 → ℕ) a + S1x256x256.size a ≤ S4x512x256.size a) (r : Fin 4) (hr : r.val = r0)
    (row : Fin 512) (x c : Fin 256) (hx : row.val = o + x.val) :
    v.readAt (Elt Ideal) (Rect.unit (s := S4x512x256) ![r0, o, 0] S1x256x256.size inb).toLoadRect f (ix3 0 x c) = qRows v f r row c :=
  congrArg (v.read (Elt Ideal) f) (funext fun a => Fin.ext (by
    match a with
    | ⟨0, _⟩ => exact hr.symm
    | ⟨1, _⟩ =>
      show o + 1 * x.val = row.val
      omega
    | ⟨2, _⟩ => exact (Nat.zero_add _).trans (Nat.one_mul _)))

theorem cntH_zero (n : ℕ) : cntH n 0 = fun _ _ => n := by
  funext r row
  unfold cntH
  split_ifs <;> omega

theorem diag_off (i : grid0.Coords) : k0_off6 i = ![512 * (i 1).val, 0] := by
  revert i; decide +kernel

theorem diag_word (i : grid0.Coords) : Scalar.muli (BitVec.ofNat 32 (i 1).val) 512#32 = BitVec.ofNat 32 (512 * (i 1).val) := by
  revert i; decide +kernel

theorem one_word (i : grid0.Coords) (hc : cond0_1 i) :
    Scalar.muli (Scalar.subi (BitVec.ofNat 32 (i 1).val) 1#32) 512#32 = BitVec.ofNat 32 (512 * (i 1).val - 512) := by
  revert i; decide +kernel

theorem one_off (i : grid0.Coords) (hc : cond0_1 i) : k0_off5 i = ![512 * (i 1).val - 512, 0] := by
  revert i; decide +kernel

theorem two_off (i : grid0.Coords) (hc : cond0_0 i) : k0_off3 i = ![2048 * (k0_t1_loop i).trips, 0]
    ∧ k0_off4 i = ![2048 * (k0_t1_loop i).trips + 512, 0] := by
  revert i; decide +kernel

theorem trips_A (i : grid0.Coords) (hc0 : ¬ cond0_0 i) (hc1 : ¬ cond0_1 i) : 2048 * (k0_t1_loop i).trips = 512 * (i 1).val := by
  revert i; decide +kernel

theorem trips_B (i : grid0.Coords) (hc0 : ¬ cond0_0 i) (hc1 : cond0_1 i) : 2048 * (k0_t1_loop i).trips + 512 = 512 * (i 1).val := by
  revert i; decide +kernel

theorem trips_C (i : grid0.Coords) (hc0 : cond0_0 i) (hc1 : ¬ cond0_1 i) : 2048 * (k0_t1_loop i).trips + 1024 = 512 * (i 1).val := by
  revert i; decide +kernel

theorem trips_D (i : grid0.Coords) (hc0 : cond0_0 i) (hc1 : cond0_1 i) : 2048 * (k0_t1_loop i).trips + 1536 = 512 * (i 1).val := by
  revert i; decide +kernel

end Cert.Attn

end
-- ==== Proof.SumsA.lean ====
/-
The sums a block ends with, case A.
-/
module

public import proofs.«01_k».proof.Proof.Gen.KernelIdeal.Frame.RunA
public import proofs.«01_k».proof.Proof.Start

@[expose] public section

set_option maxRecDepth 16384
set_option maxHeartbeats 2000000

noncomputable section

namespace Cert.Attn

open Idealize.ShloMosaic Cert.KernelIdeal Cert.KernelIdeal.Gen
open Idealize.ShloMosaic.TcCoe

/-- After a block's last store its sums have seen all the keys its rows see. -/
theorem sums_A (c : Dev nD) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (hc0 : ¬cond0_0 i) (hc1 : ¬cond0_1 i)     (x0 : Vec Ideal S512x512 .bf16) (x1 : Vec Ideal S1x512x128 .bf16) (x2 : Vec Ideal S8192x128 .bf16) (x3 : Vec Ideal S8192x128 .bf16) (x4 : Vec Ideal S8192x128 .bf16) (x5 : Vec Ideal S8192x128 .bf16) (x6 : Vec Ideal S512x512 .bf16) (x7 : Vec Ideal S512x128 .f32) (x8 : Vec Ideal S1x32x2048 .f32) (x9 : Vec Ideal S1x64x2048 .f32) (x10 : Vec Ideal S1x32x2048 .f32) (x11 : Vec Ideal S1x32x8192 .f32) (x12 : Vec Ideal S1x128x2048 .f32) (r : Fin 4) (row : Fin 512) (d : Fin 256) :
    arg22.view.read (Elt Ideal) (arg22.view.writes (Elt Ideal) arg22.view.junk (kernelRun0_A.sl.HS1_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3)) (ix3 r row d)
      = rowSum ((selScore (qRows arg21.view (arg21.view.writes (Elt Ideal) arg21.view.junk (kernelRun0_A.sl.HS0_4 (F := Ideal) c arg2 harg2 arg3 harg3 x0 x1))) (rowsOf arg4.view (harg4.unread x2)) (512 * (i 1).val)) r row) (fun k => (valRow (rowsOf arg5.view (harg5.unread x3))) k d) (cntH (512 * (i 1).val) 8 r row) := by
  obtain ⟨ht, hq⟩ := trips_le i
  have hi : (i 1).val < 16 := (i 1).isLt
  have hn : 512 * (i 1).val + 512 ≤ 8192 := by omega
  have hk := fun j d => rowsOf_load arg4.view (harg4.unread x2) (512 * (i 1).val) (diag_off i) (k0_off6_inb i) j d
  have hv := fun j d => rowsOf_load arg5.view (harg5.unread x3) (512 * (i 1).val) (diag_off i) (k0_off6_inb i) j d
  refine ((halfE (qRows arg21.view (arg21.view.writes (Elt Ideal) arg21.view.junk (kernelRun0_A.sl.HS0_4 (F := Ideal) c arg2 harg2 arg3 harg3 x0 x1))) (rowsOf arg4.view (harg4.unread x2)) (rowsOf arg5.view (harg5.unread x3)) (512 * (i 1).val) hn _ _ hk hv (diag_word i) 3 _ arg22.view arg23.view 3 rfl 7 8 rfl rfl _ _ ?_ (fun x y => qRows_half arg21.view (arg21.view.writes (Elt Ideal) arg21.view.junk (kernelRun0_A.sl.HS0_4 (F := Ideal) c arg2 harg2 arg3 harg3 x0 x1)) 3 256 inb_S4x512x256_S1x256x256_3_256_0 3 rfl ⟨256 + x.val, by omega⟩ x y rfl) inb_S4x512x128_S1x256x128_3_256_0 inb_S4x512x128_S1x256x128_3_256_0 inb_S4x512x256_S1x256x256_3_256_0 inb_S4x512x256_S1x256x256_3_256_0 rfl rfl) r row).2 d
  refine halfD (qRows arg21.view (arg21.view.writes (Elt Ideal) arg21.view.junk (kernelRun0_A.sl.HS0_4 (F := Ideal) c arg2 harg2 arg3 harg3 x0 x1))) (rowsOf arg4.view (harg4.unread x2)) (rowsOf arg5.view (harg5.unread x3)) (512 * (i 1).val) hn _ _ hk hv (diag_word i) 3 _ arg22.view arg23.view 3 rfl 6 7 rfl rfl _ _ ?_ (fun x y => qRows_half arg21.view (arg21.view.writes (Elt Ideal) arg21.view.junk (kernelRun0_A.sl.HS0_4 (F := Ideal) c arg2 harg2 arg3 harg3 x0 x1)) 3 0 inb_S4x512x256_S1x256x256_3_0_0 3 rfl ⟨x.val, by omega⟩ x y (Nat.zero_add _).symm) inb_S4x512x128_S1x256x128_3_0_0 inb_S4x512x128_S1x256x128_3_0_0 inb_S4x512x256_S1x256x256_3_0_0 inb_S4x512x256_S1x256x256_3_0_0 rfl rfl
  refine halfE (qRows arg21.view (arg21.view.writes (Elt Ideal) arg21.view.junk (kernelRun0_A.sl.HS0_4 (F := Ideal) c arg2 harg2 arg3 harg3 x0 x1))) (rowsOf arg4.view (harg4.unread x2)) (rowsOf arg5.view (harg5.unread x3)) (512 * (i 1).val) hn _ _ hk hv (diag_word i) 2 _ arg22.view arg23.view 2 rfl 5 6 rfl rfl _ _ ?_ (fun x y => qRows_half arg21.view (arg21.view.writes (Elt Ideal) arg21.view.junk (kernelRun0_A.sl.HS0_4 (F := Ideal) c arg2 harg2 arg3 harg3 x0 x1)) 2 256 inb_S4x512x256_S1x256x256_2_256_0 2 rfl ⟨256 + x.val, by omega⟩ x y rfl) inb_S4x512x128_S1x256x128_2_256_0 inb_S4x512x128_S1x256x128_2_256_0 inb_S4x512x256_S1x256x256_2_256_0 inb_S4x512x256_S1x256x256_2_256_0 rfl rfl
  refine halfD (qRows arg21.view (arg21.view.writes (Elt Ideal) arg21.view.junk (kernelRun0_A.sl.HS0_4 (F := Ideal) c arg2 harg2 arg3 harg3 x0 x1))) (rowsOf arg4.view (harg4.unread x2)) (rowsOf arg5.view (harg5.unread x3)) (512 * (i 1).val) hn _ _ hk hv (diag_word i) 2 _ arg22.view arg23.view 2 rfl 4 5 rfl rfl _ _ ?_ (fun x y => qRows_half arg21.view (arg21.view.writes (Elt Ideal) arg21.view.junk (kernelRun0_A.sl.HS0_4 (F := Ideal) c arg2 harg2 arg3 harg3 x0 x1)) 2 0 inb_S4x512x256_S1x256x256_2_0_0 2 rfl ⟨x.val, by omega⟩ x y (Nat.zero_add _).symm) inb_S4x512x128_S1x256x128_2_0_0 inb_S4x512x128_S1x256x128_2_0_0 inb_S4x512x256_S1x256x256_2_0_0 inb_S4x512x256_S1x256x256_2_0_0 rfl rfl
  refine halfE (qRows arg21.view (arg21.view.writes (Elt Ideal) arg21.view.junk (kernelRun0_A.sl.HS0_4 (F := Ideal) c arg2 harg2 arg3 harg3 x0 x1))) (rowsOf arg4.view (harg4.unread x2)) (rowsOf arg5.view (harg5.unread x3)) (512 * (i 1).val) hn _ _ hk hv (diag_word i) 1 _ arg22.view arg23.view 1 rfl 3 4 rfl rfl _ _ ?_ (fun x y => qRows_half arg21.view (arg21.view.writes (Elt Ideal) arg21.view.junk (kernelRun0_A.sl.HS0_4 (F := Ideal) c arg2 harg2 arg3 harg3 x0 x1)) 1 256 inb_S4x512x256_S1x256x256_1_256_0 1 rfl ⟨256 + x.val, by omega⟩ x y rfl) inb_S4x512x128_S1x256x128_1_256_0 inb_S4x512x128_S1x256x128_1_256_0 inb_S4x512x256_S1x256x256_1_256_0 inb_S4x512x256_S1x256x256_1_256_0 rfl rfl
  refine halfD (qRows arg21.view (arg21.view.writes (Elt Ideal) arg21.view.junk (kernelRun0_A.sl.HS0_4 (F := Ideal) c arg2 harg2 arg3 harg3 x0 x1))) (rowsOf arg4.view (harg4.unread x2)) (rowsOf arg5.view (harg5.unread x3)) (512 * (i 1).val) hn _ _ hk hv (diag_word i) 1 _ arg22.view arg23.view 1 rfl 2 3 rfl rfl _ _ ?_ (fun x y => qRows_half arg21.view (arg21.view.writes (Elt Ideal) arg21.view.junk (kernelRun0_A.sl.HS0_4 (F := Ideal) c arg2 harg2 arg3 harg3 x0 x1)) 1 0 inb_S4x512x256_S1x256x256_1_0_0 1 rfl ⟨x.val, by omega⟩ x y (Nat.zero_add _).symm) inb_S4x512x128_S1x256x128_1_0_0 inb_S4x512x128_S1x256x128_1_0_0 inb_S4x512x256_S1x256x256_1_0_0 inb_S4x512x256_S1x256x256_1_0_0 rfl rfl
  refine halfE (qRows arg21.view (arg21.view.writes (Elt Ideal) arg21.view.junk (kernelRun0_A.sl.HS0_4 (F := Ideal) c arg2 harg2 arg3 harg3 x0 x1))) (rowsOf arg4.view (harg4.unread x2)) (rowsOf arg5.view (harg5.unread x3)) (512 * (i 1).val) hn _ _ hk hv (diag_word i) 0 _ arg22.view arg23.view 0 rfl 1 2 rfl rfl _ _ ?_ (fun x y => qRows_half arg21.view (arg21.view.writes (Elt Ideal) arg21.view.junk (kernelRun0_A.sl.HS0_4 (F := Ideal) c arg2 harg2 arg3 harg3 x0 x1)) 0 256 inb_S4x512x256_S1x256x256_0_256_0 0 rfl ⟨256 + x.val, by omega⟩ x y rfl) inb_S4x512x128_S1x256x128_0_256_0 inb_S4x512x128_S1x256x128_0_256_0 inb_S4x512x256_S1x256x256_0_256_0 inb_S4x512x256_S1x256x256_0_256_0 rfl rfl
  refine halfD (qRows arg21.view (arg21.view.writes (Elt Ideal) arg21.view.junk (kernelRun0_A.sl.HS0_4 (F := Ideal) c arg2 harg2 arg3 harg3 x0 x1))) (rowsOf arg4.view (harg4.unread x2)) (rowsOf arg5.view (harg5.unread x3)) (512 * (i 1).val) hn _ _ hk hv (diag_word i) 0 _ arg22.view arg23.view 0 rfl 0 1 rfl rfl _ _ ?_ (fun x y => qRows_half arg21.view (arg21.view.writes (Elt Ideal) arg21.view.junk (kernelRun0_A.sl.HS0_4 (F := Ideal) c arg2 harg2 arg3 harg3 x0 x1)) 0 0 inb_S4x512x256_S1x256x256_0_0_0 0 rfl ⟨x.val, by omega⟩ x y (Nat.zero_add _).symm) inb_S4x512x128_S1x256x128_0_0_0 inb_S4x512x128_S1x256x128_0_0_0 inb_S4x512x256_S1x256x256_0_0_0 inb_S4x512x256_S1x256x256_0_0_0 rfl rfl
  rw [cntH_zero]
  have hT := trips_A i hc0 hc1
  rw [show (fun (_ : Fin 4) (_ : Fin 512) => 512 * (i 1).val) = fun _ _ => 2048 * (k0_t1_loop i).trips from by rw [hT]]
  exact start_st (Variants.none) c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ (init_st arg22.view arg23.view _ _ _ _ _ _) _ _ _ _ rfl rfl

end Cert.Attn

end
-- ==== Proof.Blocks.lean ====
/-
One block of the kernel's output, 512 rows of four heads, from the blocks and tables it reads.
-/
module

public import proofs.«01_k».proof.Proof.Start
public import proofs.«01_k».proof.Proof.Window
public import Idealize.ShloMosaic.Lib.Pipeline.Frame

@[expose] public section

set_option maxRecDepth 16384

noncomputable section

namespace Cert.Attn

open Idealize.ShloMosaic Cert.KernelIdeal Cert.KernelIdeal.Gen

theorem rowsOf_unread {sig : RefSig} {κ : Kind} {sp : Space} (m : Memref sig κ sp S8192x128 .bf16) (h : m.IsWhole) (x : FVec Ideal S8192x128 .bf16) :
    rowsOf m.view (h.unread (Val := Elt Ideal) x) = tbl x := by
  funext k d
  unfold rowsOf tbl
  rw [h.read_unread]

/-- A query block with the flags' bias beside it. -/
def qAug (m : FVec Ideal S1x512x128 .bf16) (q : FVec Ideal S512x128 .bf16) : FVec Ideal S1x512x256 .bf16 :=
  k0_pay269 (k0_pay267 m) q

theorem qAug_apply (m : FVec Ideal S1x512x128 .bf16) (q : FVec Ideal S512x128 .bf16) (row : Fin 512) (c : Fin 256) :
    qAug m q (ix3 0 row c) = if h : c.val < 128 then q (ix2 row ⟨c.val, h⟩) else if 0 < m (ix3 0 row ⟨c.val - 128, by omega⟩) then 0 else ⊥ := by
  unfold qAug k0_pay269 k0_pay268 k0_pay267
  pointwise
  rfl

section
variable {sig : RefSig} {κ : Kind} {sp : Space} (v : View sig κ sp S4x512x256 .bf16) (f : v.ty.Contents (Elt Ideal)) {r0 : ℕ}
  (inb : ∀ a, (![r0, 0, 0] : Fin 3 → ℕ) a + S1x512x256.size a ≤ S4x512x256.size a)
  (w : (Rect.unit (s := S4x512x256) ![r0, 0, 0] S1x512x256.size inb).shape.Idx → EReal) (L : List (View.Piece (Elt Ideal) S4x512x256 .bf16))

theorem hitQ (r : Fin 4) (row : Fin 512) (c : Fin 256) (hr : r.val = r0) :
    v.read (Elt Ideal) (v.writes (Elt Ideal) f (⟨Rect.unit ![r0, 0, 0] S1x512x256.size inb, w⟩ :: L)) (ix3 r row c) = w (ix3 0 row c) :=
  View.read_writes_cons_unit_of_mem v f inb w L (ix3 r row c) (ix3 0 row c) rfl fun a => by
    match a with
    | ⟨0, _⟩ => exact hr
    | ⟨1, _⟩ => exact (Nat.zero_add _).symm
    | ⟨2, _⟩ => exact (Nat.zero_add _).symm

theorem missQ (r : Fin 4) (row : Fin 512) (c : Fin 256) (hr : r.val ≠ r0) :
    v.read (Elt Ideal) (v.writes (Elt Ideal) f (⟨Rect.unit ![r0, 0, 0] S1x512x256.size inb, w⟩ :: L)) (ix3 r row c)
      = v.read (Elt Ideal) (v.writes (Elt Ideal) f L) (ix3 r row c) :=
  View.read_writes_cons_unit_of_not_mem v f inb w L (ix3 r row c) rfl ⟨0, by decide⟩ (by
    show r.val < r0 ∨ r0 + 1 ≤ r.val
    omega)

end

/-- The query rows the scratch array holds once filled. -/
theorem qRows_fill {sig : RefSig} {κ : Kind} {sp : Space} (v : View sig κ sp S4x512x256 .bf16) (f : v.ty.Contents (Elt Ideal))
    (w0 w1 w2 w3 : FVec Ideal S1x512x256 .bf16) (p0 p1 p2 p3 : _) (r : Fin 4) (row : Fin 512) (c : Fin 256) :
    qRows v (v.writes (Elt Ideal) f [⟨Rect.unit ![3, 0, 0] S1x512x256.size p3, w3⟩, ⟨Rect.unit ![2, 0, 0] S1x512x256.size p2, w2⟩,
      ⟨Rect.unit ![1, 0, 0] S1x512x256.size p1, w1⟩, ⟨Rect.unit ![0, 0, 0] S1x512x256.size p0, w0⟩]) r row c
      = (![w0, w1, w2, w3] : Fin 4 → FVec Ideal S1x512x256 .bf16) r (ix3 0 row c) := by
  unfold qRows
  match r with
  | ⟨0, _⟩ =>
    exact (missQ v f _ _ _ _ row c (by show 0 ≠ 3; decide)).trans ((missQ v f _ _ _ _ row c (by show 0 ≠ 2; decide)).trans ((missQ v f _ _ _ _ row c (by show 0 ≠ 1; decide)).trans
      (hitQ v f _ _ _ _ row c rfl)))
  | ⟨1, _⟩ =>
    exact (missQ v f _ _ _ _ row c (by show 1 ≠ 3; decide)).trans ((missQ v f _ _ _ _ row c (by show 1 ≠ 2; decide)).trans (hitQ v f _ _ _ _ row c rfl))
  | ⟨2, _⟩ => exact (missQ v f _ _ _ _ row c (by show 2 ≠ 3; decide)).trans (hitQ v f _ _ _ _ row c rfl)
  | ⟨3, _⟩ => exact hitQ v f _ _ _ _ row c rfl

theorem load_cols {sig : RefSig} {κ : Kind} {sp : Space} (v : View sig κ sp S512x512 .bf16) (f : v.ty.Contents (Elt Ideal)) {p : ℕ}
    (inb : ∀ a, (![0, p] : Fin 2 → ℕ) a + S512x128.size a ≤ S512x512.size a) (row col : Fin 512) (d : Fin 128) (hx : col.val = p + d.val) :
    v.readAt (Elt Ideal) (Rect.unit (s := S512x512) ![0, p] S512x128.size inb).toLoadRect f (ix2 row d) = v.read (Elt Ideal) f (ix2 row col) :=
  congrArg (v.read (Elt Ideal) f) (funext fun a => Fin.ext (by
    match a with
    | ⟨0, _⟩ => exact (Nat.zero_add _).trans (Nat.one_mul _)
    | ⟨1, _⟩ =>
      show p + 1 * d.val = col.val
      omega))

/-- The bias of the key's block takes the score or leaves it. -/
theorem dot_aug (Q : Fin 4 → Fin 512 → Fin 256 → EReal) (K : ℕ → Fin 128 → EReal) (r : Fin 4) (row : Fin 512) (q : Fin 128 → EReal) (B : Fin 128 → EReal)
    (hQ : ∀ c, Q r row c = if h : c.val < 128 then q ⟨c.val, h⟩ else if 0 < B ⟨c.val - 128, by omega⟩ then 0 else ⊥) (k : ℕ) (hk : k < 8192) :
    dotScore Q K r row k = if 0 < B ⟨k / 64, by omega⟩ then ∑ c : Fin 128, q c * K k c else ⊥ := by
  unfold dotScore
  have h1 : (∑ c : Fin 256, Q r row c * keyRow K k c)
      = (∑ c : Fin 128, Q r row (Fin.castAdd 128 c) * keyRow K k (Fin.castAdd 128 c))
        + ∑ c : Fin 128, Q r row (Fin.natAdd 128 c) * keyRow K k (Fin.natAdd 128 c) := Fin.sum_univ_add (a := 128) (b := 128) _
  have h2 : ∀ c : Fin 128, Q r row (Fin.castAdd 128 c) * keyRow K k (Fin.castAdd 128 c) = q c * K k c := fun c => by
    rw [hQ]
    unfold keyRow
    have hc : (Fin.castAdd 128 c).val < 128 := c.isLt
    rw [dif_pos hc, dif_pos hc]
    rfl
  have h3 : ∀ c : Fin 128, Q r row (Fin.natAdd 128 c) * keyRow K k (Fin.natAdd 128 c)
      = if c = ⟨k / 64, by omega⟩ then (if 0 < B ⟨k / 64, by omega⟩ then (0 : EReal) else ⊥) else 0 := fun c => by
    rw [hQ]
    unfold keyRow
    have hc : ¬ (Fin.natAdd 128 c).val < 128 := by show ¬ 128 + c.val < 128; omega
    have he : (Fin.natAdd 128 c).val - 128 = c.val := by show 128 + c.val - 128 = c.val; omega
    rw [dif_neg hc, dif_neg hc]
    by_cases h : c = ⟨k / 64, by omega⟩
    · have hk' : k / 64 = (Fin.natAdd 128 c).val - 128 := by rw [he]; exact (congrArg Fin.val h).symm
      rw [if_pos h, if_pos hk', mul_one]
      simp only [hk']
    · have hk' : ¬ k / 64 = (Fin.natAdd 128 c).val - 128 := by
        rw [he]; exact fun hh => h (Fin.ext hh.symm)
      rw [if_neg h, if_neg hk', mul_zero]
  rw [h1, Finset.sum_congr rfl fun c _ => h2 c, Finset.sum_congr rfl fun c _ => h3 c, Finset.sum_ite_eq' Finset.univ,
    if_pos (Finset.mem_univ _)]
  by_cases h : 0 < B ⟨k / 64, by omega⟩
  · rw [if_pos h, if_pos h, add_zero]
  · rw [if_neg h, if_neg h, EReal.add_bot]

/-- The scores of the chosen blocks' keys up to the row, in base two. -/
def selT (x0 : FVec Ideal S512x512 .bf16) (x1 : FVec Ideal S1x512x128 .bf16) (x2 : FVec Ideal S8192x128 .bf16) (q0 : ℕ) (r : Fin 4) (row : Fin 512) (k : ℕ) : EReal :=
  if k ≤ q0 + row.val then
    if 0 < x1 (ix3 0 row ⟨k / 64 % 128, Nat.mod_lt _ (by omega)⟩) then ∑ c : Fin 128, x0 (ix2 row ⟨128 * r.val + c.val, by omega⟩) * tbl x2 k c else ⊥
  else ⊥

/-- The scores of the last 512 keys up to the row, in base two. -/
def winT (x0 : FVec Ideal S512x512 .bf16) (x4 : FVec Ideal S8192x128 .bf16) (q0 : ℕ) (r : Fin 4) (row : Fin 512) (k : ℕ) : EReal :=
  if k ≤ q0 + row.val ∧ q0 + row.val < k + 512 then ∑ c : Fin 128, x0 (ix2 row ⟨128 * r.val + c.val, by omega⟩) * tbl x4 k c else ⊥

/-- One entry of a block: the three branches, each times its gate. -/
def blockVal (x0 : FVec Ideal S512x512 .bf16) (x1 : FVec Ideal S1x512x128 .bf16) (x2 x3 x4 x5 : FVec Ideal S8192x128 .bf16)
    (x6 : FVec Ideal S512x512 .bf16) (x7 : FVec Ideal S512x128 .f32) (g : Fin 4) (q0 : ℕ) (r : Fin 4) (row : Fin 512) (d : Fin 128) : EReal :=
  Ideal.logistic (x7 (ix2 row ⟨64 + 12 * g.val + 3 * r.val, by omega⟩)) * x6 (ix2 row ⟨128 * r.val + d.val, by omega⟩)
    + Ideal.logistic (x7 (ix2 row ⟨64 + 12 * g.val + (3 * r.val + 1), by omega⟩)) * att (selT x0 x1 x2 q0 r row) (tbl x3) d
    + Ideal.logistic (x7 (ix2 row ⟨64 + 12 * g.val + (3 * r.val + 2), by omega⟩)) * att (winT x0 x4 q0 r row) (tbl x5) d

theorem selScore_eq (Q : Fin 4 → Fin 512 → Fin 256 → EReal) (x0 : FVec Ideal S512x512 .bf16) (x1 : FVec Ideal S1x512x128 .bf16) (x2 : FVec Ideal S8192x128 .bf16)
    (hQ : ∀ r row c, Q r row c = if h : c.val < 128 then x0 (ix2 row ⟨128 * r.val + c.val, by omega⟩) else if 0 < x1 (ix3 0 row ⟨c.val - 128, by omega⟩) then 0 else ⊥)
    (q0 : ℕ) (hq : q0 + 512 ≤ 8192) (r : Fin 4) (row : Fin 512) : selScore Q (tbl x2) q0 r row = selT x0 x1 x2 q0 r row := by
  funext k
  unfold selScore selT
  by_cases h : k ≤ q0 + row.val
  · have hk : k < 8192 := by omega
    rw [if_pos h, if_pos h, dot_aug Q (tbl x2) r row (fun c => x0 (ix2 row ⟨128 * r.val + c.val, by omega⟩)) (fun l => x1 (ix3 0 row l)) (hQ r row) k hk]
    have he : (⟨k / 64 % 128, Nat.mod_lt _ (by omega)⟩ : Fin 128) = ⟨k / 64, by omega⟩ := Fin.ext (Nat.mod_eq_of_lt (by omega))
    rw [he]
  · rw [if_neg h, if_neg h]

/-- One stored part of a block is the gated sum of the three branches. -/
theorem piece (x0 : FVec Ideal S512x512 .bf16) (x1 : FVec Ideal S1x512x128 .bf16) (x2 x3 x4 x5 : FVec Ideal S8192x128 .bf16)
    (x6 : FVec Ideal S512x512 .bf16) (x7 : FVec Ideal S512x128 .f32) (g : Fin 4) (q0 : ℕ) (hq : q0 + 512 ≤ 8192) (r : Fin 4)
    (o c0 c1 c2 : ℕ) (hs : S512x128.Slices ![o, 0] S256x128) (h0 : S256x128.Slices ![0, c0] S256x1) (h1 : S256x128.Slices ![0, c1] S256x1)
    (h2 : S256x128.Slices ![0, c2] S256x1) (G : FVec Ideal S512x128 .f32) (a : FVec Ideal S1x256x256 .f32)
    (oc q : FVec Ideal S256x128 .bf16) (k v : FVec Ideal S768x128 .bf16) (bias : FVec Ideal S256x768 .f32)
    (hG : ∀ (row : Fin 512) (c : ℕ) (hc : c < 12), G (ix2 row ⟨c, by omega⟩) = Ideal.logistic (x7 (ix2 row ⟨64 + 12 * g.val + c, by omega⟩)))
    (ho : o ≤ 256) (hc0 : c0 = 3 * r.val) (hc1 : c1 = 3 * r.val + 1) (hc2 : c2 = 3 * r.val + 2) (n : ℕ) (hn : q0 + o + 256 ≤ n) (hn' : n ≤ 8192)
    (S : Fin 512 → ℕ → EReal) (hS : ∀ row, S row = selT x0 x1 x2 q0 r row)
    (ha : ∀ (x d : Fin 256), a (ix3 0 x d) = rowSum (S ⟨o + x.val, by omega⟩) (fun k => valRow (tbl x3) k d) n)
    (hoc : ∀ (x : Fin 256) (d : Fin 128), oc (ix2 x d) = x6 (ix2 ⟨o + x.val, by omega⟩ ⟨128 * r.val + d.val, by omega⟩))
    (hqq : ∀ (x : Fin 256) (d : Fin 128), q (ix2 x d) = x0 (ix2 ⟨o + x.val, by omega⟩ ⟨128 * r.val + d.val, by omega⟩))
    (b : ℕ) (hk : ∀ j d, k (ix2 j d) = tbl x4 (b + j.val) d) (hv : ∀ j d, v (ix2 j d) = tbl x5 (b + j.val) d)
    (hbias : ∀ x j, bias (ix2 x j) = if b + j.val ≤ q0 + o + x.val ∧ q0 + o + x.val < b + j.val + 512 then 0 else ⊥)
    (hb : b = q0 + o - 512) (x : Fin 256) (d : Fin 128) :
    blk o c0 c1 c2 hs h0 h1 h2 G (winA (winS q k bias) (winV v)) a oc (ix2 x d) = blockVal x0 x1 x2 x3 x4 x5 x6 x7 g q0 r ⟨o + x.val, by omega⟩ d := by
  subst hc0; subst hc1; subst hc2
  rw [blk_apply _ _ _ _ _ _ _ _ _ _ _ _ ho ⟨by omega, by omega, by omega⟩]
  rw [hG ⟨o + x.val, by omega⟩ (3 * r.val) (by omega), hG ⟨o + x.val, by omega⟩ (3 * r.val + 1) (by omega), hG ⟨o + x.val, by omega⟩ (3 * r.val + 2) (by omega), hoc]
  have hsel : ∀ d : Fin 256, a (ix3 0 x d) = rowSum (selT x0 x1 x2 q0 r ⟨o + x.val, by omega⟩) (fun k => valRow (tbl x3) k d) 8192 := fun d => by
    rw [ha, hS, rowSum_extend _ _ n 8192 hn' fun k _ hk => ?_]
    unfold selT
    exact if_neg (by show ¬ k ≤ q0 + (o + x.val); omega)
  have hwin : ∀ d : Fin 256, winA (winS q k bias) (winV v) (ix2 x d) = rowSum (winT x0 x4 q0 r ⟨o + x.val, by omega⟩) (fun k => valRow (tbl x5) k d) 8192 := fun d => by
    rw [win_sum q k v bias (tbl x4) (tbl x5) (q0 + o) b hk hv hbias hb (by omega) x d]
    congr 1
    funext k
    unfold winT
    simp only [hqq, Nat.add_assoc]
  have hlo : ∀ (W : ℕ → Fin 128 → EReal), (fun k => valRow W k ⟨d.val, by omega⟩) = fun k => W k d := fun W => by
    funext k; unfold valRow; rw [dif_pos d.isLt]
  have hhi : ∀ (W : ℕ → Fin 128 → EReal), (fun k => valRow W k ⟨128 + d.val, by omega⟩) = fun _ => 1 := fun W => by
    funext k; unfold valRow; rw [dif_neg (by show ¬ 128 + d.val < 128; omega)]
  rw [hsel, hsel, hwin, hwin, hlo, hlo, hhi, hhi]
  rfl

/-- The query rows the scratch array holds, from the blocks read. -/
theorem queries {sig : RefSig} {κ : Kind} {sp : Space} (v : View sig κ sp S4x512x256 .bf16) (f : v.ty.Contents (Elt Ideal))
    {sp2 sp3 : Space} {κ2 κ3 : Kind} (m2 : Memref sig κ2 sp2 S512x512 .bf16) (h2 : m2.IsWhole) (m3 : Memref sig κ3 sp3 S1x512x128 .bf16) (h3 : m3.IsWhole)
    (x0 : FVec Ideal S512x512 .bf16) (x1 : FVec Ideal S1x512x128 .bf16) (i0 i1 i2 i3 im : _) (p0 p1 p2 p3 : _) (r : Fin 4) (row : Fin 512) (c : Fin 256) :
    qRows v (v.writes (Elt Ideal) f
      [⟨Rect.unit ![3, 0, 0] S1x512x256.size p3, qAug (m3.view.readAt (Elt Ideal) (Rect.unit (s := S1x512x128) ![0, 0, 0] S1x512x128.size im).toLoadRect (h3.unread (Val := Elt Ideal) x1))
        (m2.view.readAt (Elt Ideal) (Rect.unit (s := S512x512) ![0, 384] S512x128.size i3).toLoadRect (h2.unread (Val := Elt Ideal) x0))⟩,
       ⟨Rect.unit ![2, 0, 0] S1x512x256.size p2, qAug (m3.view.readAt (Elt Ideal) (Rect.unit (s := S1x512x128) ![0, 0, 0] S1x512x128.size im).toLoadRect (h3.unread (Val := Elt Ideal) x1))
        (m2.view.readAt (Elt Ideal) (Rect.unit (s := S512x512) ![0, 256] S512x128.size i2).toLoadRect (h2.unread (Val := Elt Ideal) x0))⟩,
       ⟨Rect.unit ![1, 0, 0] S1x512x256.size p1, qAug (m3.view.readAt (Elt Ideal) (Rect.unit (s := S1x512x128) ![0, 0, 0] S1x512x128.size im).toLoadRect (h3.unread (Val := Elt Ideal) x1))
        (m2.view.readAt (Elt Ideal) (Rect.unit (s := S512x512) ![0, 128] S512x128.size i1).toLoadRect (h2.unread (Val := Elt Ideal) x0))⟩,
       ⟨Rect.unit ![0, 0, 0] S1x512x256.size p0, qAug (m3.view.readAt (Elt Ideal) (Rect.unit (s := S1x512x128) ![0, 0, 0] S1x512x128.size im).toLoadRect (h3.unread (Val := Elt Ideal) x1))
        (m2.view.readAt (Elt Ideal) (Rect.unit (s := S512x512) ![0, 0] S512x128.size i0).toLoadRect (h2.unread (Val := Elt Ideal) x0))⟩]) r row c
      = if h : c.val < 128 then x0 (ix2 row ⟨128 * r.val + c.val, by omega⟩) else if 0 < x1 (ix3 0 row ⟨c.val - 128, by omega⟩) then 0 else ⊥ := by
  refine (qRows_fill v f _ _ _ _ p0 p1 p2 p3 r row c).trans ?_
  have hm : ∀ l, m3.view.readAt (Elt Ideal) (Rect.unit (s := S1x512x128) ![0, 0, 0] S1x512x128.size im).toLoadRect (h3.unread (Val := Elt Ideal) x1) (ix3 0 row l)
      = x1 (ix3 0 row l) := fun l => by
    refine (congrArg (m3.view.read (Elt Ideal) (h3.unread (Val := Elt Ideal) x1)) (funext fun a => Fin.ext (by
      match a with
      | ⟨0, _⟩ => rfl
      | ⟨1, _⟩ => exact (Nat.zero_add _).trans (Nat.one_mul _)
      | ⟨2, _⟩ => exact (Nat.zero_add _).trans (Nat.one_mul _))) : _ = m3.view.read (Elt Ideal) (h3.unread (Val := Elt Ideal) x1) (ix3 0 row l)).trans ?_
    rw [h3.read_unread]
  have hl : ∀ (p : ℕ) (ii : ∀ a, (![0, p] : Fin 2 → ℕ) a + S512x128.size a ≤ S512x512.size a) (hp : p = 128 * r.val) (d : Fin 128),
      m2.view.readAt (Elt Ideal) (Rect.unit (s := S512x512) ![0, p] S512x128.size ii).toLoadRect (h2.unread (Val := Elt Ideal) x0) (ix2 row d)
        = x0 (ix2 row ⟨128 * r.val + d.val, by omega⟩) := fun p ii hp d => by
    rw [load_cols m2.view _ ii row ⟨128 * r.val + d.val, by omega⟩ d (by show 128 * r.val + d.val = p + d.val; omega), h2.read_unread]
  have hq : ∀ (p : ℕ) (ii : ∀ a, (![0, p] : Fin 2 → ℕ) a + S512x128.size a ≤ S512x512.size a) (hp : p = 128 * r.val),
      qAug (m3.view.readAt (Elt Ideal) (Rect.unit (s := S1x512x128) ![0, 0, 0] S1x512x128.size im).toLoadRect (h3.unread (Val := Elt Ideal) x1))
        (m2.view.readAt (Elt Ideal) (Rect.unit (s := S512x512) ![0, p] S512x128.size ii).toLoadRect (h2.unread (Val := Elt Ideal) x0)) (ix3 0 row c)
      = if h : c.val < 128 then x0 (ix2 row ⟨128 * r.val + c.val, by omega⟩) else if 0 < x1 (ix3 0 row ⟨c.val - 128, by omega⟩) then 0 else ⊥ := fun p ii hp => by
    rw [qAug_apply]
    by_cases h : c.val < 128
    · rw [dif_pos h, dif_pos h, hl p ii hp]
    · rw [dif_neg h, dif_neg h, hm]
  match r, hq with
  | ⟨0, _⟩, hq => exact hq 0 i0 rfl
  | ⟨1, _⟩, hq => exact hq 128 i1 rfl
  | ⟨2, _⟩, hq => exact hq 256 i2 rfl
  | ⟨3, _⟩, hq => exact hq 384 i3 rfl

/-- The gates a block reads. -/
theorem gates {sig : RefSig} {κ : Kind} {sp : Space} (m : Memref sig κ sp S512x128 .f32) (h : m.IsWhole) (x7 : FVec Ideal S512x128 .f32) (inb : _) (g : Fin 4)
    (w : BitVec 32) (hw : w = BitVec.ofNat 32 (64 + 12 * g.val)) (row : Fin 512) (c : ℕ) (hc : c < 12) :
    (k0_pay339 (F := Ideal) w (m.view.readAt (Elt Ideal) (Rect.unit (s := S512x128) ![0, 0] S512x128.size inb).toLoadRect (h.unread (Val := Elt Ideal) x7))) (ix2 row ⟨c, by omega⟩)
      = Ideal.logistic (x7 (ix2 row ⟨64 + 12 * g.val + c, by omega⟩)) := by
  subst hw
  rw [gate_apply g.val g.isLt _ row c hc]
  refine congrArg Ideal.logistic ?_
  refine (congrArg (m.view.read (Elt Ideal) (h.unread (Val := Elt Ideal) x7)) (funext fun a => Fin.ext (by
    match a with
    | ⟨0, _⟩ => exact (Nat.zero_add _).trans (Nat.one_mul _)
    | ⟨1, _⟩ => exact (Nat.zero_add _).trans (Nat.one_mul _))) : _ = m.view.read (Elt Ideal) (h.unread (Val := Elt Ideal) x7) (ix2 row ⟨64 + 12 * g.val + c, by omega⟩)).trans ?_
  rw [h.read_unread]

theorem cnt0 (n : ℕ) (r : Fin 4) (x : Fin 256) : cntH n 8 r ⟨0 + x.val, by omega⟩ = n + 0 + 256 := by
  unfold cntH
  rw [if_pos (by show 0 + x.val < 256; omega), if_pos (by omega)]

theorem cnt1 (n : ℕ) (r : Fin 4) (x : Fin 256) : cntH n 8 r ⟨256 + x.val, by omega⟩ = n + 256 + 256 := by
  unfold cntH
  rw [if_neg (by show ¬ 256 + x.val < 256; omega), if_pos (by omega)]

theorem gate_word (i : grid0.Coords) :
    Scalar.addi 64#32 (Scalar.muli 12#32 (BitVec.ofNat 32 (i 0).val)) = BitVec.ofNat 32 (64 + 12 * (i 0).val) := by
  revert i; decide +kernel

theorem row_word (i : grid0.Coords) :
    Scalar.addi (Scalar.muli (BitVec.ofNat 32 (i 1).val) 512#32) 0#32 = BitVec.ofNat 32 (512 * (i 1).val + 0)
      ∧ Scalar.addi (Scalar.muli (BitVec.ofNat 32 (i 1).val) 512#32) 256#32 = BitVec.ofNat 32 (512 * (i 1).val + 256) := by
  revert i; decide +kernel

theorem win_word (i : grid0.Coords) :
    Scalar.maxsi (Scalar.subi (Scalar.addi (Scalar.muli (BitVec.ofNat 32 (i 1).val) 512#32) 0#32) 512#32) 0#32 = BitVec.ofNat 32 (512 * (i 1).val + 0 - 512)
      ∧ Scalar.maxsi (Scalar.subi (Scalar.addi (Scalar.muli (BitVec.ofNat 32 (i 1).val) 512#32) 256#32) 512#32) 0#32
        = BitVec.ofNat 32 (512 * (i 1).val + 256 - 512) := by
  revert i; decide +kernel

theorem win_off (i : grid0.Coords) : k0_off7 i 0#32 = ![512 * (i 1).val + 0 - 512, 0] ∧ k0_off7 i 256#32 = ![512 * (i 1).val + 256 - 512, 0] := by
  revert i; decide +kernel

/-- A loaded table of 768 rows. -/
theorem tbl_load {sig : RefSig} {κ : Kind} {sp : Space} (m : Memref sig κ sp S8192x128 .bf16) (h : m.IsWhole) (x : FVec Ideal S8192x128 .bf16)
    {off : Fin 2 → ℕ} (b : ℕ) (hoff : off = ![b, 0]) (inb : ∀ a, off a + S768x128.size a ≤ S8192x128.size a) (j : Fin 768) (d : Fin 128) :
    m.view.readAt (Elt Ideal) (Rect.unit (s := S8192x128) off S768x128.size inb).toLoadRect (h.unread (Val := Elt Ideal) x) (ix2 j d) = tbl x (b + j.val) d := by
  rw [rowsOf_load m.view (h.unread (Val := Elt Ideal) x) (n := 768) b hoff inb j d, rowsOf_unread]

/-- A loaded part of a block. -/
theorem part_load {sig : RefSig} {κ : Kind} {sp : Space} (m : Memref sig κ sp S512x512 .bf16) (h : m.IsWhole) (x : FVec Ideal S512x512 .bf16) {o p : ℕ}
    (inb : ∀ a, (![o, p] : Fin 2 → ℕ) a + S256x128.size a ≤ S512x512.size a) (r : Fin 4) (hp : p = 128 * r.val) (ho : o ≤ 256) (y : Fin 256) (d : Fin 128) :
    m.view.readAt (Elt Ideal) (Rect.unit (s := S512x512) ![o, p] S256x128.size inb).toLoadRect (h.unread (Val := Elt Ideal) x) (ix2 y d)
      = x (ix2 ⟨o + y.val, by omega⟩ ⟨128 * r.val + d.val, by omega⟩) := by
  rw [load2 m.view _ inb ⟨o + y.val, by omega⟩ ⟨128 * r.val + d.val, by omega⟩ y d rfl (by show 128 * r.val + d.val = p + d.val; omega), h.read_unread]

end Cert.Attn

end
-- ==== Proof.OutA.lean ====
/-
The block a run writes, case A.
-/
module

public import proofs.«01_k».proof.Proof.Gen.KernelIdeal.Frame
public import proofs.«01_k».proof.Proof.SumsA
public import proofs.«01_k».proof.Proof.Blocks

@[expose] public section

set_option maxRecDepth 16384
set_option maxHeartbeats 2000000

noncomputable section

namespace Cert.Attn

open Idealize.ShloMosaic Cert.KernelIdeal Cert.KernelIdeal.Gen
open Idealize.ShloMosaic.TcCoe

/-- Every entry of the block is the gated sum of the three branches. -/
theorem out_A (c : Dev nD) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (hc0 : ¬cond0_0 i) (hc1 : ¬cond0_1 i)     (x0 : Vec Ideal S512x512 .bf16) (x1 : Vec Ideal S1x512x128 .bf16) (x2 : Vec Ideal S8192x128 .bf16) (x3 : Vec Ideal S8192x128 .bf16) (x4 : Vec Ideal S8192x128 .bf16) (x5 : Vec Ideal S8192x128 .bf16) (x6 : Vec Ideal S512x512 .bf16) (x7 : Vec Ideal S512x128 .f32) (x8 : Vec Ideal S1x32x2048 .f32) (x9 : Vec Ideal S1x64x2048 .f32) (x10 : Vec Ideal S1x32x2048 .f32) (x11 : Vec Ideal S1x32x8192 .f32) (x12 : Vec Ideal S1x128x2048 .f32) (r : Fin 4) (row : Fin 512) (d : Fin 128) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 (ix2 row ⟨128 * r.val + d.val, by omega⟩)
      = blockVal x0 x1 x2 x3 x4 x5 x6 x7 (i 0) (512 * (i 1).val) r row d := by
  have hi : (i 1).val < 16 := (i 1).isLt
  have hn : 512 * (i 1).val + 512 ≤ 8192 := by omega
  have hQ : ∀ (r : Fin 4) (row : Fin 512) (c' : Fin 256), qRows arg21.view (arg21.view.writes (Elt Ideal) arg21.view.junk (kernelRun0_A.sl.HS0_4 (F := Ideal) c arg2 harg2 arg3 harg3 x0 x1)) r row c'
      = if h : c'.val < 128 then x0 (ix2 row ⟨128 * r.val + c'.val, by omega⟩) else if 0 < x1 (ix3 0 row ⟨c'.val - 128, by omega⟩) then 0 else ⊥ :=
    fun r row c' => queries arg21.view arg21.view.junk arg2 harg2 arg3 harg3 x0 x1 _ _ _ _ _ _ _ _ _ r row c'
  have hsum : ∀ (r : Fin 4) (row : Fin 512) (d : Fin 256),
      arg22.view.read (Elt Ideal) (arg22.view.writes (Elt Ideal) arg22.view.junk (kernelRun0_A.sl.HS1_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3)) (ix3 r row d)
        = rowSum (selT x0 x1 x2 (512 * (i 1).val) r row) (fun k => valRow (tbl x3) k d) (cntH (512 * (i 1).val) 8 r row) := fun r row d => by
    have h := sums_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 r row d
    rw [rowsOf_unread, rowsOf_unread, selScore_eq _ x0 x1 x2 hQ (512 * (i 1).val) hn r row] at h
    exact h
  unfold out0_A_13
  refine out8 VO0_13 VO0_13.junk (fun r row d => blockVal x0 x1 x2 x3 x4 x5 x6 x7 (i 0) (512 * (i 1).val) r row d) _ _ _ _ _ _ _ _ ?_ ?_ ?_ ?_ ?_ ?_ ?_ ?_ r row d
  · exact fun x d => piece x0 x1 x2 x3 x4 x5 x6 x7 (i 0) (512 * (i 1).val) hn 0 0 0 1 2 slices_S512x128_o0_0_S256x128 slices_S256x128_o0_0_S256x1 slices_S256x128_o0_1_S256x1 slices_S256x128_o0_2_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 0 row) (fun _ => rfl)
      (fun x d => (covHA arg22.view inb_S4x512x256_S1x256x256_0_0_0 _ 0 ⟨0 + x.val, by omega⟩ x d rfl rfl).trans ((hsum 0 ⟨0 + x.val, by omega⟩ d).trans (by rw [cnt0])))
      (fun y d => part_load arg8 harg8 x6 inb_S512x512_S256x128_0_0 0 rfl (by omega) y d)
      (fun y d => part_load arg2 harg2 x0 inb_S512x512_S256x128_0_0 0 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 1 0 3 4 5 slices_S512x128_o0_0_S256x128 slices_S256x128_o0_3_S256x1 slices_S256x128_o0_4_S256x1 slices_S256x128_o0_5_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 1 row) (fun _ => rfl)
      (fun x d => (covHA arg22.view inb_S4x512x256_S1x256x256_1_0_0 _ 1 ⟨0 + x.val, by omega⟩ x d rfl rfl).trans ((hsum 1 ⟨0 + x.val, by omega⟩ d).trans (by rw [cnt0])))
      (fun y d => part_load arg8 harg8 x6 inb_S512x512_S256x128_0_128 1 rfl (by omega) y d)
      (fun y d => part_load arg2 harg2 x0 inb_S512x512_S256x128_0_128 1 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 2 0 6 7 8 slices_S512x128_o0_0_S256x128 slices_S256x128_o0_6_S256x1 slices_S256x128_o0_7_S256x1 slices_S256x128_o0_8_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 2 row) (fun _ => rfl)
      (fun x d => (covHA arg22.view inb_S4x512x256_S1x256x256_2_0_0 _ 2 ⟨0 + x.val, by omega⟩ x d rfl rfl).trans ((hsum 2 ⟨0 + x.val, by omega⟩ d).trans (by rw [cnt0])))
      (fun y d => part_load arg8 harg8 x6 inb_S512x512_S256x128_0_256 2 rfl (by omega) y d)
      (fun y d => part_load arg2 harg2 x0 inb_S512x512_S256x128_0_256 2 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 3 0 9 10 11 slices_S512x128_o0_0_S256x128 slices_S256x128_o0_9_S256x1 slices_S256x128_o0_10_S256x1 slices_S256x128_o0_11_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 3 row) (fun _ => rfl)
      (fun x d => (covHA arg22.view inb_S4x512x256_S1x256x256_3_0_0 _ 3 ⟨0 + x.val, by omega⟩ x d rfl rfl).trans ((hsum 3 ⟨0 + x.val, by omega⟩ d).trans (by rw [cnt0])))
      (fun y d => part_load arg8 harg8 x6 inb_S512x512_S256x128_0_384 3 rfl (by omega) y d)
      (fun y d => part_load arg2 harg2 x0 inb_S512x512_S256x128_0_384 3 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 0 256 0 1 2 slices_S512x128_o256_0_S256x128 slices_S256x128_o0_0_S256x1 slices_S256x128_o0_1_S256x1 slices_S256x128_o0_2_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 0 row) (fun _ => rfl)
      (fun x d => (covHA arg22.view inb_S4x512x256_S1x256x256_0_256_0 _ 0 ⟨256 + x.val, by omega⟩ x d rfl rfl).trans ((hsum 0 ⟨256 + x.val, by omega⟩ d).trans (by rw [cnt1])))
      (fun y d => part_load arg8 harg8 x6 inb_S512x512_S256x128_256_0 0 rfl (by omega) y d)
      (fun y d => part_load arg2 harg2 x0 inb_S512x512_S256x128_256_0 0 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 1 256 3 4 5 slices_S512x128_o256_0_S256x128 slices_S256x128_o0_3_S256x1 slices_S256x128_o0_4_S256x1 slices_S256x128_o0_5_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 1 row) (fun _ => rfl)
      (fun x d => (covHA arg22.view inb_S4x512x256_S1x256x256_1_256_0 _ 1 ⟨256 + x.val, by omega⟩ x d rfl rfl).trans ((hsum 1 ⟨256 + x.val, by omega⟩ d).trans (by rw [cnt1])))
      (fun y d => part_load arg8 harg8 x6 inb_S512x512_S256x128_256_128 1 rfl (by omega) y d)
      (fun y d => part_load arg2 harg2 x0 inb_S512x512_S256x128_256_128 1 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 2 256 6 7 8 slices_S512x128_o256_0_S256x128 slices_S256x128_o0_6_S256x1 slices_S256x128_o0_7_S256x1 slices_S256x128_o0_8_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 2 row) (fun _ => rfl)
      (fun x d => (covHA arg22.view inb_S4x512x256_S1x256x256_2_256_0 _ 2 ⟨256 + x.val, by omega⟩ x d rfl rfl).trans ((hsum 2 ⟨256 + x.val, by omega⟩ d).trans (by rw [cnt1])))
      (fun y d => part_load arg8 harg8 x6 inb_S512x512_S256x128_256_256 2 rfl (by omega) y d)
      (fun y d => part_load arg2 harg2 x0 inb_S512x512_S256x128_256_256 2 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 3 256 9 10 11 slices_S512x128_o256_0_S256x128 slices_S256x128_o0_9_S256x1 slices_S256x128_o0_10_S256x1 slices_S256x128_o0_11_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 3 row) (fun _ => rfl)
      (fun x d => (covHA arg22.view inb_S4x512x256_S1x256x256_3_256_0 _ 3 ⟨256 + x.val, by omega⟩ x d rfl rfl).trans ((hsum 3 ⟨256 + x.val, by omega⟩ d).trans (by rw [cnt1])))
      (fun y d => part_load arg8 harg8 x6 inb_S512x512_S256x128_256_384 3 rfl (by omega) y d)
      (fun y d => part_load arg2 harg2 x0 inb_S512x512_S256x128_256_384 3 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d

end Cert.Attn

end
-- ==== Proof.SumsB.lean ====
/-
The sums a block ends with, case B.
-/
module

public import proofs.«01_k».proof.Proof.Gen.KernelIdeal.Frame.RunB
public import proofs.«01_k».proof.Proof.Start

@[expose] public section

set_option maxRecDepth 16384
set_option maxHeartbeats 2000000

noncomputable section

namespace Cert.Attn

open Idealize.ShloMosaic Cert.KernelIdeal Cert.KernelIdeal.Gen
open Idealize.ShloMosaic.TcCoe

/-- After a block's last store its sums have seen all the keys its rows see. -/
theorem sums_B (c : Dev nD) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (hc0 : ¬cond0_0 i) (hc1 : cond0_1 i)     (x0 : Vec Ideal S512x512 .bf16) (x1 : Vec Ideal S1x512x128 .bf16) (x2 : Vec Ideal S8192x128 .bf16) (x3 : Vec Ideal S8192x128 .bf16) (x4 : Vec Ideal S8192x128 .bf16) (x5 : Vec Ideal S8192x128 .bf16) (x6 : Vec Ideal S512x512 .bf16) (x7 : Vec Ideal S512x128 .f32) (x8 : Vec Ideal S1x32x2048 .f32) (x9 : Vec Ideal S1x64x2048 .f32) (x10 : Vec Ideal S1x32x2048 .f32) (x11 : Vec Ideal S1x32x8192 .f32) (x12 : Vec Ideal S1x128x2048 .f32) (r : Fin 4) (row : Fin 512) (d : Fin 256) :
    arg22.view.read (Elt Ideal) (arg22.view.writes (Elt Ideal) arg22.view.junk (kernelRun0_B.sl.HS1_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 x0 x1 x2 x3)) (ix3 r row d)
      = rowSum ((selScore (qRows arg21.view (arg21.view.writes (Elt Ideal) arg21.view.junk (kernelRun0_B.sl.HS0_4 (F := Ideal) c arg2 harg2 arg3 harg3 x0 x1))) (rowsOf arg4.view (harg4.unread x2)) (512 * (i 1).val)) r row) (fun k => (valRow (rowsOf arg5.view (harg5.unread x3))) k d) (cntH (512 * (i 1).val) 8 r row) := by
  obtain ⟨ht, hq⟩ := trips_le i
  have hi : (i 1).val < 16 := (i 1).isLt
  have hn : 512 * (i 1).val + 512 ≤ 8192 := by omega
  have hk := fun j d => rowsOf_load arg4.view (harg4.unread x2) (512 * (i 1).val) (diag_off i) (k0_off6_inb i) j d
  have hv := fun j d => rowsOf_load arg5.view (harg5.unread x3) (512 * (i 1).val) (diag_off i) (k0_off6_inb i) j d
  refine ((halfE (qRows arg21.view (arg21.view.writes (Elt Ideal) arg21.view.junk (kernelRun0_B.sl.HS0_4 (F := Ideal) c arg2 harg2 arg3 harg3 x0 x1))) (rowsOf arg4.view (harg4.unread x2)) (rowsOf arg5.view (harg5.unread x3)) (512 * (i 1).val) hn _ _ hk hv (diag_word i) 3 _ arg22.view arg23.view 3 rfl 7 8 rfl rfl _ _ ?_ (fun x y => qRows_half arg21.view (arg21.view.writes (Elt Ideal) arg21.view.junk (kernelRun0_B.sl.HS0_4 (F := Ideal) c arg2 harg2 arg3 harg3 x0 x1)) 3 256 inb_S4x512x256_S1x256x256_3_256_0 3 rfl ⟨256 + x.val, by omega⟩ x y rfl) inb_S4x512x128_S1x256x128_3_256_0 inb_S4x512x128_S1x256x128_3_256_0 inb_S4x512x256_S1x256x256_3_256_0 inb_S4x512x256_S1x256x256_3_256_0 rfl rfl) r row).2 d
  refine halfD (qRows arg21.view (arg21.view.writes (Elt Ideal) arg21.view.junk (kernelRun0_B.sl.HS0_4 (F := Ideal) c arg2 harg2 arg3 harg3 x0 x1))) (rowsOf arg4.view (harg4.unread x2)) (rowsOf arg5.view (harg5.unread x3)) (512 * (i 1).val) hn _ _ hk hv (diag_word i) 3 _ arg22.view arg23.view 3 rfl 6 7 rfl rfl _ _ ?_ (fun x y => qRows_half arg21.view (arg21.view.writes (Elt Ideal) arg21.view.junk (kernelRun0_B.sl.HS0_4 (F := Ideal) c arg2 harg2 arg3 harg3 x0 x1)) 3 0 inb_S4x512x256_S1x256x256_3_0_0 3 rfl ⟨x.val, by omega⟩ x y (Nat.zero_add _).symm) inb_S4x512x128_S1x256x128_3_0_0 inb_S4x512x128_S1x256x128_3_0_0 inb_S4x512x256_S1x256x256_3_0_0 inb_S4x512x256_S1x256x256_3_0_0 rfl rfl
  refine halfE (qRows arg21.view (arg21.view.writes (Elt Ideal) arg21.view.junk (kernelRun0_B.sl.HS0_4 (F := Ideal) c arg2 harg2 arg3 harg3 x0 x1))) (rowsOf arg4.view (harg4.unread x2)) (rowsOf arg5.view (harg5.unread x3)) (512 * (i 1).val) hn _ _ hk hv (diag_word i) 2 _ arg22.view arg23.view 2 rfl 5 6 rfl rfl _ _ ?_ (fun x y => qRows_half arg21.view (arg21.view.writes (Elt Ideal) arg21.view.junk (kernelRun0_B.sl.HS0_4 (F := Ideal) c arg2 harg2 arg3 harg3 x0 x1)) 2 256 inb_S4x512x256_S1x256x256_2_256_0 2 rfl ⟨256 + x.val, by omega⟩ x y rfl) inb_S4x512x128_S1x256x128_2_256_0 inb_S4x512x128_S1x256x128_2_256_0 inb_S4x512x256_S1x256x256_2_256_0 inb_S4x512x256_S1x256x256_2_256_0 rfl rfl
  refine halfD (qRows arg21.view (arg21.view.writes (Elt Ideal) arg21.view.junk (kernelRun0_B.sl.HS0_4 (F := Ideal) c arg2 harg2 arg3 harg3 x0 x1))) (rowsOf arg4.view (harg4.unread x2)) (rowsOf arg5.view (harg5.unread x3)) (512 * (i 1).val) hn _ _ hk hv (diag_word i) 2 _ arg22.view arg23.view 2 rfl 4 5 rfl rfl _ _ ?_ (fun x y => qRows_half arg21.view (arg21.view.writes (Elt Ideal) arg21.view.junk (kernelRun0_B.sl.HS0_4 (F := Ideal) c arg2 harg2 arg3 harg3 x0 x1)) 2 0 inb_S4x512x256_S1x256x256_2_0_0 2 rfl ⟨x.val, by omega⟩ x y (Nat.zero_add _).symm) inb_S4x512x128_S1x256x128_2_0_0 inb_S4x512x128_S1x256x128_2_0_0 inb_S4x512x256_S1x256x256_2_0_0 inb_S4x512x256_S1x256x256_2_0_0 rfl rfl
  refine halfE (qRows arg21.view (arg21.view.writes (Elt Ideal) arg21.view.junk (kernelRun0_B.sl.HS0_4 (F := Ideal) c arg2 harg2 arg3 harg3 x0 x1))) (rowsOf arg4.view (harg4.unread x2)) (rowsOf arg5.view (harg5.unread x3)) (512 * (i 1).val) hn _ _ hk hv (diag_word i) 1 _ arg22.view arg23.view 1 rfl 3 4 rfl rfl _ _ ?_ (fun x y => qRows_half arg21.view (arg21.view.writes (Elt Ideal) arg21.view.junk (kernelRun0_B.sl.HS0_4 (F := Ideal) c arg2 harg2 arg3 harg3 x0 x1)) 1 256 inb_S4x512x256_S1x256x256_1_256_0 1 rfl ⟨256 + x.val, by omega⟩ x y rfl) inb_S4x512x128_S1x256x128_1_256_0 inb_S4x512x128_S1x256x128_1_256_0 inb_S4x512x256_S1x256x256_1_256_0 inb_S4x512x256_S1x256x256_1_256_0 rfl rfl
  refine halfD (qRows arg21.view (arg21.view.writes (Elt Ideal) arg21.view.junk (kernelRun0_B.sl.HS0_4 (F := Ideal) c arg2 harg2 arg3 harg3 x0 x1))) (rowsOf arg4.view (harg4.unread x2)) (rowsOf arg5.view (harg5.unread x3)) (512 * (i 1).val) hn _ _ hk hv (diag_word i) 1 _ arg22.view arg23.view 1 rfl 2 3 rfl rfl _ _ ?_ (fun x y => qRows_half arg21.view (arg21.view.writes (Elt Ideal) arg21.view.junk (kernelRun0_B.sl.HS0_4 (F := Ideal) c arg2 harg2 arg3 harg3 x0 x1)) 1 0 inb_S4x512x256_S1x256x256_1_0_0 1 rfl ⟨x.val, by omega⟩ x y (Nat.zero_add _).symm) inb_S4x512x128_S1x256x128_1_0_0 inb_S4x512x128_S1x256x128_1_0_0 inb_S4x512x256_S1x256x256_1_0_0 inb_S4x512x256_S1x256x256_1_0_0 rfl rfl
  refine halfE (qRows arg21.view (arg21.view.writes (Elt Ideal) arg21.view.junk (kernelRun0_B.sl.HS0_4 (F := Ideal) c arg2 harg2 arg3 harg3 x0 x1))) (rowsOf arg4.view (harg4.unread x2)) (rowsOf arg5.view (harg5.unread x3)) (512 * (i 1).val) hn _ _ hk hv (diag_word i) 0 _ arg22.view arg23.view 0 rfl 1 2 rfl rfl _ _ ?_ (fun x y => qRows_half arg21.view (arg21.view.writes (Elt Ideal) arg21.view.junk (kernelRun0_B.sl.HS0_4 (F := Ideal) c arg2 harg2 arg3 harg3 x0 x1)) 0 256 inb_S4x512x256_S1x256x256_0_256_0 0 rfl ⟨256 + x.val, by omega⟩ x y rfl) inb_S4x512x128_S1x256x128_0_256_0 inb_S4x512x128_S1x256x128_0_256_0 inb_S4x512x256_S1x256x256_0_256_0 inb_S4x512x256_S1x256x256_0_256_0 rfl rfl
  refine halfD (qRows arg21.view (arg21.view.writes (Elt Ideal) arg21.view.junk (kernelRun0_B.sl.HS0_4 (F := Ideal) c arg2 harg2 arg3 harg3 x0 x1))) (rowsOf arg4.view (harg4.unread x2)) (rowsOf arg5.view (harg5.unread x3)) (512 * (i 1).val) hn _ _ hk hv (diag_word i) 0 _ arg22.view arg23.view 0 rfl 0 1 rfl rfl _ _ ?_ (fun x y => qRows_half arg21.view (arg21.view.writes (Elt Ideal) arg21.view.junk (kernelRun0_B.sl.HS0_4 (F := Ideal) c arg2 harg2 arg3 harg3 x0 x1)) 0 0 inb_S4x512x256_S1x256x256_0_0_0 0 rfl ⟨x.val, by omega⟩ x y (Nat.zero_add _).symm) inb_S4x512x128_S1x256x128_0_0_0 inb_S4x512x128_S1x256x128_0_0_0 inb_S4x512x256_S1x256x256_0_0_0 inb_S4x512x256_S1x256x256_0_0_0 rfl rfl
  rw [cntH_zero]
  have hT := trips_B i hc0 hc1
  rw [show (fun (_ : Fin 4) (_ : Fin 512) => 512 * (i 1).val) = fun _ _ => 2048 * (k0_t1_loop i).trips + 512 from by funext _ _; omega]
  refine full_step arg4 arg5 arg21 arg22 arg23 (harg4.unread x2) (harg5.unread x3) (arg21.view.writes (Elt Ideal) arg21.view.junk (kernelRun0_B.sl.HS0_4 (F := Ideal) c arg2 harg2 arg3 harg3 x0 x1)) (512 * (i 1).val) (2048 * (k0_t1_loop i).trips) (by omega) (by omega) _ ((one_word i hc1).trans (by rw [show 512 * (i 1).val - 512 = 2048 * (k0_t1_loop i).trips from by omega]))
    _ _ ((one_off i hc1).trans (by rw [show 512 * (i 1).val - 512 = 2048 * (k0_t1_loop i).trips from by omega])) ((one_off i hc1).trans (by rw [show 512 * (i 1).val - 512 = 2048 * (k0_t1_loop i).trips from by omega])) _ _ _ _ ?_ inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 rfl rfl rfl rfl rfl rfl rfl rfl
  exact start_st (Variants.none) c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ (init_st arg22.view arg23.view _ _ _ _ _ _) _ _ _ _ rfl rfl

end Cert.Attn

end
-- ==== Proof.OutB.lean ====
/-
The block a run writes, case B.
-/
module

public import proofs.«01_k».proof.Proof.Gen.KernelIdeal.Frame
public import proofs.«01_k».proof.Proof.SumsB
public import proofs.«01_k».proof.Proof.Blocks

@[expose] public section

set_option maxRecDepth 16384
set_option maxHeartbeats 2000000

noncomputable section

namespace Cert.Attn

open Idealize.ShloMosaic Cert.KernelIdeal Cert.KernelIdeal.Gen
open Idealize.ShloMosaic.TcCoe

/-- Every entry of the block is the gated sum of the three branches. -/
theorem out_B (c : Dev nD) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (hc0 : ¬cond0_0 i) (hc1 : cond0_1 i)     (x0 : Vec Ideal S512x512 .bf16) (x1 : Vec Ideal S1x512x128 .bf16) (x2 : Vec Ideal S8192x128 .bf16) (x3 : Vec Ideal S8192x128 .bf16) (x4 : Vec Ideal S8192x128 .bf16) (x5 : Vec Ideal S8192x128 .bf16) (x6 : Vec Ideal S512x512 .bf16) (x7 : Vec Ideal S512x128 .f32) (x8 : Vec Ideal S1x32x2048 .f32) (x9 : Vec Ideal S1x64x2048 .f32) (x10 : Vec Ideal S1x32x2048 .f32) (x11 : Vec Ideal S1x32x8192 .f32) (x12 : Vec Ideal S1x128x2048 .f32) (r : Fin 4) (row : Fin 512) (d : Fin 128) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 (ix2 row ⟨128 * r.val + d.val, by omega⟩)
      = blockVal x0 x1 x2 x3 x4 x5 x6 x7 (i 0) (512 * (i 1).val) r row d := by
  have hi : (i 1).val < 16 := (i 1).isLt
  have hn : 512 * (i 1).val + 512 ≤ 8192 := by omega
  have hQ : ∀ (r : Fin 4) (row : Fin 512) (c' : Fin 256), qRows arg21.view (arg21.view.writes (Elt Ideal) arg21.view.junk (kernelRun0_B.sl.HS0_4 (F := Ideal) c arg2 harg2 arg3 harg3 x0 x1)) r row c'
      = if h : c'.val < 128 then x0 (ix2 row ⟨128 * r.val + c'.val, by omega⟩) else if 0 < x1 (ix3 0 row ⟨c'.val - 128, by omega⟩) then 0 else ⊥ :=
    fun r row c' => queries arg21.view arg21.view.junk arg2 harg2 arg3 harg3 x0 x1 _ _ _ _ _ _ _ _ _ r row c'
  have hsum : ∀ (r : Fin 4) (row : Fin 512) (d : Fin 256),
      arg22.view.read (Elt Ideal) (arg22.view.writes (Elt Ideal) arg22.view.junk (kernelRun0_B.sl.HS1_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 x0 x1 x2 x3)) (ix3 r row d)
        = rowSum (selT x0 x1 x2 (512 * (i 1).val) r row) (fun k => valRow (tbl x3) k d) (cntH (512 * (i 1).val) 8 r row) := fun r row d => by
    have h := sums_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 r row d
    rw [rowsOf_unread, rowsOf_unread, selScore_eq _ x0 x1 x2 hQ (512 * (i 1).val) hn r row] at h
    exact h
  unfold out0_B_13
  refine out8 VO0_13 VO0_13.junk (fun r row d => blockVal x0 x1 x2 x3 x4 x5 x6 x7 (i 0) (512 * (i 1).val) r row d) _ _ _ _ _ _ _ _ ?_ ?_ ?_ ?_ ?_ ?_ ?_ ?_ r row d
  · exact fun x d => piece x0 x1 x2 x3 x4 x5 x6 x7 (i 0) (512 * (i 1).val) hn 0 0 0 1 2 slices_S512x128_o0_0_S256x128 slices_S256x128_o0_0_S256x1 slices_S256x128_o0_1_S256x1 slices_S256x128_o0_2_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 0 row) (fun _ => rfl)
      (fun x d => (covHA arg22.view inb_S4x512x256_S1x256x256_0_0_0 _ 0 ⟨0 + x.val, by omega⟩ x d rfl rfl).trans ((hsum 0 ⟨0 + x.val, by omega⟩ d).trans (by rw [cnt0])))
      (fun y d => part_load arg8 harg8 x6 inb_S512x512_S256x128_0_0 0 rfl (by omega) y d)
      (fun y d => part_load arg2 harg2 x0 inb_S512x512_S256x128_0_0 0 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 1 0 3 4 5 slices_S512x128_o0_0_S256x128 slices_S256x128_o0_3_S256x1 slices_S256x128_o0_4_S256x1 slices_S256x128_o0_5_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 1 row) (fun _ => rfl)
      (fun x d => (covHA arg22.view inb_S4x512x256_S1x256x256_1_0_0 _ 1 ⟨0 + x.val, by omega⟩ x d rfl rfl).trans ((hsum 1 ⟨0 + x.val, by omega⟩ d).trans (by rw [cnt0])))
      (fun y d => part_load arg8 harg8 x6 inb_S512x512_S256x128_0_128 1 rfl (by omega) y d)
      (fun y d => part_load arg2 harg2 x0 inb_S512x512_S256x128_0_128 1 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 2 0 6 7 8 slices_S512x128_o0_0_S256x128 slices_S256x128_o0_6_S256x1 slices_S256x128_o0_7_S256x1 slices_S256x128_o0_8_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 2 row) (fun _ => rfl)
      (fun x d => (covHA arg22.view inb_S4x512x256_S1x256x256_2_0_0 _ 2 ⟨0 + x.val, by omega⟩ x d rfl rfl).trans ((hsum 2 ⟨0 + x.val, by omega⟩ d).trans (by rw [cnt0])))
      (fun y d => part_load arg8 harg8 x6 inb_S512x512_S256x128_0_256 2 rfl (by omega) y d)
      (fun y d => part_load arg2 harg2 x0 inb_S512x512_S256x128_0_256 2 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 3 0 9 10 11 slices_S512x128_o0_0_S256x128 slices_S256x128_o0_9_S256x1 slices_S256x128_o0_10_S256x1 slices_S256x128_o0_11_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 3 row) (fun _ => rfl)
      (fun x d => (covHA arg22.view inb_S4x512x256_S1x256x256_3_0_0 _ 3 ⟨0 + x.val, by omega⟩ x d rfl rfl).trans ((hsum 3 ⟨0 + x.val, by omega⟩ d).trans (by rw [cnt0])))
      (fun y d => part_load arg8 harg8 x6 inb_S512x512_S256x128_0_384 3 rfl (by omega) y d)
      (fun y d => part_load arg2 harg2 x0 inb_S512x512_S256x128_0_384 3 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 0 256 0 1 2 slices_S512x128_o256_0_S256x128 slices_S256x128_o0_0_S256x1 slices_S256x128_o0_1_S256x1 slices_S256x128_o0_2_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 0 row) (fun _ => rfl)
      (fun x d => (covHA arg22.view inb_S4x512x256_S1x256x256_0_256_0 _ 0 ⟨256 + x.val, by omega⟩ x d rfl rfl).trans ((hsum 0 ⟨256 + x.val, by omega⟩ d).trans (by rw [cnt1])))
      (fun y d => part_load arg8 harg8 x6 inb_S512x512_S256x128_256_0 0 rfl (by omega) y d)
      (fun y d => part_load arg2 harg2 x0 inb_S512x512_S256x128_256_0 0 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 1 256 3 4 5 slices_S512x128_o256_0_S256x128 slices_S256x128_o0_3_S256x1 slices_S256x128_o0_4_S256x1 slices_S256x128_o0_5_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 1 row) (fun _ => rfl)
      (fun x d => (covHA arg22.view inb_S4x512x256_S1x256x256_1_256_0 _ 1 ⟨256 + x.val, by omega⟩ x d rfl rfl).trans ((hsum 1 ⟨256 + x.val, by omega⟩ d).trans (by rw [cnt1])))
      (fun y d => part_load arg8 harg8 x6 inb_S512x512_S256x128_256_128 1 rfl (by omega) y d)
      (fun y d => part_load arg2 harg2 x0 inb_S512x512_S256x128_256_128 1 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 2 256 6 7 8 slices_S512x128_o256_0_S256x128 slices_S256x128_o0_6_S256x1 slices_S256x128_o0_7_S256x1 slices_S256x128_o0_8_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 2 row) (fun _ => rfl)
      (fun x d => (covHA arg22.view inb_S4x512x256_S1x256x256_2_256_0 _ 2 ⟨256 + x.val, by omega⟩ x d rfl rfl).trans ((hsum 2 ⟨256 + x.val, by omega⟩ d).trans (by rw [cnt1])))
      (fun y d => part_load arg8 harg8 x6 inb_S512x512_S256x128_256_256 2 rfl (by omega) y d)
      (fun y d => part_load arg2 harg2 x0 inb_S512x512_S256x128_256_256 2 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 3 256 9 10 11 slices_S512x128_o256_0_S256x128 slices_S256x128_o0_9_S256x1 slices_S256x128_o0_10_S256x1 slices_S256x128_o0_11_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 3 row) (fun _ => rfl)
      (fun x d => (covHA arg22.view inb_S4x512x256_S1x256x256_3_256_0 _ 3 ⟨256 + x.val, by omega⟩ x d rfl rfl).trans ((hsum 3 ⟨256 + x.val, by omega⟩ d).trans (by rw [cnt1])))
      (fun y d => part_load arg8 harg8 x6 inb_S512x512_S256x128_256_384 3 rfl (by omega) y d)
      (fun y d => part_load arg2 harg2 x0 inb_S512x512_S256x128_256_384 3 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d

end Cert.Attn

end
-- ==== Proof.SumsC.lean ====
/-
The sums a block ends with, case C.
-/
module

public import proofs.«01_k».proof.Proof.Gen.KernelIdeal.Frame.RunC
public import proofs.«01_k».proof.Proof.Start

@[expose] public section

set_option maxRecDepth 16384
set_option maxHeartbeats 2000000

noncomputable section

namespace Cert.Attn

open Idealize.ShloMosaic Cert.KernelIdeal Cert.KernelIdeal.Gen
open Idealize.ShloMosaic.TcCoe

theorem two_word_C (i : grid0.Coords) (hc : cond0_0 i) :
    kernelRun0_C.sl.v761 i = BitVec.ofNat 32 (2048 * (k0_t1_loop i).trips)
      ∧ kernelRun0_C.sl.v890 i = BitVec.ofNat 32 (2048 * (k0_t1_loop i).trips + 512) := by
  revert i; decide +kernel

/-- After a block's last store its sums have seen all the keys its rows see. -/
theorem sums_C (c : Dev nD) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (hc0 : cond0_0 i) (hc1 : ¬cond0_1 i)     (x0 : Vec Ideal S512x512 .bf16) (x1 : Vec Ideal S1x512x128 .bf16) (x2 : Vec Ideal S8192x128 .bf16) (x3 : Vec Ideal S8192x128 .bf16) (x4 : Vec Ideal S8192x128 .bf16) (x5 : Vec Ideal S8192x128 .bf16) (x6 : Vec Ideal S512x512 .bf16) (x7 : Vec Ideal S512x128 .f32) (x8 : Vec Ideal S1x32x2048 .f32) (x9 : Vec Ideal S1x64x2048 .f32) (x10 : Vec Ideal S1x32x2048 .f32) (x11 : Vec Ideal S1x32x8192 .f32) (x12 : Vec Ideal S1x128x2048 .f32) (r : Fin 4) (row : Fin 512) (d : Fin 256) :
    arg22.view.read (Elt Ideal) (arg22.view.writes (Elt Ideal) arg22.view.junk (kernelRun0_C.sl.HS1_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3)) (ix3 r row d)
      = rowSum ((selScore (qRows arg21.view (arg21.view.writes (Elt Ideal) arg21.view.junk (kernelRun0_C.sl.HS0_4 (F := Ideal) c arg2 harg2 arg3 harg3 x0 x1))) (rowsOf arg4.view (harg4.unread x2)) (512 * (i 1).val)) r row) (fun k => (valRow (rowsOf arg5.view (harg5.unread x3))) k d) (cntH (512 * (i 1).val) 8 r row) := by
  obtain ⟨ht, hq⟩ := trips_le i
  have hi : (i 1).val < 16 := (i 1).isLt
  have hn : 512 * (i 1).val + 512 ≤ 8192 := by omega
  have hk := fun j d => rowsOf_load arg4.view (harg4.unread x2) (512 * (i 1).val) (diag_off i) (k0_off6_inb i) j d
  have hv := fun j d => rowsOf_load arg5.view (harg5.unread x3) (512 * (i 1).val) (diag_off i) (k0_off6_inb i) j d
  refine ((halfE (qRows arg21.view (arg21.view.writes (Elt Ideal) arg21.view.junk (kernelRun0_C.sl.HS0_4 (F := Ideal) c arg2 harg2 arg3 harg3 x0 x1))) (rowsOf arg4.view (harg4.unread x2)) (rowsOf arg5.view (harg5.unread x3)) (512 * (i 1).val) hn _ _ hk hv (diag_word i) 3 _ arg22.view arg23.view 3 rfl 7 8 rfl rfl _ _ ?_ (fun x y => qRows_half arg21.view (arg21.view.writes (Elt Ideal) arg21.view.junk (kernelRun0_C.sl.HS0_4 (F := Ideal) c arg2 harg2 arg3 harg3 x0 x1)) 3 256 inb_S4x512x256_S1x256x256_3_256_0 3 rfl ⟨256 + x.val, by omega⟩ x y rfl) inb_S4x512x128_S1x256x128_3_256_0 inb_S4x512x128_S1x256x128_3_256_0 inb_S4x512x256_S1x256x256_3_256_0 inb_S4x512x256_S1x256x256_3_256_0 rfl rfl) r row).2 d
  refine halfD (qRows arg21.view (arg21.view.writes (Elt Ideal) arg21.view.junk (kernelRun0_C.sl.HS0_4 (F := Ideal) c arg2 harg2 arg3 harg3 x0 x1))) (rowsOf arg4.view (harg4.unread x2)) (rowsOf arg5.view (harg5.unread x3)) (512 * (i 1).val) hn _ _ hk hv (diag_word i) 3 _ arg22.view arg23.view 3 rfl 6 7 rfl rfl _ _ ?_ (fun x y => qRows_half arg21.view (arg21.view.writes (Elt Ideal) arg21.view.junk (kernelRun0_C.sl.HS0_4 (F := Ideal) c arg2 harg2 arg3 harg3 x0 x1)) 3 0 inb_S4x512x256_S1x256x256_3_0_0 3 rfl ⟨x.val, by omega⟩ x y (Nat.zero_add _).symm) inb_S4x512x128_S1x256x128_3_0_0 inb_S4x512x128_S1x256x128_3_0_0 inb_S4x512x256_S1x256x256_3_0_0 inb_S4x512x256_S1x256x256_3_0_0 rfl rfl
  refine halfE (qRows arg21.view (arg21.view.writes (Elt Ideal) arg21.view.junk (kernelRun0_C.sl.HS0_4 (F := Ideal) c arg2 harg2 arg3 harg3 x0 x1))) (rowsOf arg4.view (harg4.unread x2)) (rowsOf arg5.view (harg5.unread x3)) (512 * (i 1).val) hn _ _ hk hv (diag_word i) 2 _ arg22.view arg23.view 2 rfl 5 6 rfl rfl _ _ ?_ (fun x y => qRows_half arg21.view (arg21.view.writes (Elt Ideal) arg21.view.junk (kernelRun0_C.sl.HS0_4 (F := Ideal) c arg2 harg2 arg3 harg3 x0 x1)) 2 256 inb_S4x512x256_S1x256x256_2_256_0 2 rfl ⟨256 + x.val, by omega⟩ x y rfl) inb_S4x512x128_S1x256x128_2_256_0 inb_S4x512x128_S1x256x128_2_256_0 inb_S4x512x256_S1x256x256_2_256_0 inb_S4x512x256_S1x256x256_2_256_0 rfl rfl
  refine halfD (qRows arg21.view (arg21.view.writes (Elt Ideal) arg21.view.junk (kernelRun0_C.sl.HS0_4 (F := Ideal) c arg2 harg2 arg3 harg3 x0 x1))) (rowsOf arg4.view (harg4.unread x2)) (rowsOf arg5.view (harg5.unread x3)) (512 * (i 1).val) hn _ _ hk hv (diag_word i) 2 _ arg22.view arg23.view 2 rfl 4 5 rfl rfl _ _ ?_ (fun x y => qRows_half arg21.view (arg21.view.writes (Elt Ideal) arg21.view.junk (kernelRun0_C.sl.HS0_4 (F := Ideal) c arg2 harg2 arg3 harg3 x0 x1)) 2 0 inb_S4x512x256_S1x256x256_2_0_0 2 rfl ⟨x.val, by omega⟩ x y (Nat.zero_add _).symm) inb_S4x512x128_S1x256x128_2_0_0 inb_S4x512x128_S1x256x128_2_0_0 inb_S4x512x256_S1x256x256_2_0_0 inb_S4x512x256_S1x256x256_2_0_0 rfl rfl
  refine halfE (qRows arg21.view (arg21.view.writes (Elt Ideal) arg21.view.junk (kernelRun0_C.sl.HS0_4 (F := Ideal) c arg2 harg2 arg3 harg3 x0 x1))) (rowsOf arg4.view (harg4.unread x2)) (rowsOf arg5.view (harg5.unread x3)) (512 * (i 1).val) hn _ _ hk hv (diag_word i) 1 _ arg22.view arg23.view 1 rfl 3 4 rfl rfl _ _ ?_ (fun x y => qRows_half arg21.view (arg21.view.writes (Elt Ideal) arg21.view.junk (kernelRun0_C.sl.HS0_4 (F := Ideal) c arg2 harg2 arg3 harg3 x0 x1)) 1 256 inb_S4x512x256_S1x256x256_1_256_0 1 rfl ⟨256 + x.val, by omega⟩ x y rfl) inb_S4x512x128_S1x256x128_1_256_0 inb_S4x512x128_S1x256x128_1_256_0 inb_S4x512x256_S1x256x256_1_256_0 inb_S4x512x256_S1x256x256_1_256_0 rfl rfl
  refine halfD (qRows arg21.view (arg21.view.writes (Elt Ideal) arg21.view.junk (kernelRun0_C.sl.HS0_4 (F := Ideal) c arg2 harg2 arg3 harg3 x0 x1))) (rowsOf arg4.view (harg4.unread x2)) (rowsOf arg5.view (harg5.unread x3)) (512 * (i 1).val) hn _ _ hk hv (diag_word i) 1 _ arg22.view arg23.view 1 rfl 2 3 rfl rfl _ _ ?_ (fun x y => qRows_half arg21.view (arg21.view.writes (Elt Ideal) arg21.view.junk (kernelRun0_C.sl.HS0_4 (F := Ideal) c arg2 harg2 arg3 harg3 x0 x1)) 1 0 inb_S4x512x256_S1x256x256_1_0_0 1 rfl ⟨x.val, by omega⟩ x y (Nat.zero_add _).symm) inb_S4x512x128_S1x256x128_1_0_0 inb_S4x512x128_S1x256x128_1_0_0 inb_S4x512x256_S1x256x256_1_0_0 inb_S4x512x256_S1x256x256_1_0_0 rfl rfl
  refine halfE (qRows arg21.view (arg21.view.writes (Elt Ideal) arg21.view.junk (kernelRun0_C.sl.HS0_4 (F := Ideal) c arg2 harg2 arg3 harg3 x0 x1))) (rowsOf arg4.view (harg4.unread x2)) (rowsOf arg5.view (harg5.unread x3)) (512 * (i 1).val) hn _ _ hk hv (diag_word i) 0 _ arg22.view arg23.view 0 rfl 1 2 rfl rfl _ _ ?_ (fun x y => qRows_half arg21.view (arg21.view.writes (Elt Ideal) arg21.view.junk (kernelRun0_C.sl.HS0_4 (F := Ideal) c arg2 harg2 arg3 harg3 x0 x1)) 0 256 inb_S4x512x256_S1x256x256_0_256_0 0 rfl ⟨256 + x.val, by omega⟩ x y rfl) inb_S4x512x128_S1x256x128_0_256_0 inb_S4x512x128_S1x256x128_0_256_0 inb_S4x512x256_S1x256x256_0_256_0 inb_S4x512x256_S1x256x256_0_256_0 rfl rfl
  refine halfD (qRows arg21.view (arg21.view.writes (Elt Ideal) arg21.view.junk (kernelRun0_C.sl.HS0_4 (F := Ideal) c arg2 harg2 arg3 harg3 x0 x1))) (rowsOf arg4.view (harg4.unread x2)) (rowsOf arg5.view (harg5.unread x3)) (512 * (i 1).val) hn _ _ hk hv (diag_word i) 0 _ arg22.view arg23.view 0 rfl 0 1 rfl rfl _ _ ?_ (fun x y => qRows_half arg21.view (arg21.view.writes (Elt Ideal) arg21.view.junk (kernelRun0_C.sl.HS0_4 (F := Ideal) c arg2 harg2 arg3 harg3 x0 x1)) 0 0 inb_S4x512x256_S1x256x256_0_0_0 0 rfl ⟨x.val, by omega⟩ x y (Nat.zero_add _).symm) inb_S4x512x128_S1x256x128_0_0_0 inb_S4x512x128_S1x256x128_0_0_0 inb_S4x512x256_S1x256x256_0_0_0 inb_S4x512x256_S1x256x256_0_0_0 rfl rfl
  rw [cntH_zero]
  have hT := trips_C i hc0 hc1
  rw [show (fun (_ : Fin 4) (_ : Fin 512) => 512 * (i 1).val) = fun _ _ => 2048 * (k0_t1_loop i).trips + 512 + 512 from by funext _ _; omega]
  refine full_step arg4 arg5 arg21 arg22 arg23 (harg4.unread x2) (harg5.unread x3) (arg21.view.writes (Elt Ideal) arg21.view.junk (kernelRun0_C.sl.HS0_4 (F := Ideal) c arg2 harg2 arg3 harg3 x0 x1)) (512 * (i 1).val) (2048 * (k0_t1_loop i).trips + 512) (by omega) (by omega) _ (two_word_C i hc0).2
    _ _ (two_off i hc0).2 (two_off i hc0).2 _ _ _ _ ?_ inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 rfl rfl rfl rfl rfl rfl rfl rfl
  refine full_step arg4 arg5 arg21 arg22 arg23 (harg4.unread x2) (harg5.unread x3) (arg21.view.writes (Elt Ideal) arg21.view.junk (kernelRun0_C.sl.HS0_4 (F := Ideal) c arg2 harg2 arg3 harg3 x0 x1)) (512 * (i 1).val) (2048 * (k0_t1_loop i).trips) (by omega) (by omega) _ (two_word_C i hc0).1
    _ _ (two_off i hc0).1 (two_off i hc0).1 _ _ _ _ ?_ inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 rfl rfl rfl rfl rfl rfl rfl rfl
  exact start_st (Variants.none) c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ (init_st arg22.view arg23.view _ _ _ _ _ _) _ _ _ _ rfl rfl

end Cert.Attn

end
-- ==== Proof.OutC.lean ====
/-
The block a run writes, case C.
-/
module

public import proofs.«01_k».proof.Proof.Gen.KernelIdeal.Frame
public import proofs.«01_k».proof.Proof.SumsC
public import proofs.«01_k».proof.Proof.Blocks

@[expose] public section

set_option maxRecDepth 16384
set_option maxHeartbeats 2000000

noncomputable section

namespace Cert.Attn

open Idealize.ShloMosaic Cert.KernelIdeal Cert.KernelIdeal.Gen
open Idealize.ShloMosaic.TcCoe

/-- Every entry of the block is the gated sum of the three branches. -/
theorem out_C (c : Dev nD) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (hc0 : cond0_0 i) (hc1 : ¬cond0_1 i)     (x0 : Vec Ideal S512x512 .bf16) (x1 : Vec Ideal S1x512x128 .bf16) (x2 : Vec Ideal S8192x128 .bf16) (x3 : Vec Ideal S8192x128 .bf16) (x4 : Vec Ideal S8192x128 .bf16) (x5 : Vec Ideal S8192x128 .bf16) (x6 : Vec Ideal S512x512 .bf16) (x7 : Vec Ideal S512x128 .f32) (x8 : Vec Ideal S1x32x2048 .f32) (x9 : Vec Ideal S1x64x2048 .f32) (x10 : Vec Ideal S1x32x2048 .f32) (x11 : Vec Ideal S1x32x8192 .f32) (x12 : Vec Ideal S1x128x2048 .f32) (r : Fin 4) (row : Fin 512) (d : Fin 128) :
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 (ix2 row ⟨128 * r.val + d.val, by omega⟩)
      = blockVal x0 x1 x2 x3 x4 x5 x6 x7 (i 0) (512 * (i 1).val) r row d := by
  have hi : (i 1).val < 16 := (i 1).isLt
  have hn : 512 * (i 1).val + 512 ≤ 8192 := by omega
  have hQ : ∀ (r : Fin 4) (row : Fin 512) (c' : Fin 256), qRows arg21.view (arg21.view.writes (Elt Ideal) arg21.view.junk (kernelRun0_C.sl.HS0_4 (F := Ideal) c arg2 harg2 arg3 harg3 x0 x1)) r row c'
      = if h : c'.val < 128 then x0 (ix2 row ⟨128 * r.val + c'.val, by omega⟩) else if 0 < x1 (ix3 0 row ⟨c'.val - 128, by omega⟩) then 0 else ⊥ :=
    fun r row c' => queries arg21.view arg21.view.junk arg2 harg2 arg3 harg3 x0 x1 _ _ _ _ _ _ _ _ _ r row c'
  have hsum : ∀ (r : Fin 4) (row : Fin 512) (d : Fin 256),
      arg22.view.read (Elt Ideal) (arg22.view.writes (Elt Ideal) arg22.view.junk (kernelRun0_C.sl.HS1_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3)) (ix3 r row d)
        = rowSum (selT x0 x1 x2 (512 * (i 1).val) r row) (fun k => valRow (tbl x3) k d) (cntH (512 * (i 1).val) 8 r row) := fun r row d => by
    have h := sums_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 r row d
    rw [rowsOf_unread, rowsOf_unread, selScore_eq _ x0 x1 x2 hQ (512 * (i 1).val) hn r row] at h
    exact h
  unfold out0_C_13
  refine out8 VO0_13 VO0_13.junk (fun r row d => blockVal x0 x1 x2 x3 x4 x5 x6 x7 (i 0) (512 * (i 1).val) r row d) _ _ _ _ _ _ _ _ ?_ ?_ ?_ ?_ ?_ ?_ ?_ ?_ r row d
  · exact fun x d => piece x0 x1 x2 x3 x4 x5 x6 x7 (i 0) (512 * (i 1).val) hn 0 0 0 1 2 slices_S512x128_o0_0_S256x128 slices_S256x128_o0_0_S256x1 slices_S256x128_o0_1_S256x1 slices_S256x128_o0_2_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 0 row) (fun _ => rfl)
      (fun x d => (covHA arg22.view inb_S4x512x256_S1x256x256_0_0_0 _ 0 ⟨0 + x.val, by omega⟩ x d rfl rfl).trans ((hsum 0 ⟨0 + x.val, by omega⟩ d).trans (by rw [cnt0])))
      (fun y d => part_load arg8 harg8 x6 inb_S512x512_S256x128_0_0 0 rfl (by omega) y d)
      (fun y d => part_load arg2 harg2 x0 inb_S512x512_S256x128_0_0 0 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 1 0 3 4 5 slices_S512x128_o0_0_S256x128 slices_S256x128_o0_3_S256x1 slices_S256x128_o0_4_S256x1 slices_S256x128_o0_5_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 1 row) (fun _ => rfl)
      (fun x d => (covHA arg22.view inb_S4x512x256_S1x256x256_1_0_0 _ 1 ⟨0 + x.val, by omega⟩ x d rfl rfl).trans ((hsum 1 ⟨0 + x.val, by omega⟩ d).trans (by rw [cnt0])))
      (fun y d => part_load arg8 harg8 x6 inb_S512x512_S256x128_0_128 1 rfl (by omega) y d)
      (fun y d => part_load arg2 harg2 x0 inb_S512x512_S256x128_0_128 1 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 2 0 6 7 8 slices_S512x128_o0_0_S256x128 slices_S256x128_o0_6_S256x1 slices_S256x128_o0_7_S256x1 slices_S256x128_o0_8_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 2 row) (fun _ => rfl)
      (fun x d => (covHA arg22.view inb_S4x512x256_S1x256x256_2_0_0 _ 2 ⟨0 + x.val, by omega⟩ x d rfl rfl).trans ((hsum 2 ⟨0 + x.val, by omega⟩ d).trans (by rw [cnt0])))
      (fun y d => part_load arg8 harg8 x6 inb_S512x512_S256x128_0_256 2 rfl (by omega) y d)
      (fun y d => part_load arg2 harg2 x0 inb_S512x512_S256x128_0_256 2 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 3 0 9 10 11 slices_S512x128_o0_0_S256x128 slices_S256x128_o0_9_S256x1 slices_S256x128_o0_10_S256x1 slices_S256x128_o0_11_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 3 row) (fun _ => rfl)
      (fun x d => (covHA arg22.view inb_S4x512x256_S1x256x256_3_0_0 _ 3 ⟨0 + x.val, by omega⟩ x d rfl rfl).trans ((hsum 3 ⟨0 + x.val, by omega⟩ d).trans (by rw [cnt0])))
      (fun y d => part_load arg8 harg8 x6 inb_S512x512_S256x128_0_384 3 rfl (by omega) y d)
      (fun y d => part_load arg2 harg2 x0 inb_S512x512_S256x128_0_384 3 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 0 256 0 1 2 slices_S512x128_o256_0_S256x128 slices_S256x128_o0_0_S256x1 slices_S256x128_o0_1_S256x1 slices_S256x128_o0_2_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 0 row) (fun _ => rfl)
      (fun x d => (covHA arg22.view inb_S4x512x256_S1x256x256_0_256_0 _ 0 ⟨256 + x.val, by omega⟩ x d rfl rfl).trans ((hsum 0 ⟨256 + x.val, by omega⟩ d).trans (by rw [cnt1])))
      (fun y d => part_load arg8 harg8 x6 inb_S512x512_S256x128_256_0 0 rfl (by omega) y d)
      (fun y d => part_load arg2 harg2 x0 inb_S512x512_S256x128_256_0 0 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 1 256 3 4 5 slices_S512x128_o256_0_S256x128 slices_S256x128_o0_3_S256x1 slices_S256x128_o0_4_S256x1 slices_S256x128_o0_5_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 1 row) (fun _ => rfl)
      (fun x d => (covHA arg22.view inb_S4x512x256_S1x256x256_1_256_0 _ 1 ⟨256 + x.val, by omega⟩ x d rfl rfl).trans ((hsum 1 ⟨256 + x.val, by omega⟩ d).trans (by rw [cnt1])))
      (fun y d => part_load arg8 harg8 x6 inb_S512x512_S256x128_256_128 1 rfl (by omega) y d)
      (fun y d => part_load arg2 harg2 x0 inb_S512x512_S256x128_256_128 1 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 2 256 6 7 8 slices_S512x128_o256_0_S256x128 slices_S256x128_o0_6_S256x1 slices_S256x128_o0_7_S256x1 slices_S256x128_o0_8_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 2 row) (fun _ => rfl)
      (fun x d => (covHA arg22.view inb_S4x512x256_S1x256x256_2_256_0 _ 2 ⟨256 + x.val, by omega⟩ x d rfl rfl).trans ((hsum 2 ⟨256 + x.val, by omega⟩ d).trans (by rw [cnt1])))
      (fun y d => part_load arg8 harg8 x6 inb_S512x512_S256x128_256_256 2 rfl (by omega) y d)
      (fun y d => part_load arg2 harg2 x0 inb_S512x512_S256x128_256_256 2 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 3 256 9 10 11 slices_S512x128_o256_0_S256x128 slices_S256x128_o0_9_S256x1 slices_S256x128_o0_10_S256x1 slices_S256x128_o0_11_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 3 row) (fun _ => rfl)
      (fun x d => (covHA arg22.view inb_S4x512x256_S1x256x256_3_256_0 _ 3 ⟨256 + x.val, by omega⟩ x d rfl rfl).trans ((hsum 3 ⟨256 + x.val, by omega⟩ d).trans (by rw [cnt1])))
      (fun y d => part_load arg8 harg8 x6 inb_S512x512_S256x128_256_384 3 rfl (by omega) y d)
      (fun y d => part_load arg2 harg2 x0 inb_S512x512_S256x128_256_384 3 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d

end Cert.Attn

end
-- ==== Proof.SumsD.lean ====
/-
The sums a block ends with, case D.
-/
module

public import proofs.«01_k».proof.Proof.Gen.KernelIdeal.Frame.RunD
public import proofs.«01_k».proof.Proof.Start

@[expose] public section

set_option maxRecDepth 16384
set_option maxHeartbeats 2000000

noncomputable section

namespace Cert.Attn

open Idealize.ShloMosaic Cert.KernelIdeal Cert.KernelIdeal.Gen
open Idealize.ShloMosaic.TcCoe

theorem two_word_D (i : grid0.Coords) (hc : cond0_0 i) :
    kernelRun0_D.sl.v761 i = BitVec.ofNat 32 (2048 * (k0_t1_loop i).trips)
      ∧ kernelRun0_D.sl.v890 i = BitVec.ofNat 32 (2048 * (k0_t1_loop i).trips + 512) := by
  revert i; decide +kernel

/-- After a block's last store its sums have seen all the keys its rows see. -/
theorem sums_D (c : Dev nD) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (hc0 : cond0_0 i) (hc1 : cond0_1 i)     (x0 : Vec Ideal S512x512 .bf16) (x1 : Vec Ideal S1x512x128 .bf16) (x2 : Vec Ideal S8192x128 .bf16) (x3 : Vec Ideal S8192x128 .bf16) (x4 : Vec Ideal S8192x128 .bf16) (x5 : Vec Ideal S8192x128 .bf16) (x6 : Vec Ideal S512x512 .bf16) (x7 : Vec Ideal S512x128 .f32) (x8 : Vec Ideal S1x32x2048 .f32) (x9 : Vec Ideal S1x64x2048 .f32) (x10 : Vec Ideal S1x32x2048 .f32) (x11 : Vec Ideal S1x32x8192 .f32) (x12 : Vec Ideal S1x128x2048 .f32) (r : Fin 4) (row : Fin 512) (d : Fin 256) :
    arg22.view.read (Elt Ideal) (arg22.view.writes (Elt Ideal) arg22.view.junk (kernelRun0_D.sl.HS1_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3)) (ix3 r row d)
      = rowSum ((selScore (qRows arg21.view (arg21.view.writes (Elt Ideal) arg21.view.junk (kernelRun0_D.sl.HS0_4 (F := Ideal) c arg2 harg2 arg3 harg3 x0 x1))) (rowsOf arg4.view (harg4.unread x2)) (512 * (i 1).val)) r row) (fun k => (valRow (rowsOf arg5.view (harg5.unread x3))) k d) (cntH (512 * (i 1).val) 8 r row) := by
  obtain ⟨ht, hq⟩ := trips_le i
  have hi : (i 1).val < 16 := (i 1).isLt
  have hn : 512 * (i 1).val + 512 ≤ 8192 := by omega
  have hk := fun j d => rowsOf_load arg4.view (harg4.unread x2) (512 * (i 1).val) (diag_off i) (k0_off6_inb i) j d
  have hv := fun j d => rowsOf_load arg5.view (harg5.unread x3) (512 * (i 1).val) (diag_off i) (k0_off6_inb i) j d
  refine ((halfE (qRows arg21.view (arg21.view.writes (Elt Ideal) arg21.view.junk (kernelRun0_D.sl.HS0_4 (F := Ideal) c arg2 harg2 arg3 harg3 x0 x1))) (rowsOf arg4.view (harg4.unread x2)) (rowsOf arg5.view (harg5.unread x3)) (512 * (i 1).val) hn _ _ hk hv (diag_word i) 3 _ arg22.view arg23.view 3 rfl 7 8 rfl rfl _ _ ?_ (fun x y => qRows_half arg21.view (arg21.view.writes (Elt Ideal) arg21.view.junk (kernelRun0_D.sl.HS0_4 (F := Ideal) c arg2 harg2 arg3 harg3 x0 x1)) 3 256 inb_S4x512x256_S1x256x256_3_256_0 3 rfl ⟨256 + x.val, by omega⟩ x y rfl) inb_S4x512x128_S1x256x128_3_256_0 inb_S4x512x128_S1x256x128_3_256_0 inb_S4x512x256_S1x256x256_3_256_0 inb_S4x512x256_S1x256x256_3_256_0 rfl rfl) r row).2 d
  refine halfD (qRows arg21.view (arg21.view.writes (Elt Ideal) arg21.view.junk (kernelRun0_D.sl.HS0_4 (F := Ideal) c arg2 harg2 arg3 harg3 x0 x1))) (rowsOf arg4.view (harg4.unread x2)) (rowsOf arg5.view (harg5.unread x3)) (512 * (i 1).val) hn _ _ hk hv (diag_word i) 3 _ arg22.view arg23.view 3 rfl 6 7 rfl rfl _ _ ?_ (fun x y => qRows_half arg21.view (arg21.view.writes (Elt Ideal) arg21.view.junk (kernelRun0_D.sl.HS0_4 (F := Ideal) c arg2 harg2 arg3 harg3 x0 x1)) 3 0 inb_S4x512x256_S1x256x256_3_0_0 3 rfl ⟨x.val, by omega⟩ x y (Nat.zero_add _).symm) inb_S4x512x128_S1x256x128_3_0_0 inb_S4x512x128_S1x256x128_3_0_0 inb_S4x512x256_S1x256x256_3_0_0 inb_S4x512x256_S1x256x256_3_0_0 rfl rfl
  refine halfE (qRows arg21.view (arg21.view.writes (Elt Ideal) arg21.view.junk (kernelRun0_D.sl.HS0_4 (F := Ideal) c arg2 harg2 arg3 harg3 x0 x1))) (rowsOf arg4.view (harg4.unread x2)) (rowsOf arg5.view (harg5.unread x3)) (512 * (i 1).val) hn _ _ hk hv (diag_word i) 2 _ arg22.view arg23.view 2 rfl 5 6 rfl rfl _ _ ?_ (fun x y => qRows_half arg21.view (arg21.view.writes (Elt Ideal) arg21.view.junk (kernelRun0_D.sl.HS0_4 (F := Ideal) c arg2 harg2 arg3 harg3 x0 x1)) 2 256 inb_S4x512x256_S1x256x256_2_256_0 2 rfl ⟨256 + x.val, by omega⟩ x y rfl) inb_S4x512x128_S1x256x128_2_256_0 inb_S4x512x128_S1x256x128_2_256_0 inb_S4x512x256_S1x256x256_2_256_0 inb_S4x512x256_S1x256x256_2_256_0 rfl rfl
  refine halfD (qRows arg21.view (arg21.view.writes (Elt Ideal) arg21.view.junk (kernelRun0_D.sl.HS0_4 (F := Ideal) c arg2 harg2 arg3 harg3 x0 x1))) (rowsOf arg4.view (harg4.unread x2)) (rowsOf arg5.view (harg5.unread x3)) (512 * (i 1).val) hn _ _ hk hv (diag_word i) 2 _ arg22.view arg23.view 2 rfl 4 5 rfl rfl _ _ ?_ (fun x y => qRows_half arg21.view (arg21.view.writes (Elt Ideal) arg21.view.junk (kernelRun0_D.sl.HS0_4 (F := Ideal) c arg2 harg2 arg3 harg3 x0 x1)) 2 0 inb_S4x512x256_S1x256x256_2_0_0 2 rfl ⟨x.val, by omega⟩ x y (Nat.zero_add _).symm) inb_S4x512x128_S1x256x128_2_0_0 inb_S4x512x128_S1x256x128_2_0_0 inb_S4x512x256_S1x256x256_2_0_0 inb_S4x512x256_S1x256x256_2_0_0 rfl rfl
  refine halfE (qRows arg21.view (arg21.view.writes (Elt Ideal) arg21.view.junk (kernelRun0_D.sl.HS0_4 (F := Ideal) c arg2 harg2 arg3 harg3 x0 x1))) (rowsOf arg4.view (harg4.unread x2)) (rowsOf arg5.view (harg5.unread x3)) (512 * (i 1).val) hn _ _ hk hv (diag_word i) 1 _ arg22.view arg23.view 1 rfl 3 4 rfl rfl _ _ ?_ (fun x y => qRows_half arg21.view (arg21.view.writes (Elt Ideal) arg21.view.junk (kernelRun0_D.sl.HS0_4 (F := Ideal) c arg2 harg2 arg3 harg3 x0 x1)) 1 256 inb_S4x512x256_S1x256x256_1_256_0 1 rfl ⟨256 + x.val, by omega⟩ x y rfl) inb_S4x512x128_S1x256x128_1_256_0 inb_S4x512x128_S1x256x128_1_256_0 inb_S4x512x256_S1x256x256_1_256_0 inb_S4x512x256_S1x256x256_1_256_0 rfl rfl
  refine halfD (qRows arg21.view (arg21.view.writes (Elt Ideal) arg21.view.junk (kernelRun0_D.sl.HS0_4 (F := Ideal) c arg2 harg2 arg3 harg3 x0 x1))) (rowsOf arg4.view (harg4.unread x2)) (rowsOf arg5.view (harg5.unread x3)) (512 * (i 1).val) hn _ _ hk hv (diag_word i) 1 _ arg22.view arg23.view 1 rfl 2 3 rfl rfl _ _ ?_ (fun x y => qRows_half arg21.view (arg21.view.writes (Elt Ideal) arg21.view.junk (kernelRun0_D.sl.HS0_4 (F := Ideal) c arg2 harg2 arg3 harg3 x0 x1)) 1 0 inb_S4x512x256_S1x256x256_1_0_0 1 rfl ⟨x.val, by omega⟩ x y (Nat.zero_add _).symm) inb_S4x512x128_S1x256x128_1_0_0 inb_S4x512x128_S1x256x128_1_0_0 inb_S4x512x256_S1x256x256_1_0_0 inb_S4x512x256_S1x256x256_1_0_0 rfl rfl
  refine halfE (qRows arg21.view (arg21.view.writes (Elt Ideal) arg21.view.junk (kernelRun0_D.sl.HS0_4 (F := Ideal) c arg2 harg2 arg3 harg3 x0 x1))) (rowsOf arg4.view (harg4.unread x2)) (rowsOf arg5.view (harg5.unread x3)) (512 * (i 1).val) hn _ _ hk hv (diag_word i) 0 _ arg22.view arg23.view 0 rfl 1 2 rfl rfl _ _ ?_ (fun x y => qRows_half arg21.view (arg21.view.writes (Elt Ideal) arg21.view.junk (kernelRun0_D.sl.HS0_4 (F := Ideal) c arg2 harg2 arg3 harg3 x0 x1)) 0 256 inb_S4x512x256_S1x256x256_0_256_0 0 rfl ⟨256 + x.val, by omega⟩ x y rfl) inb_S4x512x128_S1x256x128_0_256_0 inb_S4x512x128_S1x256x128_0_256_0 inb_S4x512x256_S1x256x256_0_256_0 inb_S4x512x256_S1x256x256_0_256_0 rfl rfl
  refine halfD (qRows arg21.view (arg21.view.writes (Elt Ideal) arg21.view.junk (kernelRun0_D.sl.HS0_4 (F := Ideal) c arg2 harg2 arg3 harg3 x0 x1))) (rowsOf arg4.view (harg4.unread x2)) (rowsOf arg5.view (harg5.unread x3)) (512 * (i 1).val) hn _ _ hk hv (diag_word i) 0 _ arg22.view arg23.view 0 rfl 0 1 rfl rfl _ _ ?_ (fun x y => qRows_half arg21.view (arg21.view.writes (Elt Ideal) arg21.view.junk (kernelRun0_D.sl.HS0_4 (F := Ideal) c arg2 harg2 arg3 harg3 x0 x1)) 0 0 inb_S4x512x256_S1x256x256_0_0_0 0 rfl ⟨x.val, by omega⟩ x y (Nat.zero_add _).symm) inb_S4x512x128_S1x256x128_0_0_0 inb_S4x512x128_S1x256x128_0_0_0 inb_S4x512x256_S1x256x256_0_0_0 inb_S4x512x256_S1x256x256_0_0_0 rfl rfl
  rw [cntH_zero]
  have hT := trips_D i hc0 hc1
  rw [show (fun (_ : Fin 4) (_ : Fin 512) => 512 * (i 1).val) = fun _ _ => 2048 * (k0_t1_loop i).trips + 512 + 512 + 512 from by funext _ _; omega]
  refine full_step arg4 arg5 arg21 arg22 arg23 (harg4.unread x2) (harg5.unread x3) (arg21.view.writes (Elt Ideal) arg21.view.junk (kernelRun0_D.sl.HS0_4 (F := Ideal) c arg2 harg2 arg3 harg3 x0 x1)) (512 * (i 1).val) (2048 * (k0_t1_loop i).trips + 512 + 512) (by omega) (by omega) _ ((one_word i hc1).trans (by rw [show 512 * (i 1).val - 512 = 2048 * (k0_t1_loop i).trips + 512 + 512 from by omega]))
    _ _ ((one_off i hc1).trans (by rw [show 512 * (i 1).val - 512 = 2048 * (k0_t1_loop i).trips + 512 + 512 from by omega])) ((one_off i hc1).trans (by rw [show 512 * (i 1).val - 512 = 2048 * (k0_t1_loop i).trips + 512 + 512 from by omega])) _ _ _ _ ?_ inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 rfl rfl rfl rfl rfl rfl rfl rfl
  refine full_step arg4 arg5 arg21 arg22 arg23 (harg4.unread x2) (harg5.unread x3) (arg21.view.writes (Elt Ideal) arg21.view.junk (kernelRun0_D.sl.HS0_4 (F := Ideal) c arg2 harg2 arg3 harg3 x0 x1)) (512 * (i 1).val) (2048 * (k0_t1_loop i).trips + 512) (by omega) (by omega) _ (two_word_D i hc0).2
    _ _ (two_off i hc0).2 (two_off i hc0).2 _ _ _ _ ?_ inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 rfl rfl rfl rfl rfl rfl rfl rfl
  refine full_step arg4 arg5 arg21 arg22 arg23 (harg4.unread x2) (harg5.unread x3) (arg21.view.writes (Elt Ideal) arg21.view.junk (kernelRun0_D.sl.HS0_4 (F := Ideal) c arg2 harg2 arg3 harg3 x0 x1)) (512 * (i 1).val) (2048 * (k0_t1_loop i).trips) (by omega) (by omega) _ (two_word_D i hc0).1
    _ _ (two_off i hc0).1 (two_off i hc0).1 _ _ _ _ ?_ inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 inb_S4x512x128_S1x512x128_0_0_0 inb_S4x512x128_S1x512x128_1_0_0 inb_S4x512x128_S1x512x128_2_0_0 inb_S4x512x128_S1x512x128_3_0_0 inb_S4x512x256_S1x512x256_0_0_0 inb_S4x512x256_S1x512x256_1_0_0 inb_S4x512x256_S1x512x256_2_0_0 inb_S4x512x256_S1x512x256_3_0_0 rfl rfl rfl rfl rfl rfl rfl rfl
  exact start_st (Variants.none) c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ (init_st arg22.view arg23.view _ _ _ _ _ _) _ _ _ _ rfl rfl

end Cert.Attn

end
-- ==== Proof.OutD.lean ====
/-
The block a run writes, case D.
-/
module

public import proofs.«01_k».proof.Proof.Gen.KernelIdeal.Frame
public import proofs.«01_k».proof.Proof.SumsD
public import proofs.«01_k».proof.Proof.Blocks

@[expose] public section

set_option maxRecDepth 16384
set_option maxHeartbeats 2000000

noncomputable section

namespace Cert.Attn

open Idealize.ShloMosaic Cert.KernelIdeal Cert.KernelIdeal.Gen
open Idealize.ShloMosaic.TcCoe

/-- Every entry of the block is the gated sum of the three branches. -/
theorem out_D (c : Dev nD) (i : grid0.Coords) (arg2 : Memref sig .tc .vmem S512x512 .bf16) (harg2 : arg2.IsWhole) (arg3 : Memref sig .tc .vmem S1x512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S1x32x2048 .f32) (harg10 : arg10.IsWhole) (arg11 : Memref sig .tc .vmem S1x64x2048 .f32) (harg11 : arg11.IsWhole) (arg12 : Memref sig .tc .vmem S1x32x2048 .f32) (harg12 : arg12.IsWhole) (arg13 : Memref sig .tc .vmem S1x32x8192 .f32) (harg13 : arg13.IsWhole) (arg14 : Memref sig .tc .vmem S1x128x2048 .f32) (harg14 : arg14.IsWhole) (arg15 : Memref sig .tc .vmem S512x512 .bf16) (harg15 : arg15.IsWhole) (arg16 : Memref sig .tc .vmem S32x2048 .bf16) (harg16 : arg16.IsWhole) (arg17 : Memref sig .tc .vmem S64x2048 .bf16) (harg17 : arg17.IsWhole) (arg18 : Memref sig .tc .vmem S32x2048 .bf16) (harg18 : arg18.IsWhole) (arg19 : Memref sig .tc .vmem S32x8192 .bf16) (harg19 : arg19.IsWhole) (arg20 : Memref sig .tc .vmem S128x2048 .bf16) (harg20 : arg20.IsWhole) (arg21 : Memref sig .tc .vmem S4x512x256 .bf16) (harg21 : arg21.IsWhole) (arg22 : Memref sig .tc .vmem S4x512x256 .f32) (harg22 : arg22.IsWhole) (arg23 : Memref sig .tc .vmem S4x512x128 .f32) (harg23 : arg23.IsWhole) (hc0 : cond0_0 i) (hc1 : cond0_1 i)     (x0 : Vec Ideal S512x512 .bf16) (x1 : Vec Ideal S1x512x128 .bf16) (x2 : Vec Ideal S8192x128 .bf16) (x3 : Vec Ideal S8192x128 .bf16) (x4 : Vec Ideal S8192x128 .bf16) (x5 : Vec Ideal S8192x128 .bf16) (x6 : Vec Ideal S512x512 .bf16) (x7 : Vec Ideal S512x128 .f32) (x8 : Vec Ideal S1x32x2048 .f32) (x9 : Vec Ideal S1x64x2048 .f32) (x10 : Vec Ideal S1x32x2048 .f32) (x11 : Vec Ideal S1x32x8192 .f32) (x12 : Vec Ideal S1x128x2048 .f32) (r : Fin 4) (row : Fin 512) (d : Fin 128) :
    out0_D_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 (ix2 row ⟨128 * r.val + d.val, by omega⟩)
      = blockVal x0 x1 x2 x3 x4 x5 x6 x7 (i 0) (512 * (i 1).val) r row d := by
  have hi : (i 1).val < 16 := (i 1).isLt
  have hn : 512 * (i 1).val + 512 ≤ 8192 := by omega
  have hQ : ∀ (r : Fin 4) (row : Fin 512) (c' : Fin 256), qRows arg21.view (arg21.view.writes (Elt Ideal) arg21.view.junk (kernelRun0_D.sl.HS0_4 (F := Ideal) c arg2 harg2 arg3 harg3 x0 x1)) r row c'
      = if h : c'.val < 128 then x0 (ix2 row ⟨128 * r.val + c'.val, by omega⟩) else if 0 < x1 (ix3 0 row ⟨c'.val - 128, by omega⟩) then 0 else ⊥ :=
    fun r row c' => queries arg21.view arg21.view.junk arg2 harg2 arg3 harg3 x0 x1 _ _ _ _ _ _ _ _ _ r row c'
  have hsum : ∀ (r : Fin 4) (row : Fin 512) (d : Fin 256),
      arg22.view.read (Elt Ideal) (arg22.view.writes (Elt Ideal) arg22.view.junk (kernelRun0_D.sl.HS1_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3)) (ix3 r row d)
        = rowSum (selT x0 x1 x2 (512 * (i 1).val) r row) (fun k => valRow (tbl x3) k d) (cntH (512 * (i 1).val) 8 r row) := fun r row d => by
    have h := sums_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 r row d
    rw [rowsOf_unread, rowsOf_unread, selScore_eq _ x0 x1 x2 hQ (512 * (i 1).val) hn r row] at h
    exact h
  unfold out0_D_13
  refine out8 VO0_13 VO0_13.junk (fun r row d => blockVal x0 x1 x2 x3 x4 x5 x6 x7 (i 0) (512 * (i 1).val) r row d) _ _ _ _ _ _ _ _ ?_ ?_ ?_ ?_ ?_ ?_ ?_ ?_ r row d
  · exact fun x d => piece x0 x1 x2 x3 x4 x5 x6 x7 (i 0) (512 * (i 1).val) hn 0 0 0 1 2 slices_S512x128_o0_0_S256x128 slices_S256x128_o0_0_S256x1 slices_S256x128_o0_1_S256x1 slices_S256x128_o0_2_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 0 row) (fun _ => rfl)
      (fun x d => (covHA arg22.view inb_S4x512x256_S1x256x256_0_0_0 _ 0 ⟨0 + x.val, by omega⟩ x d rfl rfl).trans ((hsum 0 ⟨0 + x.val, by omega⟩ d).trans (by rw [cnt0])))
      (fun y d => part_load arg8 harg8 x6 inb_S512x512_S256x128_0_0 0 rfl (by omega) y d)
      (fun y d => part_load arg2 harg2 x0 inb_S512x512_S256x128_0_0 0 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 1 0 3 4 5 slices_S512x128_o0_0_S256x128 slices_S256x128_o0_3_S256x1 slices_S256x128_o0_4_S256x1 slices_S256x128_o0_5_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 1 row) (fun _ => rfl)
      (fun x d => (covHA arg22.view inb_S4x512x256_S1x256x256_1_0_0 _ 1 ⟨0 + x.val, by omega⟩ x d rfl rfl).trans ((hsum 1 ⟨0 + x.val, by omega⟩ d).trans (by rw [cnt0])))
      (fun y d => part_load arg8 harg8 x6 inb_S512x512_S256x128_0_128 1 rfl (by omega) y d)
      (fun y d => part_load arg2 harg2 x0 inb_S512x512_S256x128_0_128 1 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 2 0 6 7 8 slices_S512x128_o0_0_S256x128 slices_S256x128_o0_6_S256x1 slices_S256x128_o0_7_S256x1 slices_S256x128_o0_8_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 2 row) (fun _ => rfl)
      (fun x d => (covHA arg22.view inb_S4x512x256_S1x256x256_2_0_0 _ 2 ⟨0 + x.val, by omega⟩ x d rfl rfl).trans ((hsum 2 ⟨0 + x.val, by omega⟩ d).trans (by rw [cnt0])))
      (fun y d => part_load arg8 harg8 x6 inb_S512x512_S256x128_0_256 2 rfl (by omega) y d)
      (fun y d => part_load arg2 harg2 x0 inb_S512x512_S256x128_0_256 2 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 3 0 9 10 11 slices_S512x128_o0_0_S256x128 slices_S256x128_o0_9_S256x1 slices_S256x128_o0_10_S256x1 slices_S256x128_o0_11_S256x1
      _ _ _ _ _ _ _ (fun row c' hc => gates arg9 harg9 x7 _ (i 0) _ (gate_word i) row c' hc) (by omega) rfl rfl rfl (512 * (i 1).val + 0 + 256) (le_refl _) (by omega)
      (fun row => selT x0 x1 x2 (512 * (i 1).val) 3 row) (fun _ => rfl)
      (fun x d => (covHA arg22.view inb_S4x512x256_S1x256x256_3_0_0 _ 3 ⟨0 + x.val, by omega⟩ x d rfl rfl).trans ((hsum 3 ⟨0 + x.val, by omega⟩ d).trans (by rw [cnt0])))
      (fun y d => part_load arg8 harg8 x6 inb_S512x512_S256x128_0_384 3 rfl (by omega) y d)
      (fun y d => part_load arg2 harg2 x0 inb_S512x512_S256x128_0_384 3 rfl (by omega) y d)
      (512 * (i 1).val + 0 - 512) (fun j d => tbl_load arg6 harg6 x4 _ (win_off i).1 _ j d) (fun j d => tbl_load arg7 harg7 x5 _ (win_off i).1 _ j d)
      (bias0_apply _ (512 * (i 1).val + 0) (512 * (i 1).val + 0 - 512) (row_word i).1 (win_word i).1 (by omega) (by omega)) rfl x d
  · exact fun x d => piece x0 x1 x2 x3 x4 x5 x6 x7 (i 0) (512 * (i 1).val) hn 0 256 0 1 2 slices_S512x128_o256_0_S256x128 slices_S256x128_o0_0_S256x1 slices_S256x128_o0_1_S256x1 slices_S256x128_o0_2_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 0 row) (fun _ => rfl)
      (fun x d => (covHA arg22.view inb_S4x512x256_S1x256x256_0_256_0 _ 0 ⟨256 + x.val, by omega⟩ x d rfl rfl).trans ((hsum 0 ⟨256 + x.val, by omega⟩ d).trans (by rw [cnt1])))
      (fun y d => part_load arg8 harg8 x6 inb_S512x512_S256x128_256_0 0 rfl (by omega) y d)
      (fun y d => part_load arg2 harg2 x0 inb_S512x512_S256x128_256_0 0 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 1 256 3 4 5 slices_S512x128_o256_0_S256x128 slices_S256x128_o0_3_S256x1 slices_S256x128_o0_4_S256x1 slices_S256x128_o0_5_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 1 row) (fun _ => rfl)
      (fun x d => (covHA arg22.view inb_S4x512x256_S1x256x256_1_256_0 _ 1 ⟨256 + x.val, by omega⟩ x d rfl rfl).trans ((hsum 1 ⟨256 + x.val, by omega⟩ d).trans (by rw [cnt1])))
      (fun y d => part_load arg8 harg8 x6 inb_S512x512_S256x128_256_128 1 rfl (by omega) y d)
      (fun y d => part_load arg2 harg2 x0 inb_S512x512_S256x128_256_128 1 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 2 256 6 7 8 slices_S512x128_o256_0_S256x128 slices_S256x128_o0_6_S256x1 slices_S256x128_o0_7_S256x1 slices_S256x128_o0_8_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 2 row) (fun _ => rfl)
      (fun x d => (covHA arg22.view inb_S4x512x256_S1x256x256_2_256_0 _ 2 ⟨256 + x.val, by omega⟩ x d rfl rfl).trans ((hsum 2 ⟨256 + x.val, by omega⟩ d).trans (by rw [cnt1])))
      (fun y d => part_load arg8 harg8 x6 inb_S512x512_S256x128_256_256 2 rfl (by omega) y d)
      (fun y d => part_load arg2 harg2 x0 inb_S512x512_S256x128_256_256 2 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d
  · exact fun x d => piece x0 x1 x2 x3 x4 x5 x6 x7 (i 0) (512 * (i 1).val) hn 3 256 9 10 11 slices_S512x128_o256_0_S256x128 slices_S256x128_o0_9_S256x1 slices_S256x128_o0_10_S256x1 slices_S256x128_o0_11_S256x1
      _ _ _ _ _ _ _ (fun row c' hc => gates arg9 harg9 x7 _ (i 0) _ (gate_word i) row c' hc) (by omega) rfl rfl rfl (512 * (i 1).val + 256 + 256) (le_refl _) (by omega)
      (fun row => selT x0 x1 x2 (512 * (i 1).val) 3 row) (fun _ => rfl)
      (fun x d => (covHA arg22.view inb_S4x512x256_S1x256x256_3_256_0 _ 3 ⟨256 + x.val, by omega⟩ x d rfl rfl).trans ((hsum 3 ⟨256 + x.val, by omega⟩ d).trans (by rw [cnt1])))
      (fun y d => part_load arg8 harg8 x6 inb_S512x512_S256x128_256_384 3 rfl (by omega) y d)
      (fun y d => part_load arg2 harg2 x0 inb_S512x512_S256x128_256_384 3 rfl (by omega) y d)
      (512 * (i 1).val + 256 - 512) (fun j d => tbl_load arg6 harg6 x4 _ (win_off i).2 _ j d) (fun j d => tbl_load arg7 harg7 x5 _ (win_off i).2 _ j d)
      (bias1_apply _ (512 * (i 1).val + 256) (512 * (i 1).val + 256 - 512) (row_word i).2 (win_word i).2 (by omega) (by omega)) rfl x d

end Cert.Attn

end
-- ==== Proof.Host.lean ====
/-
The arrays the kernel's host code prepares, at an index.
-/
module

public import proofs.«01_k».proof.Proof.Gen.KernelIdeal.Frame.Runs
public import Idealize.ShloMosaic.Lib.StableHlo.ReadAt
public import proofs.«01_k».proof.Proof.Head

@[expose] public section

set_option maxRecDepth 16384
set_option maxHeartbeats 2000000

noncomputable section

namespace Cert.Attn

open Idealize.ShloMosaic Cert.KernelIdeal Cert.KernelIdeal.Gen
open Idealize.ShloMosaic.TcCoe

theorem cmpi_ne_zero (x : BitVec 32) : IntOp.cmpi .ne x 0#32 = if x ≠ 0#32 then 1#1 else 0#1 := by
  by_cases h : x = 0#32
  · subst h; rfl
  · rw [if_pos h]
    have e : (x != 0#32) = true := bne_iff_ne.mpr h
    show BitVec.ofBool (x != 0#32) = 1#1
    rw [e]; rfl

variable (m : (ℓ : Loc nD τ sig) → Buf (Elt Ideal) ℓ) (c : Dev nD)

theorem host_q (row : Fin 8192) (j : Fin 2048) : (V m c main_v7 : FVec Ideal S8192x5120 .bf16) (ix2 row ⟨j.val, by omega⟩)
    = Ideal.div ((m ((c : Thread nD τ).loc main_arg0) : FVec Ideal S8192x2048 .f32) (ix2 row j))
      (Ideal.sqrt (Ideal.ofBits .f32 0x43000000#32) * Ideal.log (Ideal.ofBits .f32 0x40000000#32)) := by
  unfold V
  after_reads_at
  after_reads_at

theorem host_ks (row : Fin 8192) (j : Fin 512) : (V m c main_v7 : FVec Ideal S8192x5120 .bf16) (ix2 row ⟨3072 + j.val, by omega⟩)
    = (m ((c : Thread nD τ).loc main_arg1) : FVec Ideal S8192x512 .f32) (ix2 row j) := by
  unfold V
  after_reads_at
  rw [dif_neg (by omega : ¬ 3072 + j.val < 2048),
    dif_neg (by omega : ¬ 3072 + j.val - 2048 < 1024),
    dif_pos (by omega : 3072 + j.val - 2048 - 1024 < 512)]
  after_reads_at
  exact congrArg (m _) (congrArg (ix2 row) (Fin.ext (by show 3072 + j.val - 2048 - 1024 = j.val; omega)))

theorem host_vs (row : Fin 8192) (j : Fin 512) : (V m c main_v7 : FVec Ideal S8192x5120 .bf16) (ix2 row ⟨3584 + j.val, by omega⟩)
    = (m ((c : Thread nD τ).loc main_arg2) : FVec Ideal S8192x512 .f32) (ix2 row j) := by
  unfold V
  after_reads_at
  rw [dif_neg (by omega : ¬ 3584 + j.val < 2048),
    dif_neg (by omega : ¬ 3584 + j.val - 2048 < 1024),
    dif_neg (by omega : ¬ 3584 + j.val - 2048 - 1024 < 512),
    dif_pos (by omega : 3584 + j.val - 2048 - 1024 - 512 < 512)]
  after_reads_at
  exact congrArg (m _) (congrArg (ix2 row) (Fin.ext (by show 3584 + j.val - 2048 - 1024 - 512 = j.val; omega)))

theorem host_kw (row : Fin 8192) (j : Fin 512) : (V m c main_v7 : FVec Ideal S8192x5120 .bf16) (ix2 row ⟨4096 + j.val, by omega⟩)
    = (m ((c : Thread nD τ).loc main_arg3) : FVec Ideal S8192x512 .f32) (ix2 row j) := by
  unfold V
  after_reads_at
  rw [dif_neg (by omega : ¬ 4096 + j.val < 2048),
    dif_neg (by omega : ¬ 4096 + j.val - 2048 < 1024),
    dif_neg (by omega : ¬ 4096 + j.val - 2048 - 1024 < 512),
    dif_neg (by omega : ¬ 4096 + j.val - 2048 - 1024 - 512 < 512),
    dif_pos (by omega : 4096 + j.val - 2048 - 1024 - 512 - 512 < 512)]
  after_reads_at
  exact congrArg (m _) (congrArg (ix2 row) (Fin.ext (by show 4096 + j.val - 2048 - 1024 - 512 - 512 = j.val; omega)))

theorem host_vw (row : Fin 8192) (j : Fin 512) : (V m c main_v7 : FVec Ideal S8192x5120 .bf16) (ix2 row ⟨4608 + j.val, by omega⟩)
    = (m ((c : Thread nD τ).loc main_arg4) : FVec Ideal S8192x512 .f32) (ix2 row j) := by
  unfold V
  after_reads_at
  rw [dif_neg (by omega : ¬ 4608 + j.val < 2048),
    dif_neg (by omega : ¬ 4608 + j.val - 2048 < 1024),
    dif_neg (by omega : ¬ 4608 + j.val - 2048 - 1024 < 512),
    dif_neg (by omega : ¬ 4608 + j.val - 2048 - 1024 - 512 < 512),
    dif_neg (by omega : ¬ 4608 + j.val - 2048 - 1024 - 512 - 512 < 512)]
  after_reads_at
  exact congrArg (m _) (congrArg (ix2 row) (Fin.ext (by show 4608 + j.val - 2048 - 1024 - 512 - 512 - 512 = j.val; omega)))

theorem host_chosen (g : Fin 4) (row : Fin 8192) (l : Fin 128) : (V m c main_v13 : FVec Ideal S4x8192x128 .bf16) (ix3 g row l)
    = if (m ((c : Thread nD τ).loc main_arg5) : IVec S4x8192x128 32) (ix3 g row l) ≠ 0#32 then (1 : EReal) else (0 : EReal) := by
  unfold V
  after_reads_at
  refine (congrArg (FloatOps.uitofp (F := Ideal) FTy.bf16) (cmpi_ne_zero _)).trans ?_
  by_cases h : m ((c : Thread nD τ).loc main_arg5) (ix3 g row l) = 0#32
  · rw [if_neg (not_not.mpr h), if_neg (not_not.mpr h)]; simp [FloatOps.uitofp]
  · rw [if_pos h, if_pos h]; simp [FloatOps.uitofp]

theorem host_o (row : Fin 8192) (j : Fin 2048) : (V m c main_v14 : FVec Ideal S8192x2048 .bf16) (ix2 row j)
    = (m ((c : Thread nD τ).loc main_arg6) : FVec Ideal S8192x2048 .f32) (ix2 row j) := by
  unfold V
  after_reads_at

theorem host_gate (row : Fin 8192) (j : Fin 48) : (V m c main_v10 : FVec Ideal S8192x128 .f32) (ix2 row ⟨64 + j.val, by omega⟩)
    = (m ((c : Thread nD τ).loc main_arg7) : FVec Ideal S8192x48 .f32) (ix2 row j) := by
  unfold V
  after_reads_at

end Cert.Attn

end
-- ==== Proof.Final.lean ====
/-
The kernel's result array, read off its blocks: one formula over the argument arrays.
-/
module

public import proofs.«01_k».proof.Proof.Gen.KernelIdeal.Value
public import proofs.«01_k».proof.Proof.OutA
public import proofs.«01_k».proof.Proof.OutB
public import proofs.«01_k».proof.Proof.OutC
public import proofs.«01_k».proof.Proof.OutD
public import proofs.«01_k».proof.Proof.Host

@[expose] public section

set_option maxRecDepth 16384
set_option maxHeartbeats 2000000

noncomputable section

namespace Cert.Attn

open Idealize.ShloMosaic Cert.KernelIdeal Cert.KernelIdeal.Gen Cert.KernelIdeal.Value
open Idealize.ShloMosaic.TcCoe Idealize.SL.Sem

/-- A block's formula is the arrays' formula, once each block is known to hold its part of its array. -/
theorem blockVal_eq (x0 : FVec Ideal S512x512 .bf16) (x1 : FVec Ideal S1x512x128 .bf16) (x2 x3 x4 x5 : FVec Ideal S8192x128 .bf16)
    (x6 : FVec Ideal S512x512 .bf16) (x7 : FVec Ideal S512x128 .f32)
    (a0 : FVec Ideal S8192x2048 .f32) (a1 a2 a3 a4 : FVec Ideal S8192x512 .f32) (a5 : IVec S4x8192x128 32)
    (a6 : FVec Ideal S8192x2048 .f32) (a7 : FVec Ideal S8192x48 .f32) (g : Fin 4) (q : ℕ) (hq : q + 512 ≤ 8192)
    (h0 : ∀ (row j : Fin 512), x0 (ix2 row j) = Ideal.div (a0 (ix2 ⟨q + row.val, by omega⟩ ⟨512 * g.val + j.val, by omega⟩))
      (Ideal.sqrt (Ideal.ofBits .f32 0x43000000#32) * Ideal.log (Ideal.ofBits .f32 0x40000000#32)))
    (h1 : ∀ (row : Fin 512) (l : Fin 128), x1 (ix3 0 row l) = if a5 (ix3 g ⟨q + row.val, by omega⟩ l) ≠ 0#32 then (1 : EReal) else (0 : EReal))
    (h2 : ∀ (k : Fin 8192) (d : Fin 128), x2 (ix2 k d) = a1 (ix2 k ⟨128 * g.val + d.val, by omega⟩))
    (h3 : ∀ (k : Fin 8192) (d : Fin 128), x3 (ix2 k d) = a2 (ix2 k ⟨128 * g.val + d.val, by omega⟩))
    (h4 : ∀ (k : Fin 8192) (d : Fin 128), x4 (ix2 k d) = a3 (ix2 k ⟨128 * g.val + d.val, by omega⟩))
    (h5 : ∀ (k : Fin 8192) (d : Fin 128), x5 (ix2 k d) = a4 (ix2 k ⟨128 * g.val + d.val, by omega⟩))
    (h6 : ∀ (row j : Fin 512), x6 (ix2 row j) = a6 (ix2 ⟨q + row.val, by omega⟩ ⟨512 * g.val + j.val, by omega⟩))
    (h7 : ∀ (row : Fin 512) (j : Fin 48), x7 (ix2 row ⟨64 + j.val, by omega⟩) = a7 (ix2 ⟨q + row.val, by omega⟩ j))
    (r : Fin 4) (row : Fin 512) (d : Fin 128) :
    blockVal x0 x1 x2 x3 x4 x5 x6 x7 g q r row d = headVal a0 a1 a2 a3 a4 a5 a6 a7 g r ⟨q + row.val, by omega⟩ d := by
  have hT : ∀ (x : FVec Ideal S8192x128 .bf16) (a : FVec Ideal S8192x512 .f32),
      (∀ (k : Fin 8192) (d : Fin 128), x (ix2 k d) = a (ix2 k ⟨128 * g.val + d.val, by omega⟩)) → tbl x = vals a g := by
    intro x a h
    funext k d
    unfold tbl vals
    by_cases hk : k < 8192
    · rw [dif_pos hk, dif_pos hk]; exact h ⟨k, hk⟩ d
    · rw [dif_neg hk, dif_neg hk]
  have hD : ∀ (x : FVec Ideal S8192x128 .bf16) (a : FVec Ideal S8192x512 .f32) (k : ℕ), tbl x = vals a g →
      (∑ c : Fin 128, x0 (ix2 row ⟨128 * r.val + c.val, by omega⟩) * tbl x k c) = dotT a0 a g r ⟨q + row.val, by omega⟩ k := by
    intro x a k h
    rw [h]
    unfold dotT
    refine Finset.sum_congr rfl fun c _ => ?_
    rw [h0 row ⟨128 * r.val + c.val, by omega⟩]
    refine congrArg (fun z => Ideal.div (a0 (ix2 _ z)) _ * _) (Fin.ext ?_)
    show 512 * g.val + (128 * r.val + c.val) = 512 * g.val + 128 * r.val + c.val
    omega
  have hS : selT x0 x1 x2 q r row = selK a0 a1 a5 g r ⟨q + row.val, by omega⟩ := by
    funext k
    unfold selT selK
    rw [hD x2 a1 k (hT x2 a1 h2), h1]
    by_cases hk : k ≤ q + row.val
    · rw [if_pos hk]
      by_cases hc : a5 (ix3 g ⟨q + row.val, by omega⟩ ⟨k / 64 % 128, Nat.mod_lt _ (by omega)⟩) ≠ 0#32
      · rw [if_pos hc, if_pos zero_lt_one, if_pos ⟨hc, hk⟩]
      · rw [if_neg hc, if_neg (lt_irrefl _), if_neg (fun h => hc h.1)]
    · rw [if_neg hk, if_neg (fun h => hk h.2)]
  have hW : winT x0 x4 q r row = winK a0 a3 g r ⟨q + row.val, by omega⟩ := by
    funext k
    unfold winT winK
    rw [hD x4 a3 k (hT x4 a3 h4)]
  unfold blockVal headVal
  rw [hS, hW, hT x3 a2 h3, hT x5 a4 h5, h6 row ⟨128 * r.val + d.val, by omega⟩]
  have e : ∀ (u : ℕ) (hu : u < 12) (w : ℕ) (hw : w < 128) (w' : ℕ) (hw' : w' < 48), w = 64 + w' →
      x7 (ix2 row ⟨w, hw⟩) = a7 (ix2 ⟨q + row.val, by omega⟩ ⟨w', hw'⟩) := by
    intro u hu w hw w' hw' h
    subst h
    exact h7 row ⟨w', hw'⟩
  rw [e 0 (by omega) _ _ (12 * g.val + 3 * r.val) (by omega) (by omega),
    e 0 (by omega) _ _ (12 * g.val + 3 * r.val + 1) (by omega) (by omega),
    e 0 (by omega) _ _ (12 * g.val + 3 * r.val + 2) (by omega) (by omega)]
  refine congrArg (fun z => _ * a6 (ix2 _ z) + _ + _) (Fin.ext ?_)
  show 512 * g.val + (128 * r.val + d.val) = 512 * g.val + 128 * r.val + d.val
  omega

theorem idx0 : ∀ t : Fin cfg0.N, win0_0.index t (0 : Fin 2) = (grid0.coords t 1).val ∧ win0_0.index t (1 : Fin 2) = (grid0.coords t 0).val :=
  (by decide +kernel : ∀ t : Fin grid0.N, _)
theorem idx1 : ∀ t : Fin cfg0.N, win0_1.index t (0 : Fin 3) = (grid0.coords t 0).val ∧ win0_1.index t (1 : Fin 3) = (grid0.coords t 1).val
    ∧ win0_1.index t (2 : Fin 3) = 0 :=
  (by decide +kernel : ∀ t : Fin grid0.N, _)
theorem idx2 : ∀ t : Fin cfg0.N, win0_2.index t (0 : Fin 2) = 0 ∧ win0_2.index t (1 : Fin 2) = 24 + (grid0.coords t 0).val :=
  (by decide +kernel : ∀ t : Fin grid0.N, _)
theorem idx3 : ∀ t : Fin cfg0.N, win0_3.index t (0 : Fin 2) = 0 ∧ win0_3.index t (1 : Fin 2) = 28 + (grid0.coords t 0).val :=
  (by decide +kernel : ∀ t : Fin grid0.N, _)
theorem idx4 : ∀ t : Fin cfg0.N, win0_4.index t (0 : Fin 2) = 0 ∧ win0_4.index t (1 : Fin 2) = 32 + (grid0.coords t 0).val :=
  (by decide +kernel : ∀ t : Fin grid0.N, _)
theorem idx5 : ∀ t : Fin cfg0.N, win0_5.index t (0 : Fin 2) = 0 ∧ win0_5.index t (1 : Fin 2) = 36 + (grid0.coords t 0).val :=
  (by decide +kernel : ∀ t : Fin grid0.N, _)
theorem idx6 : ∀ t : Fin cfg0.N, win0_6.index t (0 : Fin 2) = (grid0.coords t 1).val ∧ win0_6.index t (1 : Fin 2) = (grid0.coords t 0).val :=
  (by decide +kernel : ∀ t : Fin grid0.N, _)
theorem idx7 : ∀ t : Fin cfg0.N, win0_7.index t (0 : Fin 2) = (grid0.coords t 1).val ∧ win0_7.index t (1 : Fin 2) = 0 :=
  (by decide +kernel : ∀ t : Fin grid0.N, _)
theorem idx13 : ∀ t : Fin cfg0.N, win0_13.index t (0 : Fin 2) = (grid0.coords t 1).val ∧ win0_13.index t (1 : Fin 2) = (grid0.coords t 0).val :=
  (by decide +kernel : ∀ t : Fin grid0.N, _)

theorem coord0 (t : Fin cfg0.N) : (grid0.coords t 0).val < 4 := (grid0.coords t 0).isLt
theorem coord1 (t : Fin cfg0.N) : (grid0.coords t 1).val < 16 := (grid0.coords t 1).isLt

/-- The grid point of a group and a row block. -/
theorem point : ∀ (g : Fin 4) (n : Fin 16), ∃ t : Fin cfg0.N, (grid0.coords t 0).val = g.val ∧ (grid0.coords t 1).val = n.val :=
  (by decide +kernel : ∀ (g : Fin 4) (n : Fin 16), ∃ t : Fin grid0.N, (grid0.coords t 0).val = g.val ∧ (grid0.coords t 1).val = n.val)

theorem emb0 (t : Fin cfg0.N) (row j : Fin 512) :
    ((cfg0.win 0).blk t).view.emb (ix2 row j : S512x512.Idx) = (ix2 ⟨512 * (grid0.coords t 1).val + row.val, by have := coord0 t; have := coord1 t; omega⟩
      ⟨512 * (grid0.coords t 0).val + j.val, by have := coord0 t; have := coord1 t; omega⟩ : S8192x5120.Idx) := by
  obtain ⟨e0, e1⟩ := idx0 t
  have := coord0 t
  have := coord1 t
  funext a; apply Fin.ext
  match a with
  | ⟨0, _⟩ => show win0_0.index t (0 : Fin 2) * 512 + 1 * row.val = 512 * (grid0.coords t 1).val + row.val; rw [e0]; omega
  | ⟨1, _⟩ => show win0_0.index t (1 : Fin 2) * 512 + 1 * j.val = 512 * (grid0.coords t 0).val + j.val; rw [e1]; omega

theorem emb1 (t : Fin cfg0.N) (row : Fin 512) (l : Fin 128) :
    ((cfg0.win 1).blk t).view.emb (ix3 0 row l : S1x512x128.Idx) = (ix3 (grid0.coords t 0) ⟨512 * (grid0.coords t 1).val + row.val, by have := coord0 t; have := coord1 t; omega⟩ l : S4x8192x128.Idx) := by
  obtain ⟨e0, e1, e2⟩ := idx1 t
  have := coord0 t
  have := coord1 t
  funext a; apply Fin.ext
  match a with
  | ⟨0, _⟩ => show win0_1.index t (0 : Fin 3) * 1 + 1 * 0 = (grid0.coords t 0).val; rw [e0]; omega
  | ⟨1, _⟩ => show win0_1.index t (1 : Fin 3) * 512 + 1 * row.val = 512 * (grid0.coords t 1).val + row.val; rw [e1]; omega
  | ⟨2, _⟩ => show win0_1.index t (2 : Fin 3) * 128 + 1 * l.val = l.val; rw [e2]; omega

theorem emb2 (t : Fin cfg0.N) (k : Fin 8192) (d : Fin 128) :
    ((cfg0.win 2).blk t).view.emb (ix2 k d : S8192x128.Idx) = (ix2 k ⟨3072 + (128 * (grid0.coords t 0).val + d.val), by have := coord0 t; have := coord1 t; omega⟩ : S8192x5120.Idx) := by
  obtain ⟨e0, e1⟩ := idx2 t
  have := coord0 t
  have := coord1 t
  funext a; apply Fin.ext
  match a with
  | ⟨0, _⟩ => show win0_2.index t (0 : Fin 2) * 8192 + 1 * k.val = k.val; rw [e0]; omega
  | ⟨1, _⟩ => show win0_2.index t (1 : Fin 2) * 128 + 1 * d.val = 3072 + (128 * (grid0.coords t 0).val + d.val); rw [e1]; omega

theorem emb3 (t : Fin cfg0.N) (k : Fin 8192) (d : Fin 128) :
    ((cfg0.win 3).blk t).view.emb (ix2 k d : S8192x128.Idx) = (ix2 k ⟨3584 + (128 * (grid0.coords t 0).val + d.val), by have := coord0 t; have := coord1 t; omega⟩ : S8192x5120.Idx) := by
  obtain ⟨e0, e1⟩ := idx3 t
  have := coord0 t
  have := coord1 t
  funext a; apply Fin.ext
  match a with
  | ⟨0, _⟩ => show win0_3.index t (0 : Fin 2) * 8192 + 1 * k.val = k.val; rw [e0]; omega
  | ⟨1, _⟩ => show win0_3.index t (1 : Fin 2) * 128 + 1 * d.val = 3584 + (128 * (grid0.coords t 0).val + d.val); rw [e1]; omega

theorem emb4 (t : Fin cfg0.N) (k : Fin 8192) (d : Fin 128) :
    ((cfg0.win 4).blk t).view.emb (ix2 k d : S8192x128.Idx) = (ix2 k ⟨4096 + (128 * (grid0.coords t 0).val + d.val), by have := coord0 t; have := coord1 t; omega⟩ : S8192x5120.Idx) := by
  obtain ⟨e0, e1⟩ := idx4 t
  have := coord0 t
  have := coord1 t
  funext a; apply Fin.ext
  match a with
  | ⟨0, _⟩ => show win0_4.index t (0 : Fin 2) * 8192 + 1 * k.val = k.val; rw [e0]; omega
  | ⟨1, _⟩ => show win0_4.index t (1 : Fin 2) * 128 + 1 * d.val = 4096 + (128 * (grid0.coords t 0).val + d.val); rw [e1]; omega

theorem emb5 (t : Fin cfg0.N) (k : Fin 8192) (d : Fin 128) :
    ((cfg0.win 5).blk t).view.emb (ix2 k d : S8192x128.Idx) = (ix2 k ⟨4608 + (128 * (grid0.coords t 0).val + d.val), by have := coord0 t; have := coord1 t; omega⟩ : S8192x5120.Idx) := by
  obtain ⟨e0, e1⟩ := idx5 t
  have := coord0 t
  have := coord1 t
  funext a; apply Fin.ext
  match a with
  | ⟨0, _⟩ => show win0_5.index t (0 : Fin 2) * 8192 + 1 * k.val = k.val; rw [e0]; omega
  | ⟨1, _⟩ => show win0_5.index t (1 : Fin 2) * 128 + 1 * d.val = 4608 + (128 * (grid0.coords t 0).val + d.val); rw [e1]; omega

theorem emb6 (t : Fin cfg0.N) (row j : Fin 512) :
    ((cfg0.win 6).blk t).view.emb (ix2 row j : S512x512.Idx) = (ix2 ⟨512 * (grid0.coords t 1).val + row.val, by have := coord0 t; have := coord1 t; omega⟩
      ⟨512 * (grid0.coords t 0).val + j.val, by have := coord0 t; have := coord1 t; omega⟩ : S8192x2048.Idx) := by
  obtain ⟨e0, e1⟩ := idx6 t
  have := coord0 t
  have := coord1 t
  funext a; apply Fin.ext
  match a with
  | ⟨0, _⟩ => show win0_6.index t (0 : Fin 2) * 512 + 1 * row.val = 512 * (grid0.coords t 1).val + row.val; rw [e0]; omega
  | ⟨1, _⟩ => show win0_6.index t (1 : Fin 2) * 512 + 1 * j.val = 512 * (grid0.coords t 0).val + j.val; rw [e1]; omega

theorem emb7 (t : Fin cfg0.N) (row : Fin 512) (j : Fin 128) :
    ((cfg0.win 7).blk t).view.emb (ix2 row j : S512x128.Idx) = (ix2 ⟨512 * (grid0.coords t 1).val + row.val, by have := coord0 t; have := coord1 t; omega⟩ j : S8192x128.Idx) := by
  obtain ⟨e0, e1⟩ := idx7 t
  have := coord0 t
  have := coord1 t
  funext a; apply Fin.ext
  match a with
  | ⟨0, _⟩ => show win0_7.index t (0 : Fin 2) * 512 + 1 * row.val = 512 * (grid0.coords t 1).val + row.val; rw [e0]; omega
  | ⟨1, _⟩ => show win0_7.index t (1 : Fin 2) * 128 + 1 * j.val = j.val; rw [e1]; omega

theorem emb13 (t : Fin cfg0.N) (row j : Fin 512) :
    ((cfg0.win 13).blk t).view.emb (ix2 row j : S512x512.Idx) = (ix2 ⟨512 * (grid0.coords t 1).val + row.val, by have := coord0 t; have := coord1 t; omega⟩
      ⟨512 * (grid0.coords t 0).val + j.val, by have := coord0 t; have := coord1 t; omega⟩ : S8192x2048.Idx) := by
  obtain ⟨e0, e1⟩ := idx13 t
  have := coord0 t
  have := coord1 t
  funext a; apply Fin.ext
  match a with
  | ⟨0, _⟩ => show win0_13.index t (0 : Fin 2) * 512 + 1 * row.val = 512 * (grid0.coords t 1).val + row.val; rw [e0]; omega
  | ⟨1, _⟩ => show win0_13.index t (1 : Fin 2) * 512 + 1 * j.val = 512 * (grid0.coords t 0).val + j.val; rw [e1]; omega

variable (m : (ℓ : Loc nD τ sig) → Buf (Elt Ideal) ℓ) (ρ : Dev nD → PrngReg)

/-- The kernel's result as a function of the memory it starts from. -/
def res (c : Dev nD) : FVec Ideal S8192x2048 .bf16 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem block_res (c : Dev nD) (t : Fin cfg0.N) (r : Fin 4) (row : Fin 512) (d : Fin 128) :
    blockVal (iblk m c 0 t) (iblk m c 1 t) (iblk m c 2 t) (iblk m c 3 t) (iblk m c 4 t) (iblk m c 5 t) (iblk m c 6 t) (iblk m c 7 t)
      (grid0.coords t 0) (512 * (grid0.coords t 1).val) r row d
      = res m c (((cfg0.win 13).blk t).view.emb (ix2 row ⟨128 * r.val + d.val, by omega⟩ : S512x512.Idx)) := by
  have h0 := coord0 t
  have h1 := coord1 t
  rw [blockVal_eq _ _ _ _ _ _ _ _ (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (grid0.coords t 0) (512 * (grid0.coords t 1).val) (by omega)
    ?_ ?_ ?_ ?_ ?_ ?_ ?_ ?_ r row d, emb13]
  · unfold res
    refine (result_apply _ _ _ _ _ _ _ _ (grid0.coords t 0 : Fin 4) r ⟨512 * (grid0.coords t 1).val + row.val, by omega⟩ d).symm.trans ?_
    refine congrArg (fun z => result _ _ _ _ _ _ _ _ (ix2 _ z)) (Fin.ext ?_)
    show 512 * (grid0.coords t 0).val + 128 * r.val + d.val = 512 * (grid0.coords t 0).val + (128 * r.val + d.val)
    omega
  · intro row j
    show V m c main_v7 (((cfg0.win 0).blk t).view.emb (ix2 row j : S512x512.Idx)) = _
    rw [emb0]
    exact host_q m c ⟨512 * (grid0.coords t 1).val + row.val, by omega⟩ ⟨512 * (grid0.coords t 0).val + j.val, by omega⟩
  · intro row l
    show V m c main_v13 (((cfg0.win 1).blk t).view.emb (ix3 0 row l : S1x512x128.Idx)) = _
    rw [emb1]
    exact host_chosen m c (grid0.coords t 0) ⟨512 * (grid0.coords t 1).val + row.val, by omega⟩ l
  · intro k d
    show V m c main_v7 (((cfg0.win 2).blk t).view.emb (ix2 k d : S8192x128.Idx)) = _
    rw [emb2]
    exact host_ks m c k ⟨128 * (grid0.coords t 0).val + d.val, by omega⟩
  · intro k d
    show V m c main_v7 (((cfg0.win 3).blk t).view.emb (ix2 k d : S8192x128.Idx)) = _
    rw [emb3]
    exact host_vs m c k ⟨128 * (grid0.coords t 0).val + d.val, by omega⟩
  · intro k d
    show V m c main_v7 (((cfg0.win 4).blk t).view.emb (ix2 k d : S8192x128.Idx)) = _
    rw [emb4]
    exact host_kw m c k ⟨128 * (grid0.coords t 0).val + d.val, by omega⟩
  · intro k d
    show V m c main_v7 (((cfg0.win 5).blk t).view.emb (ix2 k d : S8192x128.Idx)) = _
    rw [emb5]
    exact host_vw m c k ⟨128 * (grid0.coords t 0).val + d.val, by omega⟩
  · intro row j
    show V m c main_v14 (((cfg0.win 6).blk t).view.emb (ix2 row j : S512x512.Idx)) = _
    rw [emb6]
    exact host_o m c ⟨512 * (grid0.coords t 1).val + row.val, by omega⟩ ⟨512 * (grid0.coords t 0).val + j.val, by omega⟩
  · intro row j
    show V m c main_v10 (((cfg0.win 7).blk t).view.emb (ix2 row ⟨64 + j.val, by omega⟩ : S512x128.Idx)) = _
    rw [emb7]
    exact host_gate m c ⟨512 * (grid0.coords t 1).val + row.val, by omega⟩ j

/-- Every index of a block is a row, a head and a place in the head. -/
theorem split512 (i : S512x512.Idx) : ∃ (r : Fin 4) (row : Fin 512) (d : Fin 128), i = ix2 row ⟨128 * r.val + d.val, by omega⟩ := by
  have h : (i 1).val < 512 := (i 1).isLt
  refine ⟨⟨(i 1).val / 128, by omega⟩, i 0, ⟨(i 1).val % 128, by omega⟩, ?_⟩
  funext a
  match a with
  | ⟨0, _⟩ => rfl
  | ⟨1, _⟩ => exact Fin.ext (by show (i 1).val = 128 * ((i 1).val / 128) + (i 1).val % 128; omega)

/-- What a grid point writes back is its block of the result. -/
theorem flushed (c : Dev nD) (t : Fin cfg0.N) :
    (dats m 0 c).flushed 13 t = ((cfg0.win 13).blk t).view.read (Elt Ideal) (res m c) := by
  by_cases h0 : t.val % 4 = 2 ∨ t.val % 4 = 3 <;> by_cases h1 : t.val % 2 = 1
  · rw [flushed13_D m c t h0 h1]
    funext j
    obtain ⟨r, row, d, rfl⟩ := split512 j
    exact (out_D c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ r row d).trans (block_res m c t r row d)
  · rw [flushed13_C m c t h0 h1]
    funext j
    obtain ⟨r, row, d, rfl⟩ := split512 j
    exact (out_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ r row d).trans (block_res m c t r row d)
  · rw [flushed13_B m c t h0 h1]
    funext j
    obtain ⟨r, row, d, rfl⟩ := split512 j
    exact (out_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ r row d).trans (block_res m c t r row d)
  · rw [flushed13_A m c t h0 h1]
    funext j
    obtain ⟨r, row, d, rfl⟩ := split512 j
    exact (out_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ r row d).trans (block_res m c t r row d)

/-- Every index of the result lies in some grid point's block. -/
theorem covered (i : S8192x2048.Idx) : ∃ t : Fin cfg0.N, (cfg0.win 13).flush t = true ∧ i ∈ ((cfg0.win 13).blk t).view.set := by
  have h0 : (i 0).val < 8192 := (i 0).isLt
  have h1 : (i 1).val < 2048 := (i 1).isLt
  obtain ⟨t, e0, e1⟩ := point ⟨(i 1).val / 512, by omega⟩ ⟨(i 0).val / 512, by omega⟩
  refine ⟨t, flush0_13 t, ?_⟩
  have h := ((cfg0.win 13).blk t).view.emb_mem_set (ix2 ⟨(i 0).val % 512, by omega⟩ ⟨(i 1).val % 512, by omega⟩ : S512x512.Idx)
  rw [emb13] at h
  have e : i = ix2 ⟨512 * (grid0.coords t 1).val + (i 0).val % 512, by have := coord1 t; omega⟩
      ⟨512 * (grid0.coords t 0).val + (i 1).val % 512, by have := coord0 t; omega⟩ := by
    funext a
    match a with
    | ⟨0, _⟩ => exact Fin.ext (by show (i 0).val = 512 * (grid0.coords t 1).val + (i 0).val % 512; rw [e1]; show _ = 512 * ((i 0).val / 512) + _; omega)
    | ⟨1, _⟩ => exact Fin.ext (by show (i 1).val = 512 * (grid0.coords t 0).val + (i 1).val % 512; rw [e0]; show _ = 512 * ((i 1).val / 512) + _; omega)
  rw [e]
  exact h

/-- The result array after the run. -/
theorem final (c : Dev nD) : (dats m 0 c).arrAt 13 cfg0.N = res m c :=
  (dats m 0 c).arrAt_eq_of_cover 13 (res m c) (fun t _ => flushed m c t) covered

end Cert.Attn

end
-- ==== Proof.Value.lean ====
/-
The kernel and the reference leave the same result.
-/
module

public import proofs.«01_k».proof.Defs
public import proofs.«01_k».proof.Proof.Ref
public import proofs.«01_k».proof.Proof.Final

@[expose] public section

set_option maxRecDepth 16384

noncomputable section

namespace Cert.Attn

open Idealize.ShloMosaic Idealize.SL.Sem

theorem attention : Cert.algebraic_KernelIdeal_ReferenceIdeal (hKernelIdeal := Cert.KernelIdeal.Gen.facts) (hReferenceIdeal := Cert.ReferenceIdeal.Gen.facts) := by
  intro m ρ m' ρ' _ hargs
  refine ⟨fun c => res m c, ?_, ?_⟩
  · refine (θ_run Cert.KernelIdeal.defs _ _).mono (fun r h c => ?_) (Cert.KernelIdeal.Value.run_blocks m ρ)
    obtain ⟨h13, _, _, _, _, _, hk⟩ := h c
    exact ⟨h13.trans (final m c), hk⟩
  · refine (θ_run Cert.ReferenceIdeal.defs _ _).mono (fun r h c => ⟨(h c).1.trans ?_, (h c).2⟩) (Cert.ReferenceIdeal.Value.run m' ρ')
    obtain ⟨h0, h1, h2, h3, h4, h5, h6, h7, _⟩ := hargs c
    rw [Ref.ref_eq, h0, h1, h2, h3, h4, h5, h6, h7]
    rfl

end Cert.Attn

end
-- ==== Proof.Mlp.lean ====
/-
The feed-forward part and the last norm: the kernel and the reference leave the same array.

The kernel takes the hidden units 1024 at a time and keeps the sum over them in a scratch buffer, which it sets to zero at the first
block of hidden units of each block of rows; at the last one it adds the residual and normalizes.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pointwise
public import Idealize.ShloMosaic.Lib.StableHlo.ReadAt
public import Idealize.ShloMosaic.Lib.VecWindow
public import Idealize.ShloMosaic.Adequacy
public import Idealize.ShloMosaic.Init

@[expose] public section

set_option maxRecDepth 16384
set_option maxHeartbeats 2000000

noncomputable section

namespace Cert.Mlp

open Idealize.ShloMosaic Cert.Kernel2Ideal Cert.Kernel2Ideal.Gen Cert.Kernel2Ideal.Value
open Idealize.ShloMosaic.TcCoe Idealize.SL.Sem

/-- The squared positive part. -/
def act (u : EReal) : EReal := max u 0 * max u 0

/-- What hidden unit `f` adds to an entry of the down projection; nothing past the last one. -/
def term (a0 : FVec Ideal S8192x2048 .f32) (a1 : FVec Ideal S2048x8192 .f32) (a2 : FVec Ideal S8192x2048 .f32) (row : Fin 8192) (j : Fin 2048) (f : ℕ) : EReal :=
  if h : f < 8192 then act (∑ k : Fin 2048, a0 (ix2 row k) * a1 (ix2 k ⟨f, h⟩)) * a2 (ix2 ⟨f, h⟩ j) else 0

/-- A row's value divided by the root of the row's mean square, times the weight. -/
def norm (h : Fin 2048 → EReal) (w : Fin 2048 → EReal) (j : Fin 2048) : EReal :=
  h j * Ideal.rsqrt (Ideal.div (∑ k : Fin 2048, h k * h k) (Ideal.ofBits .f32 0x45000000#32) + Ideal.ofBits .f32 0x358637BD#32) * w j

/-- The result array over the argument arrays. -/
def result (a0 : FVec Ideal S8192x2048 .f32) (a1 : FVec Ideal S2048x8192 .f32) (a2 a3 : FVec Ideal S8192x2048 .f32) (a4 : FVec Ideal S2048 .f32) :
    FVec Ideal S8192x2048 .f32 :=
  fun i => norm (fun j => a3 (ix2 (i 0) j) + ∑ f ∈ Finset.range 8192, term a0 a1 a2 (i 0) j f) (fun j => a4 (ix1 j)) (i 1)

/-- An entry of it, the sum over the hidden units written as the down projection's. -/
theorem result_apply (a0 : FVec Ideal S8192x2048 .f32) (a1 : FVec Ideal S2048x8192 .f32) (a2 a3 : FVec Ideal S8192x2048 .f32) (a4 : FVec Ideal S2048 .f32)
    (r : Fin 8192) (j : Fin 2048) : result a0 a1 a2 a3 a4 (ix2 r j)
      = norm (fun j => a3 (ix2 r j) + ∑ f : Fin 8192, act (∑ k : Fin 2048, a0 (ix2 r k) * a1 (ix2 k f)) * a2 (ix2 f j)) (fun j => a4 (ix1 j)) j := by
  unfold result
  refine congrArg (fun h => norm h _ j) (funext fun j' => congrArg (fun z => _ + z) ?_)
  rw [Finset.sum_range]
  refine Finset.sum_congr rfl fun f _ => ?_
  unfold term
  rw [dif_pos f.isLt]
  rfl

theorem pay1 (r : Fin 512) (j : Fin 2048) : k0_pay1 (F := Ideal) (ix2 r j) = (0 : EReal) := by
  unfold k0_pay1
  pointwise

theorem pay2 (v3 : FVec Ideal S512x2048 .bf16) (v5 : FVec Ideal S2048x1024 .bf16) (v10 : FVec Ideal S512x2048 .f32) (v13 : FVec Ideal S1024x2048 .bf16)
    (r : Fin 512) (j : Fin 2048) :
    k0_pay2 (F := Ideal) v3 v5 v10 v13 (ix2 r j)
      = v10 (ix2 r j) + ∑ f : Fin 1024, act (∑ k : Fin 2048, v3 (ix2 r k) * v5 (ix2 k f)) * v13 (ix2 f j) := by
  unfold k0_pay2 act
  pointwise

theorem pay3 (v23 v24 : FVec Ideal S512x2048 .f32) (v36 : FVec Ideal S1x2048 .f32) (r : Fin 512) (j : Fin 2048) :
    k0_pay3 (F := Ideal) v23 v24 v36 (ix2 r j) = norm (fun j => v23 (ix2 r j) + v24 (ix2 r j)) (fun j => v36 (ix2 0 j)) j := by
  unfold k0_pay3 norm
  pointwise

theorem kept_A (c : Dev nD) (i : grid0.Coords) (arg2 : Memref sig .tc .vmem S512x2048 .bf16) (harg2 : arg2.IsWhole) (arg3 : Memref sig .tc .vmem S2048x1024 .bf16) (harg3 : arg3.IsWhole)
    (arg4 : Memref sig .tc .vmem S1024x2048 .bf16) (harg4 : arg4.IsWhole) (arg5 : Memref sig .tc .vmem S512x2048 .f32) (harg5 : arg5.IsWhole) (arg6 : Memref sig .tc .vmem S1x2048 .f32)
    (harg6 : arg6.IsWhole) (arg7 : Memref sig .tc .vmem S512x2048 .f32) (harg7 : arg7.IsWhole) (arg8 : Memref sig .tc .vmem S512x2048 .f32) (harg8 : arg8.IsWhole)
    (hc0 : cond0_0 i) (hc1 : ¬cond0_1 i) (x0 : Vec Ideal S512x2048 .bf16) (x1 : Vec Ideal S2048x1024 .bf16) (x2 : Vec Ideal S1024x2048 .bf16) (x3 : Vec Ideal S512x2048 .f32) (x4 : Vec Ideal S1x2048 .f32) :
    sout0_A_0 (F := Ideal) c i arg2 harg2 arg3 harg3 arg4 harg4 arg5 harg5 arg6 harg6 arg7 harg7 arg8 harg8 hc0 hc1 x0 x1 x2 x3 x4 = k0_pay2 (F := Ideal) x0 x1 (k0_pay1 (F := Ideal)) x2 := by
  unfold sout0_A_0 kernelRun0_A
  dsimp only
  rw [View.read_writes_full, View.readAt_full, View.readAt_full, View.readAt_full, harg2.read_unread, harg3.read_unread, harg4.read_unread]
  unfold kernelRun0_A.sl.v10 kernelRun0_A.sl.HS0_1
  rw [View.readCov_full]

theorem kept_B (c : Dev nD) (i : grid0.Coords) (arg2 : Memref sig .tc .vmem S512x2048 .bf16) (harg2 : arg2.IsWhole) (arg3 : Memref sig .tc .vmem S2048x1024 .bf16) (harg3 : arg3.IsWhole)
    (arg4 : Memref sig .tc .vmem S1024x2048 .bf16) (harg4 : arg4.IsWhole) (arg5 : Memref sig .tc .vmem S512x2048 .f32) (harg5 : arg5.IsWhole) (arg6 : Memref sig .tc .vmem S1x2048 .f32)
    (harg6 : arg6.IsWhole) (arg7 : Memref sig .tc .vmem S512x2048 .f32) (harg7 : arg7.IsWhole) (arg8 : Memref sig .tc .vmem S512x2048 .f32) (harg8 : arg8.IsWhole)
    (hc0 : ¬cond0_0 i) (hc1 : ¬cond0_1 i) (x0 : Vec Ideal S512x2048 .bf16) (x1 : Vec Ideal S2048x1024 .bf16) (x2 : Vec Ideal S1024x2048 .bf16) (x3 : Vec Ideal S512x2048 .f32) (x4 : Vec Ideal S1x2048 .f32) (xs0 : Vec Ideal S512x2048 .f32) :
    sout0_B_0 (F := Ideal) c i arg2 harg2 arg3 harg3 arg4 harg4 arg5 harg5 arg6 harg6 arg7 harg7 arg8 harg8 hc0 hc1 x0 x1 x2 x3 x4 xs0 = k0_pay2 (F := Ideal) x0 x1 xs0 x2 := by
  unfold sout0_B_0 kernelRun0_B
  dsimp only
  rw [View.read_writes_full, View.readAt_full, View.readAt_full, View.readAt_full, View.readAt_full, harg2.read_unread, harg3.read_unread, harg4.read_unread, harg8.read_unread]

theorem kept_C (c : Dev nD) (i : grid0.Coords) (arg2 : Memref sig .tc .vmem S512x2048 .bf16) (harg2 : arg2.IsWhole) (arg3 : Memref sig .tc .vmem S2048x1024 .bf16) (harg3 : arg3.IsWhole)
    (arg4 : Memref sig .tc .vmem S1024x2048 .bf16) (harg4 : arg4.IsWhole) (arg5 : Memref sig .tc .vmem S512x2048 .f32) (harg5 : arg5.IsWhole) (arg6 : Memref sig .tc .vmem S1x2048 .f32)
    (harg6 : arg6.IsWhole) (arg7 : Memref sig .tc .vmem S512x2048 .f32) (harg7 : arg7.IsWhole) (arg8 : Memref sig .tc .vmem S512x2048 .f32) (harg8 : arg8.IsWhole)
    (hc0 : ¬cond0_0 i) (hc1 : cond0_1 i) (x0 : Vec Ideal S512x2048 .bf16) (x1 : Vec Ideal S2048x1024 .bf16) (x2 : Vec Ideal S1024x2048 .bf16) (x3 : Vec Ideal S512x2048 .f32) (x4 : Vec Ideal S1x2048 .f32) (xs0 : Vec Ideal S512x2048 .f32) :
    sout0_C_0 (F := Ideal) c i arg2 harg2 arg3 harg3 arg4 harg4 arg5 harg5 arg6 harg6 arg7 harg7 arg8 harg8 hc0 hc1 x0 x1 x2 x3 x4 xs0 = k0_pay2 (F := Ideal) x0 x1 xs0 x2 := by
  unfold sout0_C_0 kernelRun0_C
  dsimp only
  unfold kernelRun0_C.sl.HS0_1
  rw [View.read_writes_full, View.readAt_full, View.readAt_full, View.readAt_full, View.readAt_full, harg2.read_unread, harg3.read_unread, harg4.read_unread, harg8.read_unread]

theorem out_C (c : Dev nD) (i : grid0.Coords) (arg2 : Memref sig .tc .vmem S512x2048 .bf16) (harg2 : arg2.IsWhole) (arg3 : Memref sig .tc .vmem S2048x1024 .bf16) (harg3 : arg3.IsWhole)
    (arg4 : Memref sig .tc .vmem S1024x2048 .bf16) (harg4 : arg4.IsWhole) (arg5 : Memref sig .tc .vmem S512x2048 .f32) (harg5 : arg5.IsWhole) (arg6 : Memref sig .tc .vmem S1x2048 .f32)
    (harg6 : arg6.IsWhole) (arg7 : Memref sig .tc .vmem S512x2048 .f32) (harg7 : arg7.IsWhole) (arg8 : Memref sig .tc .vmem S512x2048 .f32) (harg8 : arg8.IsWhole)
    (hc0 : ¬cond0_0 i) (hc1 : cond0_1 i) (x0 : Vec Ideal S512x2048 .bf16) (x1 : Vec Ideal S2048x1024 .bf16) (x2 : Vec Ideal S1024x2048 .bf16) (x3 : Vec Ideal S512x2048 .f32) (x4 : Vec Ideal S1x2048 .f32) (xs0 : Vec Ideal S512x2048 .f32) :
    out0_C_5 (F := Ideal) c i arg2 harg2 arg3 harg3 arg4 harg4 arg5 harg5 arg6 harg6 arg7 harg7 arg8 harg8 hc0 hc1 x0 x1 x2 x3 x4 xs0 = k0_pay3 (F := Ideal) x3 (k0_pay2 (F := Ideal) x0 x1 xs0 x2) x4 := by
  unfold out0_C_5 kernelRun0_C
  dsimp only
  rw [View.read_writes_full, View.readAt_full, View.readAt_full, harg5.read_unread, harg6.read_unread]
  unfold kernelRun0_C.sl.v24 kernelRun0_C.sl.HS0_1
  rw [View.readCov_full, View.readAt_full, View.readAt_full, View.readAt_full, View.readAt_full, harg2.read_unread, harg3.read_unread, harg4.read_unread, harg8.read_unread]

theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = t.val % 8 ∧ win0_2.index t (1 : Fin 2) = 0 :=
  (by decide +kernel : ∀ t : Fin grid0.N, _)
theorem idx3 : ∀ t : Fin cfg0.N, win0_3.index t (0 : Fin 2) = t.val / 8 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val / 8 ∧ win0_5.index t (1 : Fin 2) = 0 :=
  (by decide +kernel : ∀ t : Fin grid0.N, _)

theorem points (t : Fin cfg0.N) : t.val < 128 := lt_of_lt_of_eq t.isLt N_0

/-- The array's row of a row in a point's block, and the hidden unit of a column in it. -/
def row (t : Fin cfg0.N) (r : Fin 512) : Fin 8192 := ⟨512 * (t.val / 8) + r.val, by have := points t; omega⟩
def unit (t : Fin cfg0.N) (f : Fin 1024) : Fin 8192 := ⟨1024 * (t.val % 8) + f.val, by omega⟩

theorem emb0 (t : Fin cfg0.N) (r : Fin 512) (k : Fin 2048) :
    ((cfg0.win 0).blk t).view.emb (ix2 r k : S512x2048.Idx) = (ix2 (row t r) k : S8192x2048.Idx) := by
  obtain ⟨e0, e1⟩ := idx0 t
  funext a; apply Fin.ext
  match a with
  | ⟨0, _⟩ => show win0_0.index t (0 : Fin 2) * 512 + 1 * r.val = 512 * (t.val / 8) + r.val; rw [e0]; omega
  | ⟨1, _⟩ => show win0_0.index t (1 : Fin 2) * 2048 + 1 * k.val = k.val; rw [e1]; omega

theorem emb1 (t : Fin cfg0.N) (k : Fin 2048) (f : Fin 1024) :
    ((cfg0.win 1).blk t).view.emb (ix2 k f : S2048x1024.Idx) = (ix2 k (unit t f) : S2048x8192.Idx) := by
  obtain ⟨e0, e1⟩ := idx1 t
  funext a; apply Fin.ext
  match a with
  | ⟨0, _⟩ => show win0_1.index t (0 : Fin 2) * 2048 + 1 * k.val = k.val; rw [e0]; omega
  | ⟨1, _⟩ => show win0_1.index t (1 : Fin 2) * 1024 + 1 * f.val = 1024 * (t.val % 8) + f.val; rw [e1]; omega

theorem emb2 (t : Fin cfg0.N) (f : Fin 1024) (j : Fin 2048) :
    ((cfg0.win 2).blk t).view.emb (ix2 f j : S1024x2048.Idx) = (ix2 (unit t f) j : S8192x2048.Idx) := by
  obtain ⟨e0, e1⟩ := idx2 t
  funext a; apply Fin.ext
  match a with
  | ⟨0, _⟩ => show win0_2.index t (0 : Fin 2) * 1024 + 1 * f.val = 1024 * (t.val % 8) + f.val; rw [e0]; omega
  | ⟨1, _⟩ => show win0_2.index t (1 : Fin 2) * 2048 + 1 * j.val = j.val; rw [e1]; omega

theorem emb3 (t : Fin cfg0.N) (r : Fin 512) (j : Fin 2048) :
    ((cfg0.win 3).blk t).view.emb (ix2 r j : S512x2048.Idx) = (ix2 (row t r) j : S8192x2048.Idx) := by
  obtain ⟨e0, e1⟩ := idx3 t
  funext a; apply Fin.ext
  match a with
  | ⟨0, _⟩ => show win0_3.index t (0 : Fin 2) * 512 + 1 * r.val = 512 * (t.val / 8) + r.val; rw [e0]; omega
  | ⟨1, _⟩ => show win0_3.index t (1 : Fin 2) * 2048 + 1 * j.val = j.val; rw [e1]; omega

theorem emb4 (t : Fin cfg0.N) (k : Fin 1) (j : Fin 2048) :
    ((cfg0.win 4).blk t).view.emb (ix2 k j : S1x2048.Idx) = (ix2 k j : S1x2048.Idx) := by
  obtain ⟨e0, e1⟩ := idx4 t
  funext a; apply Fin.ext
  match a with
  | ⟨0, _⟩ => show win0_4.index t (0 : Fin 2) * 1 + 1 * k.val = k.val; rw [e0]; omega
  | ⟨1, _⟩ => show win0_4.index t (1 : Fin 2) * 2048 + 1 * j.val = j.val; rw [e1]; omega

theorem emb5 (t : Fin cfg0.N) (r : Fin 512) (j : Fin 2048) :
    ((cfg0.win 5).blk t).view.emb (ix2 r j : S512x2048.Idx) = (ix2 (row t r) j : S8192x2048.Idx) := by
  obtain ⟨e0, e1⟩ := idx5 t
  funext a; apply Fin.ext
  match a with
  | ⟨0, _⟩ => show win0_5.index t (0 : Fin 2) * 512 + 1 * r.val = 512 * (t.val / 8) + r.val; rw [e0]; omega
  | ⟨1, _⟩ => show win0_5.index t (1 : Fin 2) * 2048 + 1 * j.val = j.val; rw [e1]; omega

variable (m : (ℓ : Loc nD τ sig) → Buf (Elt Ideal) ℓ) (c : Dev nD)

theorem host_x (r : Fin 8192) (k : Fin 2048) : (V m c main_v0 : FVec Ideal S8192x2048 .bf16) (ix2 r k)
    = (m ((c : Thread nD τ).loc main_arg0) : FVec Ideal S8192x2048 .f32) (ix2 r k) := by
  unfold V
  after_reads_at

theorem host_up (k : Fin 2048) (f : Fin 8192) : (V m c main_v1 : FVec Ideal S2048x8192 .bf16) (ix2 k f)
    = (m ((c : Thread nD τ).loc main_arg1) : FVec Ideal S2048x8192 .f32) (ix2 k f) := by
  unfold V
  after_reads_at

theorem host_down (f : Fin 8192) (j : Fin 2048) : (V m c main_v2 : FVec Ideal S8192x2048 .bf16) (ix2 f j)
    = (m ((c : Thread nD τ).loc main_arg2) : FVec Ideal S8192x2048 .f32) (ix2 f j) := by
  unfold V
  after_reads_at

theorem host_h (r : Fin 8192) (j : Fin 2048) : (V m c main_arg3 : FVec Ideal S8192x2048 .f32) (ix2 r j)
    = (m ((c : Thread nD τ).loc main_arg3) : FVec Ideal S8192x2048 .f32) (ix2 r j) := by
  unfold V
  after_reads_at

theorem host_n (j : Fin 2048) : (V m c main_v3 : FVec Ideal S1x2048 .f32) (ix2 0 j)
    = (m ((c : Thread nD τ).loc main_arg4) : FVec Ideal S2048 .f32) (ix1 j) := by
  unfold V
  after_reads_at

/-- The hidden units' terms, and the result array, over the memory's arguments. -/
def terms : Fin 8192 → Fin 2048 → ℕ → EReal := term (m ((c : Thread nD τ).loc main_arg0)) (m ((c : Thread nD τ).loc main_arg1)) (m ((c : Thread nD τ).loc main_arg2))
def res : FVec Ideal S8192x2048 .f32 := result (m ((c : Thread nD τ).loc main_arg0)) (m ((c : Thread nD τ).loc main_arg1)) (m ((c : Thread nD τ).loc main_arg2))
  (m ((c : Thread nD τ).loc main_arg3)) (m ((c : Thread nD τ).loc main_arg4))

/-- A point adds the terms of its 1024 hidden units to what the scratch buffer held. -/
theorem step (t : Fin cfg0.N) (acc : FVec Ideal S512x2048 .f32) (r : Fin 512) (j : Fin 2048)
    (h : acc (ix2 r j) = ∑ f ∈ Finset.range (1024 * (t.val % 8)), terms m c (row t r) j f) :
    k0_pay2 (F := Ideal) (iblk m c 0 t) (iblk m c 1 t) acc (iblk m c 2 t) (ix2 r j)
      = ∑ f ∈ Finset.range (1024 * (t.val % 8 + 1)), terms m c (row t r) j f := by
  refine (pay2 _ _ _ _ r j).trans ?_
  rw [h, Nat.mul_add, Nat.mul_one, Finset.sum_range_add]
  refine congrArg (fun z => _ + z) (Eq.trans (Finset.sum_congr rfl fun f _ => ?_) (Finset.sum_range _).symm)
  unfold terms term
  rw [dif_pos (show 1024 * (t.val % 8) + f.val < 8192 from (unit t f).isLt)]
  refine congrArg₂ (fun a b : EReal => a * b) (congrArg act (Finset.sum_congr rfl fun k _ => congrArg₂ (fun a b : EReal => a * b) ?_ ?_)) ?_
  · show V m c main_v0 (((cfg0.win 0).blk t).view.emb (ix2 r k : S512x2048.Idx)) = _
    rw [emb0]
    exact host_x m c (row t r) k
  · show V m c main_v1 (((cfg0.win 1).blk t).view.emb (ix2 k f : S2048x1024.Idx)) = _
    rw [emb1]
    exact host_up m c k (unit t f)
  · show V m c main_v2 (((cfg0.win 2).blk t).view.emb (ix2 f j : S1024x2048.Idx)) = _
    rw [emb2]
    exact host_down m c (unit t f) j

/-- The scratch buffer after a point: the terms of the hidden units up to the point's last one. -/
theorem carried : ∀ (n : ℕ) (hn : n < cfg0.N) (r : Fin 512) (j : Fin 2048),
    (outsAt0 m c n hn).2 (ix2 r j) = ∑ f ∈ Finset.range (1024 * (n % 8 + 1)), terms m c (row ⟨n, hn⟩ r) j f := by
  intro n
  induction n using Nat.strong_induction_on with
  | _ n ih =>
    intro hn r j
    by_cases h0 : n % 8 = 0
    · have h1 : ¬ n % 8 = 7 := by omega
      rw [outsAt0_A m c ⟨n, hn⟩ h0 h1]
      dsimp only
      rw [kept_A]
      refine step m c ⟨n, hn⟩ _ r j ((pay1 r j).trans ?_)
      show (0 : EReal) = ∑ f ∈ Finset.range (1024 * (n % 8)), _
      rw [h0]
      rfl
    · have hp : (outsAt0 m c (n - 1) (Nat.lt_of_le_of_lt (Nat.sub_le _ _) hn)).2 (ix2 r j)
          = ∑ f ∈ Finset.range (1024 * (n % 8)), terms m c (row ⟨n, hn⟩ r) j f := by
        rw [ih (n - 1) (by omega) (Nat.lt_of_le_of_lt (Nat.sub_le _ _) hn) r j, show (n - 1) % 8 + 1 = n % 8 by omega]
        refine congrArg (fun z => ∑ f ∈ _, terms m c z j f) (Fin.ext ?_)
        show 512 * ((n - 1) / 8) + r.val = 512 * (n / 8) + r.val
        omega
      by_cases h1 : n % 8 = 7
      · rw [outsAt0_C m c ⟨n, hn⟩ h0 h1]
        dsimp only
        rw [kept_C]
        exact step m c ⟨n, hn⟩ _ r j hp
      · rw [outsAt0_B m c ⟨n, hn⟩ h0 h1]
        dsimp only
        rw [kept_B]
        exact step m c ⟨n, hn⟩ _ r j hp

/-- Before the last block of hidden units of a block of rows: the terms of the seven blocks before it. -/
theorem before (t : Fin cfg0.N) (h0 : ¬ t.val % 8 = 0) (r : Fin 512) (j : Fin 2048) :
    (outsAt0 m c (t.val - 1) (Nat.lt_of_le_of_lt (Nat.sub_le _ _) t.isLt)).2 (ix2 r j)
      = ∑ f ∈ Finset.range (1024 * (t.val % 8)), terms m c (row t r) j f := by
  rw [carried m c (t.val - 1) (Nat.lt_of_le_of_lt (Nat.sub_le _ _) t.isLt) r j, show (t.val - 1) % 8 + 1 = t.val % 8 by omega]
  refine congrArg (fun z => ∑ f ∈ _, terms m c z j f) (Fin.ext ?_)
  show 512 * ((t.val - 1) / 8) + r.val = 512 * (t.val / 8) + r.val
  omega

/-- The points that write back are the last ones of a block of rows. -/
theorem last : ∀ t : Fin cfg0.N, (cfg0.win 5).flush t = true ↔ t.val % 8 = 7 :=
  (by decide +kernel : ∀ t : Fin grid0.N, win0_5.flush t = true ↔ t.val % 8 = 7)

/-- What such a point writes back is its block of the result. -/
theorem flushed (t : Fin cfg0.N) (hf : (cfg0.win 5).flush t = true) :
    (dats m 0 c).flushed 5 t = ((cfg0.win 5).blk t).view.read (Elt Ideal) (res m c) := by
  have h1 := (last t).mp hf
  have h0 : ¬ t.val % 8 = 0 := by omega
  rw [flushed5_C m c t h0 h1, out_C]
  funext i
  obtain ⟨r, j, rfl⟩ : ∃ (r : Fin 512) (j : Fin 2048), i = (ix2 r j : S512x2048.Idx) := ⟨i 0, i 1, (ix2_eta i).symm⟩
  refine (pay3 _ _ _ r j).trans ?_
  show _ = res m c (((cfg0.win 5).blk t).view.emb (ix2 r j : S512x2048.Idx))
  rw [emb5]
  unfold res result
  refine congrArg₂ (fun h w => norm h w j) (funext fun j' => congrArg₂ (fun a b : EReal => a + b) ?_ ?_) (funext fun k => ?_)
  · show V m c main_arg3 (((cfg0.win 3).blk t).view.emb (ix2 r j' : S512x2048.Idx)) = _
    rw [emb3]
    exact host_h m c (row t r) j'
  · refine (step m c t _ r j' (before m c t h0 r j')).trans ?_
    rw [h1]
    rfl
  · show V m c main_v3 (((cfg0.win 4).blk t).view.emb (ix2 0 k : S1x2048.Idx)) = _
    rw [emb4]
    exact host_n m c k

/-- Every index of the result lies in some such point's block. -/
theorem covered (i : S8192x2048.Idx) : ∃ t : Fin cfg0.N, (cfg0.win 5).flush t = true ∧ i ∈ ((cfg0.win 5).blk t).view.set := by
  have h0 : (i 0).val < 8192 := (i 0).isLt
  have ht : 8 * ((i 0).val / 512) + 7 < cfg0.N := lt_of_lt_of_eq (by omega) N_0.symm
  obtain ⟨t, e0⟩ : ∃ t : Fin cfg0.N, t.val = 8 * ((i 0).val / 512) + 7 := ⟨⟨_, ht⟩, rfl⟩
  refine ⟨t, (last t).mpr (by omega), ?_⟩
  have h := ((cfg0.win 5).blk t).view.emb_mem_set (ix2 ⟨(i 0).val % 512, by omega⟩ (i 1) : S512x2048.Idx)
  refine (congrArg (· ∈ ((cfg0.win 5).blk t).view.set) (Eq.trans (funext fun a => ?_) (emb5 t ⟨(i 0).val % 512, by omega⟩ (i 1)).symm)).mpr h
  match a with
  | ⟨0, _⟩ => exact Fin.ext (by show (i 0).val = 512 * (t.val / 8) + (i 0).val % 512; omega)
  | ⟨1, _⟩ => rfl

/-- The result array after the run. -/
theorem final : (dats m 0 c).arrAt 5 cfg0.N = res m c :=
  (dats m 0 c).arrAt_eq_of_cover 5 (res m c) (fun t hf => flushed m c t hf) covered

theorem feed_forward : Cert.algebraic_Kernel2Ideal_Reference2Ideal (hKernel2Ideal := Cert.Kernel2Ideal.Gen.facts) (hReference2Ideal := Cert.Reference2Ideal.Gen.facts) := by
  intro m ρ m' ρ' _ hargs
  refine ⟨fun c => res m c, ?_, ?_⟩
  · refine (θ_run Cert.Kernel2Ideal.defs _ _).mono (fun r h c => ?_) (Cert.Kernel2Ideal.Value.run_blocks m ρ)
    obtain ⟨h2, hk⟩ := h c
    exact ⟨h2.trans (final m c), hk⟩
  · refine (θ_run Cert.Reference2Ideal.defs _ _).mono (fun r h c => ⟨(h c).1.trans ?_, (h c).2⟩) (Cert.Reference2Ideal.Value.run m' ρ')
    obtain ⟨h0, h1, h2, h3, h4⟩ := hargs c
    rw [h0, h1, h2, h3, h4]
    funext i
    obtain ⟨r, j, rfl⟩ : ∃ (r : Fin 8192) (j : Fin 2048), i = ix2 r j := ⟨i 0, i 1, (ix2_eta i).symm⟩
    pointwise
    exact (result_apply _ _ _ _ _ r j).symm

/-- The kernel as printed runs to the end and leaves its arguments unchanged. -/
theorem frame_kernel : Cert.quiescent_Kernel2 := fun m ρ _ => Cert.Kernel2.Gen.frame m ρ

/-- So does its idealization. -/
theorem frame_ideal : Cert.quiescent_Kernel2Ideal := fun m ρ _ => Cert.Kernel2Ideal.Gen.frame m ρ

/-- So does the reference. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- No operation is rewritten. -/
theorem preserves : Cert.preserves_Kernel2_Kernel2Ideal := trivial

end Cert.Mlp

end
-- ==== Proof.Merge.lean ====
/-
The gated merge of the two branches: the kernel and the reference leave the same array.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pointwise
public import Idealize.ShloMosaic.Lib.StableHlo.ReadAt
public import Idealize.ShloMosaic.Adequacy
public import Idealize.ShloMosaic.Init

@[expose] public section

set_option maxRecDepth 16384
set_option maxHeartbeats 2000000

noncomputable section

namespace Cert.Merge

open Idealize.ShloMosaic Cert.Kernel3Ideal Cert.Kernel3Ideal.Gen Cert.Kernel3Ideal.Value
open Idealize.ShloMosaic.TcCoe Idealize.SL.Sem

/-- The result array over the argument arrays: each branch's projection times the sigmoid of its gate, added. -/
def result (a0 : FVec Ideal S8192x2048 .f32) (a1 : FVec Ideal S8192x4096 .f32) (a2 : FVec Ideal S2048x2048 .f32)
    (a3 : FVec Ideal S4096x2048 .f32) (a4 : FVec Ideal S8192x4096 .f32) : FVec Ideal S8192x2048 .bf16 :=
  fun i => Ideal.logistic (a4 (ix2 (i 0) ⟨(i 1).val, (i 1).isLt.trans (by decide)⟩)) * (∑ k : Fin 2048, a0 (ix2 (i 0) k) * a2 (ix2 k (i 1)))
    + Ideal.logistic (a4 (ix2 (i 0) ⟨2048 + (i 1).val, Nat.add_lt_add_left (i 1).isLt 2048⟩)) * (∑ k : Fin 4096, a1 (ix2 (i 0) k) * a3 (ix2 k (i 1)))

theorem pay (v0 : FVec Ideal S512x2048 .bf16) (v2 : FVec Ideal S2048x1024 .bf16) (v5 : FVec Ideal S512x4096 .bf16)
    (v7 : FVec Ideal S4096x1024 .bf16) (v10 v15 : FVec Ideal S512x1024 .bf16) (r : Fin 512) (c : Fin 1024) :
    k0_pay1 (F := Ideal) v0 v2 v5 v7 v10 v15 (ix2 r c) = Ideal.logistic (v10 (ix2 r c)) * (∑ k : Fin 2048, v0 (ix2 r k) * v2 (ix2 k c))
      + Ideal.logistic (v15 (ix2 r c)) * (∑ k : Fin 4096, v5 (ix2 r k) * v7 (ix2 k c)) := by
  unfold k0_pay1
  pointwise

theorem out (x0 : FVec Ideal S512x2048 .bf16) (x1 : FVec Ideal S512x4096 .bf16) (x2 : FVec Ideal S2048x1024 .bf16)
    (x3 : FVec Ideal S4096x1024 .bf16) (x4 x5 : FVec Ideal S512x1024 .bf16) :
    out0_6 (F := Ideal) x0 x1 x2 x3 x4 x5 = k0_pay1 (F := Ideal) x0 x2 x1 x3 x4 x5 := by
  have hz : (![0, 0] : Fin 2 → Nat) = fun _ => 0 := funext fun a => by fin_cases a <;> rfl
  unfold out0_6
  rw [View.canon_unit_zero hz, View.ld_unit_zero hz, View.ld_unit_zero hz, View.ld_unit_zero hz, View.ld_unit_zero hz,
    View.ld_unit_zero hz, View.ld_unit_zero hz]

theorem idx0 : ∀ t : Fin cfg0.N, win0_0.index t (0 : Fin 2) = (grid0.coords t 0).val ∧ win0_0.index t (1 : Fin 2) = 0 :=
  (by decide +kernel : ∀ t : Fin grid0.N, _)
theorem idx1 : ∀ t : Fin cfg0.N, win0_1.index t (0 : Fin 2) = (grid0.coords t 0).val ∧ win0_1.index t (1 : Fin 2) = 0 :=
  (by decide +kernel : ∀ t : Fin grid0.N, _)
theorem idx2 : ∀ t : Fin cfg0.N, win0_2.index t (0 : Fin 2) = 0 ∧ win0_2.index t (1 : Fin 2) = (grid0.coords t 1).val :=
  (by decide +kernel : ∀ t : Fin grid0.N, _)
theorem idx3 : ∀ t : Fin cfg0.N, win0_3.index t (0 : Fin 2) = 0 ∧ win0_3.index t (1 : Fin 2) = (grid0.coords t 1).val :=
  (by decide +kernel : ∀ t : Fin grid0.N, _)
theorem idx4 : ∀ t : Fin cfg0.N, win0_4.index t (0 : Fin 2) = (grid0.coords t 0).val ∧ win0_4.index t (1 : Fin 2) = 10 + (grid0.coords t 1).val :=
  (by decide +kernel : ∀ t : Fin grid0.N, _)
theorem idx5 : ∀ t : Fin cfg0.N, win0_5.index t (0 : Fin 2) = (grid0.coords t 0).val ∧ win0_5.index t (1 : Fin 2) = 12 + (grid0.coords t 1).val :=
  (by decide +kernel : ∀ t : Fin grid0.N, _)
theorem idx6 : ∀ t : Fin cfg0.N, win0_6.index t (0 : Fin 2) = (grid0.coords t 0).val ∧ win0_6.index t (1 : Fin 2) = (grid0.coords t 1).val :=
  (by decide +kernel : ∀ t : Fin grid0.N, _)

theorem coord0 (t : Fin cfg0.N) : (grid0.coords t 0).val < 16 := (grid0.coords t 0).isLt
theorem coord1 (t : Fin cfg0.N) : (grid0.coords t 1).val < 2 := (grid0.coords t 1).isLt

/-- The grid point of a row block and a column block. -/
theorem point : ∀ (g : Fin 16) (n : Fin 2), ∃ t : Fin cfg0.N, (grid0.coords t 0).val = g.val ∧ (grid0.coords t 1).val = n.val :=
  (by decide +kernel : ∀ (g : Fin 16) (n : Fin 2), ∃ t : Fin grid0.N, (grid0.coords t 0).val = g.val ∧ (grid0.coords t 1).val = n.val)

/-- The array's row and column of a place in a point's block, and the columns of the two gates. -/
def row (t : Fin cfg0.N) (r : Fin 512) : Fin 8192 := ⟨512 * (grid0.coords t 0).val + r.val, by have := coord0 t; omega⟩
def col (t : Fin cfg0.N) (j : Fin 1024) : Fin 2048 := ⟨1024 * (grid0.coords t 1).val + j.val, by have := coord1 t; omega⟩
def gateA (j : Fin 2048) : Fin 14336 := ⟨10240 + j.val, by omega⟩
def gateB (j : Fin 2048) : Fin 14336 := ⟨12288 + j.val, by omega⟩

theorem emb0 (t : Fin cfg0.N) (r : Fin 512) (k : Fin 2048) :
    ((cfg0.win 0).blk t).view.emb (ix2 r k : S512x2048.Idx) = (ix2 (row t r) k : S8192x2048.Idx) := by
  obtain ⟨e0, e1⟩ := idx0 t
  funext a; apply Fin.ext
  match a with
  | ⟨0, _⟩ => show win0_0.index t (0 : Fin 2) * 512 + 1 * r.val = 512 * (grid0.coords t 0).val + r.val; rw [e0]; omega
  | ⟨1, _⟩ => show win0_0.index t (1 : Fin 2) * 2048 + 1 * k.val = k.val; rw [e1]; omega

theorem emb1 (t : Fin cfg0.N) (r : Fin 512) (k : Fin 4096) :
    ((cfg0.win 1).blk t).view.emb (ix2 r k : S512x4096.Idx) = (ix2 (row t r) k : S8192x4096.Idx) := by
  obtain ⟨e0, e1⟩ := idx1 t
  funext a; apply Fin.ext
  match a with
  | ⟨0, _⟩ => show win0_1.index t (0 : Fin 2) * 512 + 1 * r.val = 512 * (grid0.coords t 0).val + r.val; rw [e0]; omega
  | ⟨1, _⟩ => show win0_1.index t (1 : Fin 2) * 4096 + 1 * k.val = k.val; rw [e1]; omega

theorem emb2 (t : Fin cfg0.N) (k : Fin 2048) (j : Fin 1024) :
    ((cfg0.win 2).blk t).view.emb (ix2 k j : S2048x1024.Idx) = (ix2 k (col t j) : S2048x2048.Idx) := by
  obtain ⟨e0, e1⟩ := idx2 t
  funext a; apply Fin.ext
  match a with
  | ⟨0, _⟩ => show win0_2.index t (0 : Fin 2) * 2048 + 1 * k.val = k.val; rw [e0]; omega
  | ⟨1, _⟩ => show win0_2.index t (1 : Fin 2) * 1024 + 1 * j.val = 1024 * (grid0.coords t 1).val + j.val; rw [e1]; omega

theorem emb3 (t : Fin cfg0.N) (k : Fin 4096) (j : Fin 1024) :
    ((cfg0.win 3).blk t).view.emb (ix2 k j : S4096x1024.Idx) = (ix2 k (col t j) : S4096x2048.Idx) := by
  obtain ⟨e0, e1⟩ := idx3 t
  funext a; apply Fin.ext
  match a with
  | ⟨0, _⟩ => show win0_3.index t (0 : Fin 2) * 4096 + 1 * k.val = k.val; rw [e0]; omega
  | ⟨1, _⟩ => show win0_3.index t (1 : Fin 2) * 1024 + 1 * j.val = 1024 * (grid0.coords t 1).val + j.val; rw [e1]; omega

theorem emb4 (t : Fin cfg0.N) (r : Fin 512) (j : Fin 1024) :
    ((cfg0.win 4).blk t).view.emb (ix2 r j : S512x1024.Idx) = (ix2 (row t r) (gateA (col t j)) : S8192x14336.Idx) := by
  obtain ⟨e0, e1⟩ := idx4 t
  funext a; apply Fin.ext
  match a with
  | ⟨0, _⟩ => show win0_4.index t (0 : Fin 2) * 512 + 1 * r.val = 512 * (grid0.coords t 0).val + r.val; rw [e0]; omega
  | ⟨1, _⟩ => show win0_4.index t (1 : Fin 2) * 1024 + 1 * j.val = 10240 + (1024 * (grid0.coords t 1).val + j.val); rw [e1]; omega

theorem emb5 (t : Fin cfg0.N) (r : Fin 512) (j : Fin 1024) :
    ((cfg0.win 5).blk t).view.emb (ix2 r j : S512x1024.Idx) = (ix2 (row t r) (gateB (col t j)) : S8192x14336.Idx) := by
  obtain ⟨e0, e1⟩ := idx5 t
  funext a; apply Fin.ext
  match a with
  | ⟨0, _⟩ => show win0_5.index t (0 : Fin 2) * 512 + 1 * r.val = 512 * (grid0.coords t 0).val + r.val; rw [e0]; omega
  | ⟨1, _⟩ => show win0_5.index t (1 : Fin 2) * 1024 + 1 * j.val = 12288 + (1024 * (grid0.coords t 1).val + j.val); rw [e1]; omega

theorem emb6 (t : Fin cfg0.N) (r : Fin 512) (j : Fin 1024) :
    ((cfg0.win 6).blk t).view.emb (ix2 r j : S512x1024.Idx) = (ix2 (row t r) (col t j) : S8192x2048.Idx) := by
  obtain ⟨e0, e1⟩ := idx6 t
  funext a; apply Fin.ext
  match a with
  | ⟨0, _⟩ => show win0_6.index t (0 : Fin 2) * 512 + 1 * r.val = 512 * (grid0.coords t 0).val + r.val; rw [e0]; omega
  | ⟨1, _⟩ => show win0_6.index t (1 : Fin 2) * 1024 + 1 * j.val = 1024 * (grid0.coords t 1).val + j.val; rw [e1]; omega

variable (m : (ℓ : Loc nD τ sig) → Buf (Elt Ideal) ℓ) (c : Dev nD)

theorem host_a (r : Fin 8192) (k : Fin 2048) : (V m c main_v3 : FVec Ideal S8192x2048 .bf16) (ix2 r k)
    = (m ((c : Thread nD τ).loc main_arg0) : FVec Ideal S8192x2048 .f32) (ix2 r k) := by
  unfold V
  after_reads_at

theorem host_b (r : Fin 8192) (k : Fin 4096) : (V m c main_v4 : FVec Ideal S8192x4096 .bf16) (ix2 r k)
    = (m ((c : Thread nD τ).loc main_arg1) : FVec Ideal S8192x4096 .f32) (ix2 r k) := by
  unfold V
  after_reads_at

theorem host_wa (k j : Fin 2048) : (V m c main_v5 : FVec Ideal S2048x2048 .bf16) (ix2 k j)
    = (m ((c : Thread nD τ).loc main_arg2) : FVec Ideal S2048x2048 .f32) (ix2 k j) := by
  unfold V
  after_reads_at

theorem host_wb (k : Fin 4096) (j : Fin 2048) : (V m c main_v6 : FVec Ideal S4096x2048 .bf16) (ix2 k j)
    = (m ((c : Thread nD τ).loc main_arg3) : FVec Ideal S4096x2048 .f32) (ix2 k j) := by
  unfold V
  after_reads_at

theorem host_gate (r : Fin 8192) (j : Fin 4096) : (V m c main_v2 : FVec Ideal S8192x14336 .bf16) (ix2 r ⟨10240 + j.val, by omega⟩)
    = (m ((c : Thread nD τ).loc main_arg4) : FVec Ideal S8192x4096 .f32) (ix2 r j) := by
  unfold V
  after_reads_at
  after_reads_at

/-- The result array over the memory's arguments. -/
def res : FVec Ideal S8192x2048 .bf16 := result (m ((c : Thread nD τ).loc main_arg0)) (m ((c : Thread nD τ).loc main_arg1))
  (m ((c : Thread nD τ).loc main_arg2)) (m ((c : Thread nD τ).loc main_arg3)) (m ((c : Thread nD τ).loc main_arg4))

/-- What a grid point writes back is its block of the result. -/
theorem flushed (t : Fin cfg0.N) : (dats m 0 c).flushed 6 t = ((cfg0.win 6).blk t).view.read (Elt Ideal) (res m c) := by
  rw [flushed6, out]
  funext i
  obtain ⟨r, j, rfl⟩ : ∃ (r : Fin 512) (j : Fin 1024), i = (ix2 r j : S512x1024.Idx) := ⟨i 0, i 1, (ix2_eta i).symm⟩
  refine (pay _ _ _ _ _ _ r j).trans ?_
  show _ = res m c (((cfg0.win 6).blk t).view.emb (ix2 r j : S512x1024.Idx))
  rw [emb6]
  unfold res result
  refine congrArg₂ (fun a b : EReal => a + b) (congrArg₂ (fun a b : EReal => a * b) (congrArg Ideal.logistic ?_)
    (Finset.sum_congr rfl fun k _ => congrArg₂ (fun a b : EReal => a * b) ?_ ?_))
    (congrArg₂ (fun a b : EReal => a * b) (congrArg Ideal.logistic ?_)
      (Finset.sum_congr rfl fun k _ => congrArg₂ (fun a b : EReal => a * b) ?_ ?_))
  · show V m c main_v2 (((cfg0.win 4).blk t).view.emb (ix2 r j : S512x1024.Idx)) = _
    rw [emb4]
    exact host_gate m c (row t r) ⟨(col t j).val, by omega⟩
  · show V m c main_v3 (((cfg0.win 0).blk t).view.emb (ix2 r k : S512x2048.Idx)) = _
    rw [emb0]
    exact host_a m c (row t r) k
  · show V m c main_v5 (((cfg0.win 2).blk t).view.emb (ix2 k j : S2048x1024.Idx)) = _
    rw [emb2]
    exact host_wa m c k (col t j)
  · show V m c main_v2 (((cfg0.win 5).blk t).view.emb (ix2 r j : S512x1024.Idx)) = _
    rw [emb5]
    refine Eq.trans (congrArg (fun z => V m c main_v2 (ix2 (row t r) z)) (Fin.ext ?_)) (host_gate m c (row t r) ⟨2048 + (col t j).val, by omega⟩)
    show 12288 + (col t j).val = 10240 + (2048 + (col t j).val)
    omega
  · show V m c main_v4 (((cfg0.win 1).blk t).view.emb (ix2 r k : S512x4096.Idx)) = _
    rw [emb1]
    exact host_b m c (row t r) k
  · show V m c main_v6 (((cfg0.win 3).blk t).view.emb (ix2 k j : S4096x1024.Idx)) = _
    rw [emb3]
    exact host_wb m c k (col t j)

/-- Every index of the result lies in some grid point's block. -/
theorem covered (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  obtain ⟨t, e0, e1⟩ := point ⟨(i 0).val / 512, by omega⟩ ⟨(i 1).val / 1024, by omega⟩
  refine ⟨t, flush0_6 t, ?_⟩
  have h := ((cfg0.win 6).blk t).view.emb_mem_set (ix2 ⟨(i 0).val % 512, by omega⟩ ⟨(i 1).val % 1024, by omega⟩ : S512x1024.Idx)
  rw [emb6] at h
  have e : i = ix2 (row t ⟨(i 0).val % 512, by omega⟩) (col t ⟨(i 1).val % 1024, by omega⟩) := by
    funext a
    match a with
    | ⟨0, _⟩ => exact Fin.ext (by show (i 0).val = 512 * (grid0.coords t 0).val + (i 0).val % 512; rw [e0]; show _ = 512 * ((i 0).val / 512) + _; omega)
    | ⟨1, _⟩ => exact Fin.ext (by show (i 1).val = 1024 * (grid0.coords t 1).val + (i 1).val % 1024; rw [e1]; show _ = 1024 * ((i 1).val / 1024) + _; omega)
  rw [e]
  exact h

/-- The result array after the run. -/
theorem final : (dats m 0 c).arrAt 6 cfg0.N = res m c :=
  (dats m 0 c).arrAt_eq_of_cover 6 (res m c) (fun t _ => flushed m c t) covered

theorem merge : Cert.algebraic_Kernel3Ideal_Reference3Ideal (hKernel3Ideal := Cert.Kernel3Ideal.Gen.facts) (hReference3Ideal := Cert.Reference3Ideal.Gen.facts) := by
  intro m ρ m' ρ' _ hargs
  refine ⟨fun c => res m c, ?_, ?_⟩
  · refine (θ_run Cert.Kernel3Ideal.defs _ _).mono (fun r h c => ?_) (Cert.Kernel3Ideal.Value.run_blocks m ρ)
    obtain ⟨h2, hk⟩ := h c
    exact ⟨h2.trans (final m c), hk⟩
  · refine (θ_run Cert.Reference3Ideal.defs _ _).mono (fun r h c => ⟨(h c).1.trans ?_, (h c).2⟩) (Cert.Reference3Ideal.Value.run m' ρ')
    obtain ⟨h0, h1, h2, h3, h4⟩ := hargs c
    rw [h0, h1, h2, h3, h4]
    funext i
    obtain ⟨r, j, rfl⟩ : ∃ (r : Fin 8192) (j : Fin 2048), i = ix2 r j := ⟨i 0, i 1, (ix2_eta i).symm⟩
    pointwise
    rfl

/-- The kernel as printed runs to the end and leaves its arguments unchanged. -/
theorem frame_kernel : Cert.quiescent_Kernel3 := fun m ρ _ => Cert.Kernel3.Gen.frame m ρ

/-- So does its idealization. -/
theorem frame_ideal : Cert.quiescent_Kernel3Ideal := fun m ρ _ => Cert.Kernel3Ideal.Gen.frame m ρ

/-- So does the reference. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- No operation is rewritten. -/
theorem preserves : Cert.preserves_Kernel3_Kernel3Ideal := trivial

end Cert.Merge

end
-- ==== Proof.OutProj.lean ====
/-
The output projection with its residual and norm: the kernel and the reference leave the same two arrays.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.StableHlo.ReadAt
public import Idealize.ShloMosaic.Adequacy
public import Idealize.ShloMosaic.Init

@[expose] public section

set_option maxRecDepth 16384
set_option maxHeartbeats 2000000

noncomputable section

namespace Cert.OutProj

open Idealize.ShloMosaic Cert.Kernel4Ideal Cert.Kernel4Ideal.Gen Cert.Kernel4Ideal.Value
open Idealize.ShloMosaic.TcCoe Idealize.SL.Sem

/-- The sum of the layer's input and the output projection, over the argument arrays. -/
def resultH (a0 : FVec Ideal S8192x2048 .f32) (a1 : FVec Ideal S2048x2048 .f32) (a2 : FVec Ideal S8192x2048 .f32) : FVec Ideal S8192x2048 .f32 :=
  fun i => a2 (ix2 (i 0) (i 1)) + ∑ k : Fin 2048, a0 (ix2 (i 0) k) * a1 (ix2 k (i 1))

/-- A row's value divided by the root of the row's mean square, times the weight. -/
def norm (h : Fin 2048 → EReal) (w : Fin 2048 → EReal) (j : Fin 2048) : EReal :=
  h j * Ideal.rsqrt (Ideal.div (∑ k : Fin 2048, h k * h k) (Ideal.ofBits .f32 0x45000000#32) + Ideal.ofBits .f32 0x358637BD#32) * w j

/-- Its norm. -/
def resultN (a0 : FVec Ideal S8192x2048 .f32) (a1 : FVec Ideal S2048x2048 .f32) (a2 : FVec Ideal S8192x2048 .f32) (a3 : FVec Ideal S2048 .f32) :
    FVec Ideal S8192x2048 .bf16 :=
  fun i => norm (fun j => resultH a0 a1 a2 (ix2 (i 0) j)) (fun j => a3 (ix1 j)) (i 1)

theorem pay1 (v0 : FVec Ideal S512x2048 .f32) (v1 : FVec Ideal S512x2048 .bf16) (v3 : FVec Ideal S2048x2048 .bf16) (r : Fin 512) (j : Fin 2048) :
    k0_pay1 (F := Ideal) v0 v1 v3 (ix2 r j) = v0 (ix2 r j) + ∑ k : Fin 2048, v1 (ix2 r k) * v3 (ix2 k j) := by
  unfold k0_pay1
  pointwise

theorem pay2 (v0 : FVec Ideal S512x2048 .f32) (v1 : FVec Ideal S512x2048 .bf16) (v3 : FVec Ideal S2048x2048 .bf16) (v18 : FVec Ideal S1x2048 .f32)
    (r : Fin 512) (j : Fin 2048) :
    k0_pay2 (F := Ideal) v0 v1 v3 v18 (ix2 r j) = norm (fun j => k0_pay1 (F := Ideal) v0 v1 v3 (ix2 r j)) (fun j => v18 (ix2 0 j)) j := by
  unfold k0_pay2 norm
  pointwise

theorem outH (x0 : FVec Ideal S512x2048 .bf16) (x1 : FVec Ideal S2048x2048 .bf16) (x2 : FVec Ideal S512x2048 .f32) (x3 : FVec Ideal S1x2048 .f32) :
    out0_4 (F := Ideal) x0 x1 x2 x3 = k0_pay1 (F := Ideal) x2 x0 x1 := by
  have hz : (![0, 0] : Fin 2 → Nat) = fun _ => 0 := funext fun a => by fin_cases a <;> rfl
  unfold out0_4
  rw [View.canon_unit_zero hz, View.ld_unit_zero hz, View.ld_unit_zero hz, View.ld_unit_zero hz]

theorem outN (x0 : FVec Ideal S512x2048 .bf16) (x1 : FVec Ideal S2048x2048 .bf16) (x2 : FVec Ideal S512x2048 .f32) (x3 : FVec Ideal S1x2048 .f32) :
    out0_5 (F := Ideal) x0 x1 x2 x3 = k0_pay2 (F := Ideal) x2 x0 x1 x3 := by
  have hz : (![0, 0] : Fin 2 → Nat) = fun _ => 0 := funext fun a => by fin_cases a <;> rfl
  unfold out0_5
  rw [View.canon_unit_zero hz, View.ld_unit_zero hz, View.ld_unit_zero hz, View.ld_unit_zero hz, View.ld_unit_zero hz]

theorem idx0 : ∀ t : Fin cfg0.N, win0_0.index t (0 : Fin 2) = (grid0.coords t 0).val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = (grid0.coords t 0).val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = (grid0.coords t 0).val ∧ win0_4.index t (1 : Fin 2) = 0 :=
  (by decide +kernel : ∀ t : Fin grid0.N, _)
theorem idx5 : ∀ t : Fin cfg0.N, win0_5.index t (0 : Fin 2) = (grid0.coords t 0).val ∧ win0_5.index t (1 : Fin 2) = 0 :=
  (by decide +kernel : ∀ t : Fin grid0.N, _)

theorem coord0 (t : Fin cfg0.N) : (grid0.coords t 0).val < 16 := (grid0.coords t 0).isLt

/-- The grid point of a row block. -/
theorem point : ∀ g : Fin 16, ∃ t : Fin cfg0.N, (grid0.coords t 0).val = g.val :=
  (by decide +kernel : ∀ g : Fin 16, ∃ t : Fin grid0.N, (grid0.coords t 0).val = g.val)

/-- The array's row of a row in a point's block. -/
def row (t : Fin cfg0.N) (r : Fin 512) : Fin 8192 := ⟨512 * (grid0.coords t 0).val + r.val, by have := coord0 t; omega⟩

theorem emb0 (t : Fin cfg0.N) (r : Fin 512) (k : Fin 2048) :
    ((cfg0.win 0).blk t).view.emb (ix2 r k : S512x2048.Idx) = (ix2 (row t r) k : S8192x2048.Idx) := by
  obtain ⟨e0, e1⟩ := idx0 t
  funext a; apply Fin.ext
  match a with
  | ⟨0, _⟩ => show win0_0.index t (0 : Fin 2) * 512 + 1 * r.val = 512 * (grid0.coords t 0).val + r.val; rw [e0]; omega
  | ⟨1, _⟩ => show win0_0.index t (1 : Fin 2) * 2048 + 1 * k.val = k.val; rw [e1]; omega

theorem emb1 (t : Fin cfg0.N) (k : Fin 2048) (j : Fin 2048) :
    ((cfg0.win 1).blk t).view.emb (ix2 k j : S2048x2048.Idx) = (ix2 k j : S2048x2048.Idx) := by
  obtain ⟨e0, e1⟩ := idx1 t
  funext a; apply Fin.ext
  match a with
  | ⟨0, _⟩ => show win0_1.index t (0 : Fin 2) * 2048 + 1 * k.val = k.val; rw [e0]; omega
  | ⟨1, _⟩ => show win0_1.index t (1 : Fin 2) * 2048 + 1 * j.val = j.val; rw [e1]; omega

theorem emb2 (t : Fin cfg0.N) (r : Fin 512) (j : Fin 2048) :
    ((cfg0.win 2).blk t).view.emb (ix2 r j : S512x2048.Idx) = (ix2 (row t r) j : S8192x2048.Idx) := by
  obtain ⟨e0, e1⟩ := idx2 t
  funext a; apply Fin.ext
  match a with
  | ⟨0, _⟩ => show win0_2.index t (0 : Fin 2) * 512 + 1 * r.val = 512 * (grid0.coords t 0).val + r.val; rw [e0]; omega
  | ⟨1, _⟩ => show win0_2.index t (1 : Fin 2) * 2048 + 1 * j.val = j.val; rw [e1]; omega

theorem emb3 (t : Fin cfg0.N) (k : Fin 1) (j : Fin 2048) :
    ((cfg0.win 3).blk t).view.emb (ix2 k j : S1x2048.Idx) = (ix2 k j : S1x2048.Idx) := by
  obtain ⟨e0, e1⟩ := idx3 t
  funext a; apply Fin.ext
  match a with
  | ⟨0, _⟩ => show win0_3.index t (0 : Fin 2) * 1 + 1 * k.val = k.val; rw [e0]; omega
  | ⟨1, _⟩ => show win0_3.index t (1 : Fin 2) * 2048 + 1 * j.val = j.val; rw [e1]; omega

theorem emb4 (t : Fin cfg0.N) (r : Fin 512) (j : Fin 2048) :
    ((cfg0.win 4).blk t).view.emb (ix2 r j : S512x2048.Idx) = (ix2 (row t r) j : S8192x2048.Idx) := by
  obtain ⟨e0, e1⟩ := idx4 t
  funext a; apply Fin.ext
  match a with
  | ⟨0, _⟩ => show win0_4.index t (0 : Fin 2) * 512 + 1 * r.val = 512 * (grid0.coords t 0).val + r.val; rw [e0]; omega
  | ⟨1, _⟩ => show win0_4.index t (1 : Fin 2) * 2048 + 1 * j.val = j.val; rw [e1]; omega

theorem emb5 (t : Fin cfg0.N) (r : Fin 512) (j : Fin 2048) :
    ((cfg0.win 5).blk t).view.emb (ix2 r j : S512x2048.Idx) = (ix2 (row t r) j : S8192x2048.Idx) := by
  obtain ⟨e0, e1⟩ := idx5 t
  funext a; apply Fin.ext
  match a with
  | ⟨0, _⟩ => show win0_5.index t (0 : Fin 2) * 512 + 1 * r.val = 512 * (grid0.coords t 0).val + r.val; rw [e0]; omega
  | ⟨1, _⟩ => show win0_5.index t (1 : Fin 2) * 2048 + 1 * j.val = j.val; rw [e1]; omega

variable (m : (ℓ : Loc nD τ sig) → Buf (Elt Ideal) ℓ) (c : Dev nD)

theorem host_x (r : Fin 8192) (k : Fin 2048) : (V m c main_v0 : FVec Ideal S8192x2048 .bf16) (ix2 r k)
    = (m ((c : Thread nD τ).loc main_arg0) : FVec Ideal S8192x2048 .f32) (ix2 r k) := by
  unfold V
  after_reads_at

theorem host_w (k j : Fin 2048) : (V m c main_v1 : FVec Ideal S2048x2048 .bf16) (ix2 k j)
    = (m ((c : Thread nD τ).loc main_arg1) : FVec Ideal S2048x2048 .f32) (ix2 k j) := by
  unfold V
  after_reads_at

theorem host_h (r : Fin 8192) (j : Fin 2048) : (V m c main_arg2 : FVec Ideal S8192x2048 .f32) (ix2 r j)
    = (m ((c : Thread nD τ).loc main_arg2) : FVec Ideal S8192x2048 .f32) (ix2 r j) := by
  unfold V
  after_reads_at

theorem host_n (j : Fin 2048) : (V m c main_v2 : FVec Ideal S1x2048 .f32) (ix2 0 j)
    = (m ((c : Thread nD τ).loc main_arg3) : FVec Ideal S2048 .f32) (ix1 j) := by
  unfold V
  after_reads_at

/-- The result arrays over the memory's arguments. -/
def resH : FVec Ideal S8192x2048 .f32 := resultH (m ((c : Thread nD τ).loc main_arg0)) (m ((c : Thread nD τ).loc main_arg1)) (m ((c : Thread nD τ).loc main_arg2))
def resN : FVec Ideal S8192x2048 .bf16 := resultN (m ((c : Thread nD τ).loc main_arg0)) (m ((c : Thread nD τ).loc main_arg1)) (m ((c : Thread nD τ).loc main_arg2))
  (m ((c : Thread nD τ).loc main_arg3))

theorem block (t : Fin cfg0.N) (r : Fin 512) (j : Fin 2048) :
    k0_pay1 (F := Ideal) (iblk m c 2 t) (iblk m c 0 t) (iblk m c 1 t) (ix2 r j) = resH m c (ix2 (row t r) j) := by
  refine (pay1 _ _ _ r j).trans ?_
  unfold resH resultH
  refine congrArg₂ (fun a b : EReal => a + b) ?_ (Finset.sum_congr rfl fun k _ => congrArg₂ (fun a b : EReal => a * b) ?_ ?_)
  · show V m c main_arg2 (((cfg0.win 2).blk t).view.emb (ix2 r j : S512x2048.Idx)) = _
    rw [emb2]
    exact host_h m c (row t r) j
  · show V m c main_v0 (((cfg0.win 0).blk t).view.emb (ix2 r k : S512x2048.Idx)) = _
    rw [emb0]
    exact host_x m c (row t r) k
  · show V m c main_v1 (((cfg0.win 1).blk t).view.emb (ix2 k j : S2048x2048.Idx)) = _
    rw [emb1]
    exact host_w m c k j

/-- What a grid point writes back is its block of the first result. -/
theorem flushedH (t : Fin cfg0.N) : (dats m 0 c).flushed 4 t = ((cfg0.win 4).blk t).view.read (Elt Ideal) (resH m c) := by
  rw [flushed4, outH]
  funext i
  obtain ⟨r, j, rfl⟩ : ∃ (r : Fin 512) (j : Fin 2048), i = (ix2 r j : S512x2048.Idx) := ⟨i 0, i 1, (ix2_eta i).symm⟩
  refine (block m c t r j).trans ?_
  show _ = resH m c (((cfg0.win 4).blk t).view.emb (ix2 r j : S512x2048.Idx))
  rw [emb4]

/-- And of the second. -/
theorem flushedN (t : Fin cfg0.N) : (dats m 0 c).flushed 5 t = ((cfg0.win 5).blk t).view.read (Elt Ideal) (resN m c) := by
  rw [flushed5, outN]
  funext i
  obtain ⟨r, j, rfl⟩ : ∃ (r : Fin 512) (j : Fin 2048), i = (ix2 r j : S512x2048.Idx) := ⟨i 0, i 1, (ix2_eta i).symm⟩
  refine (pay2 _ _ _ _ r j).trans ?_
  show _ = resN m c (((cfg0.win 5).blk t).view.emb (ix2 r j : S512x2048.Idx))
  rw [emb5]
  unfold resN resultN
  refine congrArg₂ (fun h w => norm h w j) (funext fun k => block m c t r k) (funext fun k => ?_)
  show V m c main_v2 (((cfg0.win 3).blk t).view.emb (ix2 0 k : S1x2048.Idx)) = _
  rw [emb3]
  exact host_n m c k

/-- Every index of the array lies in some grid point's block. -/
theorem coveredH (i : S8192x2048.Idx) : ∃ t : Fin cfg0.N, (cfg0.win 4).flush t = true ∧ i ∈ ((cfg0.win 4).blk t).view.set := by
  have h0 : (i 0).val < 8192 := (i 0).isLt
  obtain ⟨t, e0⟩ := point ⟨(i 0).val / 512, by omega⟩
  refine ⟨t, flush0_4 t, ?_⟩
  have h := ((cfg0.win 4).blk t).view.emb_mem_set (ix2 ⟨(i 0).val % 512, by omega⟩ (i 1) : S512x2048.Idx)
  refine (congrArg (· ∈ ((cfg0.win 4).blk t).view.set) (Eq.trans (funext fun a => ?_) (emb4 t ⟨(i 0).val % 512, by omega⟩ (i 1)).symm)).mpr h
  match a with
  | ⟨0, _⟩ => exact Fin.ext (by show (i 0).val = 512 * (grid0.coords t 0).val + (i 0).val % 512; rw [e0]; show _ = 512 * ((i 0).val / 512) + _; omega)
  | ⟨1, _⟩ => rfl

theorem finalH : (dats m 0 c).arrAt 4 cfg0.N = resH m c :=
  (dats m 0 c).arrAt_eq_of_cover 4 (resH m c) (fun t _ => flushedH m c t) coveredH

/-- Every index of the array lies in some grid point's block. -/
theorem coveredN (i : S8192x2048.Idx) : ∃ t : Fin cfg0.N, (cfg0.win 5).flush t = true ∧ i ∈ ((cfg0.win 5).blk t).view.set := by
  have h0 : (i 0).val < 8192 := (i 0).isLt
  obtain ⟨t, e0⟩ := point ⟨(i 0).val / 512, by omega⟩
  refine ⟨t, flush0_5 t, ?_⟩
  have h := ((cfg0.win 5).blk t).view.emb_mem_set (ix2 ⟨(i 0).val % 512, by omega⟩ (i 1) : S512x2048.Idx)
  refine (congrArg (· ∈ ((cfg0.win 5).blk t).view.set) (Eq.trans (funext fun a => ?_) (emb5 t ⟨(i 0).val % 512, by omega⟩ (i 1)).symm)).mpr h
  match a with
  | ⟨0, _⟩ => exact Fin.ext (by show (i 0).val = 512 * (grid0.coords t 0).val + (i 0).val % 512; rw [e0]; show _ = 512 * ((i 0).val / 512) + _; omega)
  | ⟨1, _⟩ => rfl

theorem finalN : (dats m 0 c).arrAt 5 cfg0.N = resN m c :=
  (dats m 0 c).arrAt_eq_of_cover 5 (resN m c) (fun t _ => flushedN m c t) coveredN

theorem sum_norm : Cert.algebraic_Kernel4Ideal_Reference4Ideal (hKernel4Ideal := Cert.Kernel4Ideal.Gen.facts) (hReference4Ideal := Cert.Reference4Ideal.Gen.facts) := by
  intro m ρ m' ρ' _ hargs
  refine ⟨fun c => resH m c, fun c => resN m c, ?_, ?_⟩
  · refine (θ_run Cert.Kernel4Ideal.defs _ _).mono (fun r h c => ?_) (Cert.Kernel4Ideal.Value.run_blocks m ρ)
    obtain ⟨h2, h3, hk⟩ := h c
    exact ⟨h2.trans (finalH m c), h3.trans (finalN m c), hk⟩
  · refine (θ_run Cert.Reference4Ideal.defs _ _).mono (fun r h c => ⟨(h c).1.trans ?_, (h c).2.1.trans ?_, (h c).2.2⟩) (Cert.Reference4Ideal.Value.run m' ρ')
    · obtain ⟨h0, h1, h2, h3⟩ := hargs c
      rw [h0, h1, h2]
      funext i
      obtain ⟨r, j, rfl⟩ : ∃ (r : Fin 8192) (j : Fin 2048), i = ix2 r j := ⟨i 0, i 1, (ix2_eta i).symm⟩
      pointwise
      rfl
    · obtain ⟨h0, h1, h2, h3⟩ := hargs c
      rw [h0, h1, h2, h3]
      funext i
      obtain ⟨r, j, rfl⟩ : ∃ (r : Fin 8192) (j : Fin 2048), i = ix2 r j := ⟨i 0, i 1, (ix2_eta i).symm⟩
      pointwise
      rfl

/-- The kernel as printed runs to the end and leaves its arguments unchanged. -/
theorem frame_kernel : Cert.quiescent_Kernel4 := fun m ρ _ => Cert.Kernel4.Gen.frame m ρ

/-- So does its idealization. -/
theorem frame_ideal : Cert.quiescent_Kernel4Ideal := fun m ρ _ => Cert.Kernel4Ideal.Gen.frame m ρ

/-- So does the reference. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- No operation is rewritten. -/
theorem preserves : Cert.preserves_Kernel4_Kernel4Ideal := trivial

end Cert.OutProj

end
-- ==== Proof.InSsm.lean ====
/-
The input projection's state-space columns: the kernel and the reference leave the same product.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pointwise
public import Idealize.ShloMosaic.Lib.StableHlo.ReadAt
public import Idealize.ShloMosaic.Adequacy
public import Idealize.ShloMosaic.Init

@[expose] public section

set_option maxRecDepth 16384
set_option maxHeartbeats 2000000

noncomputable section

namespace Cert.InSsm

open Idealize.ShloMosaic Cert.Kernel5Ideal Cert.Kernel5Ideal.Gen Cert.Kernel5Ideal.Value
open Idealize.ShloMosaic.TcCoe Idealize.SL.Sem

/-- The column of the weights that a column of the result takes: 64 columns lie between the first 10240 and the rest. -/
def src (j : Fin 14336) : Fin 19568 := ⟨if j.val < 10240 then 5168 + j.val else 5232 + j.val, by split <;> omega⟩

/-- The result array over the argument arrays. -/
def result (a0 : FVec Ideal S8192x2048 .f32) (a1 : FVec Ideal S2048x19568 .f32) : FVec Ideal S8192x14336 .bf16 :=
  fun i => ∑ k : Fin 2048, a0 (ix2 (i 0) k) * a1 (ix2 k (src (i 1)))

theorem pay (x : FVec Ideal S2048x2048 .bf16) (y : FVec Ideal S1024x2048 .f32) (r : Fin 2048) (c : Fin 1024) :
    k0_pay1 x y (ix2 r c) = ∑ k : Fin 2048, x (ix2 r k) * y (ix2 c k) := by
  unfold k0_pay1
  pointwise

theorem out (x : FVec Ideal S2048x2048 .bf16) (y : FVec Ideal S1024x2048 .f32) : out0_2 (F := Ideal) x y = k0_pay1 (F := Ideal) x y := by
  have hz : (![0, 0] : Fin 2 → Nat) = fun _ => 0 := funext fun a => by fin_cases a <;> rfl
  unfold out0_2
  rw [View.canon_unit_zero hz, View.ld_unit_zero hz, View.ld_unit_zero hz]

theorem idx0 : ∀ t : Fin cfg0.N, win0_0.index t (0 : Fin 2) = (grid0.coords t 0).val ∧ win0_0.index t (1 : Fin 2) = 0 :=
  (by decide +kernel : ∀ t : Fin grid0.N, _)
theorem idx1 : ∀ t : Fin cfg0.N, win0_1.index t (0 : Fin 2) = (if 1024 * (grid0.coords t 1).val < 10240 then 5168 + 1024 * (grid0.coords t 1).val else 5232 + 1024 * (grid0.coords t 1).val)
    ∧ win0_1.index t (1 : Fin 2) = 0 :=
  (by decide +kernel : ∀ t : Fin grid0.N, _)
theorem idx2 : ∀ t : Fin cfg0.N, win0_2.index t (0 : Fin 2) = (grid0.coords t 0).val ∧ win0_2.index t (1 : Fin 2) = (grid0.coords t 1).val :=
  (by decide +kernel : ∀ t : Fin grid0.N, _)

theorem coord0 (t : Fin cfg0.N) : (grid0.coords t 0).val < 4 := (grid0.coords t 0).isLt
theorem coord1 (t : Fin cfg0.N) : (grid0.coords t 1).val < 14 := (grid0.coords t 1).isLt

/-- The grid point of a row block and a column block. -/
theorem point : ∀ (g : Fin 4) (n : Fin 14), ∃ t : Fin cfg0.N, (grid0.coords t 0).val = g.val ∧ (grid0.coords t 1).val = n.val :=
  (by decide +kernel : ∀ (g : Fin 4) (n : Fin 14), ∃ t : Fin grid0.N, (grid0.coords t 0).val = g.val ∧ (grid0.coords t 1).val = n.val)

/-- The array's row and column of a place in a point's block. -/
def row (t : Fin cfg0.N) (r : Fin 2048) : Fin 8192 := ⟨2048 * (grid0.coords t 0).val + r.val, by have := coord0 t; omega⟩
def col (t : Fin cfg0.N) (j : Fin 1024) : Fin 14336 := ⟨1024 * (grid0.coords t 1).val + j.val, by have := coord1 t; omega⟩

theorem emb0 (t : Fin cfg0.N) (r k : Fin 2048) :
    ((cfg0.win 0).blk t).view.emb (ix2 r k : S2048x2048.Idx) = (ix2 (row t r) k : S8192x2048.Idx) := by
  obtain ⟨e0, e1⟩ := idx0 t
  funext a; apply Fin.ext
  match a with
  | ⟨0, _⟩ => show win0_0.index t (0 : Fin 2) * 2048 + 1 * r.val = 2048 * (grid0.coords t 0).val + r.val; rw [e0]; omega
  | ⟨1, _⟩ => show win0_0.index t (1 : Fin 2) * 2048 + 1 * k.val = k.val; rw [e1]; omega

theorem emb1 (t : Fin cfg0.N) (j : Fin 1024) (k : Fin 2048) :
    ((cfg0.win 1).blk t).view.emb (ix2 j k : S1024x2048.Idx) = (ix2 (src (col t j)) k : S19568x2048.Idx) := by
  obtain ⟨e0, e1⟩ := idx1 t
  funext a; apply Fin.ext
  match a with
  | ⟨0, _⟩ =>
    show win0_1.index t (0 : Fin 2) + 1 * j.val = if 1024 * (grid0.coords t 1).val + j.val < 10240 then 5168 + (1024 * (grid0.coords t 1).val + j.val) else 5232 + (1024 * (grid0.coords t 1).val + j.val)
    rw [e0]; split <;> split <;> omega
  | ⟨1, _⟩ => show win0_1.index t (1 : Fin 2) + 1 * k.val = k.val; rw [e1]; omega

theorem emb2 (t : Fin cfg0.N) (r : Fin 2048) (j : Fin 1024) :
    ((cfg0.win 2).blk t).view.emb (ix2 r j : S2048x1024.Idx) = (ix2 (row t r) (col t j) : S8192x14336.Idx) := by
  obtain ⟨e0, e1⟩ := idx2 t
  funext a; apply Fin.ext
  match a with
  | ⟨0, _⟩ => show win0_2.index t (0 : Fin 2) * 2048 + 1 * r.val = 2048 * (grid0.coords t 0).val + r.val; rw [e0]; omega
  | ⟨1, _⟩ => show win0_2.index t (1 : Fin 2) * 1024 + 1 * j.val = 1024 * (grid0.coords t 1).val + j.val; rw [e1]; omega

variable (m : (ℓ : Loc nD τ sig) → Buf (Elt Ideal) ℓ) (c : Dev nD)

theorem host_x (r : Fin 8192) (k : Fin 2048) : (V m c main_v0 : FVec Ideal S8192x2048 .bf16) (ix2 r k)
    = (m ((c : Thread nD τ).loc main_arg0) : FVec Ideal S8192x2048 .f32) (ix2 r k) := by
  unfold V
  after_reads_at

theorem host_w (j : Fin 19568) (k : Fin 2048) : (V m c main_v1 : FVec Ideal S19568x2048 .f32) (ix2 j k)
    = (m ((c : Thread nD τ).loc main_arg1) : FVec Ideal S2048x19568 .f32) (ix2 k j) := by
  unfold V
  after_reads_at

/-- The result array over the memory's arguments. -/
def res : FVec Ideal S8192x14336 .bf16 := result (m ((c : Thread nD τ).loc main_arg0)) (m ((c : Thread nD τ).loc main_arg1))

/-- What a grid point writes back is its block of the result. -/
theorem flushed (t : Fin cfg0.N) : (dats m 0 c).flushed 2 t = ((cfg0.win 2).blk t).view.read (Elt Ideal) (res m c) := by
  rw [flushed2, out]
  funext i
  obtain ⟨r, j, rfl⟩ : ∃ (r : Fin 2048) (j : Fin 1024), i = (ix2 r j : S2048x1024.Idx) := ⟨i 0, i 1, (ix2_eta i).symm⟩
  refine (pay _ _ r j).trans ?_
  show _ = res m c (((cfg0.win 2).blk t).view.emb (ix2 r j : S2048x1024.Idx))
  rw [emb2]
  unfold res result
  refine Finset.sum_congr rfl fun k _ => congrArg₂ (fun a b : EReal => a * b) ?_ ?_
  · show V m c main_v0 (((cfg0.win 0).blk t).view.emb (ix2 r k : S2048x2048.Idx)) = _
    rw [emb0]
    exact host_x m c (row t r) k
  · show V m c main_v1 (((cfg0.win 1).blk t).view.emb (ix2 j k : S1024x2048.Idx)) = _
    rw [emb1]
    exact host_w m c (src (col t j)) k

/-- Every index of the result lies in some grid point's block. -/
theorem covered (i : S8192x14336.Idx) : ∃ t : Fin cfg0.N, (cfg0.win 2).flush t = true ∧ i ∈ ((cfg0.win 2).blk t).view.set := by
  have h0 : (i 0).val < 8192 := (i 0).isLt
  have h1 : (i 1).val < 14336 := (i 1).isLt
  obtain ⟨t, e0, e1⟩ := point ⟨(i 0).val / 2048, by omega⟩ ⟨(i 1).val / 1024, by omega⟩
  refine ⟨t, flush0_2 t, ?_⟩
  have h := ((cfg0.win 2).blk t).view.emb_mem_set (ix2 ⟨(i 0).val % 2048, by omega⟩ ⟨(i 1).val % 1024, by omega⟩ : S2048x1024.Idx)
  rw [emb2] at h
  have e : i = ix2 (row t ⟨(i 0).val % 2048, by omega⟩) (col t ⟨(i 1).val % 1024, by omega⟩) := by
    funext a
    match a with
    | ⟨0, _⟩ => exact Fin.ext (by show (i 0).val = 2048 * (grid0.coords t 0).val + (i 0).val % 2048; rw [e0]; show _ = 2048 * ((i 0).val / 2048) + _; omega)
    | ⟨1, _⟩ => exact Fin.ext (by show (i 1).val = 1024 * (grid0.coords t 1).val + (i 1).val % 1024; rw [e1]; show _ = 1024 * ((i 1).val / 1024) + _; omega)
  rw [e]
  exact h

/-- The result array after the run. -/
theorem final : (dats m 0 c).arrAt 2 cfg0.N = res m c :=
  (dats m 0 c).arrAt_eq_of_cover 2 (res m c) (fun t _ => flushed m c t) covered

/-- The reference's columns, joined from three slices of the whole product. -/
theorem reference (a0 : FVec Ideal Cert.Reference5Ideal.S8192x2048 .f32) (a1 : FVec Ideal Cert.Reference5Ideal.S2048x19568 .f32) :
    truncf .bf16 (concatenate Cert.Reference5Ideal.S8192x14336 1
      [⟨Cert.Reference5Ideal.S8192x4096, extractStridedSlice Cert.Reference5Ideal.S8192x4096 ![0, 5168] (Host.dotGeneral Cert.Reference5Ideal.dot_S8192x2048_S2048x19568_S8192x19568_1_0_0_1_n_n none a0 a1) Cert.Reference5Ideal.Gen.slices_S8192x19568_S8192x4096_0_5168⟩,
       ⟨Cert.Reference5Ideal.S8192x6144, extractStridedSlice Cert.Reference5Ideal.S8192x6144 ![0, 9264] (Host.dotGeneral Cert.Reference5Ideal.dot_S8192x2048_S2048x19568_S8192x19568_1_0_0_1_n_n none a0 a1) Cert.Reference5Ideal.Gen.slices_S8192x19568_S8192x6144_0_9264⟩,
       ⟨Cert.Reference5Ideal.S8192x4096, extractStridedSlice Cert.Reference5Ideal.S8192x4096 ![0, 15472] (Host.dotGeneral Cert.Reference5Ideal.dot_S8192x2048_S2048x19568_S8192x19568_1_0_0_1_n_n none a0 a1) Cert.Reference5Ideal.Gen.slices_S8192x19568_S8192x4096_0_15472⟩]
      Cert.Reference5Ideal.Gen.concatenates_S8192x4096_S8192x6144_S8192x4096_S8192x14336_d1) bitsLt_bf16_f32 = result a0 a1 := by
  funext i
  obtain ⟨r, j, rfl⟩ : ∃ (r : Fin 8192) (j : Fin 14336), i = ix2 r j := ⟨i 0, i 1, (ix2_eta i).symm⟩
  pointwise
  by_cases h0 : j.val < 4096
  · rw [dif_pos h0]
    pointwise
    refine Finset.sum_congr rfl fun k _ => congrArg (fun z => _ * a1 (ix2 k z)) (Fin.ext ?_)
    show 5168 + j.val = if j.val < 10240 then 5168 + j.val else 5232 + j.val
    rw [if_pos (by omega)]
  · rw [dif_neg h0]
    by_cases h1 : j.val - 4096 < 6144
    · rw [dif_pos h1]
      pointwise
      refine Finset.sum_congr rfl fun k _ => congrArg (fun z => _ * a1 (ix2 k z)) (Fin.ext ?_)
      show 9264 + (j.val - 4096) = if j.val < 10240 then 5168 + j.val else 5232 + j.val
      rw [if_pos (by omega)]
      omega
    · rw [dif_neg h1]
      pointwise
      refine Finset.sum_congr rfl fun k _ => congrArg (fun z => _ * a1 (ix2 k z)) (Fin.ext ?_)
      show 15472 + (j.val - 4096 - 6144) = if j.val < 10240 then 5168 + j.val else 5232 + j.val
      rw [if_neg (by omega)]
      omega

theorem columns : Cert.algebraic_Kernel5Ideal_Reference5Ideal (hKernel5Ideal := Cert.Kernel5Ideal.Gen.facts) (hReference5Ideal := Cert.Reference5Ideal.Gen.facts) := by
  intro m ρ m' ρ' _ hargs
  refine ⟨fun c => res m c, ?_, ?_⟩
  · refine (θ_run Cert.Kernel5Ideal.defs _ _).mono (fun r h c => ?_) (Cert.Kernel5Ideal.Value.run_blocks m ρ)
    obtain ⟨h2, hk⟩ := h c
    exact ⟨h2.trans (final m c), hk⟩
  · refine (θ_run Cert.Reference5Ideal.defs _ _).mono (fun r h c => ⟨(h c).1.trans ?_, (h c).2⟩) (Cert.Reference5Ideal.Value.run m' ρ')
    obtain ⟨h0, h1⟩ := hargs c
    refine (reference _ _).trans ?_
    rw [h0, h1]
    rfl

/-- The kernel as printed runs to the end and leaves its arguments unchanged. -/
theorem frame_kernel : Cert.quiescent_Kernel5 := fun m ρ _ => Cert.Kernel5.Gen.frame m ρ

/-- So does its idealization. -/
theorem frame_ideal : Cert.quiescent_Kernel5Ideal := fun m ρ _ => Cert.Kernel5Ideal.Gen.frame m ρ

/-- So does the reference. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- No operation is rewritten. -/
theorem preserves : Cert.preserves_Kernel5_Kernel5Ideal := trivial

end Cert.InSsm

end
-- ==== Proof.InAttn.Base.lean ====
/- The first norm and the attention's columns of the input projection: the conditions of the body's branches by the point's
   column of blocks, and the staging buffers. -/
module

public import proofs.«01_k».proof.Proof.Gen.Kernel6Ideal.Frame
public import proofs.«01_k».proof.Proof.Gen.Kernel6Ideal.Skeleton
public import Idealize.ShloMosaic.Lib.Claim
public import Idealize.ShloMosaic.Lib.Pipeline.TableIdle

@[expose] public section

set_option maxRecDepth 16384

noncomputable section

namespace Cert.InAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions, by the point -/

abbrev cond0_0 (i : grid0.Coords) : Prop := k0_cond1 i = 1#1
theorem hcond0_0 : ∀ t : Fin cfg0.N, cond0_0 (grid0.coords t) ↔ t.val % 10 = 0 :=
  (fun t => by
    have ht : t.val < 80 := Nat.lt_of_lt_of_eq t.isLt N_0
    have e0 : (grid0.coords t 0).val = t.val / 10 % 8 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 10 = 0)

abbrev cond0_1 (i : grid0.Coords) : Prop := k0_cond2 i = 1#1
theorem hcond0_1 : ∀ t : Fin cfg0.N, cond0_1 (grid0.coords t) ↔ (t.val % 10 = 4 ∨ t.val % 10 = 5 ∨ t.val % 10 = 7 ∨ t.val % 10 = 9) :=
  (by decide +kernel : ∀ t : Fin grid0.N, cond0_1 (grid0.coords t) ↔ (t.val % 10 = 4 ∨ t.val % 10 = 5 ∨ t.val % 10 = 7 ∨ t.val % 10 = 9))

abbrev cond0_2 (i : grid0.Coords) : Prop := k0_cond3 i = 1#1
theorem hcond0_2 : ∀ t : Fin cfg0.N, cond0_2 (grid0.coords t) ↔ ¬(t.val % 10 = 4 ∨ t.val % 10 = 5 ∨ t.val % 10 = 7 ∨ t.val % 10 = 9) :=
  (by decide +kernel : ∀ t : Fin grid0.N, cond0_2 (grid0.coords t) ↔ ¬(t.val % 10 = 4 ∨ t.val % 10 = 5 ∨ t.val % 10 = 7 ∨ t.val % 10 = 9))

abbrev cond0_3 (i : grid0.Coords) : Prop := k0_cond4 i = 1#1
theorem hcond0_3 : ∀ t : Fin cfg0.N, cond0_3 (grid0.coords t) ↔ t.val % 10 = 4 :=
  (fun t => by
    have ht : t.val < 80 := Nat.lt_of_lt_of_eq t.isLt N_0
    have e0 : (grid0.coords t 0).val = t.val / 10 % 8 := Pipeline.Grid.coords_val t 0 (by decide) rfl
    have e1 : (grid0.coords t 1).val = t.val / 1 % 10 := Pipeline.Grid.coords_val t 1 (by decide) rfl
    simp only [cond0_3, k0_cond4, e0, e1]
    word_cmp
   : ∀ t : Fin grid0.N, cond0_3 (grid0.coords t) ↔ t.val % 10 = 4)

abbrev cond0_4 (i : grid0.Coords) : Prop := k0_cond5 i = 1#1
theorem hcond0_4 : ∀ t : Fin cfg0.N, cond0_4 (grid0.coords t) ↔ t.val % 10 = 5 :=
  (fun t => by
    have ht : t.val < 80 := Nat.lt_of_lt_of_eq t.isLt N_0
    have e0 : (grid0.coords t 0).val = t.val / 10 % 8 := Pipeline.Grid.coords_val t 0 (by decide) rfl
    have e1 : (grid0.coords t 1).val = t.val / 1 % 10 := Pipeline.Grid.coords_val t 1 (by decide) rfl
    simp only [cond0_4, k0_cond5, e0, e1]
    word_cmp
   : ∀ t : Fin grid0.N, cond0_4 (grid0.coords t) ↔ t.val % 10 = 5)

/-! ## Where the windows are idle, and where their buffers hold nothing yet -/

theorem idle6 : ∀ t : Fin cfg0.N, cfg0.idle 6 (grid0.coords t) = !decide (t.val % 10 = 4) := by decide +kernel
theorem idle7 : ∀ t : Fin cfg0.N, cfg0.idle 7 (grid0.coords t) = !decide (t.val % 10 = 5) := by decide +kernel
theorem idle8 : ∀ t : Fin cfg0.N, cfg0.idle 8 (grid0.coords t) = !decide (t.val % 10 = 0) := by decide +kernel
theorem idle5 : ∀ t : Fin cfg0.N, cfg0.idle 5 (grid0.coords t) = false := by decide +kernel

def freshTab6 : ℕ → Bool
  | 0 => true
  | n + 1 => decide ((n + 1) % 10 ≤ 4)
theorem freshTab6_step : ∀ t : Fin cfg0.N,
    freshTab6 (t.val + 1) = ((cfg0.win 6).flush t || (cfg0.idle 6 (cfg0.grid.coords t) && freshTab6 t.val)) := by decide +kernel
theorem fresh6 (t : Fin cfg0.N) : cfg0.fresh 6 t.val = freshTab6 t.val :=
  Pipeline.Cfg.fresh_tab cfg0 6 freshTab6 rfl freshTab6_step t.val (Nat.le_of_lt t.isLt)
def freshTab7 : ℕ → Bool
  | 0 => true
  | n + 1 => decide ((n + 1) % 10 ≤ 5)
theorem freshTab7_step : ∀ t : Fin cfg0.N,
    freshTab7 (t.val + 1) = ((cfg0.win 7).flush t || (cfg0.idle 7 (cfg0.grid.coords t) && freshTab7 t.val)) := by decide +kernel
theorem fresh7 (t : Fin cfg0.N) : cfg0.fresh 7 t.val = freshTab7 t.val :=
  Pipeline.Cfg.fresh_tab cfg0 7 freshTab7 rfl freshTab7_step t.val (Nat.le_of_lt t.isLt)
def freshTab8 : ℕ → Bool
  | 0 => true
  | n + 1 => decide ((n + 1) % 10 ≤ 0)
theorem freshTab8_step : ∀ t : Fin cfg0.N,
    freshTab8 (t.val + 1) = ((cfg0.win 8).flush t || (cfg0.idle 8 (cfg0.grid.coords t) && freshTab8 t.val)) := by decide +kernel
theorem fresh8 (t : Fin cfg0.N) : cfg0.fresh 8 t.val = freshTab8 t.val :=
  Pipeline.Cfg.fresh_tab cfg0 8 freshTab8 rfl freshTab8_step t.val (Nat.le_of_lt t.isLt)

/-! ## The staging buffers -/

abbrev VO0_5 : View sig .tc .vmem S1024x512 .bf16 := (Memref.whole cc0_stg5_0 : Memref sig .tc .vmem S1024x512 .bf16).view
abbrev VO0_6 : View sig .tc .vmem S4x64x2048 .bf16 := (Memref.whole cc0_stg6_0 : Memref sig .tc .vmem S4x64x2048 .bf16).view
abbrev VO0_7 : View sig .tc .vmem S4x64x2048 .bf16 := (Memref.whole cc0_stg7_0 : Memref sig .tc .vmem S4x64x2048 .bf16).view
abbrev VO0_8 : View sig .tc .vmem S1024x2048 .bf16 := (Memref.whole cc0_stg8_0 : Memref sig .tc .vmem S1024x2048 .bf16).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x64x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x64x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2048 .bf16 := win0_8.stage (cfg0.slots t 8)
abbrev hs0_8 (t : Fin cfg0.N) : (ms0_8 t).IsWhole := hstage0_8 ((cfg0.slots t 8).cast nbuf0_8)
abbrev scM0_0 : Memref sig .tc .vmem S4x1024x128 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.InAttn

end
-- ==== Proof.InAttn.RunA.lean ====
/- The body of the call, run in the first column of blocks, where the norm is stored. -/
module

public import proofs.«01_k».proof.Proof.InAttn.Base

@[expose] public section

set_option maxRecDepth 16384

noncomputable section

namespace Cert.InAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S1024x2048 .f32) (harg2 : arg2.IsWhole)
  (arg3 : Memref sig .tc .vmem S1x2048 .f32) (harg3 : arg3.IsWhole)
  (arg4 : Memref sig .tc .vmem S512x2048 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x512 .bf16) (harg7 : arg7.IsWhole)
  (arg8 : Memref sig .tc .vmem S4x64x2048 .bf16) (harg8 : arg8.IsWhole)
  (arg9 : Memref sig .tc .vmem S4x64x2048 .bf16) (harg9 : arg9.IsWhole)
  (arg10 : Memref sig .tc .vmem S1024x2048 .bf16) (harg10 : arg10.IsWhole)
  (arg11 : Memref sig .tc .vmem S4x1024x128 .f32) (harg11 : arg11.IsWhole)

set_option maxHeartbeats 1000000 in
/-- The body run in the first column of blocks, where the norm is stored, with the pieces that it stores. -/
def runA  (hc0 : cond0_0 i) (hc1 : ¬cond0_1 i) (hc2 : cond0_2 i) (hc3 : ¬cond0_3 i) (hc4 : ¬cond0_4 i)
    (x0 : Vec F S1024x2048 .f32) (x1 : Vec F S1x2048 .f32) (x2 : Vec F S512x2048 .f32) (x3 : Vec F S1024x128 .f32) (x4 : Vec F S1024x128 .f32) :
    Σ' (L5 : List (View.Piece (Elt F) S1024x512 .bf16)), Σ' (L6 : List (View.Piece (Elt F) S4x64x2048 .bf16)), Σ' (L7 : List (View.Piece (Elt F) S4x64x2048 .bf16)), Σ' (L8 : List (View.Piece (Elt F) S1024x2048 .bf16)), { LT0 : List (View.Piece (Elt F) S4x1024x128 .f32) //
      ∀ (xi6 : Vec F S4x64x2048 .bf16) (xi7 : Vec F S4x64x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f L8) ∗ (∃ d, owns (c : Thread nD τ) arg11 fullShare d)) -∗ K ⟨⟩))
          ⊢ wp frame (wpE (defs₀ (F := F)) Variants.none c none) E (cc0_inproj_attn i arg2 harg2 arg3 harg3 arg4 harg4 arg5 harg5 arg6 harg6 arg7 harg7 arg8 harg8 arg9 harg9 arg10 harg10 arg11 harg11) K } := by
  refine ⟨?_, [], [], ?_, [], fun xi6 xi7 E K => ?run⟩
  case run =>
    simp only [cc0_inproj_attn_eq_skeleton]; unfold cc0_inproj_attn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _, _; isplitr; swap; · iexact HS0
    ipureintro; rfl

end Cert.InAttn

end
-- ==== Proof.InAttn.RunB.lean ====
/- The body of the call, run in a column of blocks that is rotated. -/
module

public import proofs.«01_k».proof.Proof.InAttn.RunA

@[expose] public section

set_option maxRecDepth 16384

noncomputable section

namespace Cert.InAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S1024x2048 .f32) (harg2 : arg2.IsWhole)
  (arg3 : Memref sig .tc .vmem S1x2048 .f32) (harg3 : arg3.IsWhole)
  (arg4 : Memref sig .tc .vmem S512x2048 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x512 .bf16) (harg7 : arg7.IsWhole)
  (arg8 : Memref sig .tc .vmem S4x64x2048 .bf16) (harg8 : arg8.IsWhole)
  (arg9 : Memref sig .tc .vmem S4x64x2048 .bf16) (harg9 : arg9.IsWhole)
  (arg10 : Memref sig .tc .vmem S1024x2048 .bf16) (harg10 : arg10.IsWhole)
  (arg11 : Memref sig .tc .vmem S4x1024x128 .f32) (harg11 : arg11.IsWhole)

set_option maxHeartbeats 1000000 in
/-- The body run in a column of blocks that is rotated, with the pieces that it stores. -/
def runB  (hc0 : ¬cond0_0 i) (hc1 : ¬cond0_1 i) (hc2 : cond0_2 i) (hc3 : ¬cond0_3 i) (hc4 : ¬cond0_4 i)
    (x0 : Vec F S1024x2048 .f32) (x1 : Vec F S1x2048 .f32) (x2 : Vec F S512x2048 .f32) (x3 : Vec F S1024x128 .f32) (x4 : Vec F S1024x128 .f32) (xo8 : Vec F S1024x2048 .bf16) :
    { L5 : List (View.Piece (Elt F) S1024x512 .bf16) //
      ∀ (xi6 : Vec F S4x64x2048 .bf16) (xi7 : Vec F S4x64x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xo8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ owns (c : Thread nD τ) arg10 fullShare xo8 ∗ (∃ d, owns (c : Thread nD τ) arg11 fullShare d)) -∗ K ⟨⟩))
          ⊢ wp frame (wpE (defs₀ (F := F)) Variants.none c none) E (cc0_inproj_attn i arg2 harg2 arg3 harg3 arg4 harg4 arg5 harg5 arg6 harg6 arg7 harg7 arg8 harg8 arg9 harg9 arg10 harg10 arg11 harg11) K } := by
  refine ⟨?_, fun xi6 xi7 E K => ?run⟩
  case run =>
    simp only [cc0_inproj_attn_eq_skeleton]; unfold cc0_inproj_attn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _, _; isplitr; swap; · iexact HS0
    ipureintro; rfl

end Cert.InAttn

end
-- ==== Proof.InAttn.RunC.lean ====
/- The body of the call, run in the column of blocks of the compressed branch's keys. -/
module

public import proofs.«01_k».proof.Proof.InAttn.RunB

@[expose] public section

set_option maxRecDepth 16384

noncomputable section

namespace Cert.InAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S1024x2048 .f32) (harg2 : arg2.IsWhole)
  (arg3 : Memref sig .tc .vmem S1x2048 .f32) (harg3 : arg3.IsWhole)
  (arg4 : Memref sig .tc .vmem S512x2048 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x512 .bf16) (harg7 : arg7.IsWhole)
  (arg8 : Memref sig .tc .vmem S4x64x2048 .bf16) (harg8 : arg8.IsWhole)
  (arg9 : Memref sig .tc .vmem S4x64x2048 .bf16) (harg9 : arg9.IsWhole)
  (arg10 : Memref sig .tc .vmem S1024x2048 .bf16) (harg10 : arg10.IsWhole)
  (arg11 : Memref sig .tc .vmem S4x1024x128 .f32) (harg11 : arg11.IsWhole)

set_option maxHeartbeats 1336000 in
/-- The body run in the column of blocks of the compressed branch's keys, with the pieces that it stores. -/
def runC  (hc0 : ¬cond0_0 i) (hc1 : cond0_1 i) (hc2 : ¬cond0_2 i) (hc3 : cond0_3 i) (hc4 : ¬cond0_4 i)
    (x0 : Vec F S1024x2048 .f32) (x1 : Vec F S1x2048 .f32) (x2 : Vec F S512x2048 .f32) (x3 : Vec F S1024x128 .f32) (x4 : Vec F S1024x128 .f32) (xo8 : Vec F S1024x2048 .bf16) :
    Σ' (L5 : List (View.Piece (Elt F) S1024x512 .bf16)), Σ' (L6 : List (View.Piece (Elt F) S4x64x2048 .bf16)), Σ' (L7 : List (View.Piece (Elt F) S4x64x2048 .bf16)), Σ' (L8 : List (View.Piece (Elt F) S1024x2048 .bf16)), { LT0 : List (View.Piece (Elt F) S4x1024x128 .f32) //
      ∀ (xi7 : Vec F S4x64x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xo8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xo8 ∗ (∃ f, arg11.view.loc (c : Thread nD τ) ↦[arg11.view.set]{fullShare} arg11.view.writes (Elt F) f LT0)) -∗ K ⟨⟩))
          ⊢ wp frame (wpE (defs₀ (F := F)) Variants.none c none) E (cc0_inproj_attn i arg2 harg2 arg3 harg3 arg4 harg4 arg5 harg5 arg6 harg6 arg7 harg7 arg8 harg8 arg9 harg9 arg10 harg10 arg11 harg11) K } := by
  refine ⟨?_, ?_, [], [], ?_, fun xi7 E K => ?run⟩
  case run =>
    simp only [cc0_inproj_attn_eq_skeleton]; unfold cc0_inproj_attn_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hf8
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    iexists _; iexact HS0

end Cert.InAttn

end
-- ==== Proof.InAttn.RunD.lean ====
/- The body of the call, run in the column of blocks of the compressed branch's values. -/
module

public import proofs.«01_k».proof.Proof.InAttn.RunC

@[expose] public section

set_option maxRecDepth 16384

noncomputable section

namespace Cert.InAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S1024x2048 .f32) (harg2 : arg2.IsWhole)
  (arg3 : Memref sig .tc .vmem S1x2048 .f32) (harg3 : arg3.IsWhole)
  (arg4 : Memref sig .tc .vmem S512x2048 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x512 .bf16) (harg7 : arg7.IsWhole)
  (arg8 : Memref sig .tc .vmem S4x64x2048 .bf16) (harg8 : arg8.IsWhole)
  (arg9 : Memref sig .tc .vmem S4x64x2048 .bf16) (harg9 : arg9.IsWhole)
  (arg10 : Memref sig .tc .vmem S1024x2048 .bf16) (harg10 : arg10.IsWhole)
  (arg11 : Memref sig .tc .vmem S4x1024x128 .f32) (harg11 : arg11.IsWhole)

set_option maxHeartbeats 1336000 in
/-- The body run in the column of blocks of the compressed branch's values, with the pieces that it stores. -/
def runD  (hc0 : ¬cond0_0 i) (hc1 : cond0_1 i) (hc2 : ¬cond0_2 i) (hc3 : ¬cond0_3 i) (hc4 : cond0_4 i)
    (x0 : Vec F S1024x2048 .f32) (x1 : Vec F S1x2048 .f32) (x2 : Vec F S512x2048 .f32) (x3 : Vec F S1024x128 .f32) (x4 : Vec F S1024x128 .f32) (xo8 : Vec F S1024x2048 .bf16) :
    Σ' (L5 : List (View.Piece (Elt F) S1024x512 .bf16)), Σ' (L6 : List (View.Piece (Elt F) S4x64x2048 .bf16)), Σ' (L7 : List (View.Piece (Elt F) S4x64x2048 .bf16)), Σ' (L8 : List (View.Piece (Elt F) S1024x2048 .bf16)), { LT0 : List (View.Piece (Elt F) S4x1024x128 .f32) //
      ∀ (xi6 : Vec F S4x64x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ owns (c : Thread nD τ) arg10 fullShare xo8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f L7) ∗ owns (c : Thread nD τ) arg10 fullShare xo8 ∗ (∃ f, arg11.view.loc (c : Thread nD τ) ↦[arg11.view.set]{fullShare} arg11.view.writes (Elt F) f LT0)) -∗ K ⟨⟩))
          ⊢ wp frame (wpE (defs₀ (F := F)) Variants.none c none) E (cc0_inproj_attn i arg2 harg2 arg3 harg3 arg4 harg4 arg5 harg5 arg6 harg6 arg7 harg7 arg8 harg8 arg9 harg9 arg10 harg10 arg11 harg11) K } := by
  refine ⟨?_, [], ?_, [], ?_, fun xi6 E K => ?run⟩
  case run =>
    simp only [cc0_inproj_attn_eq_skeleton]; unfold cc0_inproj_attn_skel
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hf8
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.InAttn

end
-- ==== Proof.InAttn.RunE.lean ====
/- The body of the call, run in the two columns of blocks of the values of the other branches. -/
module

public import proofs.«01_k».proof.Proof.InAttn.RunD

@[expose] public section

set_option maxRecDepth 16384

noncomputable section

namespace Cert.InAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S1024x2048 .f32) (harg2 : arg2.IsWhole)
  (arg3 : Memref sig .tc .vmem S1x2048 .f32) (harg3 : arg3.IsWhole)
  (arg4 : Memref sig .tc .vmem S512x2048 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x512 .bf16) (harg7 : arg7.IsWhole)
  (arg8 : Memref sig .tc .vmem S4x64x2048 .bf16) (harg8 : arg8.IsWhole)
  (arg9 : Memref sig .tc .vmem S4x64x2048 .bf16) (harg9 : arg9.IsWhole)
  (arg10 : Memref sig .tc .vmem S1024x2048 .bf16) (harg10 : arg10.IsWhole)
  (arg11 : Memref sig .tc .vmem S4x1024x128 .f32) (harg11 : arg11.IsWhole)

set_option maxHeartbeats 1000000 in
/-- The body run in the two columns of blocks of the values of the other branches, with the pieces that it stores. -/
def runE  (hc0 : ¬cond0_0 i) (hc1 : cond0_1 i) (hc2 : ¬cond0_2 i) (hc3 : ¬cond0_3 i) (hc4 : ¬cond0_4 i)
    (x0 : Vec F S1024x2048 .f32) (x1 : Vec F S1x2048 .f32) (x2 : Vec F S512x2048 .f32) (x3 : Vec F S1024x128 .f32) (x4 : Vec F S1024x128 .f32) (xo8 : Vec F S1024x2048 .bf16) :
    { L5 : List (View.Piece (Elt F) S1024x512 .bf16) //
      ∀ (xi6 : Vec F S4x64x2048 .bf16) (xi7 : Vec F S4x64x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xo8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ owns (c : Thread nD τ) arg10 fullShare xo8 ∗ (∃ d, owns (c : Thread nD τ) arg11 fullShare d)) -∗ K ⟨⟩))
          ⊢ wp frame (wpE (defs₀ (F := F)) Variants.none c none) E (cc0_inproj_attn i arg2 harg2 arg3 harg3 arg4 harg4 arg5 harg5 arg6 harg6 arg7 harg7 arg8 harg8 arg9 harg9 arg10 harg10 arg11 harg11) K } := by
  refine ⟨?_, fun xi6 xi7 E K => ?run⟩
  case run =>
    simp only [cc0_inproj_attn_eq_skeleton]; unfold cc0_inproj_attn_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _, _; isplitr; swap; · iexact HS0
    ipureintro; rfl

end Cert.InAttn

end
-- ==== Proof.InAttn.Frame.lean ====
/- The first norm and the attention's columns of the input projection: what the staging buffers hold after each point, the
   body's obligation, and the run of the whole call. The arrays of chunks and the normalized input are stored in one column of
   blocks of a row and carried to the last one, where they are written back. -/
module

public import proofs.«01_k».proof.Proof.InAttn.RunE

@[expose] public section

set_option maxRecDepth 16384

noncomputable section

namespace Cert.InAttn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The point in column `k` of the row of `t`. -/
def pt (t : Fin cfg0.N) (k : ℕ) (hk : k < 10) : Fin cfg0.N :=
  ⟨t.val / 10 * 10 + k, lt_of_lt_of_eq (by have := lt_of_lt_of_eq t.isLt (show cfg0.N = 80 from N_0); omega) (show cfg0.N = 80 from N_0).symm⟩

theorem pt_val (t : Fin cfg0.N) (k : ℕ) (hk : k < 10) : (pt t k hk).val = t.val / 10 * 10 + k := rfl

theorem pt_mod (t : Fin cfg0.N) (k : ℕ) (hk : k < 10) : (pt t k hk).val % 10 = k := by rw [pt_val]; omega

theorem pt_self (t : Fin cfg0.N) (k : ℕ) (hk : k < 10) (h : t.val % 10 = k) : pt t k hk = t := Fin.ext (by rw [pt_val]; omega)

theorem pt_prev (t : Fin cfg0.N) (k : ℕ) (hk : k < 10) (h : t.val % 10 ≠ 0) (h' : t.val - 1 < cfg0.N) : pt ⟨t.val - 1, h'⟩ k hk = pt t k hk :=
  Fin.ext (by simp only [pt_val]; omega)

/-! ## What the body leaves -/

abbrev RA (c : Dev nD) (t : Fin cfg0.N) (h : t.val % 10 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr (by omega)) (fun hh => absurd ((hcond0_1 t).mp hh) (by omega)) ((hcond0_2 t).mpr (by omega)) (fun hh => absurd ((hcond0_3 t).mp hh) (by omega)) (fun hh => absurd ((hcond0_4 t).mp hh) (by omega)) (iblk m c 0 t) (iblk m c 1 t) (X0_2 m c t) (iblk m c 3 t) (iblk m c 4 t)

/-- The normalized input's block of rows. -/
def uAt (c : Dev nD) (t : Fin cfg0.N) (h : t.val % 10 = 0) : Vec F S1024x2048 .bf16 :=
  VO0_8.read (Elt F) (VO0_8.writes (Elt F) VO0_8.junk (RA m c t h).2.2.2.1)

def u (c : Dev nD) (t : Fin cfg0.N) : Vec F S1024x2048 .bf16 := uAt m c (pt t 0 (by omega)) (pt_mod t 0 _)

theorem u_congr (c : Dev nD) {t s : Fin cfg0.N} (e : pt t 0 (by omega) = s) (h) : u m c t = uAt m c s h := by subst e; rfl

abbrev RB (c : Dev nD) (t : Fin cfg0.N) (h : t.val % 10 = 1 ∨ t.val % 10 = 2 ∨ t.val % 10 = 3 ∨ t.val % 10 = 6 ∨ t.val % 10 = 8) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun hh => absurd ((hcond0_0 t).mp hh) (by omega)) (fun hh => absurd ((hcond0_1 t).mp hh) (by omega)) ((hcond0_2 t).mpr (by omega)) (fun hh => absurd ((hcond0_3 t).mp hh) (by omega)) (fun hh => absurd ((hcond0_4 t).mp hh) (by omega)) (iblk m c 0 t) (iblk m c 1 t) (X0_2 m c t) (iblk m c 3 t) (iblk m c 4 t) (u m c t)

abbrev RC (c : Dev nD) (t : Fin cfg0.N) (h : t.val % 10 = 4) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun hh => absurd ((hcond0_0 t).mp hh) (by omega)) ((hcond0_1 t).mpr (by omega)) (fun hh => absurd ((hcond0_2 t).mp hh) (by omega)) ((hcond0_3 t).mpr (by omega)) (fun hh => absurd ((hcond0_4 t).mp hh) (by omega)) (iblk m c 0 t) (iblk m c 1 t) (X0_2 m c t) (iblk m c 3 t) (iblk m c 4 t) (u m c t)

abbrev RD (c : Dev nD) (t : Fin cfg0.N) (h : t.val % 10 = 5) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun hh => absurd ((hcond0_0 t).mp hh) (by omega)) ((hcond0_1 t).mpr (by omega)) (fun hh => absurd ((hcond0_2 t).mp hh) (by omega)) (fun hh => absurd ((hcond0_3 t).mp hh) (by omega)) ((hcond0_4 t).mpr (by omega)) (iblk m c 0 t) (iblk m c 1 t) (X0_2 m c t) (iblk m c 3 t) (iblk m c 4 t) (u m c t)

abbrev RE (c : Dev nD) (t : Fin cfg0.N) (h : t.val % 10 = 7 ∨ t.val % 10 = 9) :=
  runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun hh => absurd ((hcond0_0 t).mp hh) (by omega)) ((hcond0_1 t).mpr (by omega)) (fun hh => absurd ((hcond0_2 t).mp hh) (by omega)) (fun hh => absurd ((hcond0_3 t).mp hh) (by omega)) (fun hh => absurd ((hcond0_4 t).mp hh) (by omega)) (iblk m c 0 t) (iblk m c 1 t) (X0_2 m c t) (iblk m c 3 t) (iblk m c 4 t) (u m c t)

/-- The chunks of the compressed branch's keys, of the rows of `t`. -/
def kcAt (c : Dev nD) (t : Fin cfg0.N) (h : t.val % 10 = 4) : Vec F S4x64x2048 .bf16 :=
  VO0_6.read (Elt F) (VO0_6.writes (Elt F) VO0_6.junk (RC m c t h).2.1)

def kc (c : Dev nD) (t : Fin cfg0.N) : Vec F S4x64x2048 .bf16 := kcAt m c (pt t 4 (by omega)) (pt_mod t 4 _)

theorem kc_congr (c : Dev nD) {t s : Fin cfg0.N} (e : pt t 4 (by omega) = s) (h) : kc m c t = kcAt m c s h := by subst e; rfl

/-- The chunks of the compressed branch's values, of the rows of `t`. -/
def vcAt (c : Dev nD) (t : Fin cfg0.N) (h : t.val % 10 = 5) : Vec F S4x64x2048 .bf16 :=
  VO0_7.read (Elt F) (VO0_7.writes (Elt F) VO0_7.junk (RD m c t h).2.2.1)

def vc (c : Dev nD) (t : Fin cfg0.N) : Vec F S4x64x2048 .bf16 := vcAt m c (pt t 5 (by omega)) (pt_mod t 5 _)

theorem vc_congr (c : Dev nD) {t s : Fin cfg0.N} (e : pt t 5 (by omega) = s) (h) : vc m c t = vcAt m c s h := by subst e; rfl

theorem mod_cases (n : ℕ) : n % 10 = 0 ∨ (n % 10 = 1 ∨ n % 10 = 2 ∨ n % 10 = 3 ∨ n % 10 = 6 ∨ n % 10 = 8) ∨ n % 10 = 4 ∨ n % 10 = 5
    ∨ (n % 10 = 7 ∨ n % 10 = 9) := by omega

/-- The block of the projection that point `t` stores. -/
def o (c : Dev nD) (t : Fin cfg0.N) : Vec F S1024x512 .bf16 :=
  VO0_5.read (Elt F) (VO0_5.writes (Elt F) VO0_5.junk
    (if hA : t.val % 10 = 0 then (RA m c t hA).1
    else if hC : t.val % 10 = 4 then (RC m c t hC).1
    else if hD : t.val % 10 = 5 then (RD m c t hD).1
    else if hE : t.val % 10 = 7 ∨ t.val % 10 = 9 then (RE m c t hE).1
    else (RB m c t (by omega)).1))

theorem o_A (c : Dev nD) (t : Fin cfg0.N) (h : t.val % 10 = 0) :
    o m c t = VO0_5.read (Elt F) (VO0_5.writes (Elt F) VO0_5.junk (RA m c t h).1) := by
  unfold o; rw [dif_pos h]

theorem o_B (c : Dev nD) (t : Fin cfg0.N) (h : t.val % 10 = 1 ∨ t.val % 10 = 2 ∨ t.val % 10 = 3 ∨ t.val % 10 = 6 ∨ t.val % 10 = 8) :
    o m c t = VO0_5.read (Elt F) (VO0_5.writes (Elt F) VO0_5.junk (RB m c t h).1) := by
  unfold o; rw [dif_neg (by omega), dif_neg (by omega), dif_neg (by omega), dif_neg (by omega)]

theorem o_C (c : Dev nD) (t : Fin cfg0.N) (h : t.val % 10 = 4) :
    o m c t = VO0_5.read (Elt F) (VO0_5.writes (Elt F) VO0_5.junk (RC m c t h).1) := by
  unfold o; rw [dif_neg (by omega), dif_pos h]

theorem o_D (c : Dev nD) (t : Fin cfg0.N) (h : t.val % 10 = 5) :
    o m c t = VO0_5.read (Elt F) (VO0_5.writes (Elt F) VO0_5.junk (RD m c t h).1) := by
  unfold o; rw [dif_neg (by omega), dif_neg (by omega), dif_pos h]

theorem o_E (c : Dev nD) (t : Fin cfg0.N) (h : t.val % 10 = 7 ∨ t.val % 10 = 9) :
    o m c t = VO0_5.read (Elt F) (VO0_5.writes (Elt F) VO0_5.junk (RE m c t h).1) := by
  unfold o; rw [dif_neg (by omega), dif_neg (by omega), dif_neg (by omega), dif_pos h]

theorem cover5A (c : Dev nD) (t : Fin cfg0.N) (h : t.val % 10 = 0) (y : S1024x512.Idx) : ∃ pc ∈ (RA m c t h).1, y ∈ pc.1.set :=
  View.cover_of_tiledL (RA m c t h).1 S1024x128.size (by sl_kernel_rfl) y

theorem cover5B (c : Dev nD) (t : Fin cfg0.N) (h : t.val % 10 = 1 ∨ t.val % 10 = 2 ∨ t.val % 10 = 3 ∨ t.val % 10 = 6 ∨ t.val % 10 = 8) (y : S1024x512.Idx) : ∃ pc ∈ (RB m c t h).1, y ∈ pc.1.set :=
  View.cover_of_tiledL (RB m c t h).1 S1024x128.size (by sl_kernel_rfl) y

theorem cover5C (c : Dev nD) (t : Fin cfg0.N) (h : t.val % 10 = 4) (y : S1024x512.Idx) : ∃ pc ∈ (RC m c t h).1, y ∈ pc.1.set :=
  View.cover_of_tiledL (RC m c t h).1 S1024x512.size (by sl_kernel_rfl) y

theorem cover5D (c : Dev nD) (t : Fin cfg0.N) (h : t.val % 10 = 5) (y : S1024x512.Idx) : ∃ pc ∈ (RD m c t h).1, y ∈ pc.1.set :=
  View.cover_of_tiledL (RD m c t h).1 S1024x512.size (by sl_kernel_rfl) y

theorem cover5E (c : Dev nD) (t : Fin cfg0.N) (h : t.val % 10 = 7 ∨ t.val % 10 = 9) (y : S1024x512.Idx) : ∃ pc ∈ (RE m c t h).1, y ∈ pc.1.set :=
  View.cover_of_tiledL (RE m c t h).1 S1024x512.size (by sl_kernel_rfl) y

theorem cover8 (c : Dev nD) (t : Fin cfg0.N) (h : t.val % 10 = 0) (y : S1024x2048.Idx) : ∃ pc ∈ (RA m c t h).2.2.2.1, y ∈ pc.1.set :=
  View.cover_of_tiledL (RA m c t h).2.2.2.1 S1024x2048.size (by sl_kernel_rfl) y

theorem cover6 (c : Dev nD) (t : Fin cfg0.N) (h : t.val % 10 = 4) (y : S4x64x2048.Idx) : ∃ pc ∈ (RC m c t h).2.1, y ∈ pc.1.set :=
  View.cover_of_tiledL (RC m c t h).2.1 S1x64x128.size (by sl_kernel_rfl) y

theorem cover7 (c : Dev nD) (t : Fin cfg0.N) (h : t.val % 10 = 5) (y : S4x64x2048.Idx) : ∃ pc ∈ (RD m c t h).2.2.1, y ∈ pc.1.set :=
  View.cover_of_tiledL (RD m c t h).2.2.1 S1x64x128.size (by sl_kernel_rfl) y

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => o m c t
    | ⟨6, _⟩ => kc m c t
    | ⟨7, _⟩ => vc m c t
    | ⟨8, _⟩ => u m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = o m c t := by dsimp only [dats]
theorem after6 (c : Dev nD) (t : Fin cfg0.N) : (dats m 0 c).after 6 t = kc m c t := by dsimp only [dats]
theorem after7 (c : Dev nD) (t : Fin cfg0.N) : (dats m 0 c).after 7 t = vc m c t := by dsimp only [dats]
theorem after8 (c : Dev nD) (t : Fin cfg0.N) : (dats m 0 c).after 8 t = u m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Along a row the contents are those of one point: idle points carry them. -/
theorem carry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t h0 hi hf
  have hm : t.val % 10 ≠ 0 := by
    obtain ⟨n, hn⟩ : ∃ n, t.val = n + 1 := ⟨t.val - 1, by omega⟩
    rw [fresh6, hn] at hf; simp only [freshTab6, decide_eq_false_iff_not] at hf; omega
  rw [after6, after6]; exact (kc_congr m c (pt_prev t 4 (by omega) hm _) (pt_mod t 4 _)).symm

theorem before6 (c : Dev nD) (t : Fin cfg0.N) (h : 4 < t.val % 10) (d) : (dats m 0 c).before 6 t d = kc m c t := by
  rw [Dat.before_out_traj _ 6 rfl (fun _ _ => rfl) (carry6 m c) t.val t rfl d, if_neg, after6]
  · exact kc_congr m c (pt_prev t 4 (by omega) (by omega) _) (pt_mod t 4 _)
  · obtain ⟨n, hn⟩ : ∃ n, t.val = n + 1 := ⟨t.val - 1, by omega⟩
    rw [fresh6, hn]; simp only [freshTab6, decide_eq_true_eq]; omega

/-- Along a row the contents are those of one point: idle points carry them. -/
theorem carry7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t h0 hi hf
  have hm : t.val % 10 ≠ 0 := by
    obtain ⟨n, hn⟩ : ∃ n, t.val = n + 1 := ⟨t.val - 1, by omega⟩
    rw [fresh7, hn] at hf; simp only [freshTab7, decide_eq_false_iff_not] at hf; omega
  rw [after7, after7]; exact (vc_congr m c (pt_prev t 5 (by omega) hm _) (pt_mod t 5 _)).symm

theorem before7 (c : Dev nD) (t : Fin cfg0.N) (h : 5 < t.val % 10) (d) : (dats m 0 c).before 7 t d = vc m c t := by
  rw [Dat.before_out_traj _ 7 rfl (fun _ _ => rfl) (carry7 m c) t.val t rfl d, if_neg, after7]
  · exact vc_congr m c (pt_prev t 5 (by omega) (by omega) _) (pt_mod t 5 _)
  · obtain ⟨n, hn⟩ : ∃ n, t.val = n + 1 := ⟨t.val - 1, by omega⟩
    rw [fresh7, hn]; simp only [freshTab7, decide_eq_true_eq]; omega

/-- Along a row the contents are those of one point: idle points carry them. -/
theorem carry8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t h0 hi hf
  have hm : t.val % 10 ≠ 0 := by
    obtain ⟨n, hn⟩ : ∃ n, t.val = n + 1 := ⟨t.val - 1, by omega⟩
    rw [fresh8, hn] at hf; simp only [freshTab8, decide_eq_false_iff_not] at hf; omega
  rw [after8, after8]; exact (u_congr m c (pt_prev t 0 (by omega) hm _) (pt_mod t 0 _)).symm

theorem before8 (c : Dev nD) (t : Fin cfg0.N) (h : 0 < t.val % 10) (d) : (dats m 0 c).before 8 t d = u m c t := by
  rw [Dat.before_out_traj _ 8 rfl (fun _ _ => rfl) (carry8 m c) t.val t rfl d, if_neg, after8]
  · exact u_congr m c (pt_prev t 0 (by omega) (by omega) _) (pt_mod t 0 _)
  · obtain ⟨n, hn⟩ : ∃ n, t.val = n + 1 := ⟨t.val - 1, by omega⟩
    rw [fresh8, hn]; simp only [freshTab8, decide_eq_true_eq]; omega

/-- A point that stores nothing into window 6 hands its buffer on. -/
theorem pass6 (c : Dev nD) (t : Fin cfg0.N) (h : t.val % 10 ≠ 4) :
    iprop(∃ d, owns (c : Thread nD τ) (ms0_6 t) fullShare ((dats m 0 c).before 6 t d)) ⊢ (dats m 0 c).leavesExact 6 t := by
  have hi : cfg0.idle 6 (grid0.coords t) = true := by rw [idle6]; simp only [h, decide_false, Bool.not_false]
  cases hf : (cfg0.win 6).flush t
  · rw [Dat.leavesExact_idle (dats m 0 c) 6 t hi hf]
  · have h9 := (flush0_6 t).mp hf
    rw [show (dats m 0 c).leavesExact 6 t = owns (c : Thread nD τ) (ms0_6 t) fullShare ((dats m 0 c).after 6 t) from by
      unfold Dat.leavesExact; rw [hi, hf], after6]
    simp only [before6 m c t (by omega)]
    iintro ⟨%d, H⟩
    iexact H

theorem live6 (c : Dev nD) (t : Fin cfg0.N) (h : t.val % 10 = 4) :
    (dats m 0 c).leavesExact 6 t = owns (c : Thread nD τ) (ms0_6 t) fullShare (kc m c t) := by
  have hi : cfg0.idle 6 (grid0.coords t) = false := by rw [idle6]; simp only [h, decide_true, Bool.not_true]
  unfold Dat.leavesExact; rw [hi, after6]

/-- A point that stores nothing into window 7 hands its buffer on. -/
theorem pass7 (c : Dev nD) (t : Fin cfg0.N) (h : t.val % 10 ≠ 5) :
    iprop(∃ d, owns (c : Thread nD τ) (ms0_7 t) fullShare ((dats m 0 c).before 7 t d)) ⊢ (dats m 0 c).leavesExact 7 t := by
  have hi : cfg0.idle 7 (grid0.coords t) = true := by rw [idle7]; simp only [h, decide_false, Bool.not_false]
  cases hf : (cfg0.win 7).flush t
  · rw [Dat.leavesExact_idle (dats m 0 c) 7 t hi hf]
  · have h9 := (flush0_7 t).mp hf
    rw [show (dats m 0 c).leavesExact 7 t = owns (c : Thread nD τ) (ms0_7 t) fullShare ((dats m 0 c).after 7 t) from by
      unfold Dat.leavesExact; rw [hi, hf], after7]
    simp only [before7 m c t (by omega)]
    iintro ⟨%d, H⟩
    iexact H

theorem live7 (c : Dev nD) (t : Fin cfg0.N) (h : t.val % 10 = 5) :
    (dats m 0 c).leavesExact 7 t = owns (c : Thread nD τ) (ms0_7 t) fullShare (vc m c t) := by
  have hi : cfg0.idle 7 (grid0.coords t) = false := by rw [idle7]; simp only [h, decide_true, Bool.not_true]
  unfold Dat.leavesExact; rw [hi, after7]

/-- A point that stores nothing into window 8 hands its buffer on. -/
theorem pass8 (c : Dev nD) (t : Fin cfg0.N) (h : t.val % 10 ≠ 0) :
    iprop(∃ d, owns (c : Thread nD τ) (ms0_8 t) fullShare ((dats m 0 c).before 8 t d)) ⊢ (dats m 0 c).leavesExact 8 t := by
  have hi : cfg0.idle 8 (grid0.coords t) = true := by rw [idle8]; simp only [h, decide_false, Bool.not_false]
  cases hf : (cfg0.win 8).flush t
  · rw [Dat.leavesExact_idle (dats m 0 c) 8 t hi hf]
  · have h9 := (flush0_8 t).mp hf
    rw [show (dats m 0 c).leavesExact 8 t = owns (c : Thread nD τ) (ms0_8 t) fullShare ((dats m 0 c).after 8 t) from by
      unfold Dat.leavesExact; rw [hi, hf], after8]
    simp only [before8 m c t (by omega)]
    iintro ⟨%d, H⟩
    iexact H

theorem live8 (c : Dev nD) (t : Fin cfg0.N) (h : t.val % 10 = 0) :
    (dats m 0 c).leavesExact 8 t = owns (c : Thread nD τ) (ms0_8 t) fullShare (u m c t) := by
  have hi : cfg0.idle 8 (grid0.coords t) = false := by rw [idle8]; simp only [h, decide_true, Bool.not_true]
  unfold Dat.leavesExact; rw [hi, after8]

theorem live0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0]

theorem live1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after1]

theorem live2 (c : Dev nD) (t : Fin cfg0.N) : (dats m 0 c).leavesExact 2 t = owns (c : Thread nD τ) (ms0_2 t) fullShare (X0_2 m c t) := by
  unfold Dat.leavesExact; rw [show cfg0.idle 2 (grid0.coords t) = false from rfl, after2]

theorem live3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after3]

theorem live4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after4]

theorem live5 (c : Dev nD) (t : Fin cfg0.N) : (dats m 0 c).leavesExact 5 t = owns (c : Thread nD τ) (ms0_5 t) fullShare (o m c t) := by
  unfold Dat.leavesExact; rw [idle5, after5]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
theorem soundA (c : Dev nD) (t : Fin cfg0.N) (h : t.val % 10 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    live0, live1, live2, live3, live4, live5, o_A m c t h, live8 m c t h, show u m c t = VO0_8.read (Elt F) (VO0_8.writes (Elt F) VO0_8.junk (RA m c t h).2.2.2.1) from u_congr m c (pt_self t 0 (by omega) h) h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((RA m c t h).2.2.2.2.2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  isplitl [HS0]; · iexact HS0
  iintro ⟨H0, H1, H2, H3, H4, ⟨%e5, H5⟩, H6, H7, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5A m c t h)
  isplitl [H6]
  · iapply (pass6 m c t (by omega))
    iexists d6; iexact H6
  isplitl [H7]
  · iapply (pass7 m c t (by omega))
    iexists d7; iexact H7
  unfold owns; iexists _; isplitr
  swap; · iexact H8
  ipureintro; exact View.read_writes_of_cover _ _ _ _ _ (cover8 m c t h)

set_option maxHeartbeats 4000000 in
theorem soundB (c : Dev nD) (t : Fin cfg0.N) (h : t.val % 10 = 1 ∨ t.val % 10 = 2 ∨ t.val % 10 = 3 ∨ t.val % 10 = 6 ∨ t.val % 10 = 8) :
    bodyPre m c t ⊢ wp frame (wpE (defs₀ (F := F)) Variants.none c none) Set.univ (bodyAt0 t) (fun _ => bodyPost m c t) := by
  unfold bodyPre bodyPost bodyAt0
  simp only [before0, before1, before2, before3, before4, before8 m c t (by omega)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    live0, live1, live2, live3, live4, live5, o_B m c t h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((RB m c t h).2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [HS0]; · iexact HS0
  iintro ⟨H0, H1, H2, H3, H4, ⟨%e5, H5⟩, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5B m c t h)
  isplitl [H6]
  · iapply (pass6 m c t (by omega))
    iexists d6; iexact H6
  isplitl [H7]
  · iapply (pass7 m c t (by omega))
    iexists d7; iexact H7
  iapply (pass8 m c t (by omega))
  simp only [before8 m c t (by omega)]
  iexists d8; iexact H8

set_option maxHeartbeats 4000000 in
theorem soundC (c : Dev nD) (t : Fin cfg0.N) (h : t.val % 10 = 4) :
    bodyPre m c t ⊢ wp frame (wpE (defs₀ (F := F)) Variants.none c none) Set.univ (bodyAt0 t) (fun _ => bodyPost m c t) := by
  unfold bodyPre bodyPost bodyAt0
  simp only [before0, before1, before2, before3, before4, before8 m c t (by omega)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    live0, live1, live2, live3, live4, live5, o_C m c t h, live6 m c t h, show kc m c t = VO0_6.read (Elt F) (VO0_6.writes (Elt F) VO0_6.junk (RC m c t h).2.1) from kc_congr m c (pt_self t 4 (by omega) h) h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((RC m c t h).2.2.2.2.2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HS0]; · iexact HS0
  iintro ⟨H0, H1, H2, H3, H4, ⟨%e5, H5⟩, ⟨%e6, H6⟩, H7, H8, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5C m c t h)
  isplitl [H6]
  · unfold owns; iexists _; isplitr
    swap; · iexact H6
    ipureintro; exact View.read_writes_of_cover _ _ _ _ _ (cover6 m c t h)
  isplitl [H7]
  · iapply (pass7 m c t (by omega))
    iexists d7; iexact H7
  iapply (pass8 m c t (by omega))
  simp only [before8 m c t (by omega)]
  iexists d8; iexact H8

set_option maxHeartbeats 4000000 in
theorem soundD (c : Dev nD) (t : Fin cfg0.N) (h : t.val % 10 = 5) :
    bodyPre m c t ⊢ wp frame (wpE (defs₀ (F := F)) Variants.none c none) Set.univ (bodyAt0 t) (fun _ => bodyPost m c t) := by
  unfold bodyPre bodyPost bodyAt0
  simp only [before0, before1, before2, before3, before4, before8 m c t (by omega)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    live0, live1, live2, live3, live4, live5, o_D m c t h, live7 m c t h, show vc m c t = VO0_7.read (Elt F) (VO0_7.writes (Elt F) VO0_7.junk (RD m c t h).2.2.1) from vc_congr m c (pt_self t 5 (by omega) h) h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((RD m c t h).2.2.2.2.2 _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexact H8
  isplitl [HS0]; · iexact HS0
  iintro ⟨H0, H1, H2, H3, H4, ⟨%e5, H5⟩, H6, ⟨%e7, H7⟩, H8, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5D m c t h)
  isplitl [H6]
  · iapply (pass6 m c t (by omega))
    iexists d6; iexact H6
  isplitl [H7]
  · unfold owns; iexists _; isplitr
    swap; · iexact H7
    ipureintro; exact View.read_writes_of_cover _ _ _ _ _ (cover7 m c t h)
  iapply (pass8 m c t (by omega))
  simp only [before8 m c t (by omega)]
  iexists d8; iexact H8

set_option maxHeartbeats 4000000 in
theorem soundE (c : Dev nD) (t : Fin cfg0.N) (h : t.val % 10 = 7 ∨ t.val % 10 = 9) :
    bodyPre m c t ⊢ wp frame (wpE (defs₀ (F := F)) Variants.none c none) Set.univ (bodyAt0 t) (fun _ => bodyPost m c t) := by
  unfold bodyPre bodyPost bodyAt0
  simp only [before0, before1, before2, before3, before4, before8 m c t (by omega)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    live0, live1, live2, live3, live4, live5, o_E m c t h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((RE m c t h).2 _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [HS0]; · iexact HS0
  iintro ⟨H0, H1, H2, H3, H4, ⟨%e5, H5⟩, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5E m c t h)
  isplitl [H6]
  · iapply (pass6 m c t (by omega))
    iexists d6; iexact H6
  isplitl [H7]
  · iapply (pass7 m c t (by omega))
    iexists d7; iexact H7
  iapply (pass8 m c t (by omega))
  simp only [before8 m c t (by omega)]
  iexists d8; iexact H8

theorem sound_body (c : Dev nD) (t : Fin cfg0.N) :
    bodyPre m c t ⊢ wp frame (wpE (defs₀ (F := F)) Variants.none c none) Set.univ (bodyAt0 t) (fun _ => bodyPost m c t) := by
  rcases mod_cases t.val with h | h | h | h | h
  · exact soundA m c t h
  · exact soundB m c t h
  · exact soundC m c t h
  · exact soundD m c t h
  · exact soundE m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InAttn

end
-- ==== Proof.InAttn.Kernel.lean ====
/- The frames of the call as printed and of its idealization: the two programs differ in one constant, which is a name in
   the second. Read at the bits with that name's own word, the second program is the first. -/
module

public import proofs.«01_k».proof.Defs
public import proofs.«01_k».proof.Proof.Gen.Kernel6
public import proofs.«01_k».proof.Proof.InAttn.Frame

@[expose] public section

set_option maxRecDepth 16384

noncomputable section

namespace Cert.InAttn

open Idealize.ShloMosaic Idealize.SL.Sem

/-- A named constant at the bits is its word. -/
@[reducible] def namedBits : Named Bits := ⟨fun _ _ _ b => Scalar.ofBits _ b⟩

attribute [local instance] namedBits

theorem defs₀_eq : Cert.Kernel6.defs₀ (F := Bits) = Cert.Kernel6Ideal.defs₀ (F := Bits) := by
  unfold Cert.Kernel6.defs₀ Cert.Kernel6Ideal.defs₀
  refine congrArg Defs.onTc ?_
  funext q s
  match q, s with
  | ⟨0, _⟩, s => rfl

theorem defs_eq : Cert.Kernel6Ideal.defs (F := Bits) = Cert.Kernel6.defs (F := Bits) := by
  unfold Cert.Kernel6.defs Cert.Kernel6Ideal.defs; exact (congrArg _ defs₀_eq).symm

theorem frame_kernel : Cert.quiescent_Kernel6 (hKernel6 := Cert.Kernel6.Gen.facts) := fun m ρ _ =>
  have key : ∀ D, Cert.Kernel6Ideal.defs (F := Bits) = D → θ_run D _ _ _ := fun D e => e ▸ frame (F := Bits) m ρ
  key _ defs_eq

theorem frame_ideal : Cert.quiescent_Kernel6Ideal (hKernel6Ideal := Cert.Kernel6Ideal.Gen.facts) := fun m ρ _ => frame (F := Ideal) m ρ

end Cert.InAttn

end
-- ==== Proof.InAttn.Pieces.lean ====
/-
The first norm and the attention's columns of the input projection: what each of the body's stores holds, as a block of one function
of the block's indices.
-/
module

public import proofs.«01_k».proof.Proof.Gen.Kernel6Ideal.Skeleton
public import Idealize.ShloMosaic.Lib.Pointwise
public import Idealize.ShloMosaic.Lib.Pipeline.Value
public import Idealize.ShloMosaic.Lib.Pipeline.ReadBack

@[expose] public section

set_option maxRecDepth 16384
set_option maxHeartbeats 1000000

noncomputable section

namespace Cert.InAttn

open Cert.Kernel6Ideal Cert.Kernel6Ideal.Gen
open Idealize.ShloMosaic Idealize.ShloMosaic.TcCoe
open Idealize.SL.Sem

/-- Rows of sixteen laid side by side: the chunks of a block of the projection, head by head. -/
def chunksOf (acc : FVec Ideal S1024x512 .f32) : FVec Ideal S4x64x2048 .bf16 := fun y =>
  acc (ix2 ⟨16 * (y 1).val + (y 2).val / 128, by have h : (y 1).val < 64 := (y 1).isLt; have h' : (y 2).val < 2048 := (y 2).isLt; omega⟩
    ⟨128 * (y 0).val + (y 2).val % 128, by have h : (y 0).val < 4 := (y 0).isLt; omega⟩)

/-- A block of the projection rotated, head by head, and scaled. -/
def ropeOf (acc : FVec Ideal S1024x512 .f32) (x y : FVec Ideal S1024x128 .f32) (s : EReal) : FVec Ideal S1024x512 .bf16 := fun z =>
  (acc z * x (ix2 (z 0) ⟨(z 1).val % 128, by omega⟩)
    + acc (ix2 (z 0) ⟨128 * ((z 1).val / 128) + ((z 1).val % 128 + 64) % 128, by have h : (z 1).val < 512 := (z 1).isLt; omega⟩)
      * y (ix2 (z 0) ⟨(z 1).val % 128, by omega⟩)) * s

/-- The casts around a narrowing leave the values. -/
theorem casts (w : FVec Ideal S1x64x128 .f32) (h1 : S1x64x128.ShapeCasts S64x128) (h2 : S64x128.ShapeCasts S1x64x128) (hb : FTy.bits .bf16 < FTy.bits .f32) :
    shapeCast S1x64x128 (truncf .bf16 (shapeCast S64x128 w h1 : FVec Ideal S64x128 .f32) hb) h2 = w :=
  shapeCast_shapeCast w h1 h2

/-- Plane `g` of the stores `H` holds columns `128 * g` to `128 * g + 127` of the block. -/
def IsPlane (acc : FVec Ideal S1024x512 .f32) (g : ℕ) (hg : g < 4) (H : List (View.Piece (Elt Ideal) S4x1024x128 .f32)) : Prop :=
  ∀ (r : Fin 1024) (d : Fin 128), View.canon H (ix3 ⟨g, hg⟩ r d : S4x1024x128.Idx) = acc (ix2 r ⟨128 * g + d.val, by omega⟩)

/-- A plane that was stored last holds its columns of the block. -/
theorem plane (acc : FVec Ideal S1024x512 .f32) (L : List (View.Piece (Elt Ideal) S4x1024x128 .f32)) {g o : ℕ} (hg : g < 4) (ho : o = 128 * g)
    (inb : ∀ a, (![g, 0, 0] : Fin 3 → Nat) a + S1x1024x128.size a ≤ S4x1024x128.size a)
    (hs : S1024x512.Slices ![0, o] S1024x128) (hc : S1024x128.ShapeCasts S1x1024x128) :
    IsPlane acc g hg ((⟨Rect.unit (s := S4x1024x128) ![g, 0, 0] S1x1024x128.size inb,
      shapeCast S1x1024x128 (extractStridedSlice S1024x128 ![0, o] acc hs) hc⟩ : View.Piece (Elt Ideal) S4x1024x128 .f32) :: L) := by
  intro r d
  have e : (ix3 ⟨g, hg⟩ r d : S4x1024x128.Idx) = (Rect.unit (s := S4x1024x128) ![g, 0, 0] S1x1024x128.size inb).emb (ix3 0 r d : S1x1024x128.Idx) := by
    funext a; apply Fin.ext
    match a with
    | ⟨0, _⟩ => rfl
    | ⟨1, _⟩ => show r.val = 0 + 1 * r.val; omega
    | ⟨2, _⟩ => show d.val = 0 + 1 * d.val; omega
  rw [e, View.canon_cons_emb]
  pointwise
  refine congrArg acc (funext fun a => Fin.ext ?_)
  match a with
  | ⟨0, _⟩ => rfl
  | ⟨1, _⟩ => show o + d.val = 128 * g + d.val; omega

/-- One chunk's row: a strided load of such a plane, at its place in the array of chunks. -/
theorem row {sig : RefSig} {κ : Kind} {sp : Space} (v : View sig κ sp S4x1024x128 .f32) (acc : FVec Ideal S1024x512 .f32)
    (H : List (View.Piece (Elt Ideal) S4x1024x128 .f32)) {g : ℕ} (hg : g < 4)
    (hH : IsPlane acc g hg H)
    {l p : ℕ} (hl : l < 16) (hp : p = 128 * l)
    (inb1 : ∀ a, S1x64x128.size a = 0 ∨ (![g, l, 0] : Fin 3 → Nat) a + (![1, 16, 1] : Fin 3 → Nat) a * (S1x64x128.size a - 1) < S4x1024x128.size a)
    (inb2 : ∀ a, (![g, 0, p] : Fin 3 → Nat) a + S1x64x128.size a ≤ S4x64x2048.size a) (x : S1x64x128.Idx) :
    v.readCov H { off := ![g, l, 0], size := S1x64x128.size, stride := ![1, 16, 1], inb := inb1 } x
      = chunksOf acc ((Rect.unit (s := S4x64x2048) ![g, 0, p] S1x64x128.size inb2).emb x) := by
  obtain ⟨z, n, d, rfl⟩ : ∃ (z : Fin 1) (n : Fin 64) (d : Fin 128), x = ix3 z n d := ⟨x 0, x 1, x 2, (ix3_eta x).symm⟩
  obtain rfl : z = 0 := Subsingleton.elim _ _
  rw [View.readCov_eq_canon']
  have e : ({ off := ![g, l, 0], size := S1x64x128.size, stride := ![1, 16, 1], inb := inb1 } : LoadRect S4x1024x128).idx (ix3 0 n d : S1x64x128.Idx)
      = (ix3 ⟨g, hg⟩ ⟨16 * n.val + l, by omega⟩ d : S4x1024x128.Idx) := by
    funext a; apply Fin.ext
    match a with
    | ⟨0, _⟩ => rfl
    | ⟨1, _⟩ => show l + 16 * n.val = 16 * n.val + l; omega
    | ⟨2, _⟩ => show 0 + 1 * d.val = d.val; omega
  show View.canon _ (LoadRect.idx _ _) = _
  rw [e]
  refine (hH _ _).trans ?_
  refine congrArg acc (funext fun a => Fin.ext ?_)
  match a with
  | ⟨0, _⟩ => show 16 * n.val + l = 16 * (0 + 1 * n.val) + (p + 1 * d.val) / 128; omega
  | ⟨1, _⟩ => show 128 * g + d.val = 128 * (g + 1 * 0) + (p + 1 * d.val) % 128; omega

/-- One store more. -/
theorem cons (acc : FVec Ideal S1024x512 .f32) (L : List (View.Piece (Elt Ideal) S4x64x2048 .bf16)) (w : FVec Ideal S1x64x128 .f32) {g p : ℕ}
    (inb : ∀ a, (![g, 0, p] : Fin 3 → Nat) a + S1x64x128.size a ≤ S4x64x2048.size a) (h1 : S1x64x128.ShapeCasts S64x128)
    (h2 : S64x128.ShapeCasts S1x64x128) (hb : FTy.bits .bf16 < FTy.bits .f32) (hL : View.PiecesOf (chunksOf acc) L)
    (h : ∀ x : S1x64x128.Idx, w x = chunksOf acc ((Rect.unit (s := S4x64x2048) ![g, 0, p] S1x64x128.size inb).emb x)) :
    View.PiecesOf (chunksOf acc) ((⟨Rect.unit (s := S4x64x2048) ![g, 0, p] S1x64x128.size inb,
      shapeCast S1x64x128 (truncf .bf16 (shapeCast S64x128 w h1 : FVec Ideal S64x128 .f32) hb) h2⟩ : View.Piece (Elt Ideal) S4x64x2048 .bf16) :: L) :=
  ⟨fun x => (congrFun (casts w h1 h2 hb) x).trans (h x), hL⟩

/-- One head's columns. -/
theorem rope (acc : FVec Ideal S1024x512 .f32) (X Y : FVec Ideal S1024x128 .f32) (s : Ideal .f32) {h o : ℕ} (hh : h < 4) (ho : o = 128 * h)
    (inb : ∀ a, (![0, o] : Fin 2 → Nat) a + S1024x128.size a ≤ S1024x512.size a)
    (hs : S1024x512.Slices ![0, o] S1024x128) (hr : S1024x128.Rotates 1 none) (hc : S1024x128.ShapeCasts S1024x128)
    (hb : FTy.bits .bf16 < FTy.bits .f32) (x : S1024x128.Idx) :
    (truncf .bf16 (mulf (addf (mulf (extractStridedSlice S1024x128 ![0, o] acc hs) (shapeCast S1024x128 X hc))
        (mulf (dynamicRotate 1 64#32 none (extractStridedSlice S1024x128 ![0, o] acc hs) hr) (shapeCast S1024x128 Y hc)))
        (broadcast S1024x128 s)) hb : FVec Ideal S1024x128 .bf16) x
      = ropeOf acc X Y s ((Rect.unit (s := S1024x512) ![0, o] S1024x128.size inb).emb x) := by
  obtain ⟨r, d, rfl⟩ : ∃ (r : Fin 1024) (d : Fin 128), x = ix2 r d := ⟨x 0, x 1, (ix2_eta x).symm⟩
  have e : (Rect.unit (s := S1024x512) ![0, o] S1024x128.size inb).emb (ix2 r d : S1024x128.Idx) = (ix2 r ⟨o + d.val, by omega⟩ : S1024x512.Idx) := by
    funext a; apply Fin.ext
    match a with
    | ⟨0, _⟩ => show 0 + 1 * r.val = r.val; omega
    | ⟨1, _⟩ => show o + 1 * d.val = o + d.val; omega
  have e1 : (⟨(o + d.val) % 128, by omega⟩ : Fin 128) = d := Fin.ext (by show (o + d.val) % 128 = d.val; omega)
  have e2 : (⟨128 * ((o + d.val) / 128) + ((o + d.val) % 128 + 64) % 128, by omega⟩ : Fin 512) = ⟨o + (d.val + 128 - 64) % 128, by omega⟩ :=
    Fin.ext (by show 128 * ((o + d.val) / 128) + ((o + d.val) % 128 + 64) % 128 = o + (d.val + 128 - 64) % 128; omega)
  rw [e]
  pointwise
  show _ = (_ * X (ix2 r ⟨(o + d.val) % 128, _⟩) + acc (ix2 r ⟨128 * ((o + d.val) / 128) + ((o + d.val) % 128 + 64) % 128, _⟩) * Y (ix2 r ⟨(o + d.val) % 128, _⟩)) * s
  rw [e1, e2]

end Cert.InAttn

end
-- ==== Proof.InAttn.Stored.lean ====
/-
The first norm and the attention's columns of the input projection: what each staging buffer holds after the body, as functions of
the blocks that the body loads.
-/
module

public import proofs.«01_k».proof.Proof.InAttn.Frame
public import proofs.«01_k».proof.Proof.InAttn.Pieces
public import Idealize.ShloMosaic.Lib.VecWindow

@[expose] public section

set_option maxRecDepth 16384
set_option maxHeartbeats 1000000

noncomputable section

namespace Cert.InAttn

open Cert.Kernel6Ideal Cert.Kernel6Ideal.Gen
open Idealize.ShloMosaic Idealize.ShloMosaic.TcCoe
open Idealize.SL.Sem

/-- A load of a whole buffer. -/
theorem load_whole {sp : Space} {s : Shape} {e : EltTy} (M : Memref sig .tc sp s e) (h : M.IsWhole) (x : s.Idx → Elt Ideal e) {off : Fin s.rank → ℕ}
    (inb : ∀ a, off a + s.size a ≤ s.size a) :
    View.readAt (Elt Ideal) M.view (Rect.unit off s.size inb).toLoadRect (h.unread x) = x := by
  rw [View.readAt_full, h.read_unread]

/-- Pieces that are blocks of `G` and cover leave `G`. -/
theorem read_pieces {sp : Space} {s : Shape} {e : EltTy} (v : View sig .tc sp s e) (G : s.Idx → Elt Ideal e) (L : List (View.Piece (Elt Ideal) s e))
    (h : View.PiecesOf G L) (hc : ∀ y, ∃ p ∈ L, y ∈ p.1.set) : v.read (Elt Ideal) (v.writes (Elt Ideal) v.junk L) = G := by
  rw [View.read_writes_junk_eq_canon]
  funext y
  exact View.canon_apply_of_pieces G L h.mem y (hc y)

variable (m : (ℓ : Loc nD τ sig) → Buf (Elt Ideal) ℓ) (c : Dev nD)

/-- The scale of a column of blocks. -/
def scale (t : Fin cfg0.N) : EReal :=
  k0_pay10 (F := Ideal) (Scalar.andi (Scalar.cmpi .sge (BitVec.ofNat 32 (grid0.coords t 1).val) 0#32)
    (Scalar.cmpi .slt (BitVec.ofNat 32 (grid0.coords t 1).val) 4#32))

theorem uAt_eq (t : Fin cfg0.N) (h : t.val % 10 = 0) : uAt m c t h = k0_pay1 (F := Ideal) (iblk m c 0 t) (iblk m c 1 t) := by
  unfold uAt
  refine (View.read_writes_full VO0_8 _ inb_S1024x2048_S1024x2048_0_0 _ _).trans ?_
  exact congrArg₂ (k0_pay1 (F := Ideal)) (load_whole _ _ _ _) (load_whole _ _ _ _)

theorem o_C_eq (t : Fin cfg0.N) (h : t.val % 10 = 4) : o m c t = k0_pay3 (F := Ideal) (u m c t) (X0_2 m c t) := by
  rw [o_C m c t h]
  refine (View.read_writes_full VO0_5 _ inb_S1024x512_S1024x512_0_0 _ _).trans ?_
  exact congrArg₂ (k0_pay3 (F := Ideal)) (load_whole _ _ _ _) (load_whole _ _ _ _)

theorem o_D_eq (t : Fin cfg0.N) (h : t.val % 10 = 5) : o m c t = k0_pay3 (F := Ideal) (u m c t) (X0_2 m c t) := by
  rw [o_D m c t h]
  refine (View.read_writes_full VO0_5 _ inb_S1024x512_S1024x512_0_0 _ _).trans ?_
  exact congrArg₂ (k0_pay3 (F := Ideal)) (load_whole _ _ _ _) (load_whole _ _ _ _)

theorem o_E_eq (t : Fin cfg0.N) (h : t.val % 10 = 7 ∨ t.val % 10 = 9) : o m c t = k0_pay3 (F := Ideal) (u m c t) (X0_2 m c t) := by
  rw [o_E m c t h]
  refine (View.read_writes_full VO0_5 _ inb_S1024x512_S1024x512_0_0 _ _).trans ?_
  exact congrArg₂ (k0_pay3 (F := Ideal)) (load_whole _ _ _ _) (load_whole _ _ _ _)

theorem o_B_eq (t : Fin cfg0.N) (h : t.val % 10 = 1 ∨ t.val % 10 = 2 ∨ t.val % 10 = 3 ∨ t.val % 10 = 6 ∨ t.val % 10 = 8) :
    o m c t = ropeOf (k0_pay2 (F := Ideal) (u m c t) (X0_2 m c t)) (iblk m c 3 t) (iblk m c 4 t) (scale t) := by
  rw [o_B m c t h]
  have key : ∃ (X : FVec Ideal S1024x2048 .bf16) (W : FVec Ideal S512x2048 .f32) (C S : FVec Ideal S1024x128 .f32),
      View.PiecesOf (ropeOf (k0_pay2 (F := Ideal) X W) C S (scale t)) (RB m c t h).1
        ∧ X = u m c t ∧ W = X0_2 m c t ∧ C = iblk m c 3 t ∧ S = iblk m c 4 t := by
    refine ⟨_, _, _, _, ?_, load_whole _ (hs0_8 t) _ inb_S1024x2048_S1024x2048_0_0, load_whole _ (hs0_2 t) _ inb_S512x2048_S512x2048_0_0,
      load_whole _ (hs0_3 t) _ inb_S1024x128_S1024x128_0_0, load_whole _ (hs0_4 t) _ inb_S1024x128_S1024x128_0_0⟩
    dsimp only [RB, runB]
    exact ⟨fun x => rope _ _ _ _ (h := 3) (by decide) (by decide) inb_S1024x512_S1024x128_0_384 _ _ _ _ x, fun x => rope _ _ _ _ (h := 2) (by decide) (by decide) inb_S1024x512_S1024x128_0_256 _ _ _ _ x,
      fun x => rope _ _ _ _ (h := 1) (by decide) (by decide) inb_S1024x512_S1024x128_0_128 _ _ _ _ x, fun x => rope _ _ _ _ (h := 0) (by decide) (by decide) inb_S1024x512_S1024x128_0_0 _ _ _ _ x, trivial⟩
  obtain ⟨X, W, C, S, hp, rfl, rfl, rfl, rfl⟩ := key
  exact read_pieces _ _ _ hp (cover5B m c t h)

theorem o_A_eq (t : Fin cfg0.N) (h : t.val % 10 = 0) :
    o m c t = ropeOf (k0_pay2 (F := Ideal) (u m c t) (X0_2 m c t)) (iblk m c 3 t) (iblk m c 4 t) (scale t) := by
  rw [o_A m c t h]
  have key : ∃ (X : FVec Ideal S1024x2048 .bf16) (W : FVec Ideal S512x2048 .f32) (C S : FVec Ideal S1024x128 .f32),
      View.PiecesOf (ropeOf (k0_pay2 (F := Ideal) X W) C S (scale t)) (RA m c t h).1
        ∧ X = u m c t ∧ W = X0_2 m c t ∧ C = iblk m c 3 t ∧ S = iblk m c 4 t := by
    refine ⟨runA.sl.v3 c (ms0_0 t) (hs0_0 t) (ms0_1 t) (hs0_1 t) (ms0_8 t) (iblk m c 0 t) (iblk m c 1 t), _, _, _, ?_, ?_, load_whole _ (hs0_2 t) _ inb_S512x2048_S512x2048_0_0,
      load_whole _ (hs0_3 t) _ inb_S1024x128_S1024x128_0_0, load_whole _ (hs0_4 t) _ inb_S1024x128_S1024x128_0_0⟩
    · dsimp only [RA, runA]
      exact ⟨fun x => rope _ _ _ _ (h := 3) (by decide) (by decide) inb_S1024x512_S1024x128_0_384 _ _ _ _ x, fun x => rope _ _ _ _ (h := 2) (by decide) (by decide) inb_S1024x512_S1024x128_0_256 _ _ _ _ x,
        fun x => rope _ _ _ _ (h := 1) (by decide) (by decide) inb_S1024x512_S1024x128_0_128 _ _ _ _ x, fun x => rope _ _ _ _ (h := 0) (by decide) (by decide) inb_S1024x512_S1024x128_0_0 _ _ _ _ x, trivial⟩
    · rw [u_congr m c (pt_self t 0 (by omega) h) h, uAt_eq]
      refine (View.readCov_full _ inb_S1024x2048_S1024x2048_0_0 inb_S1024x2048_S1024x2048_0_0 _ _).trans ?_
      exact congrArg₂ (k0_pay1 (F := Ideal)) (load_whole _ _ _ _) (load_whole _ _ _ _)
  obtain ⟨X, W, C, S, hp, rfl, rfl, rfl, rfl⟩ := key
  exact read_pieces _ _ _ hp (cover5A m c t h)

/-- The compression keys' chunks. -/
theorem kcAt_eq (t : Fin cfg0.N) (h : t.val % 10 = 4) : kcAt m c t h = chunksOf (k0_pay2 (F := Ideal) (u m c t) (X0_2 m c t)) := by
  have key : ∀ A : FVec Ideal S1024x512 .f32, A = k0_pay2 (F := Ideal)
      (View.readAt (Elt Ideal) (ms0_8 t).view (Rect.unit ![0, 0] S1024x2048.size inb_S1024x2048_S1024x2048_0_0).toLoadRect ((hs0_8 t).unread (u m c t)))
      (View.readAt (Elt Ideal) (ms0_2 t).view (Rect.unit ![0, 0] S512x2048.size inb_S512x2048_S512x2048_0_0).toLoadRect ((hs0_2 t).unread (X0_2 m c t))) →
      View.PiecesOf (chunksOf A) (RC m c t h).2.1 := by
    intro A hA
    have p0 : IsPlane A 0 (by decide) (runC.sl.HS0_1 (F := Ideal) c (ms0_2 t) (hs0_2 t) (ms0_8 t) (hs0_8 t) (X0_2 m c t) (u m c t)) := by
      subst hA; exact plane _ _ (g := 0) (by decide) (by decide) _ _ _
    have p1 : IsPlane A 1 (by decide) (runC.sl.HS0_2 (F := Ideal) c (ms0_2 t) (hs0_2 t) (ms0_8 t) (hs0_8 t) (X0_2 m c t) (u m c t)) := by
      subst hA; exact plane _ _ (g := 1) (by decide) (by decide) _ _ _
    have p2 : IsPlane A 2 (by decide) (runC.sl.HS0_3 (F := Ideal) c (ms0_2 t) (hs0_2 t) (ms0_8 t) (hs0_8 t) (X0_2 m c t) (u m c t)) := by
      subst hA; exact plane _ _ (g := 2) (by decide) (by decide) _ _ _
    have p3 : IsPlane A 3 (by decide) (runC.sl.HS0_4 (F := Ideal) c (ms0_2 t) (hs0_2 t) (ms0_8 t) (hs0_8 t) (X0_2 m c t) (u m c t)) := by
      subst hA; exact plane _ _ (g := 3) (by decide) (by decide) _ _ _
    dsimp only [RC, runC, runC.sl.r_1, runC.sl.r_2, runC.sl.r_3, runC.sl.r_4]
    iterate 16 refine cons A _ _ _ _ _ _ ?_ (row _ _ _ _ p3 (by decide) (by decide) _ _)
    iterate 16 refine cons A _ _ _ _ _ _ ?_ (row _ _ _ _ p2 (by decide) (by decide) _ _)
    iterate 16 refine cons A _ _ _ _ _ _ ?_ (row _ _ _ _ p1 (by decide) (by decide) _ _)
    iterate 16 refine cons A _ _ _ _ _ _ ?_ (row _ _ _ _ p0 (by decide) (by decide) _ _)
    exact trivial
  have e := key _ rfl
  rw [load_whole _ (hs0_8 t) _ inb_S1024x2048_S1024x2048_0_0, load_whole _ (hs0_2 t) _ inb_S512x2048_S512x2048_0_0] at e
  exact read_pieces _ _ _ e (cover6 m c t h)

/-- The compression values' chunks. -/
theorem vcAt_eq (t : Fin cfg0.N) (h : t.val % 10 = 5) : vcAt m c t h = chunksOf (k0_pay2 (F := Ideal) (u m c t) (X0_2 m c t)) := by
  have key : ∀ A : FVec Ideal S1024x512 .f32, A = k0_pay2 (F := Ideal)
      (View.readAt (Elt Ideal) (ms0_8 t).view (Rect.unit ![0, 0] S1024x2048.size inb_S1024x2048_S1024x2048_0_0).toLoadRect ((hs0_8 t).unread (u m c t)))
      (View.readAt (Elt Ideal) (ms0_2 t).view (Rect.unit ![0, 0] S512x2048.size inb_S512x2048_S512x2048_0_0).toLoadRect ((hs0_2 t).unread (X0_2 m c t))) →
      View.PiecesOf (chunksOf A) (RD m c t h).2.2.1 := by
    intro A hA
    have p0 : IsPlane A 0 (by decide) (runD.sl.HS0_1 (F := Ideal) c (ms0_2 t) (hs0_2 t) (ms0_8 t) (hs0_8 t) (X0_2 m c t) (u m c t)) := by
      subst hA; exact plane _ _ (g := 0) (by decide) (by decide) _ _ _
    have p1 : IsPlane A 1 (by decide) (runD.sl.HS0_2 (F := Ideal) c (ms0_2 t) (hs0_2 t) (ms0_8 t) (hs0_8 t) (X0_2 m c t) (u m c t)) := by
      subst hA; exact plane _ _ (g := 1) (by decide) (by decide) _ _ _
    have p2 : IsPlane A 2 (by decide) (runD.sl.HS0_3 (F := Ideal) c (ms0_2 t) (hs0_2 t) (ms0_8 t) (hs0_8 t) (X0_2 m c t) (u m c t)) := by
      subst hA; exact plane _ _ (g := 2) (by decide) (by decide) _ _ _
    have p3 : IsPlane A 3 (by decide) (runD.sl.HS0_4 (F := Ideal) c (ms0_2 t) (hs0_2 t) (ms0_8 t) (hs0_8 t) (X0_2 m c t) (u m c t)) := by
      subst hA; exact plane _ _ (g := 3) (by decide) (by decide) _ _ _
    dsimp only [RD, runD, runD.sl.r_1, runD.sl.r_2, runD.sl.r_3, runD.sl.r_4]
    iterate 16 refine cons A _ _ _ _ _ _ ?_ (row _ _ _ _ p3 (by decide) (by decide) _ _)
    iterate 16 refine cons A _ _ _ _ _ _ ?_ (row _ _ _ _ p2 (by decide) (by decide) _ _)
    iterate 16 refine cons A _ _ _ _ _ _ ?_ (row _ _ _ _ p1 (by decide) (by decide) _ _)
    iterate 16 refine cons A _ _ _ _ _ _ ?_ (row _ _ _ _ p0 (by decide) (by decide) _ _)
    exact trivial
  have e := key _ rfl
  rw [load_whole _ (hs0_8 t) _ inb_S1024x2048_S1024x2048_0_0, load_whole _ (hs0_2 t) _ inb_S512x2048_S512x2048_0_0] at e
  exact read_pieces _ _ _ e (cover7 m c t h)

end Cert.InAttn

end
-- ==== Proof.InAttn.Spec.lean ====
/-
The first norm and the attention's columns of the input projection: the four results as functions of the arguments, and the
reference's four results.
-/
module

public import proofs.«01_k».proof.Proof.Soft
public import proofs.«01_k».proof.Proof.Gen.Reference6Ideal.Run
public import Idealize.ShloMosaic.Lib.Pointwise

@[expose] public section

set_option maxRecDepth 16384
set_option maxHeartbeats 2000000

noncomputable section

namespace Cert.InAttn

open Cert.Reference6Ideal Cert.Reference6Ideal.Gen
open Idealize.ShloMosaic Idealize.ShloMosaic.TcCoe
open Idealize.SL.Sem

/-- A row's value divided by the root of the row's mean square, times the weight. -/
def norm (h : Fin 2048 → EReal) (w : Fin 2048 → EReal) (j : Fin 2048) : EReal :=
  h j * Ideal.rsqrt (Ideal.div (∑ k : Fin 2048, h k * h k) (Ideal.ofBits .f32 0x45000000#32) + Ideal.ofBits .f32 0x358637BD#32) * w j

/-- The norm of the input. -/
def resU (a0 : FVec Ideal S8192x2048 .f32) (a1 : FVec Ideal S2048 .f32) : FVec Ideal S8192x2048 .bf16 :=
  fun i => norm (fun k => a0 (ix2 (i 0) k)) (fun k => a1 (ix1 k)) (i 1)

/-- The input projection. -/
def proj (a0 : FVec Ideal S8192x2048 .f32) (a1 : FVec Ideal S2048 .f32) (a2 : FVec Ideal S2048x19568 .f32) : FVec Ideal S8192x19568 .f32 :=
  fun i => ∑ k : Fin 2048, resU a0 a1 (ix2 (i 0) k) * a2 (ix2 k (i 1))

/-- The cosines of a row, twice; the sines of a row, first with the other sign. -/
def cosw (a3 : FVec Ideal S8192x64 .f32) (r : Fin 8192) (d : Fin 128) : EReal := if h : d.val < 64 then a3 (ix2 r ⟨d.val, h⟩) else a3 (ix2 r ⟨d.val - 64, by omega⟩)
def sinw (a4 : FVec Ideal S8192x64 .f32) (r : Fin 8192) (d : Fin 128) : EReal := if h : d.val < 64 then -a4 (ix2 r ⟨d.val, h⟩) else a4 (ix2 r ⟨d.val - 64, by omega⟩)

/-- A rotated value, of the value and the one half a head away. -/
def turn (x x' : EReal) (a3 a4 : FVec Ideal S8192x64 .f32) (r : Fin 8192) (d : Fin 128) : EReal := x * cosw a3 r d + x' * sinw a4 r d

/-- The place half a head away, in heads of 128. -/
def half (j : ℕ) : ℕ := 128 * (j / 128) + (j % 128 + 64) % 128

/-- The scale of the queries. -/
def qs : EReal := ((((Real.sqrt 128) * (Real.log 2))⁻¹ : ℝ) : EReal)

/-- The attention's columns of a projection: the queries rotated and scaled, two of the six key and value parts rotated. -/
def resAtt (D : FVec Ideal S8192x19568 .f32) (a3 a4 : FVec Ideal S8192x64 .f32) : FVec Ideal S8192x5120 .bf16 := fun i =>
  have h : (i 1).val < 5120 := (i 1).isLt
  let x : EReal := D (ix2 (i 0) ⟨(i 1).val, by omega⟩)
  let y : EReal := turn x (D (ix2 (i 0) ⟨half (i 1).val, by unfold half; omega⟩)) a3 a4 (i 0) ⟨(i 1).val % 128, by omega⟩
  if (i 1).val < 2048 then y * qs else if (i 1).val / 512 = 6 ∨ (i 1).val / 512 = 8 then y else x

/-- Rows of sixteen laid side by side, head by head, of 512 columns of a projection. -/
def resChunks (D : FVec Ideal S8192x19568 .f32) (o : ℕ) (ho : o ≤ 2560) : FVec Ideal S4x512x2048 .bf16 := fun y =>
  D (ix2 ⟨16 * (y 1).val + (y 2).val / 128, by have h : (y 1).val < 512 := (y 1).isLt; have h' : (y 2).val < 2048 := (y 2).isLt; omega⟩
    ⟨o + 128 * (y 0).val + (y 2).val % 128, by have h : (y 0).val < 4 := (y 0).isLt; omega⟩)

/-- The reference's rotation, of sixteen heads and of four. -/
def rope16 (X : FVec Ideal S8192x2048 .f32) (a3 a4 : FVec Ideal S8192x64 .f32) : FVec Ideal S8192x2048 .f32 :=
  shapeCast _ (concatenate S8192x16x128 2 [⟨S8192x16x64, (subf
        (mulf (extractStridedSlice S8192x16x64 ![0, 0, 0] (shapeCast _ X shapeCasts_S8192x2048_S8192x16x128) slices_S8192x16x128_S8192x16x64_0_0_0) (broadcastInDim S8192x16x64 ![0, 1, 2] bcast_S8192x1x64_S8192x16x64_0_1_2 (broadcastInDim S8192x1x64 ![0, 2] bcast_S8192x64_S8192x1x64_0_2 a3)))
        (mulf (extractStridedSlice S8192x16x64 ![0, 0, 64] (shapeCast _ X shapeCasts_S8192x2048_S8192x16x128) slices_S8192x16x128_S8192x16x64_0_0_64) (broadcastInDim S8192x16x64 ![0, 1, 2] bcast_S8192x1x64_S8192x16x64_0_1_2 (broadcastInDim S8192x1x64 ![0, 2] bcast_S8192x64_S8192x1x64_0_2 a4))))⟩,
      ⟨S8192x16x64, (addf
        (mulf (extractStridedSlice S8192x16x64 ![0, 0, 64] (shapeCast _ X shapeCasts_S8192x2048_S8192x16x128) slices_S8192x16x128_S8192x16x64_0_0_64) (broadcastInDim S8192x16x64 ![0, 1, 2] bcast_S8192x1x64_S8192x16x64_0_1_2 (broadcastInDim S8192x1x64 ![0, 2] bcast_S8192x64_S8192x1x64_0_2 a3)))
        (mulf (extractStridedSlice S8192x16x64 ![0, 0, 0] (shapeCast _ X shapeCasts_S8192x2048_S8192x16x128) slices_S8192x16x128_S8192x16x64_0_0_0) (broadcastInDim S8192x16x64 ![0, 1, 2] bcast_S8192x1x64_S8192x16x64_0_1_2 (broadcastInDim S8192x1x64 ![0, 2] bcast_S8192x64_S8192x1x64_0_2 a4))))⟩] concatenates_S8192x16x64_S8192x16x64_S8192x16x128_d2) shapeCasts_S8192x16x128_S8192x2048
def rope4 (X : FVec Ideal S8192x512 .f32) (a3 a4 : FVec Ideal S8192x64 .f32) : FVec Ideal S8192x512 .f32 :=
  shapeCast _ (concatenate S8192x4x128 2 [⟨S8192x4x64, (subf
        (mulf (extractStridedSlice S8192x4x64 ![0, 0, 0] (shapeCast _ X shapeCasts_S8192x512_S8192x4x128) slices_S8192x4x128_S8192x4x64_0_0_0) (broadcastInDim S8192x4x64 ![0, 1, 2] bcast_S8192x1x64_S8192x4x64_0_1_2 (broadcastInDim S8192x1x64 ![0, 2] bcast_S8192x64_S8192x1x64_0_2 a3)))
        (mulf (extractStridedSlice S8192x4x64 ![0, 0, 64] (shapeCast _ X shapeCasts_S8192x512_S8192x4x128) slices_S8192x4x128_S8192x4x64_0_0_64) (broadcastInDim S8192x4x64 ![0, 1, 2] bcast_S8192x1x64_S8192x4x64_0_1_2 (broadcastInDim S8192x1x64 ![0, 2] bcast_S8192x64_S8192x1x64_0_2 a4))))⟩,
      ⟨S8192x4x64, (addf
        (mulf (extractStridedSlice S8192x4x64 ![0, 0, 64] (shapeCast _ X shapeCasts_S8192x512_S8192x4x128) slices_S8192x4x128_S8192x4x64_0_0_64) (broadcastInDim S8192x4x64 ![0, 1, 2] bcast_S8192x1x64_S8192x4x64_0_1_2 (broadcastInDim S8192x1x64 ![0, 2] bcast_S8192x64_S8192x1x64_0_2 a3)))
        (mulf (extractStridedSlice S8192x4x64 ![0, 0, 0] (shapeCast _ X shapeCasts_S8192x512_S8192x4x128) slices_S8192x4x128_S8192x4x64_0_0_0) (broadcastInDim S8192x4x64 ![0, 1, 2] bcast_S8192x1x64_S8192x4x64_0_1_2 (broadcastInDim S8192x1x64 ![0, 2] bcast_S8192x64_S8192x1x64_0_2 a4))))⟩] concatenates_S8192x4x64_S8192x4x64_S8192x4x128_d2) shapeCasts_S8192x4x128_S8192x512

theorem rope16_apply (X : FVec Ideal S8192x2048 .f32) (a3 a4 : FVec Ideal S8192x64 .f32) (r : Fin 8192) (j : Fin 2048) :
    rope16 X a3 a4 (ix2 r j) = turn (X (ix2 r j)) (X (ix2 r ⟨half j.val, by unfold half; omega⟩)) a3 a4 r ⟨j.val % 128, by omega⟩ := by
  unfold rope16 turn cosw sinw
  pointwise
  by_cases h : j.val % 128 < 64
  · simp only [dif_pos h]
    pointwise
    rw [mul_neg, ← sub_eq_add_neg]
    congr 4
    exact Fin.ext (by unfold half; dsimp only; omega)
  · simp only [dif_neg h]
    pointwise
    congr 4
    · exact Fin.ext (by dsimp only; omega)
    · exact Fin.ext (by unfold half; dsimp only; omega)

theorem rope4_apply (X : FVec Ideal S8192x512 .f32) (a3 a4 : FVec Ideal S8192x64 .f32) (r : Fin 8192) (j : Fin 512) :
    rope4 X a3 a4 (ix2 r j) = turn (X (ix2 r j)) (X (ix2 r ⟨half j.val, by unfold half; omega⟩)) a3 a4 r ⟨j.val % 128, by omega⟩ := by
  unfold rope4 turn cosw sinw
  pointwise
  by_cases h : j.val % 128 < 64
  · simp only [dif_pos h]
    pointwise
    rw [mul_neg, ← sub_eq_add_neg]
    congr 4
    exact Fin.ext (by unfold half; dsimp only; omega)
  · simp only [dif_neg h]
    pointwise
    congr 4
    · exact Fin.ext (by dsimp only; omega)
    · exact Fin.ext (by unfold half; dsimp only; omega)

/-- The reference's norm of the input, its projection and its attention's columns. -/
def refU (a0 : FVec Ideal S8192x2048 .f32) (a1 : FVec Ideal S2048 .f32) : FVec Ideal S8192x2048 .f32 :=
  mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))
def refD (a0 : FVec Ideal S8192x2048 .f32) (a1 : FVec Ideal S2048 .f32) (a2 : FVec Ideal S2048x19568 .f32) : FVec Ideal S8192x19568 .f32 :=
  Host.dotGeneral dot_S8192x2048_S2048x19568_S8192x19568_1_0_0_1_n_n none (refU a0 a1) a2
def refAtt (D : FVec Ideal S8192x19568 .f32) (a3 a4 : FVec Ideal S8192x64 .f32) : FVec Ideal S8192x5120 .bf16 :=
  truncf .bf16 ((concatenate S8192x5120 1 [⟨S8192x2048, ((Host.divf (rope16 (extractStridedSlice S8192x2048 ![0, 0] D slices_S8192x19568_S8192x2048_0_0) a3 a4) (broadcastInDim S8192x2048 ![] bcast_S_S8192x2048 (mulf (Host.sqrt (constant S_ .f32 0x43000000#32)) (Host.log (constant S_ .f32 0x40000000#32))))) : FVec Ideal S8192x2048 .f32)⟩,
      ⟨S8192x512, ((extractStridedSlice S8192x512 ![0, 2048] D slices_S8192x19568_S8192x512_0_2048) : FVec Ideal S8192x512 .f32)⟩,
      ⟨S8192x512, ((extractStridedSlice S8192x512 ![0, 2560] D slices_S8192x19568_S8192x512_0_2560) : FVec Ideal S8192x512 .f32)⟩,
      ⟨S8192x512, ((rope4 (extractStridedSlice S8192x512 ![0, 3072] D slices_S8192x19568_S8192x512_0_3072) a3 a4) : FVec Ideal S8192x512 .f32)⟩,
      ⟨S8192x512, ((extractStridedSlice S8192x512 ![0, 3584] D slices_S8192x19568_S8192x512_0_3584) : FVec Ideal S8192x512 .f32)⟩,
      ⟨S8192x512, ((rope4 (extractStridedSlice S8192x512 ![0, 4096] D slices_S8192x19568_S8192x512_0_4096) a3 a4) : FVec Ideal S8192x512 .f32)⟩,
      ⟨S8192x512, ((extractStridedSlice S8192x512 ![0, 4608] D slices_S8192x19568_S8192x512_0_4608) : FVec Ideal S8192x512 .f32)⟩] concatenates_S8192x2048_S8192x512_S8192x512_S8192x512_S8192x512_S8192x512_S8192x512_S8192x5120_d1 : FVec Ideal S8192x5120 .f32)) bitsLt_bf16_f32

theorem refU_eq (a0 : FVec Ideal S8192x2048 .f32) (a1 : FVec Ideal S2048 .f32) : refU a0 a1 = resU a0 a1 := by
  funext i
  obtain ⟨r, j, rfl⟩ : ∃ (r : Fin 8192) (j : Fin 2048), i = ix2 r j := ⟨i 0, i 1, (ix2_eta i).symm⟩
  unfold refU
  pointwise
  rfl

theorem refD_eq (a0 : FVec Ideal S8192x2048 .f32) (a1 : FVec Ideal S2048 .f32) (a2 : FVec Ideal S2048x19568 .f32) : refD a0 a1 a2 = proj a0 a1 a2 := by
  funext i
  obtain ⟨r, j, rfl⟩ : ∃ (r : Fin 8192) (j : Fin 19568), i = ix2 r j := ⟨i 0, i 1, (ix2_eta i).symm⟩
  unfold refD
  rw [refU_eq]
  pointwise
  rfl

theorem chunks_eq (D : FVec Ideal S8192x19568 .f32) (o : ℕ) (ho : o ≤ 2560) (hs : S8192x19568.Slices ![0, o] S8192x512)
    (h1 : S8192x512.ShapeCasts S512x16x4x128) (h2 : S512x16x4x128.Transposes [2, 0, 1, 3] S4x512x16x128) (h3 : S4x512x16x128.ShapeCasts S4x512x2048)
    (hb : FTy.bits .bf16 < FTy.bits .f32) :
    truncf .bf16 (shapeCast S4x512x2048 (transpose S4x512x16x128 [2, 0, 1, 3] (shapeCast S512x16x4x128 (extractStridedSlice S8192x512 ![0, o] D hs) h1) h2) h3
      : FVec Ideal S4x512x2048 .f32) hb = resChunks D o ho := by
  funext y
  obtain ⟨g, n, e, rfl⟩ : ∃ (g : Fin 4) (n : Fin 512) (e : Fin 2048), y = ix3 g n e := ⟨y 0, y 1, y 2, (ix3_eta y).symm⟩
  pointwise
  refine congrArg D (congrArg₂ ix2 (Fin.ext ?_) (Fin.ext ?_))
  · show n.val * 16 + e.val / 128 = 16 * n.val + e.val / 128
    omega
  · show o + (g.val * 128 + e.val % 128) = o + 128 * g.val + e.val % 128
    omega

/-- The reference's division of the queries is their multiplication by the scale. -/
theorem div_scale (x : EReal) :
    Ideal.div x (Ideal.sqrt (Ideal.ofBits .f32 0x43000000#32) * Ideal.log (Ideal.ofBits .f32 0x40000000#32)) = x * qs := by
  have hp : 0 < Real.sqrt 128 * Real.log 2 := mul_pos (Real.sqrt_pos.2 (by norm_num)) (Real.log_pos (by norm_num))
  rw [Attn.sqrt_128, Attn.log_2, ← EReal.coe_mul, Ideal.div_coe hp.ne', one_div]
  rfl

/-- A turned value read of a slice of the projection is the turned value of the projection. -/
theorem turn_slice (D : FVec Ideal S8192x19568 .f32) (a3 a4 : FVec Ideal S8192x64 .f32) (r : Fin 8192) (p p' q q' : Fin 19568) (d d' : Fin 128)
    (hp : p = q) (hp' : p' = q') (hd : d = d') : turn (D (ix2 r p)) (D (ix2 r p')) a3 a4 r d = turn (D (ix2 r q)) (D (ix2 r q')) a3 a4 r d' := by
  subst hp hp' hd
  rfl

theorem resAtt_q (D : FVec Ideal S8192x19568 .f32) (a3 a4 : FVec Ideal S8192x64 .f32) (r : Fin 8192) (j : Fin 5120) (h : j.val < 2048) :
    resAtt D a3 a4 (ix2 r j) = turn (D (ix2 r ⟨j.val, by omega⟩)) (D (ix2 r ⟨half j.val, by unfold half; omega⟩)) a3 a4 r ⟨j.val % 128, by omega⟩ * qs :=
  if_pos h

theorem resAtt_k (D : FVec Ideal S8192x19568 .f32) (a3 a4 : FVec Ideal S8192x64 .f32) (r : Fin 8192) (j : Fin 5120) (h : j.val / 512 = 6 ∨ j.val / 512 = 8) :
    resAtt D a3 a4 (ix2 r j) = turn (D (ix2 r ⟨j.val, by omega⟩)) (D (ix2 r ⟨half j.val, by unfold half; omega⟩)) a3 a4 r ⟨j.val % 128, by omega⟩ :=
  (if_neg (show ¬ j.val < 2048 by omega)).trans (if_pos h)

theorem resAtt_x (D : FVec Ideal S8192x19568 .f32) (a3 a4 : FVec Ideal S8192x64 .f32) (r : Fin 8192) (j : Fin 5120) (h : ¬ j.val < 2048)
    (h' : ¬ (j.val / 512 = 6 ∨ j.val / 512 = 8)) : resAtt D a3 a4 (ix2 r j) = D (ix2 r ⟨j.val, by omega⟩) :=
  (if_neg h).trans (if_neg h')

theorem att_eq (D : FVec Ideal S8192x19568 .f32) (a3 a4 : FVec Ideal S8192x64 .f32) : refAtt D a3 a4 = resAtt D a3 a4 := by
  funext i
  obtain ⟨r, j, rfl⟩ : ∃ (r : Fin 8192) (j : Fin 5120), i = ix2 r j := ⟨i 0, i 1, (ix2_eta i).symm⟩
  unfold refAtt
  pointwise
  by_cases h1 : j.val < 2048
  · rw [dif_pos h1, rope16_apply, div_scale, resAtt_q D a3 a4 r j h1]
    pointwise
  rw [dif_neg h1]
  by_cases h2 : j.val - 2048 < 512
  · rw [dif_pos h2, resAtt_x D a3 a4 r j (by omega) (by omega)]
    exact congrArg D (congrArg (ix2 r) (Fin.ext (by dsimp only; omega)))
  rw [dif_neg h2]
  by_cases h3 : j.val - 2048 - 512 < 512
  · rw [dif_pos h3, resAtt_x D a3 a4 r j (by omega) (by omega)]
    exact congrArg D (congrArg (ix2 r) (Fin.ext (by dsimp only; omega)))
  rw [dif_neg h3]
  by_cases h4 : j.val - 2048 - 512 - 512 < 512
  · rw [dif_pos h4, rope4_apply, resAtt_k D a3 a4 r j (by omega)]
    pointwise
    exact turn_slice D a3 a4 r _ _ _ _ _ _ (Fin.ext (by dsimp only; omega)) (Fin.ext (by unfold half; dsimp only; omega)) (Fin.ext (by dsimp only; omega))
  rw [dif_neg h4]
  by_cases h5 : j.val - 2048 - 512 - 512 - 512 < 512
  · rw [dif_pos h5, resAtt_x D a3 a4 r j (by omega) (by omega)]
    exact congrArg D (congrArg (ix2 r) (Fin.ext (by dsimp only; omega)))
  rw [dif_neg h5]
  by_cases h6 : j.val - 2048 - 512 - 512 - 512 - 512 < 512
  · rw [dif_pos h6, rope4_apply, resAtt_k D a3 a4 r j (by omega)]
    pointwise
    exact turn_slice D a3 a4 r _ _ _ _ _ _ (Fin.ext (by dsimp only; omega)) (Fin.ext (by unfold half; dsimp only; omega)) (Fin.ext (by dsimp only; omega))
  rw [dif_neg h6, resAtt_x D a3 a4 r j (by omega) (by omega)]
  exact congrArg D (congrArg (ix2 r) (Fin.ext (by dsimp only; omega)))

theorem att_ref (m : (ℓ : Loc nD τ sig) → Buf (Elt Ideal) ℓ) (c : Dev nD) :
    Cert.Reference6Ideal.Value.res_main_v83 m c
      = refAtt (refD (m ((c : Thread nD τ).loc main_arg0)) (m ((c : Thread nD τ).loc main_arg1)) (m ((c : Thread nD τ).loc main_arg2)))
          (m ((c : Thread nD τ).loc main_arg3)) (m ((c : Thread nD τ).loc main_arg4)) := rfl

end Cert.InAttn

end
-- ==== Proof.InAttn.Blocks.lean ====
/-
The first norm and the attention's columns of the input projection: what the body computes at an
index, where each block lies in its array, and what the host program leaves.
-/
module

public import proofs.«01_k».proof.Defs
public import proofs.«01_k».proof.Proof.InAttn.Stored
public import proofs.«01_k».proof.Proof.InAttn.Spec
public import proofs.«01_k».proof.Proof.Scores
public import Idealize.ShloMosaic.Lib.Pointwise
public import Idealize.ShloMosaic.Lib.StableHlo.ReadAt
public import Idealize.ShloMosaic.Adequacy
public import Idealize.ShloMosaic.Init

@[expose] public section

set_option maxRecDepth 16384
set_option maxHeartbeats 1000000

noncomputable section

namespace Cert.InAttn

open Cert.Kernel6Ideal Cert.Kernel6Ideal.Gen
open Idealize.ShloMosaic Idealize.ShloMosaic.TcCoe
open Idealize.SL.Sem

/-! ## The body's arithmetic at an index -/

theorem pay1 (x : FVec Ideal S1024x2048 .f32) (w : FVec Ideal S1x2048 .f32) (r : Fin 1024) (k : Fin 2048) :
    k0_pay1 (F := Ideal) x w (ix2 r k) = norm (fun k => x (ix2 r k)) (fun k => w (ix2 0 k)) k := by
  unfold k0_pay1 norm
  pointwise

theorem pay2 (x : FVec Ideal S1024x2048 .bf16) (w : FVec Ideal S512x2048 .f32) (r : Fin 1024) (e : Fin 512) :
    k0_pay2 (F := Ideal) x w (ix2 r e) = ∑ k : Fin 2048, x (ix2 r k) * w (ix2 e k) := by
  unfold k0_pay2
  pointwise

theorem pay3 (x : FVec Ideal S1024x2048 .bf16) (w : FVec Ideal S512x2048 .f32) : k0_pay3 (F := Ideal) x w = k0_pay2 (F := Ideal) x w := rfl

theorem bit : ∀ t : Fin cfg0.N, Scalar.andi (Scalar.cmpi .sge (BitVec.ofNat 32 (grid0.coords t 1).val) 0#32)
    (Scalar.cmpi .slt (BitVec.ofNat 32 (grid0.coords t 1).val) 4#32) = if t.val % 10 < 4 then 1#1 else 0#1 :=
  (by decide +kernel : ∀ t : Fin grid0.N, _)

theorem scale_q (t : Fin cfg0.N) (h : t.val % 10 < 4) : scale t = qs := by
  unfold scale
  rw [bit, if_pos h]
  rfl

theorem scale_k (t : Fin cfg0.N) (h : ¬ t.val % 10 < 4) : scale t = 1 := by
  unfold scale
  rw [bit, if_neg h]
  exact Attn.ofBits_one

/-! ## The blocks -/

theorem lt80 (t : Fin cfg0.N) : t.val < 80 := lt_of_lt_of_eq t.isLt (show cfg0.N = 80 from N_0)

/-- The array's row of a row in a point's block, and the projection's and the attention's column of a column. -/
def rowAt (t : Fin cfg0.N) (r : Fin 1024) : Fin 8192 := ⟨1024 * (t.val / 10) + r.val, by have := lt80 t; omega⟩
def colAt (t : Fin cfg0.N) (e : Fin 512) : Fin 19568 := ⟨512 * (t.val % 10) + e.val, by omega⟩
def outAt (t : Fin cfg0.N) (e : Fin 512) : Fin 5120 := ⟨512 * (t.val % 10) + e.val, by omega⟩
def chunkAt (t : Fin cfg0.N) (n : Fin 64) : Fin 512 := ⟨64 * (t.val / 10) + n.val, by have := lt80 t; omega⟩

theorem rowAt_pt (t : Fin cfg0.N) (k : ℕ) (hk : k < 10) (r : Fin 1024) : rowAt (pt t k hk) r = rowAt t r :=
  Fin.ext (by show 1024 * ((pt t k hk).val / 10) + r.val = 1024 * (t.val / 10) + r.val; rw [pt_val]; omega)

theorem idx0 : ∀ t : Fin cfg0.N, win0_0.index t (0 : Fin 2) = t.val / 10 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val % 10 ∧ win0_2.index t (1 : Fin 2) = 0 :=
  (by decide +kernel : ∀ t : Fin grid0.N, _)
theorem idx3 : ∀ t : Fin cfg0.N, win0_3.index t (0 : Fin 2) = t.val / 10 ∧ win0_3.index t (1 : Fin 2) = 0 :=
  (by decide +kernel : ∀ t : Fin grid0.N, _)
theorem idx4 : ∀ t : Fin cfg0.N, win0_4.index t (0 : Fin 2) = t.val / 10 ∧ win0_4.index t (1 : Fin 2) = 0 :=
  (by decide +kernel : ∀ t : Fin grid0.N, _)
theorem idx5 : ∀ t : Fin cfg0.N, win0_5.index t (0 : Fin 2) = t.val / 10 ∧ win0_5.index t (1 : Fin 2) = t.val % 10 :=
  (by decide +kernel : ∀ t : Fin grid0.N, _)
theorem idx6 : ∀ t : Fin cfg0.N, win0_6.index t (0 : Fin 3) = 0 ∧ win0_6.index t (1 : Fin 3) = t.val / 10 ∧ win0_6.index t (2 : Fin 3) = 0 :=
  (by decide +kernel : ∀ t : Fin grid0.N, _)
theorem idx7 : ∀ t : Fin cfg0.N, win0_7.index t (0 : Fin 3) = 0 ∧ win0_7.index t (1 : Fin 3) = t.val / 10 ∧ win0_7.index t (2 : Fin 3) = 0 :=
  (by decide +kernel : ∀ t : Fin grid0.N, _)
theorem idx8 : ∀ t : Fin cfg0.N, win0_8.index t (0 : Fin 2) = t.val / 10 ∧ win0_8.index t (1 : Fin 2) = 0 :=
  (by decide +kernel : ∀ t : Fin grid0.N, _)

theorem emb0 (t : Fin cfg0.N) (r : Fin 1024) (k : Fin 2048) :
    ((cfg0.win 0).blk t).view.emb (ix2 r k : S1024x2048.Idx) = (ix2 (rowAt t r) k : S8192x2048.Idx) := by
  obtain ⟨e0, e1⟩ := idx0 t
  funext a; apply Fin.ext
  match a with
  | ⟨0, _⟩ => show win0_0.index t (0 : Fin 2) * 1024 + 1 * r.val = 1024 * (t.val / 10) + r.val; rw [e0]; omega
  | ⟨1, _⟩ => show win0_0.index t (1 : Fin 2) * 2048 + 1 * k.val = k.val; rw [e1]; omega

theorem emb1 (t : Fin cfg0.N) (z : Fin 1) (k : Fin 2048) :
    ((cfg0.win 1).blk t).view.emb (ix2 z k : S1x2048.Idx) = (ix2 z k : S1x2048.Idx) := by
  obtain ⟨e0, e1⟩ := idx1 t
  funext a; apply Fin.ext
  match a with
  | ⟨0, _⟩ => show win0_1.index t (0 : Fin 2) * 1 + 1 * z.val = z.val; rw [e0]; omega
  | ⟨1, _⟩ => show win0_1.index t (1 : Fin 2) * 2048 + 1 * k.val = k.val; rw [e1]; omega

theorem emb2 (t : Fin cfg0.N) (j : ((cfg0.win 2).xblock (cfg0.grid.coords t)).Idx) (e : Fin 512) (k : Fin 2048)
    (h0 : (j (0 : Fin 2)).val = e.val) (h1 : (j (1 : Fin 2)).val = k.val) : ((cfg0.win 2).blk t).view.emb j = (ix2 (colAt t e) k : S19568x2048.Idx) := by
  obtain ⟨e0, e1⟩ := idx2 t
  funext a; apply Fin.ext
  match a with
  | ⟨0, _⟩ => show win0_2.index t (0 : Fin 2) * 512 + 1 * (j (0 : Fin 2)).val = 512 * (t.val % 10) + e.val; rw [e0, h0]; omega
  | ⟨1, _⟩ => show win0_2.index t (1 : Fin 2) * 2048 + 1 * (j (1 : Fin 2)).val = k.val; rw [e1, h1]; omega

theorem emb3 (t : Fin cfg0.N) (r : Fin 1024) (d : Fin 128) :
    ((cfg0.win 3).blk t).view.emb (ix2 r d : S1024x128.Idx) = (ix2 (rowAt t r) d : S8192x128.Idx) := by
  obtain ⟨e0, e1⟩ := idx3 t
  funext a; apply Fin.ext
  match a with
  | ⟨0, _⟩ => show win0_3.index t (0 : Fin 2) * 1024 + 1 * r.val = 1024 * (t.val / 10) + r.val; rw [e0]; omega
  | ⟨1, _⟩ => show win0_3.index t (1 : Fin 2) * 128 + 1 * d.val = d.val; rw [e1]; omega

theorem emb4 (t : Fin cfg0.N) (r : Fin 1024) (d : Fin 128) :
    ((cfg0.win 4).blk t).view.emb (ix2 r d : S1024x128.Idx) = (ix2 (rowAt t r) d : S8192x128.Idx) := by
  obtain ⟨e0, e1⟩ := idx4 t
  funext a; apply Fin.ext
  match a with
  | ⟨0, _⟩ => show win0_4.index t (0 : Fin 2) * 1024 + 1 * r.val = 1024 * (t.val / 10) + r.val; rw [e0]; omega
  | ⟨1, _⟩ => show win0_4.index t (1 : Fin 2) * 128 + 1 * d.val = d.val; rw [e1]; omega

theorem emb5 (t : Fin cfg0.N) (r : Fin 1024) (e : Fin 512) :
    ((cfg0.win 5).blk t).view.emb (ix2 r e : S1024x512.Idx) = (ix2 (rowAt t r) (outAt t e) : S8192x5120.Idx) := by
  obtain ⟨e0, e1⟩ := idx5 t
  funext a; apply Fin.ext
  match a with
  | ⟨0, _⟩ => show win0_5.index t (0 : Fin 2) * 1024 + 1 * r.val = 1024 * (t.val / 10) + r.val; rw [e0]; omega
  | ⟨1, _⟩ => show win0_5.index t (1 : Fin 2) * 512 + 1 * e.val = 512 * (t.val % 10) + e.val; rw [e1]; omega

theorem emb6 (t : Fin cfg0.N) (g : Fin 4) (n : Fin 64) (q : Fin 2048) :
    ((cfg0.win 6).blk t).view.emb (ix3 g n q : S4x64x2048.Idx) = (ix3 g (chunkAt t n) q : S4x512x2048.Idx) := by
  obtain ⟨e0, e1, e2⟩ := idx6 t
  funext a; apply Fin.ext
  match a with
  | ⟨0, _⟩ => show win0_6.index t (0 : Fin 3) * 4 + 1 * g.val = g.val; rw [e0]; omega
  | ⟨1, _⟩ => show win0_6.index t (1 : Fin 3) * 64 + 1 * n.val = 64 * (t.val / 10) + n.val; rw [e1]; omega
  | ⟨2, _⟩ => show win0_6.index t (2 : Fin 3) * 2048 + 1 * q.val = q.val; rw [e2]; omega

theorem emb7 (t : Fin cfg0.N) (g : Fin 4) (n : Fin 64) (q : Fin 2048) :
    ((cfg0.win 7).blk t).view.emb (ix3 g n q : S4x64x2048.Idx) = (ix3 g (chunkAt t n) q : S4x512x2048.Idx) := by
  obtain ⟨e0, e1, e2⟩ := idx7 t
  funext a; apply Fin.ext
  match a with
  | ⟨0, _⟩ => show win0_7.index t (0 : Fin 3) * 4 + 1 * g.val = g.val; rw [e0]; omega
  | ⟨1, _⟩ => show win0_7.index t (1 : Fin 3) * 64 + 1 * n.val = 64 * (t.val / 10) + n.val; rw [e1]; omega
  | ⟨2, _⟩ => show win0_7.index t (2 : Fin 3) * 2048 + 1 * q.val = q.val; rw [e2]; omega

theorem emb8 (t : Fin cfg0.N) (r : Fin 1024) (k : Fin 2048) :
    ((cfg0.win 8).blk t).view.emb (ix2 r k : S1024x2048.Idx) = (ix2 (rowAt t r) k : S8192x2048.Idx) := by
  obtain ⟨e0, e1⟩ := idx8 t
  funext a; apply Fin.ext
  match a with
  | ⟨0, _⟩ => show win0_8.index t (0 : Fin 2) * 1024 + 1 * r.val = 1024 * (t.val / 10) + r.val; rw [e0]; omega
  | ⟨1, _⟩ => show win0_8.index t (1 : Fin 2) * 2048 + 1 * k.val = k.val; rw [e1]; omega

/-! ## What the host program leaves -/

variable (m : (ℓ : Loc nD τ sig) → Buf (Elt Ideal) ℓ) (c : Dev nD)

theorem host_x (r : Fin 8192) (k : Fin 2048) : (V m c main_arg0 : FVec Ideal S8192x2048 .f32) (ix2 r k)
    = (m ((c : Thread nD τ).loc main_arg0) : FVec Ideal S8192x2048 .f32) (ix2 r k) := by
  unfold V
  after_reads_at

theorem host_n (k : Fin 2048) : (V m c main_v4 : FVec Ideal S1x2048 .f32) (ix2 0 k)
    = (m ((c : Thread nD τ).loc main_arg1) : FVec Ideal S2048 .f32) (ix1 k) := by
  unfold V
  after_reads_at

theorem host_w (e : Fin 19568) (k : Fin 2048) : (V m c main_v3 : FVec Ideal S19568x2048 .f32) (ix2 e k)
    = (m ((c : Thread nD τ).loc main_arg2) : FVec Ideal S2048x19568 .f32) (ix2 k e) := by
  unfold V
  after_reads_at

theorem host_cos (r : Fin 8192) (d : Fin 128) : (V m c main_v0 : FVec Ideal S8192x128 .f32) (ix2 r d)
    = cosw (m ((c : Thread nD τ).loc main_arg3)) r d := by
  unfold V cosw
  after_reads_at
  all_goals try after_reads_at

theorem host_sin (r : Fin 8192) (d : Fin 128) : (V m c main_v2 : FVec Ideal S8192x128 .f32) (ix2 r d)
    = sinw (m ((c : Thread nD τ).loc main_arg4)) r d := by
  unfold V sinw
  after_reads_at
  all_goals try after_reads_at

end Cert.InAttn

end
-- ==== Proof.InAttn.Value.lean ====
/-
The first norm and the attention's columns of the input projection: the arrays that the kernel
leaves, as functions of the arguments.
-/
module

public import proofs.«01_k».proof.Defs
public import proofs.«01_k».proof.Proof.InAttn.Blocks
public import Idealize.ShloMosaic.Adequacy
public import Idealize.ShloMosaic.Init

@[expose] public section

set_option maxRecDepth 16384
set_option maxHeartbeats 1000000

noncomputable section

namespace Cert.InAttn

open Cert.Kernel6Ideal Cert.Kernel6Ideal.Gen
open Idealize.ShloMosaic Idealize.ShloMosaic.TcCoe
open Idealize.SL.Sem

variable (m : (ℓ : Loc nD τ sig) → Buf (Elt Ideal) ℓ) (c : Dev nD)

/-! ## What the buffers hold, of the arguments -/

/-- The norm, the projection, the attention's columns and the chunks over the memory's arguments. -/
def vU : FVec Ideal S8192x2048 .bf16 := resU (m ((c : Thread nD τ).loc main_arg0)) (m ((c : Thread nD τ).loc main_arg1))
def vP : FVec Ideal Cert.Reference6Ideal.S8192x19568 .f32 := proj (m ((c : Thread nD τ).loc main_arg0)) (m ((c : Thread nD τ).loc main_arg1)) (m ((c : Thread nD τ).loc main_arg2))
def vA : FVec Ideal S8192x5120 .bf16 := resAtt (vP m c) (m ((c : Thread nD τ).loc main_arg3)) (m ((c : Thread nD τ).loc main_arg4))
def vK : FVec Ideal S4x512x2048 .bf16 := resChunks (vP m c) 2048 (by norm_num)
def vV : FVec Ideal S4x512x2048 .bf16 := resChunks (vP m c) 2560 (by norm_num)

theorem uAt_apply (t : Fin cfg0.N) (h : t.val % 10 = 0) (r : Fin 1024) (k : Fin 2048) :
    (uAt m c t h : FVec Ideal S1024x2048 .bf16) (ix2 r k) = vU m c (ix2 (rowAt t r) k) := by
  rw [uAt_eq]
  refine (pay1 _ _ r k).trans ?_
  unfold vU resU
  refine congrArg₂ (fun h w => norm h w k) (funext fun k => ?_) (funext fun k => ?_)
  · show V m c main_arg0 (((cfg0.win 0).blk t).view.emb (ix2 r k : S1024x2048.Idx)) = _
    rw [emb0]
    exact host_x m c (rowAt t r) k
  · show V m c main_v4 (((cfg0.win 1).blk t).view.emb (ix2 0 k : S1x2048.Idx)) = _
    rw [emb1]
    exact host_n m c k

theorem u_apply (t : Fin cfg0.N) (r : Fin 1024) (k : Fin 2048) : (u m c t : FVec Ideal S1024x2048 .bf16) (ix2 r k) = vU m c (ix2 (rowAt t r) k) :=
  (uAt_apply m c _ _ r k).trans (congrArg (fun a => vU m c (ix2 a k)) (rowAt_pt t 0 (by omega) r))

theorem w_apply (t : Fin cfg0.N) (e : Fin 512) (k : Fin 2048) : (X0_2 m c t : FVec Ideal S512x2048 .f32) (ix2 e k)
    = (m ((c : Thread nD τ).loc main_arg2) : FVec Ideal S2048x19568 .f32) (ix2 k (colAt t e)) := by
  unfold X0_2 Pipeline.Window.fill
  rw [dif_pos (moved0_2 t _)]
  show V m c main_v3 (((cfg0.win 2).blk t).view.emb _) = _
  refine (congrArg (V m c main_v3) (?_ : _ = (ix2 (colAt t e) k : S19568x2048.Idx))).trans (host_w m c (colAt t e) k)
  exact emb2 t _ e k rfl rfl

theorem cos_apply (t : Fin cfg0.N) (r : Fin 1024) (d : Fin 128) : (iblk m c 3 t : FVec Ideal S1024x128 .f32) (ix2 r d)
    = cosw (m ((c : Thread nD τ).loc main_arg3)) (rowAt t r) d := by
  show V m c main_v0 (((cfg0.win 3).blk t).view.emb (ix2 r d : S1024x128.Idx)) = _
  rw [emb3]
  exact host_cos m c (rowAt t r) d

theorem sin_apply (t : Fin cfg0.N) (r : Fin 1024) (d : Fin 128) : (iblk m c 4 t : FVec Ideal S1024x128 .f32) (ix2 r d)
    = sinw (m ((c : Thread nD τ).loc main_arg4)) (rowAt t r) d := by
  show V m c main_v2 (((cfg0.win 4).blk t).view.emb (ix2 r d : S1024x128.Idx)) = _
  rw [emb4]
  exact host_sin m c (rowAt t r) d

theorem acc_apply (t : Fin cfg0.N) (r : Fin 1024) (e : Fin 512) :
    k0_pay2 (F := Ideal) (u m c t) (X0_2 m c t) (ix2 r e) = vP m c (ix2 (rowAt t r) (colAt t e)) := by
  refine (pay2 _ _ r e).trans ?_
  unfold vP proj
  exact Finset.sum_congr rfl fun k _ => congrArg₂ (fun a b : EReal => a * b) (u_apply m c t r k) (w_apply m c t e k)

/-- A rotated block is the block of the rotated columns. -/
theorem rope_apply (t : Fin cfg0.N) (r : Fin 1024) (e : Fin 512) (s : EReal) :
    ropeOf (k0_pay2 (F := Ideal) (u m c t) (X0_2 m c t)) (iblk m c 3 t) (iblk m c 4 t) s (ix2 r e)
      = turn (vP m c (ix2 (rowAt t r) ⟨(outAt t e).val, by omega⟩)) (vP m c (ix2 (rowAt t r) ⟨half (outAt t e).val, by unfold half; omega⟩))
          (m ((c : Thread nD τ).loc main_arg3)) (m ((c : Thread nD τ).loc main_arg4)) (rowAt t r) ⟨(outAt t e).val % 128, by omega⟩ * s := by
  refine congrArg (· * s) ?_
  refine Eq.trans (congrArg₂ (fun a b : EReal => a + b) (congrArg₂ (fun a b : EReal => a * b) (acc_apply m c t r e) (cos_apply m c t r ⟨e.val % 128, by omega⟩))
    (congrArg₂ (fun a b : EReal => a * b) (acc_apply m c t r ⟨128 * (e.val / 128) + (e.val % 128 + 64) % 128, by omega⟩)
      (sin_apply m c t r ⟨e.val % 128, by omega⟩))) ?_
  refine turn_slice (vP m c) _ _ (rowAt t r) _ _ _ _ _ _ (Fin.ext ?_) (Fin.ext ?_) (Fin.ext ?_)
  · rfl
  · show 512 * (t.val % 10) + (128 * (e.val / 128) + (e.val % 128 + 64) % 128) = half (512 * (t.val % 10) + e.val)
    unfold half
    omega
  · show e.val % 128 = (512 * (t.val % 10) + e.val) % 128
    omega

theorem o_apply (t : Fin cfg0.N) (r : Fin 1024) (e : Fin 512) : (o m c t : FVec Ideal S1024x512 .bf16) (ix2 r e) = vA m c (ix2 (rowAt t r) (outAt t e)) := by
  have hv : (outAt t e).val = 512 * (t.val % 10) + e.val := rfl
  have hx : ¬ t.val % 10 < 4 → ¬ (t.val % 10 = 6 ∨ t.val % 10 = 8) → o m c t = k0_pay3 (F := Ideal) (u m c t) (X0_2 m c t) →
      (o m c t : FVec Ideal S1024x512 .bf16) (ix2 r e) = vA m c (ix2 (rowAt t r) (outAt t e)) := by
    intro h h' ho
    rw [ho, pay3]
    refine (acc_apply m c t r e).trans (Eq.symm ?_)
    exact resAtt_x (vP m c) _ _ (rowAt t r) (outAt t e) (by omega) (by omega)
  have hr : (t.val % 10 < 4 ∨ (t.val % 10 = 6 ∨ t.val % 10 = 8)) →
      o m c t = ropeOf (k0_pay2 (F := Ideal) (u m c t) (X0_2 m c t)) (iblk m c 3 t) (iblk m c 4 t) (scale t) →
      (o m c t : FVec Ideal S1024x512 .bf16) (ix2 r e) = vA m c (ix2 (rowAt t r) (outAt t e)) := by
    intro h ho
    rw [ho]
    refine (rope_apply m c t r e (scale t)).trans (Eq.symm ?_)
    by_cases hq : t.val % 10 < 4
    · rw [scale_q t hq]
      exact resAtt_q (vP m c) _ _ (rowAt t r) (outAt t e) (by omega)
    · rw [scale_k t hq, mul_one]
      exact resAtt_k (vP m c) _ _ (rowAt t r) (outAt t e) (by omega)
  rcases mod_cases t.val with h | h | h | h | h
  · exact hr (by omega) (o_A_eq m c t h)
  · exact hr (by omega) (o_B_eq m c t h)
  · exact hx (by omega) (by omega) (o_C_eq m c t h)
  · exact hx (by omega) (by omega) (o_D_eq m c t h)
  · exact hx (by omega) (by omega) (o_E_eq m c t h)

/-- A block's chunks are the block of the chunks of 512 columns. -/
theorem chunks_apply (t : Fin cfg0.N) (s : Fin cfg0.N) (hs : s.val / 10 = t.val / 10) (b : ℕ) (hb : b ≤ 2560) (hc : 512 * (s.val % 10) = b) (g : Fin 4) (n : Fin 64) (q : Fin 2048) :
    chunksOf (k0_pay2 (F := Ideal) (u m c s) (X0_2 m c s)) (ix3 g n q) = resChunks (vP m c) b hb (ix3 g (chunkAt t n) q) := by
  refine (acc_apply m c s ⟨16 * n.val + q.val / 128, by omega⟩ ⟨128 * g.val + q.val % 128, by omega⟩).trans ?_
  refine congrArg (vP m c) (congrArg₂ ix2 (Fin.ext ?_) (Fin.ext ?_))
  · show 1024 * (s.val / 10) + (16 * n.val + q.val / 128) = 16 * (64 * (t.val / 10) + n.val) + q.val / 128
    omega
  · show 512 * (s.val % 10) + (128 * g.val + q.val % 128) = b + 128 * g.val + q.val % 128
    omega

theorem kc_apply (t : Fin cfg0.N) (g : Fin 4) (n : Fin 64) (q : Fin 2048) :
    (kc m c t : FVec Ideal S4x64x2048 .bf16) (ix3 g n q) = vK m c (ix3 g (chunkAt t n) q) := by
  unfold kc
  rw [kcAt_eq]
  exact chunks_apply m c t (pt t 4 (by omega)) (by rw [pt_val]; omega) 2048 (by norm_num) (by rw [pt_mod]) g n q

theorem vc_apply (t : Fin cfg0.N) (g : Fin 4) (n : Fin 64) (q : Fin 2048) :
    (vc m c t : FVec Ideal S4x64x2048 .bf16) (ix3 g n q) = vV m c (ix3 g (chunkAt t n) q) := by
  unfold vc
  rw [vcAt_eq]
  exact chunks_apply m c t (pt t 5 (by omega)) (by rw [pt_val]; omega) 2560 (by norm_num) (by rw [pt_mod]) g n q

/-! ## The results -/

theorem flushed5 (t : Fin cfg0.N) : (dats m 0 c).flushed 5 t = ((cfg0.win 5).blk t).view.read (Elt Ideal) (vA m c) := by
  show (cfg0.win 5).cut (grid0.coords t) ((dats m 0 c).after 5 t) = _
  rw [after5]
  funext i
  obtain ⟨r, e, rfl⟩ : ∃ (r : Fin 1024) (e : Fin 512), i = (ix2 r e : S1024x512.Idx) := ⟨i 0, i 1, (ix2_eta i).symm⟩
  refine (o_apply m c t r e).trans ?_
  show _ = vA m c (((cfg0.win 5).blk t).view.emb (ix2 r e : S1024x512.Idx))
  rw [emb5]

theorem flushed6 (t : Fin cfg0.N) : (dats m 0 c).flushed 6 t = ((cfg0.win 6).blk t).view.read (Elt Ideal) (vK m c) := by
  show (cfg0.win 6).cut (grid0.coords t) ((dats m 0 c).after 6 t) = _
  rw [after6]
  funext i
  obtain ⟨g, n, q, rfl⟩ : ∃ (g : Fin 4) (n : Fin 64) (q : Fin 2048), i = (ix3 g n q : S4x64x2048.Idx) := ⟨i 0, i 1, i 2, (ix3_eta i).symm⟩
  refine (kc_apply m c t g n q).trans ?_
  show _ = vK m c (((cfg0.win 6).blk t).view.emb (ix3 g n q : S4x64x2048.Idx))
  rw [emb6]

theorem flushed7 (t : Fin cfg0.N) : (dats m 0 c).flushed 7 t = ((cfg0.win 7).blk t).view.read (Elt Ideal) (vV m c) := by
  show (cfg0.win 7).cut (grid0.coords t) ((dats m 0 c).after 7 t) = _
  rw [after7]
  funext i
  obtain ⟨g, n, q, rfl⟩ : ∃ (g : Fin 4) (n : Fin 64) (q : Fin 2048), i = (ix3 g n q : S4x64x2048.Idx) := ⟨i 0, i 1, i 2, (ix3_eta i).symm⟩
  refine (vc_apply m c t g n q).trans ?_
  show _ = vV m c (((cfg0.win 7).blk t).view.emb (ix3 g n q : S4x64x2048.Idx))
  rw [emb7]

theorem flushed8 (t : Fin cfg0.N) : (dats m 0 c).flushed 8 t = ((cfg0.win 8).blk t).view.read (Elt Ideal) (vU m c) := by
  show (cfg0.win 8).cut (grid0.coords t) ((dats m 0 c).after 8 t) = _
  rw [after8]
  funext i
  obtain ⟨r, k, rfl⟩ : ∃ (r : Fin 1024) (k : Fin 2048), i = (ix2 r k : S1024x2048.Idx) := ⟨i 0, i 1, (ix2_eta i).symm⟩
  refine (u_apply m c t r k).trans ?_
  show _ = vU m c (((cfg0.win 8).blk t).view.emb (ix2 r k : S1024x2048.Idx))
  rw [emb8]

/-- The grid point of a row block and a column block. -/
def gridPt (a b : ℕ) (ha : a < 8) (hb : b < 10) : Fin cfg0.N := ⟨a * 10 + b, lt_of_lt_of_eq (by omega) (show cfg0.N = 80 from N_0).symm⟩

theorem covered5 (i : S8192x5120.Idx) : ∃ t : Fin cfg0.N, (cfg0.win 5).flush t = true ∧ i ∈ ((cfg0.win 5).blk t).view.set := by
  have h0 : (i 0).val < 8192 := (i 0).isLt
  have h1 : (i 1).val < 5120 := (i 1).isLt
  refine ⟨gridPt ((i 0).val / 1024) ((i 1).val / 512) (by omega) (by omega), flush0_5 _, ?_⟩
  have h := ((cfg0.win 5).blk (gridPt ((i 0).val / 1024) ((i 1).val / 512) (by omega) (by omega))).view.emb_mem_set
    (ix2 ⟨(i 0).val % 1024, by omega⟩ ⟨(i 1).val % 512, by omega⟩ : S1024x512.Idx)
  refine (congrArg (· ∈ ((cfg0.win 5).blk _).view.set) (Eq.trans (funext fun a => ?_) (emb5 _ ⟨(i 0).val % 1024, by omega⟩ ⟨(i 1).val % 512, by omega⟩).symm)).mpr h
  match a with
  | ⟨0, _⟩ => exact Fin.ext (by show (i 0).val = 1024 * (((i 0).val / 1024 * 10 + (i 1).val / 512) / 10) + (i 0).val % 1024; omega)
  | ⟨1, _⟩ => exact Fin.ext (by show (i 1).val = 512 * (((i 0).val / 1024 * 10 + (i 1).val / 512) % 10) + (i 1).val % 512; omega)

theorem covered6 (i : S4x512x2048.Idx) : ∃ t : Fin cfg0.N, (cfg0.win 6).flush t = true ∧ i ∈ ((cfg0.win 6).blk t).view.set := by
  have h1 : (i 1).val < 512 := (i 1).isLt
  refine ⟨gridPt ((i 1).val / 64) 9 (by omega) (by omega), (flush0_6 _).mpr (by show ((i 1).val / 64 * 10 + 9) % 10 = 9; omega), ?_⟩
  have h := ((cfg0.win 6).blk (gridPt ((i 1).val / 64) 9 (by omega) (by omega))).view.emb_mem_set (ix3 (i 0) ⟨(i 1).val % 64, by omega⟩ (i 2) : S4x64x2048.Idx)
  refine (congrArg (· ∈ ((cfg0.win 6).blk _).view.set) (Eq.trans (funext fun a => ?_) (emb6 _ (i 0) ⟨(i 1).val % 64, by omega⟩ (i 2)).symm)).mpr h
  match a with
  | ⟨0, _⟩ => rfl
  | ⟨1, _⟩ => exact Fin.ext (by show (i 1).val = 64 * (((i 1).val / 64 * 10 + 9) / 10) + (i 1).val % 64; omega)
  | ⟨2, _⟩ => rfl

theorem covered7 (i : S4x512x2048.Idx) : ∃ t : Fin cfg0.N, (cfg0.win 7).flush t = true ∧ i ∈ ((cfg0.win 7).blk t).view.set := by
  have h1 : (i 1).val < 512 := (i 1).isLt
  refine ⟨gridPt ((i 1).val / 64) 9 (by omega) (by omega), (flush0_7 _).mpr (by show ((i 1).val / 64 * 10 + 9) % 10 = 9; omega), ?_⟩
  have h := ((cfg0.win 7).blk (gridPt ((i 1).val / 64) 9 (by omega) (by omega))).view.emb_mem_set (ix3 (i 0) ⟨(i 1).val % 64, by omega⟩ (i 2) : S4x64x2048.Idx)
  refine (congrArg (· ∈ ((cfg0.win 7).blk _).view.set) (Eq.trans (funext fun a => ?_) (emb7 _ (i 0) ⟨(i 1).val % 64, by omega⟩ (i 2)).symm)).mpr h
  match a with
  | ⟨0, _⟩ => rfl
  | ⟨1, _⟩ => exact Fin.ext (by show (i 1).val = 64 * (((i 1).val / 64 * 10 + 9) / 10) + (i 1).val % 64; omega)
  | ⟨2, _⟩ => rfl

theorem covered8 (i : S8192x2048.Idx) : ∃ t : Fin cfg0.N, (cfg0.win 8).flush t = true ∧ i ∈ ((cfg0.win 8).blk t).view.set := by
  have h0 : (i 0).val < 8192 := (i 0).isLt
  refine ⟨gridPt ((i 0).val / 1024) 9 (by omega) (by omega), (flush0_8 _).mpr (by show ((i 0).val / 1024 * 10 + 9) % 10 = 9; omega), ?_⟩
  have h := ((cfg0.win 8).blk (gridPt ((i 0).val / 1024) 9 (by omega) (by omega))).view.emb_mem_set (ix2 ⟨(i 0).val % 1024, by omega⟩ (i 1) : S1024x2048.Idx)
  refine (congrArg (· ∈ ((cfg0.win 8).blk _).view.set) (Eq.trans (funext fun a => ?_) (emb8 _ ⟨(i 0).val % 1024, by omega⟩ (i 1)).symm)).mpr h
  match a with
  | ⟨0, _⟩ => exact Fin.ext (by show (i 0).val = 1024 * (((i 0).val / 1024 * 10 + 9) / 10) + (i 0).val % 1024; omega)
  | ⟨1, _⟩ => rfl

theorem final5 : (dats m 0 c).arrAt 5 cfg0.N = vA m c := (dats m 0 c).arrAt_eq_of_cover 5 (vA m c) (fun t _ => flushed5 m c t) covered5
theorem final6 : (dats m 0 c).arrAt 6 cfg0.N = vK m c := (dats m 0 c).arrAt_eq_of_cover 6 (vK m c) (fun t _ => flushed6 m c t) covered6
theorem final7 : (dats m 0 c).arrAt 7 cfg0.N = vV m c := (dats m 0 c).arrAt_eq_of_cover 7 (vV m c) (fun t _ => flushed7 m c t) covered7
theorem final8 : (dats m 0 c).arrAt 8 cfg0.N = vU m c := (dats m 0 c).arrAt_eq_of_cover 8 (vU m c) (fun t _ => flushed8 m c t) covered8

end Cert.InAttn

end
-- ==== Proof.InAttn.Result.lean ====
/-
The first norm and the attention's columns of the input projection: the kernel and the reference leave the same four arrays.
-/
module

public import proofs.«01_k».proof.Defs
public import proofs.«01_k».proof.Proof.InAttn.Value
public import Idealize.ShloMosaic.Adequacy
public import Idealize.ShloMosaic.Init

@[expose] public section

set_option maxRecDepth 16384
set_option maxHeartbeats 1000000

noncomputable section

namespace Cert.InAttn

open Cert.Kernel6Ideal Cert.Kernel6Ideal.Gen
open Idealize.ShloMosaic Idealize.ShloMosaic.TcCoe
open Idealize.SL.Sem

theorem algebraic : Cert.algebraic_Kernel6Ideal_Reference6Ideal (hKernel6Ideal := Cert.Kernel6Ideal.Gen.facts) (hReference6Ideal := Cert.Reference6Ideal.Gen.facts) := by
  intro m ρ m' ρ' _ hargs
  refine ⟨fun c => vA m c, fun c => vK m c, fun c => vV m c, fun c => vU m c, ?_, ?_⟩
  · refine (θ_run Cert.Kernel6Ideal.defs _ _).mono (fun r h c => ?_) (run_main m ρ)
    refine ⟨((h c).1 5).trans (final5 m c), ((h c).1 6).trans (final6 m c), ((h c).1 7).trans (final7 m c), ((h c).1 8).trans (final8 m c),
      ((h c).1 0).trans (((dats m 0 c).arrAt_in 0 rfl _).trans ((A_eq m c 0).trans (V_main_arg0 m c))), ?_, ?_, ?_, ?_⟩
    · exact ((h c).2 main_arg1 (Pipeline.mem_restRefs_of main_arg1 (by decide) (by decide))).trans (V_main_arg1 m c)
    · exact ((h c).2 main_arg2 (Pipeline.mem_restRefs_of main_arg2 (by decide) (by decide))).trans (V_main_arg2 m c)
    · exact ((h c).2 main_arg3 (Pipeline.mem_restRefs_of main_arg3 (by decide) (by decide))).trans (V_main_arg3 m c)
    · exact ((h c).2 main_arg4 (Pipeline.mem_restRefs_of main_arg4 (by decide) (by decide))).trans (V_main_arg4 m c)
  · refine (θ_run Cert.Reference6Ideal.defs _ _).mono (fun r h c => ⟨(h c).1.trans ?_, (h c).2.1.trans ?_, (h c).2.2.1.trans ?_, (h c).2.2.2.1.trans ?_, (h c).2.2.2.2⟩)
      (Cert.Reference6Ideal.Value.run m' ρ')
    · obtain ⟨h0, h1, h2, h3, h4⟩ := hargs c
      rw [att_ref, att_eq, refD_eq, h0, h1, h2, h3, h4]
      show _ = vA m c
      unfold vA vP
      rfl
    · obtain ⟨h0, h1, h2, h3, h4⟩ := hargs c
      refine (chunks_eq (refD _ _ _) 2048 (by norm_num) _ _ _ _ _).trans ?_
      rw [refD_eq, h0, h1, h2]
      rfl
    · obtain ⟨h0, h1, h2, h3, h4⟩ := hargs c
      refine (chunks_eq (refD _ _ _) 2560 (by norm_num) _ _ _ _ _).trans ?_
      rw [refD_eq, h0, h1, h2]
      rfl
    · obtain ⟨h0, h1, h2, h3, h4⟩ := hargs c
      refine (refU_eq _ _).trans ?_
      rw [h0, h1]
      rfl

/-- The reference runs to the end and leaves its arguments unchanged. -/
theorem frame_reference : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- The one constant that the idealization names: the scale of the queries, up to its rounding. -/
theorem preserves : Cert.preserves_Kernel6_Kernel6Ideal :=
  IdealRules.named_const.statement Cert.Kernel6Ideal.κ "qscale" .f32 0x3E0293EE#32 ((((Real.sqrt 128) * (Real.log 2))⁻¹ : ℝ) : EReal) rfl

end Cert.InAttn

end
-- ==== Proof.lean ====
/- The proof of the certificate's claim: for each of the six calls the frames of its three programs, its idealization, and
   its value at the reals with the infinities. -/
module

public import proofs.«01_k».proof.Defs
public import proofs.«01_k».proof.Proof.Frames
public import proofs.«01_k».proof.Proof.Value
public import proofs.«01_k».proof.Proof.Mlp
public import proofs.«01_k».proof.Proof.Merge
public import proofs.«01_k».proof.Proof.OutProj
public import proofs.«01_k».proof.Proof.InSsm
public import proofs.«01_k».proof.Proof.InAttn.Kernel
public import proofs.«01_k».proof.Proof.InAttn.Result

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Attn.frame_kernel, Cert.Attn.frame_ideal, Cert.Attn.frame_reference,
    Cert.Mlp.frame_kernel, Cert.Mlp.frame_ideal, Cert.Mlp.frame_reference,
    Cert.Merge.frame_kernel, Cert.Merge.frame_ideal, Cert.Merge.frame_reference,
    Cert.OutProj.frame_kernel, Cert.OutProj.frame_ideal, Cert.OutProj.frame_reference,
    Cert.InSsm.frame_kernel, Cert.InSsm.frame_ideal, Cert.InSsm.frame_reference,
    Cert.InAttn.frame_kernel, Cert.InAttn.frame_ideal, Cert.InAttn.frame_reference,
    Cert.Attn.mask_preserves, Cert.Attn.attention,
    Cert.Mlp.preserves, Cert.Mlp.feed_forward,
    Cert.Merge.preserves, Cert.Merge.merge,
    Cert.OutProj.preserves, Cert.OutProj.sum_norm,
    Cert.InSsm.preserves, Cert.InSsm.columns,
    Cert.InAttn.preserves, Cert.InAttn.algebraic⟩

end Cert.Proof

end
